-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_on_covered [hKernelIdeal : Cert.KernelIdeal.Facts] [hReferenceIdeal : Cert.ReferenceIdeal.Facts] [hOn_covered : Cert.On_covered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![6, 256, 1536]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v0_0) i = v0 c i)
          ∧ (∀ i : (⟨3, ![6, 256, 1536]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v0_1) i = v1 c i)
          ∧ (∀ i : (⟨3, ![6, 256, 1536]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v0_2) i = v2 c i)
          ∧ (∀ i : (⟨1, ![1]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.KernelIdeal.nD Cert.KernelIdeal.τ).loc Cert.KernelIdeal.main_v0_3) i = v3 c i)
          ∧ (∀ i : (⟨3, ![6, 256, 1536]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 i = 1#1 → r.2.mem ((c.tc : Thread Cert.KernelIdeal.nD Cert.KernelIdeal.τ).loc Cert.KernelIdeal.main_v0_4) i = v4 c i)
          ∧ (∀ i : (⟨3, ![6, 2, 12]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 i = 1#1 → r.2.mem ((c.tc : Thread Cert.KernelIdeal.nD Cert.KernelIdeal.τ).loc Cert.KernelIdeal.main_v0_5) i = v5 c i)
          ∧ (∀ i : (⟨3, ![6, 1536, 256]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2 i = 1#1 → r.2.mem ((c.tc : Thread Cert.KernelIdeal.nD Cert.KernelIdeal.τ).loc Cert.KernelIdeal.main_v0_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![6, 256, 1536]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v47) i = v0 c i)
          ∧ (∀ i : (⟨3, ![6, 256, 1536]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v12) i = v1 c i)
          ∧ (∀ i : (⟨3, ![6, 256, 1536]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v18) i = v2 c i)
          ∧ (∀ i : (⟨1, ![1]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.ReferenceIdeal.nD Cert.ReferenceIdeal.τ).loc Cert.ReferenceIdeal.main_v48) i = v3 c i)
          ∧ (∀ i : (⟨3, ![6, 256, 1536]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 i = 1#1 → r.2.mem ((c.tc : Thread Cert.ReferenceIdeal.nD Cert.ReferenceIdeal.τ).loc Cert.ReferenceIdeal.main_v87_0) i = v4 c i)
          ∧ (∀ i : (⟨3, ![6, 2, 12]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 i = 1#1 → r.2.mem ((c.tc : Thread Cert.ReferenceIdeal.nD Cert.ReferenceIdeal.τ).loc Cert.ReferenceIdeal.main_v75) i = v5 c i)
          ∧ (∀ i : (⟨3, ![6, 1536, 256]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2 i = 1#1 → r.2.mem ((c.tc : Thread Cert.ReferenceIdeal.nD Cert.ReferenceIdeal.τ).loc Cert.ReferenceIdeal.main_v87_1) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hOn_covered : Cert.On_covered.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_covered (hKernelIdeal := hKernelIdeal) (hReferenceIdeal := hReferenceIdeal) (hOn_covered := hOn_covered)
-- ==== On_covered.lean ====
abbrev S6x256x1536 : Shape := ⟨3, ![6, 256, 1536]⟩
abbrev S6 : Shape := ⟨1, ![6]⟩
abbrev S_ : Shape := ⟨0, ![]⟩
abbrev S6x1x1 : Shape := ⟨3, ![6, 1, 1]⟩
abbrev S1 : Shape := ⟨1, ![1]⟩
abbrev S6x2x128x12x128 : Shape := ⟨5, ![6, 2, 128, 12, 128]⟩
abbrev S6x2x12 : Shape := ⟨3, ![6, 2, 12]⟩
abbrev S6x2x128x12 : Shape := ⟨4, ![6, 2, 128, 12]⟩
abbrev S6x256x12 : Shape := ⟨3, ![6, 256, 12]⟩
abbrev S6x256x12x128 : Shape := ⟨4, ![6, 256, 12, 128]⟩
abbrev S6x1536x256 : Shape := ⟨3, ![6, 1536, 256]⟩

class Facts : Prop where
  bitsLt_bf16_f32 : FTy.bits .bf16 < FTy.bits .f32
  reducesTo_S6x256x1536_S_d0_1_2 : S6x256x1536.ReducesTo [0, 1, 2] S_
  h_S_ : 0 < S_.numel
  bcast_S_S6x256x1536 : S_.BroadcastsInDim S6x256x1536 (![] : Fin 0 → Fin S6x256x1536.rank)
  bcast_S_S6 : S_.BroadcastsInDim S6 (![] : Fin 0 → Fin S6.rank)
  bcast_S6_S6x1x1_0 : S6.BroadcastsInDim S6x1x1 (![0] : Fin 1 → Fin S6x1x1.rank)
  bcast_S6x1x1_S6x256x1536_0_1_2 : S6x1x1.BroadcastsInDim S6x256x1536 (![0, 1, 2] : Fin 3 → Fin S6x256x1536.rank)
  shapeCasts_S_S1 : S_.ShapeCasts S1
  shapeCasts_S6x256x1536_S6x2x128x12x128 : S6x256x1536.ShapeCasts S6x2x128x12x128
  reducesTo_S6x2x128x12x128_S6x2x12_d2_4 : S6x2x128x12x128.ReducesTo [2, 4] S6x2x12
  bcast_S_S6x2x12 : S_.BroadcastsInDim S6x2x12 (![] : Fin 0 → Fin S6x2x12.rank)
  bcast_S6x1x1_S6x2x12_0_1_2 : S6x1x1.BroadcastsInDim S6x2x12 (![0, 1, 2] : Fin 3 → Fin S6x2x12.rank)
  bcast_S6x2x12_S6x2x128x12_0_1_3 : S6x2x12.BroadcastsInDim S6x2x128x12 (![0, 1, 3] : Fin 3 → Fin S6x2x128x12.rank)
  shapeCasts_S6x2x128x12_S6x256x12 : S6x2x128x12.ShapeCasts S6x256x12
  bcast_S6x256x12_S6x256x12x128_0_1_2 : S6x256x12.BroadcastsInDim S6x256x12x128 (![0, 1, 2] : Fin 3 → Fin S6x256x12x128.rank)
  shapeCasts_S6x256x12x128_S6x256x1536 : S6x256x12x128.ShapeCasts S6x256x1536
  bcast_S_S1 : S_.BroadcastsInDim S1 (![] : Fin 0 → Fin S1.rank)
  transposes_S6x256x1536_S6x1536x256_0_2_1 : S6x256x1536.Transposes [0, 2, 1] S6x1536x256

variable [Facts]

def fn_isinf {F : FTy → Type} [FloatOps F] (arg0 : FVec F S6x2x12 .f32) : IVec S6x2x12 1 :=
  let v0 : FVec F S6x2x12 .f32 := Host.absf arg0
  let cst : FVec F S_ .f32 := constant S_ .f32 0x7F800000#32
  let v1 : FVec F S6x2x12 .f32 := broadcastInDim S6x2x12 ![] bcast_S_S6x2x12 cst
  let v2 : IVec S6x2x12 1 := cmpf .oeq v0 v1
  v2

def fn_part3 {F : FTy → Type} [FloatOps F] (main_arg5 : IVec S6 32) (main_v53 : FVec F S6x2x12 .f32) (main_v54 : IVec S6 32) : IVec S6x256x1536 1 × IVec S6x256x1536 1 × IVec S6x256x1536 1 × IVec S1 1 × IVec S6x256x1536 1 × IVec S6x2x12 1 × IVec S6x1536x256 1 :=
  let main_v55 : IVec S6 1 := cmpi .ne main_arg5 main_v54
  let main_v56 : IVec S6x1x1 1 := broadcastInDim S6x1x1 ![0] bcast_S6_S6x1x1_0 main_v55
  let main_cst_15 : FVec F S_ .f32 := constant S_ .f32 0x7E800000#32
  let main_v57 : FVec F S6x2x12 .f32 := broadcastInDim S6x2x12 ![] bcast_S_S6x2x12 main_cst_15
  let main_v58 : IVec S6x2x12 1 := cmpf .olt main_v53 main_v57
  let main_v59 : IVec S6x2x12 1 := fn_isinf (F := F) main_v53
  let main_v60 : IVec S6x2x12 1 := ori main_v58 main_v59
  let main_v61 : IVec S6x2x12 1 := broadcastInDim S6x2x12 ![0, 1, 2] bcast_S6x1x1_S6x2x12_0_1_2 main_v56
  let main_v62 : IVec S6x2x12 1 := andi main_v60 main_v61
  let main_v63 : IVec S6x2x128x12 1 := broadcastInDim S6x2x128x12 ![0, 1, 3] bcast_S6x2x12_S6x2x128x12_0_1_3 main_v62
  let main_v64 : IVec S6x256x12 1 := shapeCast S6x256x12 main_v63 shapeCasts_S6x2x128x12_S6x256x12
  let main_v65 : IVec S6x256x12x128 1 := broadcastInDim S6x256x12x128 ![0, 1, 2] bcast_S6x256x12_S6x256x12x128_0_1_2 main_v64
  let main_v66 : IVec S6x256x1536 1 := shapeCast S6x256x1536 main_v65 shapeCasts_S6x256x12x128_S6x256x1536
  let main_c_16 : IVec S_ 1 := constantI S_ 1 1#1
  let main_v67 : IVec S6x256x1536 1 := broadcastInDim S6x256x1536 ![] bcast_S_S6x256x1536 main_c_16
  let main_v68 : IVec S6x256x1536 1 := broadcastInDim S6x256x1536 ![0, 1, 2] bcast_S6x1x1_S6x256x1536_0_1_2 main_v56
  let main_v69 : IVec S6x256x1536 1 := andi main_v67 main_v68
  let main_c_17 : IVec S_ 1 := constantI S_ 1 1#1
  let main_v70 : IVec S1 1 := broadcastInDim S1 ![] bcast_S_S1 main_c_17
  let main_v71 : IVec S6x1536x256 1 := (transpose S6x1536x256 [0, 2, 1] · transposes_S6x256x1536_S6x1536x256_0_2_1) main_v66
  (main_v69, main_v67, main_v67, main_v70, main_v66, main_v62, main_v71)

def fn_part2 {F : FTy → Type} [FloatOps F] (main_arg0 : FVec F S6x256x1536 .f32) (main_arg5 : IVec S6 32) (main_v3 : FVec F S_ .f32) (main_v12 : FVec F S6x256x1536 .f32) (main_v18 : FVec F S6x256x1536 .f32) (main_v27 : FVec F S6 .f32) (main_v29 : FVec F S6x1x1 .f32) (main_v34 : FVec F S6x1x1 .f32) : IVec S6x256x1536 1 × IVec S6x256x1536 1 × IVec S6x256x1536 1 × IVec S1 1 × IVec S6x256x1536 1 × IVec S6x2x12 1 × IVec S6x1536x256 1 :=
  let main_v35 : FVec F S6x256x1536 .f32 := Host.sqrt main_v18
  let main_v36 : FVec F S6 .f32 := Host.sqrt main_v27
  let main_v37 : FVec F S6x1x1 .f32 := broadcastInDim S6x1x1 ![0] bcast_S6_S6x1x1_0 main_v36
  let main_v38 : FVec F S6x256x1536 .f32 := broadcastInDim S6x256x1536 ![0, 1, 2] bcast_S6x1x1_S6x256x1536_0_1_2 main_v37
  let main_v39 : FVec F S6x256x1536 .f32 := Host.divf main_v35 main_v38
  let main_cst_12 : FVec F S_ .f32 := constant S_ .f32 0x322BCC77#32
  let main_v40 : FVec F S6x256x1536 .f32 := broadcastInDim S6x256x1536 ![] bcast_S_S6x256x1536 main_cst_12
  let main_v41 : FVec F S6x256x1536 .f32 := addf main_v39 main_v40
  let main_v42 : FVec F S6x256x1536 .f32 := broadcastInDim S6x256x1536 ![0, 1, 2] bcast_S6x1x1_S6x256x1536_0_1_2 main_v34
  let main_v43 : FVec F S6x256x1536 .f32 := mulf main_arg0 main_v42
  let main_v44 : FVec F S6x256x1536 .f32 := Host.divf main_v12 main_v41
  let main_v45 : FVec F S6x256x1536 .f32 := broadcastInDim S6x256x1536 ![0, 1, 2] bcast_S6x1x1_S6x256x1536_0_1_2 main_v29
  let main_v46 : FVec F S6x256x1536 .f32 := mulf main_v45 main_v44
  let main_v47 : FVec F S6x256x1536 .f32 := subf main_v43 main_v46
  let main_v48 : FVec F S1 .f32 := shapeCast S1 main_v3 shapeCasts_S_S1
  let main_v49 : FVec F S6x2x128x12x128 .f32 := shapeCast S6x2x128x12x128 main_v47 shapeCasts_S6x256x1536_S6x2x128x12x128
  let main_v50 : FVec F S6x2x128x12x128 .f32 := Host.absf main_v49
  let main_cst_13 : FVec F S_ .f32 := constant S_ .f32 0xFF800000#32
  let main_v51 : FVec F S6x2x12 .f32 := (fun x v => Host.reduce FloatOps.maximumf x v reducesTo_S6x2x128x12x128_S6x2x12_d2_4 h_S_) main_v50 main_cst_13
  let main_cst_14 : FVec F S_ .f32 := constant S_ .f32 0x3B124925#32
  let main_v52 : FVec F S6x2x12 .f32 := broadcastInDim S6x2x12 ![] bcast_S_S6x2x12 main_cst_14
  let main_v53 : FVec F S6x2x12 .f32 := mulf main_v51 main_v52
  let main_c : IVec S_ 32 := constantI S_ 32 0#32
  let main_v54 : IVec S6 32 := broadcastInDim S6 ![] bcast_S_S6 main_c
  fn_part3 (F := F) main_arg5 main_v53 main_v54

def fn_part1 {F : FTy → Type} [FloatOps F] (main_arg0 : FVec F S6x256x1536 .f32) (main_arg4 : FVec F S6 .f32) (main_arg5 : IVec S6 32) (main_v3 : FVec F S_ .f32) (main_v7 : FVec F S6x256x1536 .f32) (main_v12 : FVec F S6x256x1536 .f32) (main_v14 : FVec F S6x256x1536 .f32) (main_v16 : FVec F S6x256x1536 .f32) : IVec S6x256x1536 1 × IVec S6x256x1536 1 × IVec S6x256x1536 1 × IVec S1 1 × IVec S6x256x1536 1 × IVec S6x2x12 1 × IVec S6x1536x256 1 :=
  let main_v17 : FVec F S6x256x1536 .f32 := mulf main_v16 main_v7
  let main_v18 : FVec F S6x256x1536 .f32 := addf main_v14 main_v17
  let main_v19 : FVec F S6 .f32 := sitofp .f32 main_arg5
  let main_cst_6 : FVec F S_ .f32 := constant S_ .f32 0x3F666666#32
  let main_v20 : FVec F S6 .f32 := broadcastInDim S6 ![] bcast_S_S6 main_cst_6
  let main_v21 : FVec F S6 .f32 := Host.powf main_v20 main_v19
  let main_cst_7 : FVec F S_ .f32 := constant S_ .f32 0x3F800000#32
  let main_v22 : FVec F S6 .f32 := broadcastInDim S6 ![] bcast_S_S6 main_cst_7
  let main_v23 : FVec F S6 .f32 := subf main_v22 main_v21
  let main_cst_8 : FVec F S_ .f32 := constant S_ .f32 0x3F733333#32
  let main_v24 : FVec F S6 .f32 := broadcastInDim S6 ![] bcast_S_S6 main_cst_8
  let main_v25 : FVec F S6 .f32 := Host.powf main_v24 main_v19
  let main_cst_9 : FVec F S_ .f32 := constant S_ .f32 0x3F800000#32
  let main_v26 : FVec F S6 .f32 := broadcastInDim S6 ![] bcast_S_S6 main_cst_9
  let main_v27 : FVec F S6 .f32 := subf main_v26 main_v25
  let main_v28 : FVec F S6 .f32 := Host.divf main_arg4 main_v23
  let main_v29 : FVec F S6x1x1 .f32 := broadcastInDim S6x1x1 ![0] bcast_S6_S6x1x1_0 main_v28
  let main_cst_10 : FVec F S_ .f32 := constant S_ .f32 0x3DCCCCCD#32
  let main_v30 : FVec F S6 .f32 := broadcastInDim S6 ![] bcast_S_S6 main_cst_10
  let main_v31 : FVec F S6 .f32 := mulf main_arg4 main_v30
  let main_cst_11 : FVec F S_ .f32 := constant S_ .f32 0x3F800000#32
  let main_v32 : FVec F S6 .f32 := broadcastInDim S6 ![] bcast_S_S6 main_cst_11
  let main_v33 : FVec F S6 .f32 := subf main_v32 main_v31
  let main_v34 : FVec F S6x1x1 .f32 := broadcastInDim S6x1x1 ![0] bcast_S6_S6x1x1_0 main_v33
  fn_part2 (F := F) main_arg0 main_arg5 main_v3 main_v12 main_v18 main_v27 main_v29 main_v34

def fn {F : FTy → Type} [FloatOps F] (main_arg0 : FVec F S6x256x1536 .f32) (main_arg1 : FVec F S6x256x1536 .bf16) (main_arg2 : FVec F S6x256x1536 .f32) (main_arg3 : FVec F S6x256x1536 .f32) (main_arg4 : FVec F S6 .f32) (main_arg5 : IVec S6 32) : IVec S6x256x1536 1 × IVec S6x256x1536 1 × IVec S6x256x1536 1 × IVec S1 1 × IVec S6x256x1536 1 × IVec S6x2x12 1 × IVec S6x1536x256 1 :=
  let main_v0 : FVec F S6x256x1536 .f32 := (extf .f32 · bitsLt_bf16_f32) main_arg1
  let main_v1 : FVec F S6x256x1536 .f32 := mulf main_v0 main_v0
  let main_cst : FVec F S_ .f32 := constant S_ .f32 0x00000000#32
  let main_v2 : FVec F S_ .f32 := (fun x v => Host.reduceAdd x v reducesTo_S6x256x1536_S_d0_1_2 h_S_) main_v1 main_cst
  let main_v3 : FVec F S_ .f32 := Host.sqrt main_v2
  let main_cst_0 : FVec F S_ .f32 := constant S_ .f32 0x3F800000#32
  let main_v4 : FVec F S_ .f32 := maximumf main_v3 main_cst_0
  let main_cst_1 : FVec F S_ .f32 := constant S_ .f32 0x3F800000#32
  let main_v5 : FVec F S_ .f32 := Host.divf main_cst_1 main_v4
  let main_v6 : FVec F S6x256x1536 .f32 := broadcastInDim S6x256x1536 ![] bcast_S_S6x256x1536 main_v5
  let main_v7 : FVec F S6x256x1536 .f32 := mulf main_v6 main_v0
  let main_cst_2 : FVec F S_ .f32 := constant S_ .f32 0x3F666666#32
  let main_v8 : FVec F S6x256x1536 .f32 := broadcastInDim S6x256x1536 ![] bcast_S_S6x256x1536 main_cst_2
  let main_v9 : FVec F S6x256x1536 .f32 := mulf main_v8 main_arg2
  let main_cst_3 : FVec F S_ .f32 := constant S_ .f32 0x3DCCCCCD#32
  let main_v10 : FVec F S6x256x1536 .f32 := broadcastInDim S6x256x1536 ![] bcast_S_S6x256x1536 main_cst_3
  let main_v11 : FVec F S6x256x1536 .f32 := mulf main_v10 main_v7
  let main_v12 : FVec F S6x256x1536 .f32 := addf main_v9 main_v11
  let main_cst_4 : FVec F S_ .f32 := constant S_ .f32 0x3F733333#32
  let main_v13 : FVec F S6x256x1536 .f32 := broadcastInDim S6x256x1536 ![] bcast_S_S6x256x1536 main_cst_4
  let main_v14 : FVec F S6x256x1536 .f32 := mulf main_v13 main_arg3
  let main_cst_5 : FVec F S_ .f32 := constant S_ .f32 0x3D4CCCCD#32
  let main_v15 : FVec F S6x256x1536 .f32 := broadcastInDim S6x256x1536 ![] bcast_S_S6x256x1536 main_cst_5
  let main_v16 : FVec F S6x256x1536 .f32 := mulf main_v15 main_v7
  fn_part1 (F := F) main_arg0 main_arg4 main_arg5 main_v3 main_v7 main_v12 main_v14 main_v16
-- ==== Kernel.lean ====
abbrev S6x256x1536 : Shape := ⟨3, ![6, 256, 1536]⟩
abbrev S6 : Shape := ⟨1, ![6]⟩
abbrev S1 : Shape := ⟨1, ![1]⟩
abbrev S6x2x12 : Shape := ⟨3, ![6, 2, 12]⟩
abbrev S6x1536x256 : Shape := ⟨3, ![6, 1536, 256]⟩
abbrev S6x3x8x128 : Shape := ⟨4, ![6, 3, 8, 128]⟩
abbrev S12 : Shape := ⟨1, ![12]⟩
abbrev S_ : Shape := ⟨0, ![]⟩
abbrev S1x256x1536 : Shape := ⟨3, ![1, 256, 1536]⟩
abbrev S256x1536 : Shape := ⟨2, ![256, 1536]⟩
abbrev S1x128x1536 : Shape := ⟨3, ![1, 128, 1536]⟩
abbrev S128x1536 : Shape := ⟨2, ![128, 1536]⟩
abbrev S8x128 : Shape := ⟨2, ![8, 128]⟩
abbrev S1x1x8x128 : Shape := ⟨4, ![1, 1, 8, 128]⟩
abbrev S1x16x128 : Shape := ⟨3, ![1, 16, 128]⟩
abbrev S16x128 : Shape := ⟨2, ![16, 128]⟩
abbrev S1x8x128 : Shape := ⟨3, ![1, 8, 128]⟩
abbrev S1x1x1 : Shape := ⟨3, ![1, 1, 1]⟩
abbrev S1x128 : Shape := ⟨2, ![1, 128]⟩
abbrev S128 : Shape := ⟨1, ![128]⟩
abbrev S1x1 : Shape := ⟨2, ![1, 1]⟩
abbrev S1x128x128 : Shape := ⟨3, ![1, 128, 128]⟩
abbrev S128x128 : Shape := ⟨2, ![128, 128]⟩
abbrev S1x12 : Shape := ⟨2, ![1, 12]⟩
abbrev S1x1x12 : Shape := ⟨3, ![1, 1, 12]⟩
abbrev S1x1536x128 : Shape := ⟨3, ![1, 1536, 128]⟩
abbrev S1536x128 : Shape := ⟨2, ![1536, 128]⟩

abbrev nBuf : Space → Nat
  | .hbm => 13
  | .vmem => 8
  | .smem => 3
  | _ => 0

abbrev bufTy : (tb : Table) → Fin (tcTables nBuf tb) → BufTy
  | .hbm, ⟨0, _⟩ => ⟨S6x256x1536, .f32⟩
  | .hbm, ⟨1, _⟩ => ⟨S6x256x1536, .bf16⟩
  | .hbm, ⟨2, _⟩ => ⟨S6x256x1536, .f32⟩
  | .hbm, ⟨3, _⟩ => ⟨S6x256x1536, .f32⟩
  | .hbm, ⟨4, _⟩ => ⟨S6, .f32⟩
  | .hbm, ⟨5, _⟩ => ⟨S6, .i32⟩
  | .hbm, ⟨6, _⟩ => ⟨S6x256x1536, .f32⟩
  | .hbm, ⟨7, _⟩ => ⟨S6x256x1536, .f32⟩
  | .hbm, ⟨8, _⟩ => ⟨S6x256x1536, .f32⟩
  | .hbm, ⟨9, _⟩ => ⟨S1, .f32⟩
  | .hbm, ⟨10, _⟩ => ⟨S6x256x1536, .fp8e4m3⟩
  | .hbm, ⟨11, _⟩ => ⟨S6x2x12, .f32⟩
  | .hbm, ⟨12, _⟩ => ⟨S6x1536x256, .fp8e4m3⟩
  | .local _ .vmem, ⟨0, _⟩ => ⟨S6x256x1536, .f32⟩
  | .local _ .vmem, ⟨1, _⟩ => ⟨S6x256x1536, .bf16⟩
  | .local _ .vmem, ⟨2, _⟩ => ⟨S6x256x1536, .f32⟩
  | .local _ .vmem, ⟨3, _⟩ => ⟨S6x256x1536, .f32⟩
  | .local _ .vmem, ⟨4, _⟩ => ⟨S6x256x1536, .fp8e4m3⟩
  | .local _ .vmem, ⟨5, _⟩ => ⟨S6x1536x256, .fp8e4m3⟩
  | .local _ .vmem, ⟨6, _⟩ => ⟨S6x2x12, .f32⟩
  | .local _ .vmem, ⟨7, _⟩ => ⟨S6x3x8x128, .f32⟩
  | .local _ .smem, ⟨0, _⟩ => ⟨S6, .f32⟩
  | .local _ .smem, ⟨1, _⟩ => ⟨S6, .i32⟩
  | .local _ .smem, ⟨2, _⟩ => ⟨S1, .f32⟩
  | _, _ => ⟨S6x256x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.smem, 0, rfl⟩
abbrev cc0_scratch9 : Ref sig .tc := ⟨.smem, 1, rfl⟩
abbrev cc0_scratch10 : Ref sig .tc := ⟨.smem, 2, rfl⟩

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c6_i32 : BitVec 32 := 6#32
  let v0 : BitVec 32 := Scalar.addi c0_i32 c6_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg31 : BitVec 32 := Scf.iv c0_i32 c1_i32 k0_t1
  ![arg31.toNat]
def k0_off2 (k0_t1 : Fin k0_t1_loop.trips) : Fin 3 → Nat :=
  let c0_i32 : BitVec 32 := 0#32
  let c1_i32 : BitVec 32 := 1#32
  let arg31 : BitVec 32 := Scf.iv c0_i32 c1_i32 k0_t1
  let c0_i32_81 : BitVec 32 := 0#32
  let c0_i32_82 : BitVec 32 := 0#32
  ![arg31.toNat, 0, 0]
@[reducible] def k0_t2_loop : Scf.Loop 32 :=
  let c0_i32_1 : BitVec 32 := 0#32
  let c12_i32 : BitVec 32 := 12#32
  let v1 : BitVec 32 := Scalar.addi c0_i32_1 c12_i32
  let c1_i32_2 : BitVec 32 := 1#32
  ⟨c0_i32_1, v1, c1_i32_2⟩
def k0_off3 (k0_t2 : Fin k0_t2_loop.trips) : Fin 1 → Nat :=
  let c0_i32_1 : BitVec 32 := 0#32
  let c1_i32_2 : BitVec 32 := 1#32
  let arg31 : BitVec 32 := Scf.iv c0_i32_1 c1_i32_2 k0_t2
  let c0_i32_81 : BitVec 32 := 0#32
  let v68 : BitVec 1 := Scalar.cmpi .sgt arg31 c0_i32_81
  let v69 : BitVec 32 := Scalar.extui v68
  let c0_i32_82 : BitVec 32 := 0#32
  let v70 : BitVec 1 := Scalar.cmpi .slt arg31 c0_i32_82
  let v71 : BitVec 32 := Scalar.extui v70
  let v72 : BitVec 32 := Scalar.subi v69 v71
  let c2_i32 : BitVec 32 := 2#32
  let c0_i32_83 : BitVec 32 := 0#32
  let v73 : BitVec 1 := Scalar.cmpi .sgt c2_i32 c0_i32_83
  let v74 : BitVec 32 := Scalar.extui v73
  let c0_i32_84 : BitVec 32 := 0#32
  let v75 : BitVec 1 := Scalar.cmpi .slt c2_i32 c0_i32_84
  let v76 : BitVec 32 := Scalar.extui v75
  let v77 : BitVec 32 := Scalar.subi v74 v76
  let v78 : BitVec 1 := Scalar.cmpi .ne v72 v77
  let v79 : BitVec 32 := Scalar.remsi arg31 c2_i32
  let c0_i32_85 : BitVec 32 := 0#32
  let v80 : BitVec 1 := Scalar.cmpi .ne v79 c0_i32_85
  let v81 : BitVec 1 := Scalar.andi v78 v80
  let v67 : BitVec 32 := Scalar.divsi arg31 c2_i32
  let c1_i32_86 : BitVec 32 := 1#32
  let v82 : BitVec 32 := Scalar.subi v67 c1_i32_86
  let v83 : BitVec 32 := Scalar.select v81 v82 v67
  let c2_i32_94 : BitVec 32 := 2#32
  let v95 : BitVec 32 := Scalar.muli v83 c2_i32_94
  let c2_i32_87 : BitVec 32 := 2#32
  let c0_i32_88 : BitVec 32 := 0#32
  let v84 : BitVec 1 := Scalar.cmpi .eq c2_i32_87 c0_i32_88
  let c1_i32_89 : BitVec 32 := 1#32
  let v85 : BitVec 32 := Scalar.select v84 c1_i32_89 c2_i32_87
  let v86 : BitVec 32 := Scalar.remsi arg31 v85
  let c0_i32_91 : BitVec 32 := 0#32
  let v88 : BitVec 1 := Scalar.cmpi .slt v86 c0_i32_91
  let c0_i32_92 : BitVec 32 := 0#32
  let v89 : BitVec 1 := Scalar.cmpi .slt v85 c0_i32_92
  let v90 : BitVec 1 := Scalar.xori v88 v89
  let c0_i32_90 : BitVec 32 := 0#32
  let v87 : BitVec 1 := Scalar.cmpi .ne v86 c0_i32_90
  let v91 : BitVec 1 := Scalar.andi v90 v87
  let v92 : BitVec 32 := Scalar.addi v86 v85
  let v93 : BitVec 32 := Scalar.select v91 v92 v86
  let v96 : BitVec 32 := Scalar.addi v95 v93
  ![v96.toNat]
def k0_off4 (k0_t2 : Fin k0_t2_loop.trips) : Fin 3 → Nat :=
  let c0_i32_1 : BitVec 32 := 0#32
  let c1_i32_2 : BitVec 32 := 1#32
  let arg31 : BitVec 32 := Scf.iv c0_i32_1 c1_i32_2 k0_t2
  let c0_i32_81 : BitVec 32 := 0#32
  let v68 : BitVec 1 := Scalar.cmpi .sgt arg31 c0_i32_81
  let v69 : BitVec 32 := Scalar.extui v68
  let c0_i32_82 : BitVec 32 := 0#32
  let v70 : BitVec 1 := Scalar.cmpi .slt arg31 c0_i32_82
  let v71 : BitVec 32 := Scalar.extui v70
  let v72 : BitVec 32 := Scalar.subi v69 v71
  let c2_i32 : BitVec 32 := 2#32
  let c0_i32_83 : BitVec 32 := 0#32
  let v73 : BitVec 1 := Scalar.cmpi .sgt c2_i32 c0_i32_83
  let v74 : BitVec 32 := Scalar.extui v73
  let c0_i32_84 : BitVec 32 := 0#32
  let v75 : BitVec 1 := Scalar.cmpi .slt c2_i32 c0_i32_84
  let v76 : BitVec 32 := Scalar.extui v75
  let v77 : BitVec 32 := Scalar.subi v74 v76
  let v78 : BitVec 1 := Scalar.cmpi .ne v72 v77
  let v79 : BitVec 32 := Scalar.remsi arg31 c2_i32
  let c0_i32_85 : BitVec 32 := 0#32
  let v80 : BitVec 1 := Scalar.cmpi .ne v79 c0_i32_85
  let v81 : BitVec 1 := Scalar.andi v78 v80
  let v67 : BitVec 32 := Scalar.divsi arg31 c2_i32
  let c1_i32_86 : BitVec 32 := 1#32
  let v82 : BitVec 32 := Scalar.subi v67 c1_i32_86
  let v83 : BitVec 32 := Scalar.select v81 v82 v67
  let c2_i32_87 : BitVec 32 := 2#32
  let c0_i32_88 : BitVec 32 := 0#32
  let v84 : BitVec 1 := Scalar.cmpi .eq c2_i32_87 c0_i32_88
  let c1_i32_89 : BitVec 32 := 1#32
  let v85 : BitVec 32 := Scalar.select v84 c1_i32_89 c2_i32_87
  let v86 : BitVec 32 := Scalar.remsi arg31 v85
  let c0_i32_91 : BitVec 32 := 0#32
  let v88 : BitVec 1 := Scalar.cmpi .slt v86 c0_i32_91
  let c0_i32_92 : BitVec 32 := 0#32
  let v89 : BitVec 1 := Scalar.cmpi .slt v85 c0_i32_92
  let v90 : BitVec 1 := Scalar.xori v88 v89
  let c0_i32_90 : BitVec 32 := 0#32
  let v87 : BitVec 1 := Scalar.cmpi .ne v86 c0_i32_90
  let v91 : BitVec 1 := Scalar.andi v90 v87
  let v92 : BitVec 32 := Scalar.addi v86 v85
  let v93 : BitVec 32 := Scalar.select v91 v92 v86
  let c128_i32_93 : BitVec 32 := 128#32
  let v94 : BitVec 32 := Scalar.muli v93 c128_i32_93
  let c0_i32_95 : BitVec 32 := 0#32
  ![v83.toNat, v94.toNat, 0]
@[reducible] def k0_t3_loop : Scf.Loop 32 :=
  let c0_i32_4 : BitVec 32 := 0#32
  let c6_i32_5 : BitVec 32 := 6#32
  let v2 : BitVec 32 := Scalar.addi c0_i32_4 c6_i32_5
  let c1_i32_6 : BitVec 32 := 1#32
  ⟨c0_i32_4, v2, c1_i32_6⟩
def k0_off5 (k0_t3 : Fin k0_t3_loop.trips) : Fin 1 → Nat :=
  let c0_i32_4 : BitVec 32 := 0#32
  let c1_i32_6 : BitVec 32 := 1#32
  let arg31 : BitVec 32 := Scf.iv c0_i32_4 c1_i32_6 k0_t3
  let v67 : Index := Scalar.indexCast arg31
  ![v67.toNat]
def k0_off6 (k0_t3 : Fin k0_t3_loop.trips) : Fin 4 → Nat :=
  let c0_i32_4 : BitVec 32 := 0#32
  let c1_i32_6 : BitVec 32 := 1#32
  let arg31 : BitVec 32 := Scf.iv c0_i32_4 c1_i32_6 k0_t3
  let v83 : Index := Scalar.indexCast arg31
  let c0_85 : Index := 0#32
  let c0_86 : Index := 0#32
  let c0_87 : Index := 0#32
  ![v83.toNat, 0, 0, 0]
def k0_off7 (k0_t3 : Fin k0_t3_loop.trips) : Fin 4 → Nat :=
  let c0_i32_4 : BitVec 32 := 0#32
  let c1_i32_6 : BitVec 32 := 1#32
  let arg31 : BitVec 32 := Scf.iv c0_i32_4 c1_i32_6 k0_t3
  let v91 : Index := Scalar.indexCast arg31
  let c1 : Index := 1#32
  let c0_90 : Index := 0#32
  let c0_91 : Index := 0#32
  ![v91.toNat, 1, 0, 0]
def k0_off8 (k0_t3 : Fin k0_t3_loop.trips) : Fin 4 → Nat :=
  let c0_i32_4 : BitVec 32 := 0#32
  let c1_i32_6 : BitVec 32 := 1#32
  let arg31 : BitVec 32 := Scf.iv c0_i32_4 c1_i32_6 k0_t3
  let v98 : Index := Scalar.indexCast arg31
  let c2 : Index := 2#32
  let c0_93 : Index := 0#32
  let c0_94 : Index := 0#32
  ![v98.toNat, 2, 0, 0]
@[reducible] def k0_t4_loop : Scf.Loop 32 :=
  let c0_i32_8 : BitVec 32 := 0#32
  let c6_i32_9 : BitVec 32 := 6#32
  let v4 : BitVec 32 := Scalar.addi c0_i32_8 c6_i32_9
  let c1_i32_10 : BitVec 32 := 1#32
  ⟨c0_i32_8, v4, c1_i32_10⟩
def k0_off9 (k0_t4 : Fin k0_t4_loop.trips) : Fin 1 → Nat :=
  let c0_i32_8 : BitVec 32 := 0#32
  let c1_i32_10 : BitVec 32 := 1#32
  let arg31 : BitVec 32 := Scf.iv c0_i32_8 c1_i32_10 k0_t4
  ![arg31.toNat]
def k0_off10 (k0_t4 : Fin k0_t4_loop.trips) : Fin 3 → Nat :=
  let c0_i32_8 : BitVec 32 := 0#32
  let c1_i32_10 : BitVec 32 := 1#32
  let arg31 : BitVec 32 := Scf.iv c0_i32_8 c1_i32_10 k0_t4
  let c0_i32_81 : BitVec 32 := 0#32
  let c0_i32_82 : BitVec 32 := 0#32
  ![arg31.toNat, 0, 0]
@[reducible] def k0_t5_loop : Scf.Loop 32 :=
  let c0_i32_85 : BitVec 32 := 0#32
  let c16_i32 : BitVec 32 := 16#32
  let v73 : BitVec 32 := Scalar.addi c0_i32_85 c16_i32
  let c1_i32_86 : BitVec 32 := 1#32
  ⟨c0_i32_85, v73, c1_i32_86⟩
def k0_off11 (k0_t4 : Fin k0_t4_loop.trips) (k0_t5 : Fin k0_t5_loop.trips) : Fin 3 → Nat :=
  let c0_i32_8 : BitVec 32 := 0#32
  let c1_i32_10 : BitVec 32 := 1#32
  let arg31 : BitVec 32 := Scf.iv c0_i32_8 c1_i32_10 k0_t4
  let v76 : Index := Scalar.indexCast arg31
  let c0_i32_85 : BitVec 32 := 0#32
  let c1_i32_86 : BitVec 32 := 1#32
  let arg36 : BitVec 32 := Scf.iv c0_i32_85 c1_i32_86 k0_t5
  let c16_i32_88 : BitVec 32 := 16#32
  let v75 : BitVec 32 := Scalar.muli arg36 c16_i32_88
  let v77 : Index := Scalar.indexCast v75
  let c0_89 : Index := 0#32
  ![v76.toNat, v77.toNat, 0]
def k0_off12 (k0_t4 : Fin k0_t4_loop.trips) (k0_t5 : Fin k0_t5_loop.trips) : Fin 3 → Nat :=
  let c0_i32_8 : BitVec 32 := 0#32
  let c1_i32_10 : BitVec 32 := 1#32
  let arg31 : BitVec 32 := Scf.iv c0_i32_8 c1_i32_10 k0_t4
  let v87 : Index := Scalar.indexCast arg31
  let c0_i32_85 : BitVec 32 := 0#32
  let c1_i32_86 : BitVec 32 := 1#32
  let arg36 : BitVec 32 := Scf.iv c0_i32_85 c1_i32_86 k0_t5
  let c16_i32_90 : BitVec 32 := 16#32
  let v86 : BitVec 32 := Scalar.muli arg36 c16_i32_90
  let v88 : Index := Scalar.indexCast v86
  let c128 : Index := 128#32
  ![v87.toNat, v88.toNat, 128]
def k0_off13 (k0_t4 : Fin k0_t4_loop.trips) (k0_t5 : Fin k0_t5_loop.trips) : Fin 3 → Nat :=
  let c0_i32_8 : BitVec 32 := 0#32
  let c1_i32_10 : BitVec 32 := 1#32
  let arg31 : BitVec 32 := Scf.iv c0_i32_8 c1_i32_10 k0_t4
  let v98 : Index := Scalar.indexCast arg31
  let c0_i32_85 : BitVec 32 := 0#32
  let c1_i32_86 : BitVec 32 := 1#32
  let arg36 : BitVec 32 := Scf.iv c0_i32_85 c1_i32_86 k0_t5
  let c16_i32_91 : BitVec 32 := 16#32
  let v97 : BitVec 32 := Scalar.muli arg36 c16_i32_91
  let v99 : Index := Scalar.indexCast v97
  let c256 : Index := 256#32
  ![v98.toNat, v99.toNat, 256]
def k0_off14 (k0_t4 : Fin k0_t4_loop.trips) (k0_t5 : Fin k0_t5_loop.trips) : Fin 3 → Nat :=
  let c0_i32_8 : BitVec 32 := 0#32
  let c1_i32_10 : BitVec 32 := 1#32
  let arg31 : BitVec 32 := Scf.iv c0_i32_8 c1_i32_10 k0_t4
  let v109 : Index := Scalar.indexCast arg31
  let c0_i32_85 : BitVec 32 := 0#32
  let c1_i32_86 : BitVec 32 := 1#32
  let arg36 : BitVec 32 := Scf.iv c0_i32_85 c1_i32_86 k0_t5
  let c16_i32_92 : BitVec 32 := 16#32
  let v108 : BitVec 32 := Scalar.muli arg36 c16_i32_92
  let v110 : Index := Scalar.indexCast v108
  let c384 : Index := 384#32
  ![v109.toNat, v110.toNat, 384]
def k0_off15 (k0_t4 : Fin k0_t4_loop.trips) (k0_t5 : Fin k0_t5_loop.trips) : Fin 3 → Nat :=
  let c0_i32_8 : BitVec 32 := 0#32
  let c1_i32_10 : BitVec 32 := 1#32
  let arg31 : BitVec 32 := Scf.iv c0_i32_8 c1_i32_10 k0_t4
  let v120 : Index := Scalar.indexCast arg31
  let c0_i32_85 : BitVec 32 := 0#32
  let c1_i32_86 : BitVec 32 := 1#32
  let arg36 : BitVec 32 := Scf.iv c0_i32_85 c1_i32_86 k0_t5
  let c16_i32_93 : BitVec 32 := 16#32
  let v119 : BitVec 32 := Scalar.muli arg36 c16_i32_93
  let v121 : Index := Scalar.indexCast v119
  let c512 : Index := 512#32
  ![v120.toNat, v121.toNat, 512]
def k0_off16 (k0_t4 : Fin k0_t4_loop.trips) (k0_t5 : Fin k0_t5_loop.trips) : Fin 3 → Nat :=
  let c0_i32_8 : BitVec 32 := 0#32
  let c1_i32_10 : BitVec 32 := 1#32
  let arg31 : BitVec 32 := Scf.iv c0_i32_8 c1_i32_10 k0_t4
  let v131 : Index := Scalar.indexCast arg31
  let c0_i32_85 : BitVec 32 := 0#32
  let c1_i32_86 : BitVec 32 := 1#32
  let arg36 : BitVec 32 := Scf.iv c0_i32_85 c1_i32_86 k0_t5
  let c16_i32_94 : BitVec 32 := 16#32
  let v130 : BitVec 32 := Scalar.muli arg36 c16_i32_94
  let v132 : Index := Scalar.indexCast v130
  let c640 : Index := 640#32
  ![v131.toNat, v132.toNat, 640]
def k0_off17 (k0_t4 : Fin k0_t4_loop.trips) (k0_t5 : Fin k0_t5_loop.trips) : Fin 3 → Nat :=
  let c0_i32_8 : BitVec 32 := 0#32
  let c1_i32_10 : BitVec 32 := 1#32
  let arg31 : BitVec 32 := Scf.iv c0_i32_8 c1_i32_10 k0_t4
  let v142 : Index := Scalar.indexCast arg31
  let c0_i32_85 : BitVec 32 := 0#32
  let c1_i32_86 : BitVec 32 := 1#32
  let arg36 : BitVec 32 := Scf.iv c0_i32_85 c1_i32_86 k0_t5
  let c16_i32_95 : BitVec 32 := 16#32
  let v141 : BitVec 32 := Scalar.muli arg36 c16_i32_95
  let v143 : Index := Scalar.indexCast v141
  let c768 : Index := 768#32
  ![v142.toNat, v143.toNat, 768]
def k0_off18 (k0_t4 : Fin k0_t4_loop.trips) (k0_t5 : Fin k0_t5_loop.trips) : Fin 3 → Nat :=
  let c0_i32_8 : BitVec 32 := 0#32
  let c1_i32_10 : BitVec 32 := 1#32
  let arg31 : BitVec 32 := Scf.iv c0_i32_8 c1_i32_10 k0_t4
  let v153 : Index := Scalar.indexCast arg31
  let c0_i32_85 : BitVec 32 := 0#32
  let c1_i32_86 : BitVec 32 := 1#32
  let arg36 : BitVec 32 := Scf.iv c0_i32_85 c1_i32_86 k0_t5
  let c16_i32_96 : BitVec 32 := 16#32
  let v152 : BitVec 32 := Scalar.muli arg36 c16_i32_96
  let v154 : Index := Scalar.indexCast v152
  let c896 : Index := 896#32
  ![v153.toNat, v154.toNat, 896]
def k0_off19 (k0_t4 : Fin k0_t4_loop.trips) (k0_t5 : Fin k0_t5_loop.trips) : Fin 3 → Nat :=
  let c0_i32_8 : BitVec 32 := 0#32
  let c1_i32_10 : BitVec 32 := 1#32
  let arg31 : BitVec 32 := Scf.iv c0_i32_8 c1_i32_10 k0_t4
  let v164 : Index := Scalar.indexCast arg31
  let c0_i32_85 : BitVec 32 := 0#32
  let c1_i32_86 : BitVec 32 := 1#32
  let arg36 : BitVec 32 := Scf.iv c0_i32_85 c1_i32_86 k0_t5
  let c16_i32_97 : BitVec 32 := 16#32
  let v163 : BitVec 32 := Scalar.muli arg36 c16_i32_97
  let v165 : Index := Scalar.indexCast v163
  let c1024 : Index := 1024#32
  ![v164.toNat, v165.toNat, 1024]
def k0_off20 (k0_t4 : Fin k0_t4_loop.trips) (k0_t5 : Fin k0_t5_loop.trips) : Fin 3 → Nat :=
  let c0_i32_8 : BitVec 32 := 0#32
  let c1_i32_10 : BitVec 32 := 1#32
  let arg31 : BitVec 32 := Scf.iv c0_i32_8 c1_i32_10 k0_t4
  let v175 : Index := Scalar.indexCast arg31
  let c0_i32_85 : BitVec 32 := 0#32
  let c1_i32_86 : BitVec 32 := 1#32
  let arg36 : BitVec 32 := Scf.iv c0_i32_85 c1_i32_86 k0_t5
  let c16_i32_98 : BitVec 32 := 16#32
  let v174 : BitVec 32 := Scalar.muli arg36 c16_i32_98
  let v176 : Index := Scalar.indexCast v174
  let c1152 : Index := 1152#32
  ![v175.toNat, v176.toNat, 1152]
def k0_off21 (k0_t4 : Fin k0_t4_loop.trips) (k0_t5 : Fin k0_t5_loop.trips) : Fin 3 → Nat :=
  let c0_i32_8 : BitVec 32 := 0#32
  let c1_i32_10 : BitVec 32 := 1#32
  let arg31 : BitVec 32 := Scf.iv c0_i32_8 c1_i32_10 k0_t4
  let v186 : Index := Scalar.indexCast arg31
  let c0_i32_85 : BitVec 32 := 0#32
  let c1_i32_86 : BitVec 32 := 1#32
  let arg36 : BitVec 32 := Scf.iv c0_i32_85 c1_i32_86 k0_t5
  let c16_i32_99 : BitVec 32 := 16#32
  let v185 : BitVec 32 := Scalar.muli arg36 c16_i32_99
  let v187 : Index := Scalar.indexCast v185
  let c1280 : Index := 1280#32
  ![v186.toNat, v187.toNat, 1280]
def k0_off22 (k0_t4 : Fin k0_t4_loop.trips) (k0_t5 : Fin k0_t5_loop.trips) : Fin 3 → Nat :=
  let c0_i32_8 : BitVec 32 := 0#32
  let c1_i32_10 : BitVec 32 := 1#32
  let arg31 : BitVec 32 := Scf.iv c0_i32_8 c1_i32_10 k0_t4
  let v197 : Index := Scalar.indexCast arg31
  let c0_i32_85 : BitVec 32 := 0#32
  let c1_i32_86 : BitVec 32 := 1#32
  let arg36 : BitVec 32 := Scf.iv c0_i32_85 c1_i32_86 k0_t5
  let c16_i32_100 : BitVec 32 := 16#32
  let v196 : BitVec 32 := Scalar.muli arg36 c16_i32_100
  let v198 : Index := Scalar.indexCast v196
  let c1408 : Index := 1408#32
  ![v197.toNat, v198.toNat, 1408]
@[reducible] def k0_t6_loop : Scf.Loop 32 :=
  let c0_i32_16 : BitVec 32 := 0#32
  let c12_i32_17 : BitVec 32 := 12#32
  let v25 : BitVec 32 := Scalar.addi c0_i32_16 c12_i32_17
  let c1_i32_18 : BitVec 32 := 1#32
  ⟨c0_i32_16, v25, c1_i32_18⟩
def k0_off23 (k0_t6 : Fin k0_t6_loop.trips) : Fin 1 → Nat :=
  let c0_i32_16 : BitVec 32 := 0#32
  let c1_i32_18 : BitVec 32 := 1#32
  let arg31 : BitVec 32 := Scf.iv c0_i32_16 c1_i32_18 k0_t6
  let c0_i32_81 : BitVec 32 := 0#32
  let v68 : BitVec 1 := Scalar.cmpi .sgt arg31 c0_i32_81
  let v69 : BitVec 32 := Scalar.extui v68
  let c0_i32_82 : BitVec 32 := 0#32
  let v70 : BitVec 1 := Scalar.cmpi .slt arg31 c0_i32_82
  let v71 : BitVec 32 := Scalar.extui v70
  let v72 : BitVec 32 := Scalar.subi v69 v71
  let c2_i32 : BitVec 32 := 2#32
  let c0_i32_83 : BitVec 32 := 0#32
  let v73 : BitVec 1 := Scalar.cmpi .sgt c2_i32 c0_i32_83
  let v74 : BitVec 32 := Scalar.extui v73
  let c0_i32_84 : BitVec 32 := 0#32
  let v75 : BitVec 1 := Scalar.cmpi .slt c2_i32 c0_i32_84
  let v76 : BitVec 32 := Scalar.extui v75
  let v77 : BitVec 32 := Scalar.subi v74 v76
  let v78 : BitVec 1 := Scalar.cmpi .ne v72 v77
  let v79 : BitVec 32 := Scalar.remsi arg31 c2_i32
  let c0_i32_85 : BitVec 32 := 0#32
  let v80 : BitVec 1 := Scalar.cmpi .ne v79 c0_i32_85
  let v81 : BitVec 1 := Scalar.andi v78 v80
  let v67 : BitVec 32 := Scalar.divsi arg31 c2_i32
  let c1_i32_86 : BitVec 32 := 1#32
  let v82 : BitVec 32 := Scalar.subi v67 c1_i32_86
  let v83 : BitVec 32 := Scalar.select v81 v82 v67
  let c2_i32_94 : BitVec 32 := 2#32
  let v95 : BitVec 32 := Scalar.muli v83 c2_i32_94
  let c2_i32_87 : BitVec 32 := 2#32
  let c0_i32_88 : BitVec 32 := 0#32
  let v84 : BitVec 1 := Scalar.cmpi .eq c2_i32_87 c0_i32_88
  let c1_i32_89 : BitVec 32 := 1#32
  let v85 : BitVec 32 := Scalar.select v84 c1_i32_89 c2_i32_87
  let v86 : BitVec 32 := Scalar.remsi arg31 v85
  let c0_i32_91 : BitVec 32 := 0#32
  let v88 : BitVec 1 := Scalar.cmpi .slt v86 c0_i32_91
  let c0_i32_92 : BitVec 32 := 0#32
  let v89 : BitVec 1 := Scalar.cmpi .slt v85 c0_i32_92
  let v90 : BitVec 1 := Scalar.xori v88 v89
  let c0_i32_90 : BitVec 32 := 0#32
  let v87 : BitVec 1 := Scalar.cmpi .ne v86 c0_i32_90
  let v91 : BitVec 1 := Scalar.andi v90 v87
  let v92 : BitVec 32 := Scalar.addi v86 v85
  let v93 : BitVec 32 := Scalar.select v91 v92 v86
  let v96 : BitVec 32 := Scalar.addi v95 v93
  ![v96.toNat]
def k0_off24 (k0_t6 : Fin k0_t6_loop.trips) : Fin 3 → Nat :=
  let c0_i32_16 : BitVec 32 := 0#32
  let c1_i32_18 : BitVec 32 := 1#32
  let arg31 : BitVec 32 := Scf.iv c0_i32_16 c1_i32_18 k0_t6
  let c0_i32_81 : BitVec 32 := 0#32
  let v68 : BitVec 1 := Scalar.cmpi .sgt arg31 c0_i32_81
  let v69 : BitVec 32 := Scalar.extui v68
  let c0_i32_82 : BitVec 32 := 0#32
  let v70 : BitVec 1 := Scalar.cmpi .slt arg31 c0_i32_82
  let v71 : BitVec 32 := Scalar.extui v70
  let v72 : BitVec 32 := Scalar.subi v69 v71
  let c2_i32 : BitVec 32 := 2#32
  let c0_i32_83 : BitVec 32 := 0#32
  let v73 : BitVec 1 := Scalar.cmpi .sgt c2_i32 c0_i32_83
  let v74 : BitVec 32 := Scalar.extui v73
  let c0_i32_84 : BitVec 32 := 0#32
  let v75 : BitVec 1 := Scalar.cmpi .slt c2_i32 c0_i32_84
  let v76 : BitVec 32 := Scalar.extui v75
  let v77 : BitVec 32 := Scalar.subi v74 v76
  let v78 : BitVec 1 := Scalar.cmpi .ne v72 v77
  let v79 : BitVec 32 := Scalar.remsi arg31 c2_i32
  let c0_i32_85 : BitVec 32 := 0#32
  let v80 : BitVec 1 := Scalar.cmpi .ne v79 c0_i32_85
  let v81 : BitVec 1 := Scalar.andi v78 v80
  let v67 : BitVec 32 := Scalar.divsi arg31 c2_i32
  let c1_i32_86 : BitVec 32 := 1#32
  let v82 : BitVec 32 := Scalar.subi v67 c1_i32_86
  let v83 : BitVec 32 := Scalar.select v81 v82 v67
  let c2_i32_87 : BitVec 32 := 2#32
  let c0_i32_88 : BitVec 32 := 0#32
  let v84 : BitVec 1 := Scalar.cmpi .eq c2_i32_87 c0_i32_88
  let c1_i32_89 : BitVec 32 := 1#32
  let v85 : BitVec 32 := Scalar.select v84 c1_i32_89 c2_i32_87
  let v86 : BitVec 32 := Scalar.remsi arg31 v85
  let c0_i32_91 : BitVec 32 := 0#32
  let v88 : BitVec 1 := Scalar.cmpi .slt v86 c0_i32_91
  let c0_i32_92 : BitVec 32 := 0#32
  let v89 : BitVec 1 := Scalar.cmpi .slt v85 c0_i32_92
  let v90 : BitVec 1 := Scalar.xori v88 v89
  let c0_i32_90 : BitVec 32 := 0#32
  let v87 : BitVec 1 := Scalar.cmpi .ne v86 c0_i32_90
  let v91 : BitVec 1 := Scalar.andi v90 v87
  let v92 : BitVec 32 := Scalar.addi v86 v85
  let v93 : BitVec 32 := Scalar.select v91 v92 v86
  let c128_i32_93 : BitVec 32 := 128#32
  let v94 : BitVec 32 := Scalar.muli v93 c128_i32_93
  let c0_i32_95 : BitVec 32 := 0#32
  ![v83.toNat, v94.toNat, 0]
def k0_off25 (k0_t6 : Fin k0_t6_loop.trips) : Fin 4 → Nat :=
  let c0_i32_16 : BitVec 32 := 0#32
  let c1_i32_18 : BitVec 32 := 1#32
  let arg31 : BitVec 32 := Scf.iv c0_i32_16 c1_i32_18 k0_t6
  let c0_i32_81 : BitVec 32 := 0#32
  let v68 : BitVec 1 := Scalar.cmpi .sgt arg31 c0_i32_81
  let v69 : BitVec 32 := Scalar.extui v68
  let c0_i32_82 : BitVec 32 := 0#32
  let v70 : BitVec 1 := Scalar.cmpi .slt arg31 c0_i32_82
  let v71 : BitVec 32 := Scalar.extui v70
  let v72 : BitVec 32 := Scalar.subi v69 v71
  let c2_i32 : BitVec 32 := 2#32
  let c0_i32_83 : BitVec 32 := 0#32
  let v73 : BitVec 1 := Scalar.cmpi .sgt c2_i32 c0_i32_83
  let v74 : BitVec 32 := Scalar.extui v73
  let c0_i32_84 : BitVec 32 := 0#32
  let v75 : BitVec 1 := Scalar.cmpi .slt c2_i32 c0_i32_84
  let v76 : BitVec 32 := Scalar.extui v75
  let v77 : BitVec 32 := Scalar.subi v74 v76
  let v78 : BitVec 1 := Scalar.cmpi .ne v72 v77
  let v79 : BitVec 32 := Scalar.remsi arg31 c2_i32
  let c0_i32_85 : BitVec 32 := 0#32
  let v80 : BitVec 1 := Scalar.cmpi .ne v79 c0_i32_85
  let v81 : BitVec 1 := Scalar.andi v78 v80
  let v67 : BitVec 32 := Scalar.divsi arg31 c2_i32
  let c1_i32_86 : BitVec 32 := 1#32
  let v82 : BitVec 32 := Scalar.subi v67 c1_i32_86
  let v83 : BitVec 32 := Scalar.select v81 v82 v67
  let v115 : Index := Scalar.indexCast v83
  let c0_101 : Index := 0#32
  let c0_102 : Index := 0#32
  let c0_103 : Index := 0#32
  ![v115.toNat, 0, 0, 0]
def k0_off26 (k0_t6 : Fin k0_t6_loop.trips) : Fin 4 → Nat :=
  let c0_i32_16 : BitVec 32 := 0#32
  let c1_i32_18 : BitVec 32 := 1#32
  let arg31 : BitVec 32 := Scf.iv c0_i32_16 c1_i32_18 k0_t6
  let c0_i32_81 : BitVec 32 := 0#32
  let v68 : BitVec 1 := Scalar.cmpi .sgt arg31 c0_i32_81
  let v69 : BitVec 32 := Scalar.extui v68
  let c0_i32_82 : BitVec 32 := 0#32
  let v70 : BitVec 1 := Scalar.cmpi .slt arg31 c0_i32_82
  let v71 : BitVec 32 := Scalar.extui v70
  let v72 : BitVec 32 := Scalar.subi v69 v71
  let c2_i32 : BitVec 32 := 2#32
  let c0_i32_83 : BitVec 32 := 0#32
  let v73 : BitVec 1 := Scalar.cmpi .sgt c2_i32 c0_i32_83
  let v74 : BitVec 32 := Scalar.extui v73
  let c0_i32_84 : BitVec 32 := 0#32
  let v75 : BitVec 1 := Scalar.cmpi .slt c2_i32 c0_i32_84
  let v76 : BitVec 32 := Scalar.extui v75
  let v77 : BitVec 32 := Scalar.subi v74 v76
  let v78 : BitVec 1 := Scalar.cmpi .ne v72 v77
  let v79 : BitVec 32 := Scalar.remsi arg31 c2_i32
  let c0_i32_85 : BitVec 32 := 0#32
  let v80 : BitVec 1 := Scalar.cmpi .ne v79 c0_i32_85
  let v81 : BitVec 1 := Scalar.andi v78 v80
  let v67 : BitVec 32 := Scalar.divsi arg31 c2_i32
  let c1_i32_86 : BitVec 32 := 1#32
  let v82 : BitVec 32 := Scalar.subi v67 c1_i32_86
  let v83 : BitVec 32 := Scalar.select v81 v82 v67
  let v118 : Index := Scalar.indexCast v83
  let c1 : Index := 1#32
  let c0_104 : Index := 0#32
  let c0_105 : Index := 0#32
  ![v118.toNat, 1, 0, 0]
def k0_off27 (k0_t6 : Fin k0_t6_loop.trips) : Fin 4 → Nat :=
  let c0_i32_16 : BitVec 32 := 0#32
  let c1_i32_18 : BitVec 32 := 1#32
  let arg31 : BitVec 32 := Scf.iv c0_i32_16 c1_i32_18 k0_t6
  let c0_i32_81 : BitVec 32 := 0#32
  let v68 : BitVec 1 := Scalar.cmpi .sgt arg31 c0_i32_81
  let v69 : BitVec 32 := Scalar.extui v68
  let c0_i32_82 : BitVec 32 := 0#32
  let v70 : BitVec 1 := Scalar.cmpi .slt arg31 c0_i32_82
  let v71 : BitVec 32 := Scalar.extui v70
  let v72 : BitVec 32 := Scalar.subi v69 v71
  let c2_i32 : BitVec 32 := 2#32
  let c0_i32_83 : BitVec 32 := 0#32
  let v73 : BitVec 1 := Scalar.cmpi .sgt c2_i32 c0_i32_83
  let v74 : BitVec 32 := Scalar.extui v73
  let c0_i32_84 : BitVec 32 := 0#32
  let v75 : BitVec 1 := Scalar.cmpi .slt c2_i32 c0_i32_84
  let v76 : BitVec 32 := Scalar.extui v75
  let v77 : BitVec 32 := Scalar.subi v74 v76
  let v78 : BitVec 1 := Scalar.cmpi .ne v72 v77
  let v79 : BitVec 32 := Scalar.remsi arg31 c2_i32
  let c0_i32_85 : BitVec 32 := 0#32
  let v80 : BitVec 1 := Scalar.cmpi .ne v79 c0_i32_85
  let v81 : BitVec 1 := Scalar.andi v78 v80
  let v67 : BitVec 32 := Scalar.divsi arg31 c2_i32
  let c1_i32_86 : BitVec 32 := 1#32
  let v82 : BitVec 32 := Scalar.subi v67 c1_i32_86
  let v83 : BitVec 32 := Scalar.select v81 v82 v67
  let v121 : Index := Scalar.indexCast v83
  let c2 : Index := 2#32
  let c0_106 : Index := 0#32
  let c0_107 : Index := 0#32
  ![v121.toNat, 2, 0, 0]
def k0_mult1 (k0_t6 : Fin k0_t6_loop.trips) : BitVec 32 :=
  let c0_i32_16 : BitVec 32 := 0#32
  let c1_i32_18 : BitVec 32 := 1#32
  let arg31 : BitVec 32 := Scf.iv c0_i32_16 c1_i32_18 k0_t6
  let c2_i32_87 : BitVec 32 := 2#32
  let c0_i32_88 : BitVec 32 := 0#32
  let v84 : BitVec 1 := Scalar.cmpi .eq c2_i32_87 c0_i32_88
  let c1_i32_89 : BitVec 32 := 1#32
  let v85 : BitVec 32 := Scalar.select v84 c1_i32_89 c2_i32_87
  let v86 : BitVec 32 := Scalar.remsi arg31 v85
  let c0_i32_91 : BitVec 32 := 0#32
  let v88 : BitVec 1 := Scalar.cmpi .slt v86 c0_i32_91
  let c0_i32_92 : BitVec 32 := 0#32
  let v89 : BitVec 1 := Scalar.cmpi .slt v85 c0_i32_92
  let v90 : BitVec 1 := Scalar.xori v88 v89
  let c0_i32_90 : BitVec 32 := 0#32
  let v87 : BitVec 1 := Scalar.cmpi .ne v86 c0_i32_90
  let v91 : BitVec 1 := Scalar.andi v90 v87
  let v92 : BitVec 32 := Scalar.addi v86 v85
  let v93 : BitVec 32 := Scalar.select v91 v92 v86
  let c128_i32_108 : BitVec 32 := 128#32
  let v124 : BitVec 32 := Scalar.muli v93 c128_i32_108
  v124
@[reducible] def k0_t7_loop : Scf.Loop 32 :=
  let c0_i32_110 : BitVec 32 := 0#32
  let c12_i32_111 : BitVec 32 := 12#32
  let v127 : BitVec 32 := Scalar.addi c0_i32_110 c12_i32_111
  let c1_i32_112 : BitVec 32 := 1#32
  ⟨c0_i32_110, v127, c1_i32_112⟩
def k0_mult2 (k0_t7 : Fin k0_t7_loop.trips) : BitVec 32 :=
  let c0_i32_110 : BitVec 32 := 0#32
  let c1_i32_112 : BitVec 32 := 1#32
  let arg32 : BitVec 32 := Scf.iv c0_i32_110 c1_i32_112 k0_t7
  let c128_i32_117 : BitVec 32 := 128#32
  let v138 : BitVec 32 := Scalar.muli arg32 c128_i32_117
  v138
@[reducible] def k0_t8_loop : Scf.Loop 32 :=
  let c0_i32_119 : BitVec 32 := 0#32
  let c8_i32 : BitVec 32 := 8#32
  let v141 : BitVec 32 := Scalar.addi c0_i32_119 c8_i32
  let c1_i32_120 : BitVec 32 := 1#32
  ⟨c0_i32_119, v141, c1_i32_120⟩
def k0_off28 (k0_t6 : Fin k0_t6_loop.trips) (k0_t7 : Fin k0_t7_loop.trips) (k0_t8 : Fin k0_t8_loop.trips) : Fin 3 → Nat :=
  let c0_i32_16 : BitVec 32 := 0#32
  let c1_i32_18 : BitVec 32 := 1#32
  let arg31 : BitVec 32 := Scf.iv c0_i32_16 c1_i32_18 k0_t6
  let c0_i32_81 : BitVec 32 := 0#32
  let v68 : BitVec 1 := Scalar.cmpi .sgt arg31 c0_i32_81
  let v69 : BitVec 32 := Scalar.extui v68
  let c0_i32_82 : BitVec 32 := 0#32
  let v70 : BitVec 1 := Scalar.cmpi .slt arg31 c0_i32_82
  let v71 : BitVec 32 := Scalar.extui v70
  let v72 : BitVec 32 := Scalar.subi v69 v71
  let c2_i32 : BitVec 32 := 2#32
  let c0_i32_83 : BitVec 32 := 0#32
  let v73 : BitVec 1 := Scalar.cmpi .sgt c2_i32 c0_i32_83
  let v74 : BitVec 32 := Scalar.extui v73
  let c0_i32_84 : BitVec 32 := 0#32
  let v75 : BitVec 1 := Scalar.cmpi .slt c2_i32 c0_i32_84
  let v76 : BitVec 32 := Scalar.extui v75
  let v77 : BitVec 32 := Scalar.subi v74 v76
  let v78 : BitVec 1 := Scalar.cmpi .ne v72 v77
  let v79 : BitVec 32 := Scalar.remsi arg31 c2_i32
  let c0_i32_85 : BitVec 32 := 0#32
  let v80 : BitVec 1 := Scalar.cmpi .ne v79 c0_i32_85
  let v81 : BitVec 1 := Scalar.andi v78 v80
  let v67 : BitVec 32 := Scalar.divsi arg31 c2_i32
  let c1_i32_86 : BitVec 32 := 1#32
  let v82 : BitVec 32 := Scalar.subi v67 c1_i32_86
  let v83 : BitVec 32 := Scalar.select v81 v82 v67
  let v260 : Index := Scalar.indexCast v83
  let c2_i32_87 : BitVec 32 := 2#32
  let c0_i32_88 : BitVec 32 := 0#32
  let v84 : BitVec 1 := Scalar.cmpi .eq c2_i32_87 c0_i32_88
  let c1_i32_89 : BitVec 32 := 1#32
  let v85 : BitVec 32 := Scalar.select v84 c1_i32_89 c2_i32_87
  let v86 : BitVec 32 := Scalar.remsi arg31 v85
  let c0_i32_91 : BitVec 32 := 0#32
  let v88 : BitVec 1 := Scalar.cmpi .slt v86 c0_i32_91
  let c0_i32_92 : BitVec 32 := 0#32
  let v89 : BitVec 1 := Scalar.cmpi .slt v85 c0_i32_92
  let v90 : BitVec 1 := Scalar.xori v88 v89
  let c0_i32_90 : BitVec 32 := 0#32
  let v87 : BitVec 1 := Scalar.cmpi .ne v86 c0_i32_90
  let v91 : BitVec 1 := Scalar.andi v90 v87
  let v92 : BitVec 32 := Scalar.addi v86 v85
  let v93 : BitVec 32 := Scalar.select v91 v92 v86
  let c128_i32_108 : BitVec 32 := 128#32
  let v124 : BitVec 32 := Scalar.muli v93 c128_i32_108
  let v125 : BitVec 32 := v124
  let c0_i32_119 : BitVec 32 := 0#32
  let c1_i32_120 : BitVec 32 := 1#32
  let arg34 : BitVec 32 := Scf.iv c0_i32_119 c1_i32_120 k0_t8
  let c16_i32_144 : BitVec 32 := 16#32
  let v258 : BitVec 32 := Scalar.muli arg34 c16_i32_144
  let v259 : BitVec 32 := Scalar.addi v125 v258
  let v261 : Index := Scalar.indexCast v259
  let c0_i32_110 : BitVec 32 := 0#32
  let c1_i32_112 : BitVec 32 := 1#32
  let arg32 : BitVec 32 := Scf.iv c0_i32_110 c1_i32_112 k0_t7
  let c128_i32_117 : BitVec 32 := 128#32
  let v138 : BitVec 32 := Scalar.muli arg32 c128_i32_117
  let v139 : BitVec 32 := v138
  let v262 : Index := Scalar.indexCast v139
  ![v260.toNat, v261.toNat, v262.toNat]
def k0_off29 (k0_t6 : Fin k0_t6_loop.trips) (k0_t7 : Fin k0_t7_loop.trips) (k0_t8 : Fin k0_t8_loop.trips) (c0_i32_146 : BitVec 32) : Fin 3 → Nat :=
  let c0_i32_16 : BitVec 32 := 0#32
  let c1_i32_18 : BitVec 32 := 1#32
  let arg31 : BitVec 32 := Scf.iv c0_i32_16 c1_i32_18 k0_t6
  let c0_i32_81 : BitVec 32 := 0#32
  let v68 : BitVec 1 := Scalar.cmpi .sgt arg31 c0_i32_81
  let v69 : BitVec 32 := Scalar.extui v68
  let c0_i32_82 : BitVec 32 := 0#32
  let v70 : BitVec 1 := Scalar.cmpi .slt arg31 c0_i32_82
  let v71 : BitVec 32 := Scalar.extui v70
  let v72 : BitVec 32 := Scalar.subi v69 v71
  let c2_i32 : BitVec 32 := 2#32
  let c0_i32_83 : BitVec 32 := 0#32
  let v73 : BitVec 1 := Scalar.cmpi .sgt c2_i32 c0_i32_83
  let v74 : BitVec 32 := Scalar.extui v73
  let c0_i32_84 : BitVec 32 := 0#32
  let v75 : BitVec 1 := Scalar.cmpi .slt c2_i32 c0_i32_84
  let v76 : BitVec 32 := Scalar.extui v75
  let v77 : BitVec 32 := Scalar.subi v74 v76
  let v78 : BitVec 1 := Scalar.cmpi .ne v72 v77
  let v79 : BitVec 32 := Scalar.remsi arg31 c2_i32
  let c0_i32_85 : BitVec 32 := 0#32
  let v80 : BitVec 1 := Scalar.cmpi .ne v79 c0_i32_85
  let v81 : BitVec 1 := Scalar.andi v78 v80
  let v67 : BitVec 32 := Scalar.divsi arg31 c2_i32
  let c1_i32_86 : BitVec 32 := 1#32
  let v82 : BitVec 32 := Scalar.subi v67 c1_i32_86
  let v83 : BitVec 32 := Scalar.select v81 v82 v67
  let v271 : Index := Scalar.indexCast v83
  let c2_i32_87 : BitVec 32 := 2#32
  let c0_i32_88 : BitVec 32 := 0#32
  let v84 : BitVec 1 := Scalar.cmpi .eq c2_i32_87 c0_i32_88
  let c1_i32_89 : BitVec 32 := 1#32
  let v85 : BitVec 32 := Scalar.select v84 c1_i32_89 c2_i32_87
  let v86 : BitVec 32 := Scalar.remsi arg31 v85
  let c0_i32_91 : BitVec 32 := 0#32
  let v88 : BitVec 1 := Scalar.cmpi .slt v86 c0_i32_91
  let c0_i32_92 : BitVec 32 := 0#32
  let v89 : BitVec 1 := Scalar.cmpi .slt v85 c0_i32_92
  let v90 : BitVec 1 := Scalar.xori v88 v89
  let c0_i32_90 : BitVec 32 := 0#32
  let v87 : BitVec 1 := Scalar.cmpi .ne v86 c0_i32_90
  let v91 : BitVec 1 := Scalar.andi v90 v87
  let v92 : BitVec 32 := Scalar.addi v86 v85
  let v93 : BitVec 32 := Scalar.select v91 v92 v86
  let c128_i32_108 : BitVec 32 := 128#32
  let v124 : BitVec 32 := Scalar.muli v93 c128_i32_108
  let v125 : BitVec 32 := v124
  let c0_i32_119 : BitVec 32 := 0#32
  let c1_i32_120 : BitVec 32 := 1#32
  let arg34 : BitVec 32 := Scf.iv c0_i32_119 c1_i32_120 k0_t8
  let c16_i32_145 : BitVec 32 := 16#32
  let v266 : BitVec 32 := Scalar.muli arg34 c16_i32_145
  let v267 : BitVec 32 := Scalar.addi v125 v266
  let v268 : BitVec 32 := Scalar.addi v267 c0_i32_146
  let v272 : Index := Scalar.indexCast v268
  let c0_i32_110 : BitVec 32 := 0#32
  let c1_i32_112 : BitVec 32 := 1#32
  let arg32 : BitVec 32 := Scf.iv c0_i32_110 c1_i32_112 k0_t7
  let c128_i32_117 : BitVec 32 := 128#32
  let v138 : BitVec 32 := Scalar.muli arg32 c128_i32_117
  let v139 : BitVec 32 := v138
  let v273 : Index := Scalar.indexCast v139
  ![v271.toNat, v272.toNat, v273.toNat]
def k0_off30 (k0_t6 : Fin k0_t6_loop.trips) (k0_t7 : Fin k0_t7_loop.trips) : Fin 3 → Nat :=
  let c0_i32_16 : BitVec 32 := 0#32
  let c1_i32_18 : BitVec 32 := 1#32
  let arg31 : BitVec 32 := Scf.iv c0_i32_16 c1_i32_18 k0_t6
  let c0_i32_81 : BitVec 32 := 0#32
  let v68 : BitVec 1 := Scalar.cmpi .sgt arg31 c0_i32_81
  let v69 : BitVec 32 := Scalar.extui v68
  let c0_i32_82 : BitVec 32 := 0#32
  let v70 : BitVec 1 := Scalar.cmpi .slt arg31 c0_i32_82
  let v71 : BitVec 32 := Scalar.extui v70
  let v72 : BitVec 32 := Scalar.subi v69 v71
  let c2_i32 : BitVec 32 := 2#32
  let c0_i32_83 : BitVec 32 := 0#32
  let v73 : BitVec 1 := Scalar.cmpi .sgt c2_i32 c0_i32_83
  let v74 : BitVec 32 := Scalar.extui v73
  let c0_i32_84 : BitVec 32 := 0#32
  let v75 : BitVec 1 := Scalar.cmpi .slt c2_i32 c0_i32_84
  let v76 : BitVec 32 := Scalar.extui v75
  let v77 : BitVec 32 := Scalar.subi v74 v76
  let v78 : BitVec 1 := Scalar.cmpi .ne v72 v77
  let v79 : BitVec 32 := Scalar.remsi arg31 c2_i32
  let c0_i32_85 : BitVec 32 := 0#32
  let v80 : BitVec 1 := Scalar.cmpi .ne v79 c0_i32_85
  let v81 : BitVec 1 := Scalar.andi v78 v80
  let v67 : BitVec 32 := Scalar.divsi arg31 c2_i32
  let c1_i32_86 : BitVec 32 := 1#32
  let v82 : BitVec 32 := Scalar.subi v67 c1_i32_86
  let v83 : BitVec 32 := Scalar.select v81 v82 v67
  let v231 : Index := Scalar.indexCast v83
  let c2_i32_87 : BitVec 32 := 2#32
  let c0_i32_88 : BitVec 32 := 0#32
  let v84 : BitVec 1 := Scalar.cmpi .eq c2_i32_87 c0_i32_88
  let c1_i32_89 : BitVec 32 := 1#32
  let v85 : BitVec 32 := Scalar.select v84 c1_i32_89 c2_i32_87
  let v86 : BitVec 32 := Scalar.remsi arg31 v85
  let c0_i32_91 : BitVec 32 := 0#32
  let v88 : BitVec 1 := Scalar.cmpi .slt v86 c0_i32_91
  let c0_i32_92 : BitVec 32 := 0#32
  let v89 : BitVec 1 := Scalar.cmpi .slt v85 c0_i32_92
  let v90 : BitVec 1 := Scalar.xori v88 v89
  let c0_i32_90 : BitVec 32 := 0#32
  let v87 : BitVec 1 := Scalar.cmpi .ne v86 c0_i32_90
  let v91 : BitVec 1 := Scalar.andi v90 v87
  let v92 : BitVec 32 := Scalar.addi v86 v85
  let v93 : BitVec 32 := Scalar.select v91 v92 v86
  let c128_i32_108 : BitVec 32 := 128#32
  let v124 : BitVec 32 := Scalar.muli v93 c128_i32_108
  let v125 : BitVec 32 := v124
  let v232 : Index := Scalar.indexCast v125
  let c0_i32_110 : BitVec 32 := 0#32
  let c1_i32_112 : BitVec 32 := 1#32
  let arg32 : BitVec 32 := Scf.iv c0_i32_110 c1_i32_112 k0_t7
  let c128_i32_117 : BitVec 32 := 128#32
  let v138 : BitVec 32 := Scalar.muli arg32 c128_i32_117
  let v139 : BitVec 32 := v138
  let v233 : Index := Scalar.indexCast v139
  ![v231.toNat, v232.toNat, v233.toNat]
def k0_off31 (k0_t6 : Fin k0_t6_loop.trips) (k0_t7 : Fin k0_t7_loop.trips) : Fin 3 → Nat :=
  let c0_i32_16 : BitVec 32 := 0#32
  let c1_i32_18 : BitVec 32 := 1#32
  let arg31 : BitVec 32 := Scf.iv c0_i32_16 c1_i32_18 k0_t6
  let c0_i32_81 : BitVec 32 := 0#32
  let v68 : BitVec 1 := Scalar.cmpi .sgt arg31 c0_i32_81
  let v69 : BitVec 32 := Scalar.extui v68
  let c0_i32_82 : BitVec 32 := 0#32
  let v70 : BitVec 1 := Scalar.cmpi .slt arg31 c0_i32_82
  let v71 : BitVec 32 := Scalar.extui v70
  let v72 : BitVec 32 := Scalar.subi v69 v71
  let c2_i32 : BitVec 32 := 2#32
  let c0_i32_83 : BitVec 32 := 0#32
  let v73 : BitVec 1 := Scalar.cmpi .sgt c2_i32 c0_i32_83
  let v74 : BitVec 32 := Scalar.extui v73
  let c0_i32_84 : BitVec 32 := 0#32
  let v75 : BitVec 1 := Scalar.cmpi .slt c2_i32 c0_i32_84
  let v76 : BitVec 32 := Scalar.extui v75
  let v77 : BitVec 32 := Scalar.subi v74 v76
  let v78 : BitVec 1 := Scalar.cmpi .ne v72 v77
  let v79 : BitVec 32 := Scalar.remsi arg31 c2_i32
  let c0_i32_85 : BitVec 32 := 0#32
  let v80 : BitVec 1 := Scalar.cmpi .ne v79 c0_i32_85
  let v81 : BitVec 1 := Scalar.andi v78 v80
  let v67 : BitVec 32 := Scalar.divsi arg31 c2_i32
  let c1_i32_86 : BitVec 32 := 1#32
  let v82 : BitVec 32 := Scalar.subi v67 c1_i32_86
  let v83 : BitVec 32 := Scalar.select v81 v82 v67
  let v252 : Index := Scalar.indexCast v83
  let c0_i32_110 : BitVec 32 := 0#32
  let c1_i32_112 : BitVec 32 := 1#32
  let arg32 : BitVec 32 := Scf.iv c0_i32_110 c1_i32_112 k0_t7
  let c128_i32_117 : BitVec 32 := 128#32
  let v138 : BitVec 32 := Scalar.muli arg32 c128_i32_117
  let v139 : BitVec 32 := v138
  let v253 : Index := Scalar.indexCast v139
  let c2_i32_87 : BitVec 32 := 2#32
  let c0_i32_88 : BitVec 32 := 0#32
  let v84 : BitVec 1 := Scalar.cmpi .eq c2_i32_87 c0_i32_88
  let c1_i32_89 : BitVec 32 := 1#32
  let v85 : BitVec 32 := Scalar.select v84 c1_i32_89 c2_i32_87
  let v86 : BitVec 32 := Scalar.remsi arg31 v85
  let c0_i32_91 : BitVec 32 := 0#32
  let v88 : BitVec 1 := Scalar.cmpi .slt v86 c0_i32_91
  let c0_i32_92 : BitVec 32 := 0#32
  let v89 : BitVec 1 := Scalar.cmpi .slt v85 c0_i32_92
  let v90 : BitVec 1 := Scalar.xori v88 v89
  let c0_i32_90 : BitVec 32 := 0#32
  let v87 : BitVec 1 := Scalar.cmpi .ne v86 c0_i32_90
  let v91 : BitVec 1 := Scalar.andi v90 v87
  let v92 : BitVec 32 := Scalar.addi v86 v85
  let v93 : BitVec 32 := Scalar.select v91 v92 v86
  let c128_i32_108 : BitVec 32 := 128#32
  let v124 : BitVec 32 := Scalar.muli v93 c128_i32_108
  let v125 : BitVec 32 := v124
  let v254 : Index := Scalar.indexCast v125
  ![v252.toNat, v253.toNat, v254.toNat]
def k0_off32 (k0_t6 : Fin k0_t6_loop.trips) : Fin 3 → Nat :=
  let c0_i32_16 : BitVec 32 := 0#32
  let c1_i32_18 : BitVec 32 := 1#32
  let arg31 : BitVec 32 := Scf.iv c0_i32_16 c1_i32_18 k0_t6
  let c0_i32_81 : BitVec 32 := 0#32
  let v68 : BitVec 1 := Scalar.cmpi .sgt arg31 c0_i32_81
  let v69 : BitVec 32 := Scalar.extui v68
  let c0_i32_82 : BitVec 32 := 0#32
  let v70 : BitVec 1 := Scalar.cmpi .slt arg31 c0_i32_82
  let v71 : BitVec 32 := Scalar.extui v70
  let v72 : BitVec 32 := Scalar.subi v69 v71
  let c2_i32 : BitVec 32 := 2#32
  let c0_i32_83 : BitVec 32 := 0#32
  let v73 : BitVec 1 := Scalar.cmpi .sgt c2_i32 c0_i32_83
  let v74 : BitVec 32 := Scalar.extui v73
  let c0_i32_84 : BitVec 32 := 0#32
  let v75 : BitVec 1 := Scalar.cmpi .slt c2_i32 c0_i32_84
  let v76 : BitVec 32 := Scalar.extui v75
  let v77 : BitVec 32 := Scalar.subi v74 v76
  let v78 : BitVec 1 := Scalar.cmpi .ne v72 v77
  let v79 : BitVec 32 := Scalar.remsi arg31 c2_i32
  let c0_i32_85 : BitVec 32 := 0#32
  let v80 : BitVec 1 := Scalar.cmpi .ne v79 c0_i32_85
  let v81 : BitVec 1 := Scalar.andi v78 v80
  let v67 : BitVec 32 := Scalar.divsi arg31 c2_i32
  let c1_i32_86 : BitVec 32 := 1#32
  let v82 : BitVec 32 := Scalar.subi v67 c1_i32_86
  let v83 : BitVec 32 := Scalar.select v81 v82 v67
  let v130 : Index := Scalar.indexCast v83
  let c2_i32_87 : BitVec 32 := 2#32
  let c0_i32_88 : BitVec 32 := 0#32
  let v84 : BitVec 1 := Scalar.cmpi .eq c2_i32_87 c0_i32_88
  let c1_i32_89 : BitVec 32 := 1#32
  let v85 : BitVec 32 := Scalar.select v84 c1_i32_89 c2_i32_87
  let v86 : BitVec 32 := Scalar.remsi arg31 v85
  let c0_i32_91 : BitVec 32 := 0#32
  let v88 : BitVec 1 := Scalar.cmpi .slt v86 c0_i32_91
  let c0_i32_92 : BitVec 32 := 0#32
  let v89 : BitVec 1 := Scalar.cmpi .slt v85 c0_i32_92
  let v90 : BitVec 1 := Scalar.xori v88 v89
  let c0_i32_90 : BitVec 32 := 0#32
  let v87 : BitVec 1 := Scalar.cmpi .ne v86 c0_i32_90
  let v91 : BitVec 1 := Scalar.andi v90 v87
  let v92 : BitVec 32 := Scalar.addi v86 v85
  let v93 : BitVec 32 := Scalar.select v91 v92 v86
  let v131 : Index := Scalar.indexCast v93
  let c0_114 : Index := 0#32
  ![v130.toNat, v131.toNat, 0]
def k0_cond1 (k0_t6 : Fin k0_t6_loop.trips) : BitVec 1 :=
  let c0_i32_16 : BitVec 32 := 0#32
  let c1_i32_18 : BitVec 32 := 1#32
  let arg31 : BitVec 32 := Scf.iv c0_i32_16 c1_i32_18 k0_t6
  let c0_i32_115 : BitVec 32 := 0#32
  let v135 : BitVec 1 := Scalar.cmpi .sgt arg31 c0_i32_115
  let v136 : BitVec 32 := Scalar.extui v135
  let c0_i32_116 : BitVec 32 := 0#32
  let v137 : BitVec 1 := Scalar.cmpi .ne v136 c0_i32_116
  v137

def k0_off33 (k0_t6 : Fin k0_t6_loop.trips) : Fin 3 → Nat :=
  let c0_i32_16 : BitVec 32 := 0#32
  let c1_i32_18 : BitVec 32 := 1#32
  let arg31 : BitVec 32 := Scf.iv c0_i32_16 c1_i32_18 k0_t6
  let c1_i32_117 : BitVec 32 := 1#32
  let v138 : BitVec 32 := Scalar.subi arg31 c1_i32_117
  let c0_i32_119 : BitVec 32 := 0#32
  let v140 : BitVec 1 := Scalar.cmpi .sgt v138 c0_i32_119
  let v141 : BitVec 32 := Scalar.extui v140
  let c0_i32_120 : BitVec 32 := 0#32
  let v142 : BitVec 1 := Scalar.cmpi .slt v138 c0_i32_120
  let v143 : BitVec 32 := Scalar.extui v142
  let v144 : BitVec 32 := Scalar.subi v141 v143
  let c2_i32_118 : BitVec 32 := 2#32
  let c0_i32_121 : BitVec 32 := 0#32
  let v145 : BitVec 1 := Scalar.cmpi .sgt c2_i32_118 c0_i32_121
  let v146 : BitVec 32 := Scalar.extui v145
  let c0_i32_122 : BitVec 32 := 0#32
  let v147 : BitVec 1 := Scalar.cmpi .slt c2_i32_118 c0_i32_122
  let v148 : BitVec 32 := Scalar.extui v147
  let v149 : BitVec 32 := Scalar.subi v146 v148
  let v150 : BitVec 1 := Scalar.cmpi .ne v144 v149
  let v151 : BitVec 32 := Scalar.remsi v138 c2_i32_118
  let c0_i32_123 : BitVec 32 := 0#32
  let v152 : BitVec 1 := Scalar.cmpi .ne v151 c0_i32_123
  let v153 : BitVec 1 := Scalar.andi v150 v152
  let v139 : BitVec 32 := Scalar.divsi v138 c2_i32_118
  let c1_i32_124 : BitVec 32 := 1#32
  let v154 : BitVec 32 := Scalar.subi v139 c1_i32_124
  let v155 : BitVec 32 := Scalar.select v153 v154 v139
  let c1_i32_125 : BitVec 32 := 1#32
  let v156 : BitVec 32 := Scalar.subi arg31 c1_i32_125
  let c2_i32_126 : BitVec 32 := 2#32
  let c0_i32_127 : BitVec 32 := 0#32
  let v157 : BitVec 1 := Scalar.cmpi .eq c2_i32_126 c0_i32_127
  let c1_i32_128 : BitVec 32 := 1#32
  let v158 : BitVec 32 := Scalar.select v157 c1_i32_128 c2_i32_126
  let v159 : BitVec 32 := Scalar.remsi v156 v158
  let c0_i32_130 : BitVec 32 := 0#32
  let v161 : BitVec 1 := Scalar.cmpi .slt v159 c0_i32_130
  let c0_i32_131 : BitVec 32 := 0#32
  let v162 : BitVec 1 := Scalar.cmpi .slt v158 c0_i32_131
  let v163 : BitVec 1 := Scalar.xori v161 v162
  let c0_i32_129 : BitVec 32 := 0#32
  let v160 : BitVec 1 := Scalar.cmpi .ne v159 c0_i32_129
  let v164 : BitVec 1 := Scalar.andi v163 v160
  let v165 : BitVec 32 := Scalar.addi v159 v158
  let v166 : BitVec 32 := Scalar.select v164 v165 v159
  let c128_i32_132 : BitVec 32 := 128#32
  let v167 : BitVec 32 := Scalar.muli v166 c128_i32_132
  let c0_i32_134 : BitVec 32 := 0#32
  ![v155.toNat, v167.toNat, 0]
def k0_off34 (k0_t6 : Fin k0_t6_loop.trips) : Fin 3 → Nat :=
  let c0_i32_16 : BitVec 32 := 0#32
  let c1_i32_18 : BitVec 32 := 1#32
  let arg31 : BitVec 32 := Scf.iv c0_i32_16 c1_i32_18 k0_t6
  let c1_i32_117 : BitVec 32 := 1#32
  let v138 : BitVec 32 := Scalar.subi arg31 c1_i32_117
  let c0_i32_119 : BitVec 32 := 0#32
  let v140 : BitVec 1 := Scalar.cmpi .sgt v138 c0_i32_119
  let v141 : BitVec 32 := Scalar.extui v140
  let c0_i32_120 : BitVec 32 := 0#32
  let v142 : BitVec 1 := Scalar.cmpi .slt v138 c0_i32_120
  let v143 : BitVec 32 := Scalar.extui v142
  let v144 : BitVec 32 := Scalar.subi v141 v143
  let c2_i32_118 : BitVec 32 := 2#32
  let c0_i32_121 : BitVec 32 := 0#32
  let v145 : BitVec 1 := Scalar.cmpi .sgt c2_i32_118 c0_i32_121
  let v146 : BitVec 32 := Scalar.extui v145
  let c0_i32_122 : BitVec 32 := 0#32
  let v147 : BitVec 1 := Scalar.cmpi .slt c2_i32_118 c0_i32_122
  let v148 : BitVec 32 := Scalar.extui v147
  let v149 : BitVec 32 := Scalar.subi v146 v148
  let v150 : BitVec 1 := Scalar.cmpi .ne v144 v149
  let v151 : BitVec 32 := Scalar.remsi v138 c2_i32_118
  let c0_i32_123 : BitVec 32 := 0#32
  let v152 : BitVec 1 := Scalar.cmpi .ne v151 c0_i32_123
  let v153 : BitVec 1 := Scalar.andi v150 v152
  let v139 : BitVec 32 := Scalar.divsi v138 c2_i32_118
  let c1_i32_124 : BitVec 32 := 1#32
  let v154 : BitVec 32 := Scalar.subi v139 c1_i32_124
  let v155 : BitVec 32 := Scalar.select v153 v154 v139
  let c0_i32_142 : BitVec 32 := 0#32
  let c1_i32_125 : BitVec 32 := 1#32
  let v156 : BitVec 32 := Scalar.subi arg31 c1_i32_125
  let c2_i32_126 : BitVec 32 := 2#32
  let c0_i32_127 : BitVec 32 := 0#32
  let v157 : BitVec 1 := Scalar.cmpi .eq c2_i32_126 c0_i32_127
  let c1_i32_128 : BitVec 32 := 1#32
  let v158 : BitVec 32 := Scalar.select v157 c1_i32_128 c2_i32_126
  let v159 : BitVec 32 := Scalar.remsi v156 v158
  let c0_i32_130 : BitVec 32 := 0#32
  let v161 : BitVec 1 := Scalar.cmpi .slt v159 c0_i32_130
  let c0_i32_131 : BitVec 32 := 0#32
  let v162 : BitVec 1 := Scalar.cmpi .slt v158 c0_i32_131
  let v163 : BitVec 1 := Scalar.xori v161 v162
  let c0_i32_129 : BitVec 32 := 0#32
  let v160 : BitVec 1 := Scalar.cmpi .ne v159 c0_i32_129
  let v164 : BitVec 1 := Scalar.andi v163 v160
  let v165 : BitVec 32 := Scalar.addi v159 v158
  let v166 : BitVec 32 := Scalar.select v164 v165 v159
  let c128_i32_133 : BitVec 32 := 128#32
  let v168 : BitVec 32 := Scalar.muli v166 c128_i32_133
  ![v155.toNat, 0, v168.toNat]
@[reducible] def k0_t9_loop : Scf.Loop 32 :=
  let c1_i32_78 : BitVec 32 := 1#32
  let c11_i32 : BitVec 32 := 11#32
  let v66 : BitVec 32 := Scalar.addi c1_i32_78 c11_i32
  let c1_i32_79 : BitVec 32 := 1#32
  ⟨c1_i32_78, v66, c1_i32_79⟩
def k0_off35 (k0_t9 : Fin k0_t9_loop.trips) : Fin 3 → Nat :=
  let c1_i32_78 : BitVec 32 := 1#32
  let c1_i32_79 : BitVec 32 := 1#32
  let arg31 : BitVec 32 := Scf.iv c1_i32_78 c1_i32_79 k0_t9
  let c0_i32_81 : BitVec 32 := 0#32
  let v68 : BitVec 1 := Scalar.cmpi .sgt arg31 c0_i32_81
  let v69 : BitVec 32 := Scalar.extui v68
  let c0_i32_82 : BitVec 32 := 0#32
  let v70 : BitVec 1 := Scalar.cmpi .slt arg31 c0_i32_82
  let v71 : BitVec 32 := Scalar.extui v70
  let v72 : BitVec 32 := Scalar.subi v69 v71
  let c2_i32 : BitVec 32 := 2#32
  let c0_i32_83 : BitVec 32 := 0#32
  let v73 : BitVec 1 := Scalar.cmpi .sgt c2_i32 c0_i32_83
  let v74 : BitVec 32 := Scalar.extui v73
  let c0_i32_84 : BitVec 32 := 0#32
  let v75 : BitVec 1 := Scalar.cmpi .slt c2_i32 c0_i32_84
  let v76 : BitVec 32 := Scalar.extui v75
  let v77 : BitVec 32 := Scalar.subi v74 v76
  let v78 : BitVec 1 := Scalar.cmpi .ne v72 v77
  let v79 : BitVec 32 := Scalar.remsi arg31 c2_i32
  let c0_i32_85 : BitVec 32 := 0#32
  let v80 : BitVec 1 := Scalar.cmpi .ne v79 c0_i32_85
  let v81 : BitVec 1 := Scalar.andi v78 v80
  let v67 : BitVec 32 := Scalar.divsi arg31 c2_i32
  let c1_i32_86 : BitVec 32 := 1#32
  let v82 : BitVec 32 := Scalar.subi v67 c1_i32_86
  let v83 : BitVec 32 := Scalar.select v81 v82 v67
  let c2_i32_87 : BitVec 32 := 2#32
  let c0_i32_88 : BitVec 32 := 0#32
  let v84 : BitVec 1 := Scalar.cmpi .eq c2_i32_87 c0_i32_88
  let c1_i32_89 : BitVec 32 := 1#32
  let v85 : BitVec 32 := Scalar.select v84 c1_i32_89 c2_i32_87
  let v86 : BitVec 32 := Scalar.remsi arg31 v85
  let c0_i32_91 : BitVec 32 := 0#32
  let v88 : BitVec 1 := Scalar.cmpi .slt v86 c0_i32_91
  let c0_i32_92 : BitVec 32 := 0#32
  let v89 : BitVec 1 := Scalar.cmpi .slt v85 c0_i32_92
  let v90 : BitVec 1 := Scalar.xori v88 v89
  let c0_i32_90 : BitVec 32 := 0#32
  let v87 : BitVec 1 := Scalar.cmpi .ne v86 c0_i32_90
  let v91 : BitVec 1 := Scalar.andi v90 v87
  let v92 : BitVec 32 := Scalar.addi v86 v85
  let v93 : BitVec 32 := Scalar.select v91 v92 v86
  let c128_i32_93 : BitVec 32 := 128#32
  let v94 : BitVec 32 := Scalar.muli v93 c128_i32_93
  let c0_i32_95 : BitVec 32 := 0#32
  ![v83.toNat, v94.toNat, 0]
def k0_off36 (k0_t9 : Fin k0_t9_loop.trips) : Fin 3 → Nat :=
  let c1_i32_78 : BitVec 32 := 1#32
  let c1_i32_79 : BitVec 32 := 1#32
  let arg31 : BitVec 32 := Scf.iv c1_i32_78 c1_i32_79 k0_t9
  let c0_i32_81 : BitVec 32 := 0#32
  let v68 : BitVec 1 := Scalar.cmpi .sgt arg31 c0_i32_81
  let v69 : BitVec 32 := Scalar.extui v68
  let c0_i32_82 : BitVec 32 := 0#32
  let v70 : BitVec 1 := Scalar.cmpi .slt arg31 c0_i32_82
  let v71 : BitVec 32 := Scalar.extui v70
  let v72 : BitVec 32 := Scalar.subi v69 v71
  let c2_i32 : BitVec 32 := 2#32
  let c0_i32_83 : BitVec 32 := 0#32
  let v73 : BitVec 1 := Scalar.cmpi .sgt c2_i32 c0_i32_83
  let v74 : BitVec 32 := Scalar.extui v73
  let c0_i32_84 : BitVec 32 := 0#32
  let v75 : BitVec 1 := Scalar.cmpi .slt c2_i32 c0_i32_84
  let v76 : BitVec 32 := Scalar.extui v75
  let v77 : BitVec 32 := Scalar.subi v74 v76
  let v78 : BitVec 1 := Scalar.cmpi .ne v72 v77
  let v79 : BitVec 32 := Scalar.remsi arg31 c2_i32
  let c0_i32_85 : BitVec 32 := 0#32
  let v80 : BitVec 1 := Scalar.cmpi .ne v79 c0_i32_85
  let v81 : BitVec 1 := Scalar.andi v78 v80
  let v67 : BitVec 32 := Scalar.divsi arg31 c2_i32
  let c1_i32_86 : BitVec 32 := 1#32
  let v82 : BitVec 32 := Scalar.subi v67 c1_i32_86
  let v83 : BitVec 32 := Scalar.select v81 v82 v67
  let c0_i32_103 : BitVec 32 := 0#32
  let c2_i32_87 : BitVec 32 := 2#32
  let c0_i32_88 : BitVec 32 := 0#32
  let v84 : BitVec 1 := Scalar.cmpi .eq c2_i32_87 c0_i32_88
  let c1_i32_89 : BitVec 32 := 1#32
  let v85 : BitVec 32 := Scalar.select v84 c1_i32_89 c2_i32_87
  let v86 : BitVec 32 := Scalar.remsi arg31 v85
  let c0_i32_91 : BitVec 32 := 0#32
  let v88 : BitVec 1 := Scalar.cmpi .slt v86 c0_i32_91
  let c0_i32_92 : BitVec 32 := 0#32
  let v89 : BitVec 1 := Scalar.cmpi .slt v85 c0_i32_92
  let v90 : BitVec 1 := Scalar.xori v88 v89
  let c0_i32_90 : BitVec 32 := 0#32
  let v87 : BitVec 1 := Scalar.cmpi .ne v86 c0_i32_90
  let v91 : BitVec 1 := Scalar.andi v90 v87
  let v92 : BitVec 32 := Scalar.addi v86 v85
  let v93 : BitVec 32 := Scalar.select v91 v92 v86
  let c128_i32_94 : BitVec 32 := 128#32
  let v95 : BitVec 32 := Scalar.muli v93 c128_i32_94
  ![v83.toNat, 0, v95.toNat]
-- ==== ReferenceIdeal.lean ====
abbrev S6x256x1536 : Shape := ⟨3, ![6, 256, 1536]⟩
abbrev S6 : Shape := ⟨1, ![6]⟩
abbrev S_ : Shape := ⟨0, ![]⟩
abbrev S6x1x1 : Shape := ⟨3, ![6, 1, 1]⟩
abbrev S1 : Shape := ⟨1, ![1]⟩
abbrev S6x2x128x12x128 : Shape := ⟨5, ![6, 2, 128, 12, 128]⟩
abbrev S6x2x12 : Shape := ⟨3, ![6, 2, 12]⟩
abbrev S254 : Shape := ⟨1, ![254]⟩
abbrev S6x2x12x1 : Shape := ⟨4, ![6, 2, 12, 1]⟩
abbrev S1x1x1x254 : Shape := ⟨4, ![1, 1, 1, 254]⟩
abbrev S6x2x12x254 : Shape := ⟨4, ![6, 2, 12, 254]⟩
abbrev S6x2x128x12 : Shape := ⟨4, ![6, 2, 128, 12]⟩
abbrev S6x256x12 : Shape := ⟨3, ![6, 256, 12]⟩
abbrev S6x256x12x128 : Shape := ⟨4, ![6, 256, 12, 128]⟩
abbrev S6x1536x256 : Shape := ⟨3, ![6, 1536, 256]⟩

abbrev nBuf : Space → Nat
  | .hbm => 131
  | .vmem => 4
  | .smem => 0
  | _ => 0

abbrev hbmTy0_0 (i : Nat) : BufTy := match i % 128 with
  | 0 => ⟨S6x256x1536, .f32⟩
  | 1 => ⟨S6x256x1536, .bf16⟩
  | 2 => ⟨S6x256x1536, .f32⟩
  | 3 => ⟨S6x256x1536, .f32⟩
  | 4 => ⟨S6, .f32⟩
  | 5 => ⟨S6, .i32⟩
  | 6 => ⟨S6x256x1536, .f32⟩
  | 7 => ⟨S6x256x1536, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S6x256x1536, .f32⟩
  | 16 => ⟨S6x256x1536, .f32⟩
  | 17 => ⟨S_, .f32⟩
  | 18 => ⟨S6x256x1536, .f32⟩
  | 19 => ⟨S6x256x1536, .f32⟩
  | 20 => ⟨S_, .f32⟩
  | 21 => ⟨S6x256x1536, .f32⟩
  | 22 => ⟨S6x256x1536, .f32⟩
  | 23 => ⟨S6x256x1536, .f32⟩
  | 24 => ⟨S_, .f32⟩
  | 25 => ⟨S6x256x1536, .f32⟩
  | 26 => ⟨S6x256x1536, .f32⟩
  | 27 => ⟨S_, .f32⟩
  | 28 => ⟨S6x256x1536, .f32⟩
  | 29 => ⟨S6x256x1536, .f32⟩
  | 30 => ⟨S6x256x1536, .f32⟩
  | 31 => ⟨S6x256x1536, .f32⟩
  | 32 => ⟨S6, .f32⟩
  | 33 => ⟨S_, .f32⟩
  | 34 => ⟨S6, .f32⟩
  | 35 => ⟨S6, .f32⟩
  | 36 => ⟨S_, .f32⟩
  | 37 => ⟨S6, .f32⟩
  | 38 => ⟨S6, .f32⟩
  | 39 => ⟨S_, .f32⟩
  | 40 => ⟨S6, .f32⟩
  | 41 => ⟨S6, .f32⟩
  | 42 => ⟨S_, .f32⟩
  | 43 => ⟨S6, .f32⟩
  | 44 => ⟨S6, .f32⟩
  | 45 => ⟨S6, .f32⟩
  | 46 => ⟨S6x1x1, .f32⟩
  | 47 => ⟨S_, .f32⟩
  | 48 => ⟨S6, .f32⟩
  | 49 => ⟨S6, .f32⟩
  | 50 => ⟨S_, .f32⟩
  | 51 => ⟨S6, .f32⟩
  | 52 => ⟨S6, .f32⟩
  | 53 => ⟨S6x1x1, .f32⟩
  | 54 => ⟨S6x256x1536, .f32⟩
  | 55 => ⟨S6, .f32⟩
  | 56 => ⟨S6x1x1, .f32⟩
  | 57 => ⟨S6x256x1536, .f32⟩
  | 58 => ⟨S6x256x1536, .f32⟩
  | 59 => ⟨S_, .f32⟩
  | 60 => ⟨S6x256x1536, .f32⟩
  | 61 => ⟨S6x256x1536, .f32⟩
  | 62 => ⟨S6x256x1536, .f32⟩
  | 63 => ⟨S6x256x1536, .f32⟩
  | 64 => ⟨S6x256x1536, .f32⟩
  | 65 => ⟨S6x256x1536, .f32⟩
  | 66 => ⟨S6x256x1536, .f32⟩
  | 67 => ⟨S6x256x1536, .f32⟩
  | 68 => ⟨S1, .f32⟩
  | 69 => ⟨S6x2x128x12x128, .f32⟩
  | 70 => ⟨S6x2x128x12x128, .f32⟩
  | 71 => ⟨S_, .f32⟩
  | 72 => ⟨S6x2x12, .f32⟩
  | 73 => ⟨S_, .f32⟩
  | 74 => ⟨S6x2x12, .f32⟩
  | 75 => ⟨S6x2x12, .f32⟩
  | 76 => ⟨S254, .f32⟩
  | 77 => ⟨S_, .f32⟩
  | 78 => ⟨S254, .f32⟩
  | 79 => ⟨S254, .f32⟩
  | 80 => ⟨S_, .f32⟩
  | 81 => ⟨S254, .f32⟩
  | 82 => ⟨S254, .f32⟩
  | 83 => ⟨S6x2x12x1, .f32⟩
  | 84 => ⟨S1x1x1x254, .f32⟩
  | 85 => ⟨S6x2x12x254, .f32⟩
  | 86 => ⟨S6x2x12x254, .f32⟩
  | 87 => ⟨S6x2x12x254, .i1⟩
  | 88 => ⟨S6x2x12x254, .i32⟩
  | 89 => ⟨S_, .i32⟩
  | 90 => ⟨S6x2x12, .i32⟩
  | 91 => ⟨S_, .i32⟩
  | 92 => ⟨S6x2x12, .i32⟩
  | 93 => ⟨S6x2x12, .i1⟩
  | 94 => ⟨S6x2x12, .f32⟩
  | 95 => ⟨S_, .f32⟩
  | 96 => ⟨S6x2x12, .f32⟩
  | 97 => ⟨S6x2x12, .i1⟩
  | 98 => ⟨S6x2x12, .i1⟩
  | 99 => ⟨S_, .i32⟩
  | 100 => ⟨S6x2x12, .i32⟩
  | 101 => ⟨S6x2x12, .i32⟩
  | 102 => ⟨S_, .i32⟩
  | 103 => ⟨S_, .i32⟩
  | 104 => ⟨S6x2x12, .i32⟩
  | 105 => ⟨S6x2x12, .i32⟩
  | 106 => ⟨S6x2x12, .f32⟩
  | 107 => ⟨S_, .f32⟩
  | 108 => ⟨S6x2x12, .f32⟩
  | 109 => ⟨S6x2x12, .f32⟩
  | 110 => ⟨S6x2x12, .f32⟩
  | 111 => ⟨S6x2x12, .f32⟩
  | 112 => ⟨S_, .f32⟩
  | 113 => ⟨S6x2x12, .f32⟩
  | 114 => ⟨S6x2x12, .f32⟩
  | 115 => ⟨S6x2x128x12, .f32⟩
  | 116 => ⟨S6x256x12, .f32⟩
  | 117 => ⟨S6x256x12x128, .f32⟩
  | 118 => ⟨S6x256x1536, .f32⟩
  | 119 => ⟨S6x256x1536, .f32⟩
  | 120 => ⟨S_, .f32⟩
  | 121 => ⟨S_, .f32⟩
  | 122 => ⟨S_, .f32⟩
  | 123 => ⟨S6x256x1536, .f32⟩
  | 124 => ⟨S6x256x1536, .f32⟩
  | 125 => ⟨S_, .f32⟩
  | 126 => ⟨S6x256x1536, .f32⟩
  | 127 => ⟨S6x256x1536, .f32⟩
  | _ => ⟨S6x256x1536, .f32⟩

abbrev hbmTy0_1 (i : Nat) : BufTy := match i % 128 with
  | 0 => ⟨S6x1536x256, .f32⟩
  | 1 => ⟨S6x256x1536, .fp8e4m3⟩
  | 2 => ⟨S6x1536x256, .fp8e4m3⟩
  | _ => ⟨S6x256x1536, .f32⟩

abbrev hbmTy (i : Nat) : BufTy := match i / 128 with
  | 0 => hbmTy0_0 i
  | 1 => hbmTy0_1 i
  | _ => ⟨S6x256x1536, .f32⟩

abbrev bufTy : (tb : Table) → Fin (tcTables nBuf tb) → BufTy
  | .hbm, ⟨i, _⟩ => hbmTy i
  | .local _ .vmem, ⟨0, _⟩ => ⟨S6x256x1536, .f32⟩
  | .local _ .vmem, ⟨1, _⟩ => ⟨S6x1536x256, .f32⟩
  | .local _ .vmem, ⟨2, _⟩ => ⟨S6x256x1536, .fp8e4m3⟩
  | .local _ .vmem, ⟨3, _⟩ => ⟨S6x1536x256, .fp8e4m3⟩
  | _, _ => ⟨S6x256x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_10 : Ref sig .tc := ⟨.hbm, 47, rfl⟩
abbrev main_v30 : Ref sig .tc := ⟨.hbm, 48, rfl⟩
abbrev main_v31 : Ref sig .tc := ⟨.hbm, 49, rfl⟩
abbrev main_cst_11 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_cst_16 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c : Ref sig .tc := ⟨.hbm, 89, rfl⟩
abbrev main_v65 : Ref sig .tc := ⟨.hbm, 90, rfl⟩
abbrev main_c_17 : Ref sig .tc := ⟨.hbm, 91, rfl⟩
abbrev main_v66 : Ref sig .tc := ⟨.hbm, 92, rfl⟩
abbrev main_v67 : Ref sig .tc := ⟨.hbm, 93, rfl⟩
abbrev main_call0_v0 : Ref sig .tc := ⟨.hbm, 94, rfl⟩
abbrev main_call0_cst : Ref sig .tc := ⟨.hbm, 95, rfl⟩
abbrev main_call0_v1 : Ref sig .tc := ⟨.hbm, 96, rfl⟩
abbrev main_v68 : Ref sig .tc := ⟨.hbm, 97, rfl⟩
abbrev main_v69 : Ref sig .tc := ⟨.hbm, 98, rfl⟩
abbrev main_c_18 : Ref sig .tc := ⟨.hbm, 99, rfl⟩
abbrev main_v70 : Ref sig .tc := ⟨.hbm, 100, rfl⟩
abbrev main_v71 : Ref sig .tc := ⟨.hbm, 101, rfl⟩
abbrev main_c_19 : Ref sig .tc := ⟨.hbm, 102, rfl⟩
abbrev main_call1_v0 : Ref sig .tc := ⟨.hbm, 103, rfl⟩
abbrev main_call1_v1 : Ref sig .tc := ⟨.hbm, 104, rfl⟩
abbrev main_v72 : Ref sig .tc := ⟨.hbm, 105, rfl⟩
abbrev main_v73 : Ref sig .tc := ⟨.hbm, 106, rfl⟩
abbrev main_cst_20 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_21 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_22 : Ref sig .tc := ⟨.hbm, 120, rfl⟩
abbrev main_cst_23 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_v85 : Ref sig .tc := ⟨.hbm, 127, rfl⟩
abbrev main_v86 : Ref sig .tc := ⟨.hbm, 128, rfl⟩
abbrev main_v87_0 : Ref sig .tc := ⟨.hbm, 129, rfl⟩
abbrev main_v87_1 : Ref sig .tc := ⟨.hbm, 130, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6x256x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1536x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1536x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KPay.lean ====
/-
  The strip's payloads read at one position: each half of a strip computes, lane by lane, the same scalar
  functions of the moments, the weight, the gradient and the coefficients.
-/
module

public import proofs.«01_k».proof.Proof.Gen.Kernel.Skeleton
public import Idealize.ShloMosaic.Lib.PointwiseCore

@[expose] public section

noncomputable section

namespace Cert.Proof.K

open Cert.Kernel Cert.Kernel.Gen
open Idealize.ShloMosaic Idealize.ShloMosaic.Pointwise

variable {F : FTy → Type} [FloatOps F]

/-- The clipped gradient. -/
def gS (κ : F .f32) (g : F .bf16) : F .f32 := FloatOps.mulf κ (FloatOps.extf .f32 bitsLt_bf16_f32 g)

/-- The new first moment, of the clip coefficient, the gradient and the old moment. -/
def mS (κ : F .f32) (g : F .bf16) (m : F .f32) : F .f32 :=
  FloatOps.addf (FloatOps.mulf (FloatOps.ofBits .f32 0x3F666666#32) m) (FloatOps.mulf (FloatOps.ofBits .f32 0x3DCCCCCD#32) (gS κ g))

/-- The new second moment. -/
def vS (κ : F .f32) (g : F .bf16) (v : F .f32) : F .f32 :=
  FloatOps.addf (FloatOps.mulf (FloatOps.ofBits .f32 0x3F733333#32) v)
    (FloatOps.mulf (FloatOps.mulf (FloatOps.ofBits .f32 0x3D4CCCCD#32) (gS κ g)) (gS κ g))

/-- The new weight, of the step size, the decay, the second moment's correction, the new moments and the old weight. -/
def wS (p d r : F .f32) (m v w : F .f32) : F .f32 :=
  FloatOps.subf (FloatOps.mulf w d)
    (FloatOps.mulf p (FloatOps.divf m (FloatOps.addf (FloatOps.mulf (FloatOps.sqrt v) r) (FloatOps.ofBits .f32 0x322BCC77#32))))

/-- Row `i` of the first half of a strip of the gradient. -/
def lo (x : Fin 8) : Fin 16 := ⟨x.val, by omega⟩
/-- Row `i` of the second half. -/
def hi (x : Fin 8) : Fin 16 := ⟨8 + x.val, by omega⟩

section Halves
variable (κ p d r a b : FVec F S8x128 .f32) (G : Vec F S1x16x128 .bf16) (M V W : Vec F S1x8x128 .f32)

theorem pay14_apply (x : S1x8x128.Idx) : k0_pay14 κ G M x = mS (κ (ix2 (x 1) (x 2))) (G (ix3 0 (lo (x 1)) (x 2))) (M x) := by
  pointwise [k0_pay14, k0_pay12, k0_pay11, k0_pay10, mS, gS]; rfl
theorem pay15_apply (x : S1x8x128.Idx) : k0_pay15 κ G V x = vS (κ (ix2 (x 1) (x 2))) (G (ix3 0 (lo (x 1)) (x 2))) (V x) := by
  pointwise [k0_pay15, k0_pay13, k0_pay11, k0_pay10, vS, gS]; rfl
theorem pay19_apply (x : S1x8x128.Idx) : k0_pay19 p d (k0_pay12 κ G M) (k0_pay16 κ r G V) k0_pay17 W x
    = wS (p (ix2 (x 1) (x 2))) (d (ix2 (x 1) (x 2))) (r (ix2 (x 1) (x 2))) (k0_pay14 κ G M x) (k0_pay15 κ G V x) (W x) := by
  pointwise [k0_pay19, k0_pay18, k0_pay16, k0_pay17, k0_pay14, k0_pay15, wS]
theorem pay20_apply (x : S1x8x128.Idx) : k0_pay20 p d a (k0_pay12 κ G M) (k0_pay16 κ r G V) k0_pay17 W (ix2 (x 1) (x 2))
    = FloatOps.maximumf (a (ix2 (x 1) (x 2))) (FloatOps.absf (k0_pay19 p d (k0_pay12 κ G M) (k0_pay16 κ r G V) k0_pay17 W x)) := by
  pointwise [k0_pay20, k0_pay19]
theorem pay24_apply (x : S1x8x128.Idx) : k0_pay24 κ (k0_pay10 G) M x = mS (κ (ix2 (x 1) (x 2))) (G (ix3 0 (hi (x 1)) (x 2))) (M x) := by
  pointwise [k0_pay24, k0_pay22, k0_pay21, k0_pay10, mS, gS]; rfl
theorem pay26_apply (x : S1x8x128.Idx) : k0_pay26 (k0_pay23 κ (k0_pay10 G) V) x = vS (κ (ix2 (x 1) (x 2))) (G (ix3 0 (hi (x 1)) (x 2))) (V x) := by
  pointwise [k0_pay26, k0_pay23, k0_pay21, k0_pay10, vS, gS]; rfl
theorem pay28_apply (x : S1x8x128.Idx) : k0_pay28 p d r (k0_pay22 κ (k0_pay10 G) M) (k0_pay23 κ (k0_pay10 G) V) W x
    = wS (p (ix2 (x 1) (x 2))) (d (ix2 (x 1) (x 2))) (r (ix2 (x 1) (x 2))) (k0_pay24 κ (k0_pay10 G) M x) (k0_pay26 (k0_pay23 κ (k0_pay10 G) V) x) (W x) := by
  pointwise [k0_pay28, k0_pay27, k0_pay24, k0_pay26, wS]
theorem pay29_apply (x : S1x8x128.Idx) : k0_pay29 p d r a (k0_pay22 κ (k0_pay10 G) M) (k0_pay23 κ (k0_pay10 G) V) W (ix2 (x 1) (x 2))
    = FloatOps.maximumf (a (ix2 (x 1) (x 2))) (FloatOps.absf (k0_pay28 p d r (k0_pay22 κ (k0_pay10 G) M) (k0_pay23 κ (k0_pay10 G) V) W x)) := by
  pointwise [k0_pay29, k0_pay28]
end Halves

end Cert.Proof.K
-- ==== Proof.Rules.lean ====
/-
  Rules for one statement of a kernel on a buffer named whole, with the contents written as functions on indices:
  a load at a unit-stride window reads `VecWindow.window`, an unmasked store leaves `VecWindow.put`. The ownership is
  any set of the buffer's elements that includes the window.
-/
module

public import Idealize.ShloMosaic.PureOps
public import Idealize.ShloMosaic.Lib.VecWindow
public import Idealize.ShloMosaic.Lib.MixedBatch
public import Idealize.ShloMosaic.Lib.Batch
public import Idealize.ShloMosaic.Lib.Ring
public import Idealize.ShloMosaic.Lib.Tactic
public import Idealize.ShloMosaic.Lib.Pipeline.Kit

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

universe u

variable {nD : ℕ} {τ : Topo} {sig : RefSig} {Ix : Type} [DecidableEq Ix] {Val : EltTy → Type} {Name : Type} [DecidableEq Name]
  {U : Type} [URA U] {Lvl : Type} [Preorder Lvl] {Λ : Labels} {defs : Defs nD τ sig Val Λ} (𝒱 : Variants)

/-- A statement's continuation, applied. -/
theorem ret_bind' {E : Type → Type} {α β : Type} (a : α) (k : α → Prog E β) : (Prog.ret a).bind k = k a := rfl

/-- A program run first, then the rest from what it leaves. -/
theorem wp_seq {α β : Type} {E : Set Name} (c : Dev nD) (bd : Option 𝒱.V) {P : sProp (MT nD τ sig Ix Val Name U Lvl)}
    {a : Prog (TpuEff nD τ sig Val Λ .tc) α} {R : α → sProp (MT nD τ sig Ix Val Name U Lvl)}
    (h : P ⊢ wp frame (wpE defs 𝒱 (c : Thread nD τ) bd) E a R)
    {f : α → Prog (TpuEff nD τ sig Val Λ .tc) β} {Q : β → sProp (MT nD τ sig Ix Val Name U Lvl)} :
    P ⊢ iprop((∀ x, R x -∗ wp frame (wpE defs 𝒱 (c : Thread nD τ) bd) E (f x) Q) -∗ wp frame (wpE defs 𝒱 (c : Thread nD τ) bd) E (a >>= f) Q) := by
  rw [wp_bind]
  iintro HP HK
  iapply (wp_wand_r frame (wpE defs 𝒱 (c : Thread nD τ) bd) E)
  isplitl [HP]
  · iapply h; iexact HP
  · iintro %x HR
    iapply HK; iexact HR

/-- A load at a window of a buffer named whole. -/
theorem ld {α : Type} {Q : α → sProp (MT nD τ sig Ix Val Name U Lvl)} {E : Set Name} (c : Dev nD) (bd : Option 𝒱.V)
    {cs : CoreSpace} {i : Fin (sig.nNear .tc cs)} {hκ : sig.names .tc cs i = true}
    {off off' size : Fin (sig.tyNear .tc cs i).shape.rank → ℕ} {inb : ∀ a, off a + size a ≤ (sig.tyNear .tc cs i).shape.size a}
    {hl : (Memref.whole ⟨cs, i, hκ⟩ : Memref sig .tc _ _ _).view.LoadsAt (Rect.unit off size inb).toLoadRect}
    {k : ((Rect.unit off size inb).shape.Idx → Val (sig.tyNear .tc cs i).elt) → Prog (TpuEff nD τ sig Val Λ .tc) α}
    {S : Finset (Idx ((c : Thread nD τ).loc ⟨cs, i, hκ⟩))} {q : PosShare TreeShare} {f : Buf Val ((c : Thread nD τ).loc ⟨cs, i, hκ⟩)}
    (ho : off = off') (hS : (Rect.unit off' size (ho ▸ inb)).set ⊆ S) :
    ((c : Thread nD τ).loc ⟨cs, i, hκ⟩ ↦[S]{q} f)
      ⊢ iprop((((c : Thread nD τ).loc ⟨cs, i, hκ⟩ ↦[S]{q} f) -∗ wp frame (wpE defs 𝒱 (c : Thread nD τ) bd) E (k (VecWindow.window f off' size (ho ▸ inb))) Q)
        -∗ wp frame (wpE defs 𝒱 (c : Thread nD τ) bd) E (.op (.load (Memref.whole ⟨cs, i, hκ⟩) (Rect.unit off size inb).toLoadRect hl) k) Q) := by
  subst ho
  exact wp_load_rect 𝒱 (c : Thread nD τ) bd E (m := Memref.whole ⟨cs, i, hκ⟩) (r := Rect.unit off size inb) (by
    show ((View.whole ⟨cs, i, hκ⟩).slice (Rect.unit off size inb)).set ⊆ S
    rw [View.set_slice_whole]; exact hS)

/-- An unmasked store at a window of a buffer named whole. -/
theorem st {α : Type} {Q : α → sProp (MT nD τ sig Ix Val Name U Lvl)} {E : Set Name} (c : Dev nD) (bd : Option 𝒱.V)
    {cs : CoreSpace} {i : Fin (sig.nNear .tc cs)} {hκ : sig.names .tc cs i = true}
    {off off' size : Fin (sig.tyNear .tc cs i).shape.rank → ℕ} {inb : ∀ a, off a + size a ≤ (sig.tyNear .tc cs i).shape.size a}
    {w : (Rect.unit off size inb).shape.Idx → Val (sig.tyNear .tc cs i).elt}
    {hx : ((Memref.whole ⟨cs, i, hκ⟩ : Memref sig .tc _ _ _).access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ .tc) α}
    {S : Finset (Idx ((c : Thread nD τ).loc ⟨cs, i, hκ⟩))} {f : Buf Val ((c : Thread nD τ).loc ⟨cs, i, hκ⟩)}
    (ho : off = off') (hS : (Rect.unit off' size (ho ▸ inb)).set ⊆ S) :
    ((c : Thread nD τ).loc ⟨cs, i, hκ⟩ ↦[S]{fullShare} f)
      ⊢ iprop((((c : Thread nD τ).loc ⟨cs, i, hκ⟩ ↦[S]{fullShare} (VecWindow.put f off' size w)) -∗ wp frame (wpE defs 𝒱 (c : Thread nD τ) bd) E (k ⟨⟩) Q)
        -∗ wp frame (wpE defs 𝒱 (c : Thread nD τ) bd) E (.op (.store (Memref.whole ⟨cs, i, hκ⟩) (Rect.unit off size inb) w Finset.univ hx hm) k) Q) := by
  subst ho
  have h := wp_store (defs := defs) (Q := Q) (Γ := .empty) 𝒱 (c : Thread nD τ) bd E (m := Memref.whole ⟨cs, i, hκ⟩) (r := Rect.unit off size inb) (w := w) (hx := hx) (hm := hm) (k := k) (S := S) (f := f) (by
    show ((View.whole ⟨cs, i, hκ⟩).slice (Rect.unit off size inb)).setOn Finset.univ ⊆ S
    rw [View.setOn_univ, View.set_slice_whole]; exact hS)
  have e : ((Memref.whole ⟨cs, i, hκ⟩ : Memref sig .tc _ _ _).access (Rect.unit off size inb)).write Val f w Finset.univ = VecWindow.put f off size w :=
    View.read_writes_cons_put (View.whole ⟨cs, i, hκ⟩) f inb w [] rfl
  rw [e] at h
  exact h

end Cert.Proof
-- ==== Proof.KSets.lean ====
/-
  Where the kernel's windows lie: the closed forms of the offsets the program computes, and the sets of elements of
  the chunks (128 rows of one matrix), of the columns of the transposed codes, and of the matrices.
-/
module

public import proofs.«01_k».proof.Proof.Gen.Kernel.Skeleton
public import proofs.«01_k».proof.Proof.Rules

@[expose] public section

noncomputable section

namespace Cert.Proof.K

open Cert.Kernel Cert.Kernel.Gen
open Idealize.ShloMosaic

theorem trips1 : k0_t1_loop.trips = 6 := by decide +kernel
theorem trips2 : k0_t2_loop.trips = 12 := by decide +kernel
theorem trips3 : k0_t3_loop.trips = 6 := by decide +kernel
theorem trips4 : k0_t4_loop.trips = 6 := by decide +kernel
theorem trips5 : k0_t5_loop.trips = 16 := by decide +kernel
theorem trips6 : k0_t6_loop.trips = 12 := by decide +kernel
theorem trips7 : k0_t7_loop.trips = 12 := by decide +kernel
theorem trips8 : k0_t8_loop.trips = 8 := by decide +kernel
theorem trips9 : k0_t9_loop.trips = 11 := by decide +kernel

theorem off3_eq : ∀ t, k0_off3 t = ![t.val] := by decide +kernel
theorem off4_eq : ∀ t, k0_off4 t = ![t.val / 2, t.val % 2 * 128, 0] := by decide +kernel
theorem off23_eq : ∀ t, k0_off23 t = ![t.val] := by decide +kernel
theorem off24_eq : ∀ t, k0_off24 t = ![t.val / 2, t.val % 2 * 128, 0] := by decide +kernel
theorem off25_eq : ∀ t, k0_off25 t = ![t.val / 2, 0, 0, 0] := by decide +kernel
theorem off26_eq : ∀ t, k0_off26 t = ![t.val / 2, 1, 0, 0] := by decide +kernel
theorem off27_eq : ∀ t, k0_off27 t = ![t.val / 2, 2, 0, 0] := by decide +kernel
theorem off28_eq : ∀ t u s, k0_off28 t u s = ![t.val / 2, t.val % 2 * 128 + 16 * s.val, 128 * u.val] := by decide +kernel
theorem off29_eq0 : ∀ t u s, k0_off29 t u s 0#32 = ![t.val / 2, t.val % 2 * 128 + 16 * s.val, 128 * u.val] := by decide +kernel
theorem off29_eq8 : ∀ t u s, k0_off29 t u s 8#32 = ![t.val / 2, t.val % 2 * 128 + 16 * s.val + 8, 128 * u.val] := by decide +kernel
theorem off30_eq : ∀ t u, k0_off30 t u = ![t.val / 2, t.val % 2 * 128, 128 * u.val] := by decide +kernel
theorem off31_eq : ∀ t u, k0_off31 t u = ![t.val / 2, 128 * u.val, t.val % 2 * 128] := by decide +kernel
theorem off32_eq : ∀ t, k0_off32 t = ![t.val / 2, t.val % 2, 0] := by decide +kernel
theorem off33_eq : ∀ t, k0_cond1 t = 1#1 → k0_off33 t = ![(t.val - 1) / 2, (t.val - 1) % 2 * 128, 0] := by decide +kernel
theorem off34_eq : ∀ t, k0_cond1 t = 1#1 → k0_off34 t = ![(t.val - 1) / 2, 0, (t.val - 1) % 2 * 128] := by decide +kernel
theorem cond1_iff : ∀ t, k0_cond1 t = 1#1 ↔ 0 < t.val := by decide +kernel

end Cert.Proof.K
-- ==== Proof.KStrip.lean ====
/-
  One strip: sixteen rows of one 128-wide block get their new moments and weight, and the running absolute maximum of
  the block takes them in. The buffers' contents are functions on indices: where the strip has passed they hold the new
  values, elsewhere the old ones.
-/
module

public import proofs.«01_k».proof.Proof.KPay
public import proofs.«01_k».proof.Proof.KSets

@[expose] public section

set_option maxRecDepth 8192

noncomputable section

namespace Cert.Proof.K

open Cert.Kernel Cert.Kernel.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

/-- The proof's resource algebra. -/
local notation "𝕄" => MT nD τ sig Unit (Elt F) ℕ (Pipeline.UD sig nD τ) ℕ

/-- The position of an element within the coefficient vectors. -/
def sub (y : S6x256x1536.Idx) : S8x128.Idx := ix2 (⟨(y 1).val % 8, Nat.mod_lt _ (by decide)⟩ : Fin 8) (⟨(y 2).val % 128, Nat.mod_lt _ (by decide)⟩ : Fin 128)

/-- An element named by numbers. -/
def at3 (a r l : ℕ) : S6x256x1536.Idx :=
  ix3 (⟨a % 6, Nat.mod_lt _ (by decide)⟩ : Fin 6) (⟨r % 256, Nat.mod_lt _ (by decide)⟩ : Fin 256) (⟨l % 1536, Nat.mod_lt _ (by decide)⟩ : Fin 1536)

/-- The new first moments. -/
def newM (κ : FVec F S8x128 .f32) (G : Vec F S6x256x1536 .bf16) (M : Vec F S6x256x1536 .f32) : Vec F S6x256x1536 .f32 :=
  fun y => mS (κ (sub y)) (G y) (M y)
/-- The new second moments. -/
def newV (κ : FVec F S8x128 .f32) (G : Vec F S6x256x1536 .bf16) (V : Vec F S6x256x1536 .f32) : Vec F S6x256x1536 .f32 :=
  fun y => vS (κ (sub y)) (G y) (V y)
/-- The new weights. -/
def newW (κ p d r : FVec F S8x128 .f32) (G : Vec F S6x256x1536 .bf16) (M V W : Vec F S6x256x1536 .f32) : Vec F S6x256x1536 .f32 :=
  fun y => wS (p (sub y)) (d (sub y)) (r (sub y)) (newM κ G M y) (newV κ G V y) (W y)

/-- The elements of a chunk that block `u`'s strip `s` and everything before have passed. -/
def done (u s : ℕ) (y : S6x256x1536.Idx) : Prop := (y 2).val < 128 * u ∨ ((y 2).val < 128 * u + 128 ∧ (y 1).val % 128 < 16 * s)

instance (u s : ℕ) (y : S6x256x1536.Idx) : Decidable (done u s y) := inferInstanceAs (Decidable (_ ∨ _))

/-- The new contents where `done`, the old ones elsewhere. -/
def part {α : Type} (u s : ℕ) (N M : S6x256x1536.Idx → α) : S6x256x1536.Idx → α := fun y => if done u s y then N y else M y

/-- A chunk: 128 rows of one matrix. -/
def inCh (t : ℕ) (y : S6x256x1536.Idx) : Prop := (y 0).val = t / 2 ∧ (y 1).val / 128 = t % 2
instance (t : ℕ) (y : S6x256x1536.Idx) : Decidable (inCh t y) := inferInstanceAs (Decidable (_ ∧ _))
def chS (t : ℕ) : Finset S6x256x1536.Idx := Finset.univ.filter (inCh t)

theorem mem_chS {t : ℕ} {y : S6x256x1536.Idx} : y ∈ chS t ↔ inCh t y := by simp [chS]

/-- The maximum of the magnitudes of a strip's new weights, folded into the accumulator. -/
def accS (N : Vec F S6x256x1536 .f32) (a r l : ℕ) (acc : FVec F S8x128 .f32) : FVec F S8x128 .f32 := fun x =>
  FloatOps.maximumf (FloatOps.maximumf (acc x) (FloatOps.absf (N (at3 a (r + (x 0).val) (l + (x 1).val)))))
    (FloatOps.absf (N (at3 a (r + 8 + (x 0).val) (l + (x 1).val))))

/-- The accumulator after `n` strips of block `u` of chunk `t`. -/
def accN (N : Vec F S6x256x1536 .f32) (t u : ℕ) : ℕ → FVec F S8x128 .f32
  | 0 => k0_pay25
  | n + 1 => accS N (t / 2) (t % 2 * 128 + 16 * n) (128 * u) (accN N t u n)

/-- Where a strip's half begins. -/
abbrev o0 (t u s : ℕ) : Fin 3 → ℕ := ![t / 2, t % 2 * 128 + 16 * s, 128 * u]
abbrev o8 (t u s : ℕ) : Fin 3 → ℕ := ![t / 2, t % 2 * 128 + 16 * s + 8, 128 * u]

theorem inb_o0 {t u s : ℕ} (ht : t < 12) (hu : u < 12) (hs : s < 8) : ∀ a, o0 t u s a + S1x8x128.size a ≤ S6x256x1536.size a := by
  intro a; match a with
  | ⟨0, _⟩ => show t / 2 + 1 ≤ 6; omega
  | ⟨1, _⟩ => show t % 2 * 128 + 16 * s + 8 ≤ 256; omega
  | ⟨2, _⟩ => show 128 * u + 128 ≤ 1536; omega

theorem fin3 {P : Fin 3 → Prop} : (∀ a, P a) ↔ P 0 ∧ P 1 ∧ P 2 :=
  ⟨fun h => ⟨h 0, h 1, h 2⟩, fun h a => match a with | ⟨0, _⟩ => h.1 | ⟨1, _⟩ => h.2.1 | ⟨2, _⟩ => h.2.2⟩

theorem strip_sub (t u s : ℕ) (hs : s < 8) (off size : Fin 3 → ℕ) (inb : ∀ a, off a + size a ≤ S6x256x1536.size a)
    (h0 : off 0 = t / 2 ∧ size 0 = 1) (h1 : t % 2 * 128 + 16 * s ≤ off 1 ∧ off 1 + size 1 ≤ t % 2 * 128 + 16 * s + 16) :
    (Rect.unit (s := S6x256x1536) off size inb).set ⊆ chS t := by
  intro y hy
  have h := (Rect.mem_set_unit (s := S6x256x1536)).1 hy
  have a0 := h 0; have a1 := h 1
  refine mem_chS.2 ⟨?_, ?_⟩ <;> omega

/-- Two windows of eight rows put over the old contents are the strip done. -/
theorem put2 {α : Type} (N M : S6x256x1536.Idx → α) (t u s : ℕ) (w0 w8 : (S1x8x128).Idx → α)
    (h0 : ∀ x : S1x8x128.Idx, w0 x = N (at3 (t / 2) (t % 2 * 128 + 16 * s + (x 1).val) (128 * u + (x 2).val)))
    (h8 : ∀ x : S1x8x128.Idx, w8 x = N (at3 (t / 2) (t % 2 * 128 + 16 * s + 8 + (x 1).val) (128 * u + (x 2).val)))
    (y : S6x256x1536.Idx) (hy : y ∈ chS t) :
    put (s := S6x256x1536) (put (s := S6x256x1536) (part u s N M) (o0 t u s) S1x8x128.size w0) (o8 t u s) S1x8x128.size w8 y = part u (s + 1) N M y := by
  obtain ⟨c0, c1⟩ := mem_chS.1 hy
  have b0 := (y 0).isLt; have b1 := (y 1).isLt; have b2 := (y 2).isLt
  change (y 0).val < 6 at b0; change (y 1).val < 256 at b1; change (y 2).val < 1536 at b2
  unfold put
  by_cases hA : ∀ a : Fin 3, o8 t u s a ≤ (y a).val ∧ (y a).val < o8 t u s a + S1x8x128.size a
  · rw [dif_pos hA, h8]
    obtain ⟨⟨p0, q0⟩, ⟨p1, q1⟩, ⟨p2, q2⟩⟩ := fin3.1 hA
    change t / 2 ≤ _ at p0; change _ < t / 2 + 1 at q0; change t % 2 * 128 + 16 * s + 8 ≤ _ at p1; change _ < t % 2 * 128 + 16 * s + 8 + 8 at q1
    change 128 * u ≤ _ at p2; change _ < 128 * u + 128 at q2
    rw [part, if_pos (by unfold done; omega)]
    congr 1
    funext a; match a with
    | ⟨0, _⟩ => exact Fin.ext (show t / 2 % 6 = (y 0).val by omega)
    | ⟨1, _⟩ => exact Fin.ext (show (t % 2 * 128 + 16 * s + 8 + ((y 1).val - (t % 2 * 128 + 16 * s + 8))) % 256 = (y 1).val by omega)
    | ⟨2, _⟩ => exact Fin.ext (show (128 * u + ((y 2).val - 128 * u)) % 1536 = (y 2).val by omega)
  rw [dif_neg hA]
  have hA' : ¬ ((y 1).val ≥ t % 2 * 128 + 16 * s + 8 ∧ (y 1).val < t % 2 * 128 + 16 * s + 16 ∧ (y 2).val ≥ 128 * u ∧ (y 2).val < 128 * u + 128) := fun hh => hA (fin3.2
    ⟨⟨show t / 2 ≤ _ by omega, show _ < t / 2 + 1 by omega⟩, ⟨show t % 2 * 128 + 16 * s + 8 ≤ _ by omega, show _ < t % 2 * 128 + 16 * s + 8 + 8 by omega⟩, ⟨show 128 * u ≤ _ by omega, show _ < 128 * u + 128 by omega⟩⟩)
  by_cases hB : ∀ a : Fin 3, o0 t u s a ≤ (y a).val ∧ (y a).val < o0 t u s a + S1x8x128.size a
  · rw [dif_pos hB, h0]
    obtain ⟨⟨p0, q0⟩, ⟨p1, q1⟩, ⟨p2, q2⟩⟩ := fin3.1 hB
    change t / 2 ≤ _ at p0; change _ < t / 2 + 1 at q0; change t % 2 * 128 + 16 * s ≤ _ at p1; change _ < t % 2 * 128 + 16 * s + 8 at q1
    change 128 * u ≤ _ at p2; change _ < 128 * u + 128 at q2
    rw [part, if_pos (by unfold done; omega)]
    congr 1
    funext a; match a with
    | ⟨0, _⟩ => exact Fin.ext (show t / 2 % 6 = (y 0).val by omega)
    | ⟨1, _⟩ => exact Fin.ext (show (t % 2 * 128 + 16 * s + ((y 1).val - (t % 2 * 128 + 16 * s))) % 256 = (y 1).val by omega)
    | ⟨2, _⟩ => exact Fin.ext (show (128 * u + ((y 2).val - 128 * u)) % 1536 = (y 2).val by omega)
  rw [dif_neg hB]
  have hB' : ¬ ((y 1).val ≥ t % 2 * 128 + 16 * s ∧ (y 1).val < t % 2 * 128 + 16 * s + 8 ∧ (y 2).val ≥ 128 * u ∧ (y 2).val < 128 * u + 128) := fun hh => hB (fin3.2
    ⟨⟨show t / 2 ≤ _ by omega, show _ < t / 2 + 1 by omega⟩, ⟨show t % 2 * 128 + 16 * s ≤ _ by omega, show _ < t % 2 * 128 + 16 * s + 8 by omega⟩, ⟨show 128 * u ≤ _ by omega, show _ < 128 * u + 128 by omega⟩⟩)
  have e : done u s y ↔ done u (s + 1) y := by unfold done; omega
  unfold part
  by_cases hd : done u s y
  · rw [if_pos hd, if_pos (e.1 hd)]
  · rw [if_neg hd, if_neg fun h => hd (e.2 h)]

/-- What a window of eight rows of a strip not yet done reads. -/
theorem window_part {α : Type} (N M : S6x256x1536.Idx → α) (t u s e : ℕ) (he : e < 9) (ht : t < 12) (hu : u < 12) (hs : s < 8) (off : Fin 3 → ℕ)
    (ho : off = ![t / 2, t % 2 * 128 + 16 * s + e, 128 * u]) (inb : ∀ a, off a + S1x8x128.size a ≤ S6x256x1536.size a) (x : S1x8x128.Idx) :
    window (s := S6x256x1536) (part u s N M) off S1x8x128.size inb x = M (at3 (t / 2) (t % 2 * 128 + 16 * s + e + (x 1).val) (128 * u + (x 2).val)) := by
  subst ho
  have b0 : (x 0).val < 1 := (x 0).isLt
  have b1 : (x 1).val < 8 := (x 1).isLt
  have b2 : (x 2).val < 128 := (x 2).isLt
  have e0 : (Rect.unit (s := S6x256x1536) ![t / 2, t % 2 * 128 + 16 * s + e, 128 * u] S1x8x128.size inb).emb x
      = at3 (t / 2) (t % 2 * 128 + 16 * s + e + (x 1).val) (128 * u + (x 2).val) := by
    funext a; match a with
    | ⟨0, _⟩ => exact Fin.ext (show t / 2 + 1 * (x 0).val = t / 2 % 6 by omega)
    | ⟨1, _⟩ => exact Fin.ext (show t % 2 * 128 + 16 * s + e + 1 * (x 1).val = (t % 2 * 128 + 16 * s + e + (x 1).val) % 256 by omega)
    | ⟨2, _⟩ => exact Fin.ext (show 128 * u + 1 * (x 2).val = (128 * u + (x 2).val) % 1536 by omega)
  show part u s N M ((Rect.unit (s := S6x256x1536) ![t / 2, t % 2 * 128 + 16 * s + e, 128 * u] S1x8x128.size inb).emb x) = _
  rw [e0, part, if_neg]
  intro h
  change (128 * u + (x 2).val) % 1536 < 128 * u ∨ ((128 * u + (x 2).val) % 1536 < 128 * u + 128 ∧ (t % 2 * 128 + 16 * s + e + (x 1).val) % 256 % 128 < 16 * s) at h
  omega

/-- What a window of sixteen rows reads. -/
theorem window_G {α : Type} (M : S6x256x1536.Idx → α) (t u s : ℕ) (ht : t < 12) (hu : u < 12) (hs : s < 8)
    (inb : ∀ a, o0 t u s a + S1x16x128.size a ≤ S6x256x1536.size a) (x : S1x16x128.Idx) :
    window (s := S6x256x1536) M (o0 t u s) S1x16x128.size inb x = M (at3 (t / 2) (t % 2 * 128 + 16 * s + (x 1).val) (128 * u + (x 2).val)) := by
  have b0 : (x 0).val < 1 := (x 0).isLt
  have b1 : (x 1).val < 16 := (x 1).isLt
  have b2 : (x 2).val < 128 := (x 2).isLt
  refine congrArg M (funext fun a => ?_)
  match a with
    | ⟨0, _⟩ => exact Fin.ext (show t / 2 + 1 * (x 0).val = t / 2 % 6 by omega)
    | ⟨1, _⟩ => exact Fin.ext (show t % 2 * 128 + 16 * s + 1 * (x 1).val = (t % 2 * 128 + 16 * s + (x 1).val) % 256 by omega)
    | ⟨2, _⟩ => exact Fin.ext (show 128 * u + 1 * (x 2).val = (128 * u + (x 2).val) % 1536 by omega)

theorem sub_at3 (t u s e : ℕ) (he : e = 0 ∨ e = 8) (ht : t < 12) (hu : u < 12) (hs : s < 8) (i : Fin 8) (j : Fin 128) :
    sub (at3 (t / 2) (t % 2 * 128 + 16 * s + e + i.val) (128 * u + j.val)) = ix2 i j := by
  have := i.isLt; have := j.isLt
  funext a; match a with
  | ⟨0, _⟩ => exact Fin.ext (show (t % 2 * 128 + 16 * s + e + i.val) % 256 % 8 = i.val by omega)
  | ⟨1, _⟩ => exact Fin.ext (show (128 * u + j.val) % 1536 % 128 = j.val by omega)

end Cert.Proof.K
-- ==== Proof.KTrip8.lean ====
/-
  One trip of the strip loop, run: the three buffers' chunk and the accumulator step from strip `s` to strip `s + 1`.
-/
module

public import proofs.«01_k».proof.Proof.KStrip
public import Idealize.ShloMosaic.Lib.Pipeline.FrameBody

@[expose] public section

set_option maxRecDepth 65536

noncomputable section

namespace Cert.Proof.K

open Cert.Kernel Cert.Kernel.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

/-- The chunk's three buffers and the gradient, with strip `s` of block `u` next. -/
def strips (c : Dev nD) (κ p d r : FVec F S8x128 .f32) (G : Vec F S6x256x1536 .bf16) (M V W : Vec F S6x256x1536 .f32) (t u s : ℕ) : sProp 𝕄 :=
  iprop((((c : Thread nD τ).loc cc0_scratch1) ↦{fullShare} G)
    ∗ (((c : Thread nD τ).loc cc0_scratch2) ↦[chS t]{fullShare} (part u s (newM κ G M) M))
    ∗ (((c : Thread nD τ).loc cc0_scratch3) ↦[chS t]{fullShare} (part u s (newV κ G V) V))
    ∗ (((c : Thread nD τ).loc cc0_scratch0) ↦[chS t]{fullShare} (part u s (newW κ p d r G M V W) W)))

theorem inb_G {t u s : ℕ} (ht : t < 12) (hu : u < 12) (hs : s < 8) : ∀ a, o0 t u s a + S1x16x128.size a ≤ S6x256x1536.size a := by
  intro a; match a with
  | ⟨0, _⟩ => show t / 2 + 1 ≤ 6; omega
  | ⟨1, _⟩ => show t % 2 * 128 + 16 * s + 16 ≤ 256; omega
  | ⟨2, _⟩ => show 128 * u + 128 ≤ 1536; omega

/-! ## The two halves of a strip, at one position -/

section Half
variable (κ p d r acc : FVec F S8x128 .f32) (G : Vec F S6x256x1536 .bf16) (M V W : Vec F S6x256x1536 .f32) (t u s : ℕ) (ht : t < 12) (hu : u < 12) (hs : s < 8)

theorem inb_o8 {t u s : ℕ} (ht : t < 12) (hu : u < 12) (hs : s < 8) : ∀ a, o8 t u s a + S1x8x128.size a ≤ S6x256x1536.size a := by
  intro a; match a with
  | ⟨0, _⟩ => show t / 2 + 1 ≤ 6; omega
  | ⟨1, _⟩ => show t % 2 * 128 + 16 * s + 8 + 8 ≤ 256; omega
  | ⟨2, _⟩ => show 128 * u + 128 ≤ 1536; omega

/-- The strip's gradient, and a buffer's first and second eight rows. -/
abbrev gW : Vec F S1x16x128 .bf16 := window (s := S6x256x1536) G (o0 t u s) S1x16x128.size (inb_G ht hu hs)
abbrev w0 (N M : Vec F S6x256x1536 .f32) : Vec F S1x8x128 .f32 := window (s := S6x256x1536) (part u s N M) (o0 t u s) S1x8x128.size (inb_o0 ht hu hs)
abbrev w8 (N M : Vec F S6x256x1536 .f32) : Vec F S1x8x128 .f32 := window (s := S6x256x1536) (part u s N M) (o8 t u s) S1x8x128.size (inb_o8 ht hu hs)

theorem w8_put (f : Vec F S6x256x1536 .f32) (w : Vec F S1x8x128 .f32) :
    window (s := S6x256x1536) (put (s := S6x256x1536) f (o0 t u s) S1x8x128.size w) (o8 t u s) S1x8x128.size (inb_o8 ht hu hs)
      = window (s := S6x256x1536) f (o8 t u s) S1x8x128.size (inb_o8 ht hu hs) :=
  window_put_of_disjoint (s := S6x256x1536) f (o0 t u s) S1x8x128.size (o8 t u s) S1x8x128.size (inb_o8 ht hu hs) w 1 (.inr (by show t % 2 * 128 + 16 * s + 8 ≤ t % 2 * 128 + 16 * s + 8; omega))

theorem mS_congr {a a' : F .f32} {b b' : F .bf16} {e e' : F .f32} (h : a = a') (h' : b = b') (h'' : e = e') : mS a b e = mS a' b' e' := by subst h h' h''; rfl
theorem vS_congr {a a' : F .f32} {b b' : F .bf16} {e e' : F .f32} (h : a = a') (h' : b = b') (h'' : e = e') : vS a b e = vS a' b' e' := by subst h h' h''; rfl
theorem wS_congr {a a' b b' e e' m m' v v' w w' : F .f32} (h : a = a') (h' : b = b') (h'' : e = e') (h1 : m = m') (h2 : v = v') (h3 : w = w') :
    wS a b e m v w = wS a' b' e' m' v' w' := by subst h h' h'' h1 h2 h3; rfl
theorem max_congr {a a' b b' : F .f32} (h : a = a') (h' : b = b') : FloatOps.maximumf a (FloatOps.absf b) = FloatOps.maximumf a' (FloatOps.absf b') := by subst h h'; rfl

include ht hu hs in
theorem s0 (f : FVec F S8x128 .f32) (x : S1x8x128.Idx) : f (ix2 (x 1 : Fin 8) (x 2 : Fin 128)) = f (sub (at3 (t / 2) (t % 2 * 128 + 16 * s + (x 1).val) (128 * u + (x 2).val))) :=
  congrArg f (sub_at3 t u s 0 (.inl rfl) ht hu hs (x 1) (x 2)).symm
include ht hu hs in
theorem s8 (f : FVec F S8x128 .f32) (x : S1x8x128.Idx) : f (ix2 (x 1 : Fin 8) (x 2 : Fin 128)) = f (sub (at3 (t / 2) (t % 2 * 128 + 16 * s + 8 + (x 1).val) (128 * u + (x 2).val))) :=
  congrArg f (sub_at3 t u s 8 (.inr rfl) ht hu hs (x 1) (x 2)).symm
theorem g0 (x : S1x8x128.Idx) : gW G t u s ht hu hs (ix3 0 (lo (x 1)) (x 2 : Fin 128)) = G (at3 (t / 2) (t % 2 * 128 + 16 * s + (x 1).val) (128 * u + (x 2).val)) :=
  window_G G t u s ht hu hs _ _
theorem g8 (x : S1x8x128.Idx) : gW G t u s ht hu hs (ix3 0 (hi (x 1)) (x 2 : Fin 128)) = G (at3 (t / 2) (t % 2 * 128 + 16 * s + 8 + (x 1).val) (128 * u + (x 2).val)) :=
  (window_G G t u s ht hu hs _ _).trans (congrArg (fun n => G (at3 (t / 2) n (128 * u + (x 2).val))) (Nat.add_assoc (t % 2 * 128 + 16 * s) 8 (x 1).val).symm)
theorem p0 (N M : Vec F S6x256x1536 .f32) (x : S1x8x128.Idx) : w0 t u s ht hu hs N M x = M (at3 (t / 2) (t % 2 * 128 + 16 * s + (x 1).val) (128 * u + (x 2).val)) :=
  window_part N M t u s 0 (by decide) ht hu hs _ rfl _ x
theorem p8 (N M : Vec F S6x256x1536 .f32) (x : S1x8x128.Idx) : w8 t u s ht hu hs N M x = M (at3 (t / 2) (t % 2 * 128 + 16 * s + 8 + (x 1).val) (128 * u + (x 2).val)) :=
  window_part N M t u s 8 (by decide) ht hu hs _ rfl _ x

theorem m0_eq (x : S1x8x128.Idx) : k0_pay14 κ (gW G t u s ht hu hs) (w0 t u s ht hu hs (newM κ G M) M) x
    = newM κ G M (at3 (t / 2) (t % 2 * 128 + 16 * s + (x 1).val) (128 * u + (x 2).val)) :=
  (pay14_apply κ _ _ x).trans (mS_congr (s0 t u s ht hu hs κ x) (g0 G t u s ht hu hs x) (p0 t u s ht hu hs _ _ x))
theorem v0_eq (x : S1x8x128.Idx) : k0_pay15 κ (gW G t u s ht hu hs) (w0 t u s ht hu hs (newV κ G V) V) x
    = newV κ G V (at3 (t / 2) (t % 2 * 128 + 16 * s + (x 1).val) (128 * u + (x 2).val)) :=
  (pay15_apply κ _ _ x).trans (vS_congr (s0 t u s ht hu hs κ x) (g0 G t u s ht hu hs x) (p0 t u s ht hu hs _ _ x))
theorem x0_eq (x : S1x8x128.Idx) : k0_pay19 p d (k0_pay12 κ (gW G t u s ht hu hs) (w0 t u s ht hu hs (newM κ G M) M))
      (k0_pay16 κ r (gW G t u s ht hu hs) (w0 t u s ht hu hs (newV κ G V) V)) k0_pay17 (w0 t u s ht hu hs (newW κ p d r G M V W) W) x
    = newW κ p d r G M V W (at3 (t / 2) (t % 2 * 128 + 16 * s + (x 1).val) (128 * u + (x 2).val)) :=
  (pay19_apply κ p d r _ _ _ _ x).trans (wS_congr (s0 t u s ht hu hs p x) (s0 t u s ht hu hs d x) (s0 t u s ht hu hs r x) (m0_eq κ G M t u s ht hu hs x)
    (v0_eq κ G V t u s ht hu hs x) (p0 t u s ht hu hs _ _ x))
theorem m8_eq (x : S1x8x128.Idx) : k0_pay24 κ (k0_pay10 (gW G t u s ht hu hs)) (w8 t u s ht hu hs (newM κ G M) M) x
    = newM κ G M (at3 (t / 2) (t % 2 * 128 + 16 * s + 8 + (x 1).val) (128 * u + (x 2).val)) :=
  (pay24_apply κ _ _ x).trans (mS_congr (s8 t u s ht hu hs κ x) (g8 G t u s ht hu hs x) (p8 t u s ht hu hs _ _ x))
theorem v8_eq (x : S1x8x128.Idx) : k0_pay26 (k0_pay23 κ (k0_pay10 (gW G t u s ht hu hs)) (w8 t u s ht hu hs (newV κ G V) V)) x
    = newV κ G V (at3 (t / 2) (t % 2 * 128 + 16 * s + 8 + (x 1).val) (128 * u + (x 2).val)) :=
  (pay26_apply κ _ _ x).trans (vS_congr (s8 t u s ht hu hs κ x) (g8 G t u s ht hu hs x) (p8 t u s ht hu hs _ _ x))
theorem x8_eq (x : S1x8x128.Idx) : k0_pay28 p d r (k0_pay22 κ (k0_pay10 (gW G t u s ht hu hs)) (w8 t u s ht hu hs (newM κ G M) M))
      (k0_pay23 κ (k0_pay10 (gW G t u s ht hu hs)) (w8 t u s ht hu hs (newV κ G V) V)) (w8 t u s ht hu hs (newW κ p d r G M V W) W) x
    = newW κ p d r G M V W (at3 (t / 2) (t % 2 * 128 + 16 * s + 8 + (x 1).val) (128 * u + (x 2).val)) :=
  (pay28_apply κ p d r _ _ _ _ x).trans (wS_congr (s8 t u s ht hu hs p x) (s8 t u s ht hu hs d x) (s8 t u s ht hu hs r x) (m8_eq κ G M t u s ht hu hs x)
    (v8_eq κ G V t u s ht hu hs x) (p8 t u s ht hu hs _ _ x))
theorem acc_eq : k0_pay29 p d r (k0_pay20 p d acc (k0_pay12 κ (gW G t u s ht hu hs) (w0 t u s ht hu hs (newM κ G M) M))
        (k0_pay16 κ r (gW G t u s ht hu hs) (w0 t u s ht hu hs (newV κ G V) V)) k0_pay17 (w0 t u s ht hu hs (newW κ p d r G M V W) W))
      (k0_pay22 κ (k0_pay10 (gW G t u s ht hu hs)) (w8 t u s ht hu hs (newM κ G M) M))
      (k0_pay23 κ (k0_pay10 (gW G t u s ht hu hs)) (w8 t u s ht hu hs (newV κ G V) V)) (w8 t u s ht hu hs (newW κ p d r G M V W) W)
    = accS (newW κ p d r G M V W) (t / 2) (t % 2 * 128 + 16 * s) (128 * u) acc := by
  funext j
  obtain ⟨a, b, rfl⟩ : ∃ (a : Fin 8) (b : Fin 128), j = ix2 a b := ⟨j 0, j 1, by funext e; match e with | ⟨0, _⟩ => rfl | ⟨1, _⟩ => rfl⟩
  exact (pay29_apply κ p d r _ _ _ _ _ (ix3 (0 : Fin 1) a b)).trans (max_congr ((pay20_apply κ p d r acc _ _ _ _ (ix3 (0 : Fin 1) a b)).trans
    (max_congr rfl (x0_eq κ p d r G M V W t u s ht hu hs (ix3 (0 : Fin 1) a b)))) (x8_eq κ p d r G M V W t u s ht hu hs (ix3 (0 : Fin 1) a b)))
end Half

theorem trip8 (𝒱₀ : Variants) (c : Dev nD) (κ p d r acc : FVec F S8x128 .f32) (G : Vec F S6x256x1536 .bf16) (M V W : Vec F S6x256x1536 .f32)
    (t : Fin k0_t6_loop.trips) (u : Fin k0_t7_loop.trips) (s : Fin k0_t8_loop.trips) (v83 v125 a b v139 : BitVec 32) :
    strips c κ p d r G M V W t.val u.val s.val
      ⊢ wp frame (wpE (defs₀ (F := F)) 𝒱₀ (c : Thread nD τ) none) Set.univ
          (k0_t8_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 κ t v83 p d r v125 a b u v139 s acc)
          (fun acc' => iprop(⌜acc' = accS (newW κ p d r G M V W) (t.val / 2) (t.val % 2 * 128 + 16 * s.val) (128 * u.val) acc⌝ ∗ strips c κ p d r G M V W t.val u.val (s.val + 1))) := by
  have ht : t.val < 12 := lt_of_lt_of_eq t.isLt trips6
  have hu : u.val < 12 := lt_of_lt_of_eq u.isLt trips7
  have hs : s.val < 8 := lt_of_lt_of_eq s.isLt trips8
  have hsub0 := fun inb => strip_sub t.val u.val s.val hs (o0 t.val u.val s.val) S1x8x128.size inb ⟨rfl, rfl⟩ ⟨le_refl _, by show t.val % 2 * 128 + 16 * s.val + 8 ≤ _; omega⟩
  have hsub8 := fun inb => strip_sub t.val u.val s.val hs (o8 t.val u.val s.val) S1x8x128.size inb ⟨rfl, rfl⟩ ⟨by show _ ≤ t.val % 2 * 128 + 16 * s.val + 8; omega, by show t.val % 2 * 128 + 16 * s.val + 8 + 8 ≤ _; omega⟩
  unfold strips k0_t8_body
  rw [k0_part4_eq_skeleton, k0_part5_eq_skeleton]
  unfold k0_part4_skel k0_part5_skel
  iintro ⟨HG, HM, HV, HW⟩
  iapply (ld 𝒱₀ c none (off28_eq t u s) (Finset.subset_univ _)) $$ HG
  iintro HG
  iapply (ld 𝒱₀ c none (off29_eq0 t u s) (hsub0 _)) $$ HM
  iintro HM
  iapply (ld 𝒱₀ c none (off29_eq0 t u s) (hsub0 _)) $$ HV
  iintro HV
  iapply (ld 𝒱₀ c none (off29_eq0 t u s) (hsub0 _)) $$ HM
  iintro HM
  iapply (st 𝒱₀ c none (off29_eq0 t u s) (hsub0 _)) $$ HM
  iintro HM
  iapply (ld 𝒱₀ c none (off29_eq0 t u s) (hsub0 _)) $$ HV
  iintro HV
  iapply (st 𝒱₀ c none (off29_eq0 t u s) (hsub0 _)) $$ HV
  iintro HV
  iapply (ld 𝒱₀ c none (off29_eq0 t u s) (hsub0 _)) $$ HW
  iintro HW
  iapply (ld 𝒱₀ c none (off29_eq0 t u s) (hsub0 _)) $$ HW
  iintro HW
  iapply (st 𝒱₀ c none (off29_eq0 t u s) (hsub0 _)) $$ HW
  iintro HW
  iapply (ld 𝒱₀ c none (off29_eq8 t u s) (hsub8 _)) $$ HM
  iintro HM
  iapply (ld 𝒱₀ c none (off29_eq8 t u s) (hsub8 _)) $$ HV
  iintro HV
  iapply (ld 𝒱₀ c none (off29_eq8 t u s) (hsub8 _)) $$ HM
  iintro HM
  iapply (st 𝒱₀ c none (off29_eq8 t u s) (hsub8 _)) $$ HM
  iintro HM
  iapply (ld 𝒱₀ c none (off29_eq8 t u s) (hsub8 _)) $$ HV
  iintro HV
  iapply (st 𝒱₀ c none (off29_eq8 t u s) (hsub8 _)) $$ HV
  iintro HV
  iapply (ld 𝒱₀ c none (off29_eq8 t u s) (hsub8 _)) $$ HW
  iintro HW
  iapply (ld 𝒱₀ c none (off29_eq8 t u s) (hsub8 _)) $$ HW
  iintro HW
  iapply (st 𝒱₀ c none (off29_eq8 t u s) (hsub8 _)) $$ HW
  iintro HW
  rw [ret_bind']
  sl_step
  rw [w8_put t.val u.val s.val ht hu hs, w8_put t.val u.val s.val ht hu hs, w8_put t.val u.val s.val ht hu hs]
  rw [← show _ = ((c : Thread nD τ).loc cc0_scratch2 ↦[chS t.val]{fullShare} part u.val (s.val + 1) (newM κ G M) M : sProp 𝕄) from
      pointsTo_congr (put2 (newM κ G M) M t.val u.val s.val _ _ (m0_eq κ G M t.val u.val s.val ht hu hs) (m8_eq κ G M t.val u.val s.val ht hu hs)),
    ← show _ = ((c : Thread nD τ).loc cc0_scratch3 ↦[chS t.val]{fullShare} part u.val (s.val + 1) (newV κ G V) V : sProp 𝕄) from
      pointsTo_congr (put2 (newV κ G V) V t.val u.val s.val _ _ (v0_eq κ G V t.val u.val s.val ht hu hs) (v8_eq κ G V t.val u.val s.val ht hu hs)),
    ← show _ = ((c : Thread nD τ).loc cc0_scratch0 ↦[chS t.val]{fullShare} part u.val (s.val + 1) (newW κ p d r G M V W) W : sProp 𝕄) from
      pointsTo_congr (put2 (newW κ p d r G M V W) W t.val u.val s.val _ _ (x0_eq κ p d r G M V W t.val u.val s.val ht hu hs) (x8_eq κ p d r G M V W t.val u.val s.val ht hu hs))]
  isplitr
  · ipureintro
    exact acc_eq κ p d r acc G M V W t.val u.val s.val ht hu hs
  isplitl [HG]; · iexact HG
  isplitl [HM]; · iexact HM
  isplitl [HV]; · iexact HV
  iexact HW

end Cert.Proof.K
-- ==== Proof.KBlock.lean ====
/-
  One block: eight strips, then the block's exponent, its codes and their transpose, and its scale in its lane of the
  row of scales.
-/
module

public import proofs.«01_k».proof.Proof.KTrip8
public import Idealize.ShloMosaic.Lib.Pipeline.FrameBody

@[expose] public section

set_option maxRecDepth 65536

noncomputable section

namespace Cert.Proof.K

open Cert.Kernel Cert.Kernel.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

/-- One code: the weight times the power of two whose biased exponent is `e`, clipped and rounded. -/
def codeS (w : F .f32) (e : BitVec 32) : F .fp8e4m3 :=
  FloatOps.truncf .fp8e4m3 bitsLt_fp8e4m3_f32 (FloatOps.minimumf (FloatOps.ofBits .f32 0x43E00000#32)
    (FloatOps.maximumf (FloatOps.ofBits .f32 0xC3E00000#32) (FloatOps.mulf w (FloatOps.ofBits .f32 (IntOp.shli .vector e 23#32)))))

theorem pay55_apply (e : IVec S8x128 32) (w : Vec F S1x128x128 .f32) (x : S1x128x128.Idx) :
    k0_pay55 e w x = codeS (w x) (e (ix2 0 (x 2 : Fin 128))) := by
  pointwise [k0_pay55, k0_pay54, codeS]
theorem pay56_apply (e : IVec S8x128 32) (w : Vec F S1x128x128 .f32) (x : S1x128x128.Idx) :
    k0_pay56 e w x = codeS (w (ix3 0 (x 2 : Fin 128) (x 1 : Fin 128))) (e (ix2 0 (x 1 : Fin 128))) := by
  pointwise [k0_pay56, k0_pay54, codeS]

/-- A block's scale, of its accumulated maximum: a power of two, in every lane. -/
def scaleV (A : FVec F S8x128 .f32) : FVec F S8x128 .f32 := k0_pay35 (k0_pay30 A) (k0_pay31 A) (k0_pay32 A) (k0_pay33 A)
/-- The biased exponent of its reciprocal. -/
def invE (A : FVec F S8x128 .f32) : IVec S8x128 32 := k0_pay36 (k0_pay30 A) (k0_pay31 A) (k0_pay32 A) (k0_pay33 A)

/-- The exponent one code is scaled with. -/
def codeE (N : Vec F S6x256x1536 .f32) (t : ℕ) (y : S6x256x1536.Idx) : BitVec 32 :=
  invE (accN N t ((y 2).val / 128) 8) (ix2 (0 : Fin 8) (⟨(y 2).val % 128, Nat.mod_lt _ (by decide)⟩ : Fin 128))
/-- The codes of a chunk. -/
def newC (N : Vec F S6x256x1536 .f32) (t : ℕ) : Vec F S6x256x1536 .fp8e4m3 := fun y => codeS (N y) (codeE N t y)

/-- An element of the transposed codes and the element of the codes it is. -/
def tr (z : S6x1536x256.Idx) : S6x256x1536.Idx := ix3 (z 0 : Fin 6) (z 2 : Fin 256) (z 1 : Fin 1536)
/-- The transposed codes of a chunk, but for the lane the exponent is read from. -/
def newT (N : Vec F S6x256x1536 .f32) (t : ℕ) : Vec F S6x1536x256 .fp8e4m3 := fun z => newC N t (tr z)

/-- The columns of the transposed codes that are a chunk's rows. -/
def inCt (t : ℕ) (z : S6x1536x256.Idx) : Prop := (z 0).val = t / 2 ∧ (z 2).val / 128 = t % 2
instance (t : ℕ) (z : S6x1536x256.Idx) : Decidable (inCt t z) := inferInstanceAs (Decidable (_ ∧ _))
def ctS (t : ℕ) : Finset S6x1536x256.Idx := Finset.univ.filter (inCt t)
theorem mem_ctS {t : ℕ} {y : S6x1536x256.Idx} : y ∈ ctS t ↔ inCt t y := by simp [ctS]

/-- The transposed codes with the first `u` blocks done. -/
def partT {α : Type} (u : ℕ) (N M : S6x1536x256.Idx → α) : S6x1536x256.Idx → α := fun z => if (z 1).val < 128 * u then N z else M z

/-- The row of scales after `n` blocks. -/
def rowN (N : Vec F S6x256x1536 .f32) (t : ℕ) (v24 : IVec S1x128 32) : ℕ → FVec F S1x128 .f32
  | 0 => k0_pay52
  | n + 1 => k0_pay53 v24 (rowN N t v24 n) (Scf.iv 0#32 1#32 n) (scaleV (accN N t n 8))

abbrev oB (t u : ℕ) : Fin 3 → ℕ := ![t / 2, t % 2 * 128, 128 * u]
abbrev oT (t u : ℕ) : Fin 3 → ℕ := ![t / 2, 128 * u, t % 2 * 128]

theorem inb_oB {t u : ℕ} (ht : t < 12) (hu : u < 12) : ∀ a, oB t u a + S1x128x128.size a ≤ S6x256x1536.size a := by
  intro a; match a with
  | ⟨0, _⟩ => show t / 2 + 1 ≤ 6; omega
  | ⟨1, _⟩ => show t % 2 * 128 + 128 ≤ 256; omega
  | ⟨2, _⟩ => show 128 * u + 128 ≤ 1536; omega

theorem oB_sub (t u : ℕ) (inb : ∀ a, oB t u a + S1x128x128.size a ≤ S6x256x1536.size a) :
    (Rect.unit (s := S6x256x1536) (oB t u) S1x128x128.size inb).set ⊆ chS t := by
  intro y hy
  obtain ⟨⟨p0, q0⟩, ⟨p1, q1⟩, -⟩ := fin3.1 ((Rect.mem_set_unit (s := S6x256x1536)).1 hy)
  change t / 2 ≤ _ at p0; change _ < t / 2 + 1 at q0; change t % 2 * 128 ≤ _ at p1; change _ < t % 2 * 128 + 128 at q1
  refine mem_chS.2 ⟨?_, ?_⟩ <;> omega

theorem oT_sub (t u : ℕ) (inb : ∀ a, oT t u a + S1x128x128.size a ≤ S6x1536x256.size a) :
    (Rect.unit (s := S6x1536x256) (oT t u) S1x128x128.size inb).set ⊆ ctS t := by
  intro y hy
  obtain ⟨⟨p0, q0⟩, -, ⟨p1, q1⟩⟩ := fin3.1 ((Rect.mem_set_unit (s := S6x1536x256)).1 hy)
  change t / 2 ≤ _ at p0; change _ < t / 2 + 1 at q0; change t % 2 * 128 ≤ _ at p1; change _ < t % 2 * 128 + 128 at q1
  refine mem_ctS.2 ⟨?_, ?_⟩ <;> omega

/-- Eight strips are the block. -/
theorem part_8 {α : Type} (u : ℕ) (N M : S6x256x1536.Idx → α) : part u 8 N M = part (u + 1) 0 N M := by
  funext y
  have e : done u 8 y ↔ done (u + 1) 0 y := by unfold done; omega
  unfold part
  by_cases h : done u 8 y
  · rw [if_pos h, if_pos (e.1 h)]
  · rw [if_neg h, if_neg fun h' => h (e.2 h')]

/-- A done block reads the new contents. -/
theorem window_B {α : Type} (N M : S6x256x1536.Idx → α) (t u : ℕ) (ht : t < 12) (hu : u < 12) (x : S1x128x128.Idx) :
    window (s := S6x256x1536) (part (u + 1) 0 N M) (oB t u) S1x128x128.size (inb_oB ht hu) x = N (at3 (t / 2) (t % 2 * 128 + (x 1).val) (128 * u + (x 2).val)) := by
  have b0 : (x 0).val < 1 := (x 0).isLt
  have b1 : (x 1).val < 128 := (x 1).isLt
  have b2 : (x 2).val < 128 := (x 2).isLt
  have e0 : (Rect.unit (s := S6x256x1536) (oB t u) S1x128x128.size (inb_oB ht hu)).emb x = at3 (t / 2) (t % 2 * 128 + (x 1).val) (128 * u + (x 2).val) := by
    funext a; match a with
    | ⟨0, _⟩ => exact Fin.ext (show t / 2 + 1 * (x 0).val = t / 2 % 6 by omega)
    | ⟨1, _⟩ => exact Fin.ext (show t % 2 * 128 + 1 * (x 1).val = (t % 2 * 128 + (x 1).val) % 256 by omega)
    | ⟨2, _⟩ => exact Fin.ext (show 128 * u + 1 * (x 2).val = (128 * u + (x 2).val) % 1536 by omega)
  show part (u + 1) 0 N M ((Rect.unit (s := S6x256x1536) (oB t u) S1x128x128.size (inb_oB ht hu)).emb x) = _
  rw [e0, part, if_pos]
  refine .inl ?_
  show (128 * u + (x 2).val) % 1536 < 128 * (u + 1)
  omega

/-- A block put over the old contents is the block done. -/
theorem putB {α : Type} (N M : S6x256x1536.Idx → α) (t u : ℕ) (w : S1x128x128.Idx → α)
    (h : ∀ x : S1x128x128.Idx, w x = N (at3 (t / 2) (t % 2 * 128 + (x 1).val) (128 * u + (x 2).val)))
    (y : S6x256x1536.Idx) (hy : y ∈ chS t) :
    put (s := S6x256x1536) (part u 0 N M) (oB t u) S1x128x128.size w y = part (u + 1) 0 N M y := by
  obtain ⟨c0, c1⟩ := mem_chS.1 hy
  have b0 : (y 0).val < 6 := (y 0).isLt
  have b1 : (y 1).val < 256 := (y 1).isLt
  have b2 : (y 2).val < 1536 := (y 2).isLt
  unfold put
  by_cases hA : ∀ a : Fin 3, oB t u a ≤ (y a).val ∧ (y a).val < oB t u a + S1x128x128.size a
  · rw [dif_pos hA, h]
    obtain ⟨⟨p0, q0⟩, ⟨p1, q1⟩, ⟨p2, q2⟩⟩ := fin3.1 hA
    change t / 2 ≤ _ at p0; change _ < t / 2 + 1 at q0; change t % 2 * 128 ≤ _ at p1; change _ < t % 2 * 128 + 128 at q1
    change 128 * u ≤ _ at p2; change _ < 128 * u + 128 at q2
    rw [part, if_pos (by unfold done; omega)]
    congr 1
    funext a; match a with
    | ⟨0, _⟩ => exact Fin.ext (show t / 2 % 6 = (y 0).val by omega)
    | ⟨1, _⟩ => exact Fin.ext (show (t % 2 * 128 + ((y 1).val - t % 2 * 128)) % 256 = (y 1).val by omega)
    | ⟨2, _⟩ => exact Fin.ext (show (128 * u + ((y 2).val - 128 * u)) % 1536 = (y 2).val by omega)
  rw [dif_neg hA]
  have hA' : ¬ ((y 2).val ≥ 128 * u ∧ (y 2).val < 128 * u + 128) := fun hh => hA (fin3.2
    ⟨⟨show t / 2 ≤ _ by omega, show _ < t / 2 + 1 by omega⟩, ⟨show t % 2 * 128 ≤ _ by omega, show _ < t % 2 * 128 + 128 by omega⟩, ⟨show 128 * u ≤ _ by omega, show _ < 128 * u + 128 by omega⟩⟩)
  have e : done u 0 y ↔ done (u + 1) 0 y := by unfold done; omega
  unfold part
  by_cases hd : done u 0 y
  · rw [if_pos hd, if_pos (e.1 hd)]
  · rw [if_neg hd, if_neg fun h => hd (e.2 h)]

/-- The same of the transposed codes. -/
theorem putT {α : Type} (N M : S6x1536x256.Idx → α) (t u : ℕ) (w : S1x128x128.Idx → α)
    (h : ∀ (x : S1x128x128.Idx) (z : S6x1536x256.Idx), (z 0).val = t / 2 → (z 1).val = 128 * u + (x 1).val → (z 2).val = t % 2 * 128 + (x 2).val → w x = N z)
    (y : S6x1536x256.Idx) (hy : y ∈ ctS t) :
    put (s := S6x1536x256) (partT u N M) (oT t u) S1x128x128.size w y = partT (u + 1) N M y := by
  obtain ⟨c0, c1⟩ := mem_ctS.1 hy
  unfold put
  by_cases hA : ∀ a : Fin 3, oT t u a ≤ (y a).val ∧ (y a).val < oT t u a + S1x128x128.size a
  · rw [dif_pos hA]
    obtain ⟨⟨p0, q0⟩, ⟨p1, q1⟩, ⟨p2, q2⟩⟩ := fin3.1 hA
    change t / 2 ≤ _ at p0; change _ < t / 2 + 1 at q0; change 128 * u ≤ _ at p1; change _ < 128 * u + 128 at q1
    change t % 2 * 128 ≤ _ at p2; change _ < t % 2 * 128 + 128 at q2
    rw [partT, if_pos (by omega)]
    exact h _ y c0 (show (y 1).val = 128 * u + ((y 1).val - 128 * u) by omega) (show (y 2).val = t % 2 * 128 + ((y 2).val - t % 2 * 128) by omega)
  rw [dif_neg hA]
  have hA' : ¬ ((y 1).val ≥ 128 * u ∧ (y 1).val < 128 * u + 128) := fun hh => hA (fin3.2
    ⟨⟨show t / 2 ≤ _ by omega, show _ < t / 2 + 1 by omega⟩, ⟨show 128 * u ≤ _ by omega, show _ < 128 * u + 128 by omega⟩, ⟨show t % 2 * 128 ≤ _ by omega, show _ < t % 2 * 128 + 128 by omega⟩⟩)
  have e : (y 1).val < 128 * u ↔ (y 1).val < 128 * (u + 1) := by omega
  unfold partT
  by_cases hd : (y 1).val < 128 * u
  · rw [if_pos hd, if_pos (e.1 hd)]
  · rw [if_neg hd, if_neg fun h => hd (e.2 h)]

theorem codeS_congr {w w' : F .f32} {e e' : BitVec 32} (h : w = w') (h' : e = e') : codeS w e = codeS w' e' := by subst h h'; rfl

theorem codeB (N M : Vec F S6x256x1536 .f32) (t u : ℕ) (ht : t < 12) (hu : u < 12) (x : S1x128x128.Idx) :
    k0_pay55 (invE (accN N t u 8)) (window (s := S6x256x1536) (part (u + 1) 0 N M) (oB t u) S1x128x128.size (inb_oB ht hu)) x
      = newC N t (at3 (t / 2) (t % 2 * 128 + (x 1).val) (128 * u + (x 2).val)) := by
  have b2 : (x 2).val < 128 := (x 2).isLt
  refine (pay55_apply _ _ x).trans (codeS_congr (window_B N M t u ht hu x) ?_)
  have h1 : (128 * u + (x 2).val) % 1536 / 128 = u := by omega
  have h2 : (128 * u + (x 2).val) % 1536 % 128 = (x 2).val := by omega
  show _ = invE (accN N t ((128 * u + (x 2).val) % 1536 / 128) 8) (ix2 (0 : Fin 8) (⟨(128 * u + (x 2).val) % 1536 % 128, _⟩ : Fin 128))
  rw [h1]
  exact congrArg (fun e : Fin 128 => invE (accN N t u 8) (ix2 (0 : Fin 8) e)) (Fin.ext h2.symm)

theorem codeT (N M : Vec F S6x256x1536 .f32) (t u : ℕ) (ht : t < 12) (hu : u < 12) (x : S1x128x128.Idx) (z : S6x1536x256.Idx)
    (h0 : (z 0).val = t / 2) (h1 : (z 1).val = 128 * u + (x 1).val) (h2 : (z 2).val = t % 2 * 128 + (x 2).val) :
    k0_pay56 (invE (accN N t u 8)) (window (s := S6x256x1536) (part (u + 1) 0 N M) (oB t u) S1x128x128.size (inb_oB ht hu)) x = newT N t z := by
  have b1 : (x 1).val < 128 := (x 1).isLt
  have b2 : (x 2).val < 128 := (x 2).isLt
  refine (pay56_apply _ _ x).trans (codeS_congr ((window_B N M t u ht hu _).trans (congrArg N ?_)) ?_)
  · funext a; match a with
    | ⟨0, _⟩ => exact Fin.ext (show t / 2 % 6 = (z 0).val by omega)
    | ⟨1, _⟩ => exact Fin.ext (show (t % 2 * 128 + (x 2).val) % 256 = (z 2).val by omega)
    | ⟨2, _⟩ => exact Fin.ext (show (128 * u + (x 1).val) % 1536 = (z 1).val by omega)
  · have e1 : (z 1).val / 128 = u := by omega
    have e2 : (z 1).val % 128 = (x 1).val := by omega
    show _ = invE (accN N t ((z 1).val / 128) 8) (ix2 (0 : Fin 8) (⟨(z 1).val % 128, _⟩ : Fin 128))
    rw [e1]
    exact congrArg (fun e : Fin 128 => invE (accN N t u 8) (ix2 (0 : Fin 8) e)) (Fin.ext e2.symm)

/-- A chunk's buffers with block `u` next. -/
def blocks (c : Dev nD) (κ p d r : FVec F S8x128 .f32) (G : Vec F S6x256x1536 .bf16) (M V W : Vec F S6x256x1536 .f32)
    (C : Vec F S6x256x1536 .fp8e4m3) (T : Vec F S6x1536x256 .fp8e4m3) (t u : ℕ) : sProp 𝕄 :=
  iprop(strips c κ p d r G M V W t u 0
    ∗ (((c : Thread nD τ).loc cc0_scratch4) ↦[chS t]{fullShare} (part u 0 (newC (newW κ p d r G M V W) t) C))
    ∗ (((c : Thread nD τ).loc cc0_scratch5) ↦[ctS t]{fullShare} (partT u (newT (newW κ p d r G M V W) t) T)))

theorem strips_8 (c : Dev nD) (κ p d r : FVec F S8x128 .f32) (G : Vec F S6x256x1536 .bf16) (M V W : Vec F S6x256x1536 .f32) (t u : ℕ) :
    (strips c κ p d r G M V W t u 8 : sProp 𝕄) = strips c κ p d r G M V W t (u + 1) 0 := by
  unfold strips; rw [part_8, part_8, part_8]

/-- The strips of one block. -/
theorem part6 (𝒱₀ : Variants) (c : Dev nD) (κ p d r : FVec F S8x128 .f32) (G : Vec F S6x256x1536 .bf16) (M V W : Vec F S6x256x1536 .f32)
    (t : Fin k0_t6_loop.trips) (u : Fin k0_t7_loop.trips) (v83 v125 : BitVec 32) :
    strips c κ p d r G M V W t.val u.val 0
      ⊢ wp frame (wpE (defs₀ (F := F)) 𝒱₀ (c : Thread nD τ) none) Set.univ
          (k0_part6 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 κ t v83 p d r v125 0#32 1#32 u)
          (fun x => iprop(⌜x = ⟨Scf.iv 0#32 1#32 u.val, Scalar.muli (Scf.iv 0#32 1#32 u.val) 128#32, k0_pay30 (accN (newW κ p d r G M V W) t.val u.val 8),
              k0_pay31 (accN (newW κ p d r G M V W) t.val u.val 8), k0_pay32 (accN (newW κ p d r G M V W) t.val u.val 8),
              k0_pay33 (accN (newW κ p d r G M V W) t.val u.val 8)⟩⌝ ∗ strips c κ p d r G M V W t.val (u.val + 1) 0)) := by
  rw [k0_part6_eq_skeleton]
  unfold k0_part6_skel
  iintro HS
  iapply (Scf.wp_for_bind (M := 𝕄) frame (wpE (defs₀ (F := F)) 𝒱₀ (c : Thread nD τ) none) Set.univ _ _ _ k0_t8_ok _ _
    (fun n acc => iprop(⌜acc = accN (newW κ p d r G M V W) t.val u.val n⌝ ∗ strips c κ p d r G M V W t.val u.val n)) ?_) $$ [HS]
  · intro s acc
    iintro ⟨%h, HS⟩
    subst h
    iapply (trip8 𝒱₀ c κ p d r _ G M V W t u s) $$ HS
  · isplitr
    · ipureintro; rfl
    · iexact HS
  iintro %acc ⟨%h, HS⟩
  subst h
  sl_step
  isplitr
  · ipureintro; rfl
  rw [← strips_8]
  iexact HS

/-- One block. -/
theorem trip7 (𝒱₀ : Variants) (c : Dev nD) (κ : FVec F S8x128 .f32) (p d r : Vec F S1x1x8x128 .f32) (v24 : IVec S1x128 32) (row : FVec F S1x128 .f32)
    (G : Vec F S6x256x1536 .bf16) (M V W : Vec F S6x256x1536 .f32) (C : Vec F S6x256x1536 .fp8e4m3) (T : Vec F S6x1536x256 .fp8e4m3)
    (t : Fin k0_t6_loop.trips) (u : Fin k0_t7_loop.trips) (a b v83 v125 : BitVec 32) :
    blocks c κ (k0_pay49 p) (k0_pay50 d) (k0_pay51 r) G M V W C T t.val u.val
      ⊢ wp frame (wpE (defs₀ (F := F)) 𝒱₀ (c : Thread nD τ) none) Set.univ
          (k0_t7_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 κ v24 a b t v83 p d r v125 u row)
          (fun x => iprop(⌜x = k0_pay53 v24 row (Scf.iv 0#32 1#32 u.val) (scaleV (accN (newW κ (k0_pay49 p) (k0_pay50 d) (k0_pay51 r) G M V W) t.val u.val 8))⌝
            ∗ blocks c κ (k0_pay49 p) (k0_pay50 d) (k0_pay51 r) G M V W C T t.val (u.val + 1))) := by
  have ht : t.val < 12 := lt_of_lt_of_eq t.isLt trips6
  have hu : u.val < 12 := lt_of_lt_of_eq u.isLt trips7
  unfold blocks k0_t7_body
  iintro ⟨HS, HC, HT⟩
  iapply (wp_seq 𝒱₀ c none (part6 𝒱₀ c κ (k0_pay49 p) (k0_pay50 d) (k0_pay51 r) G M V W t u v83 v125)) $$ HS
  iintro %x ⟨%h, HS⟩
  subst h
  rw [k0_part7_eq_skeleton]
  unfold k0_part7_skel strips
  icases HS with ⟨HG, HM, HV, HW⟩
  iapply (ld 𝒱₀ c none (off30_eq t u) (oB_sub _ _ _)) $$ HW
  iintro HW
  iapply (ld 𝒱₀ c none (off30_eq t u) (oB_sub _ _ _)) $$ HC
  iintro HC
  iapply (st 𝒱₀ c none (off30_eq t u) (oB_sub _ _ _)) $$ HC
  iintro HC
  iapply (ld 𝒱₀ c none (off31_eq t u) (oT_sub _ _ _)) $$ HT
  iintro HT
  iapply (st 𝒱₀ c none (off31_eq t u) (oT_sub _ _ _)) $$ HT
  iintro HT
  rw [ret_bind']
  sl_step
  rw [← show _ = ((c : Thread nD τ).loc cc0_scratch4 ↦[chS t.val]{fullShare} part (u.val + 1) 0 (newC (newW κ (k0_pay49 p) (k0_pay50 d) (k0_pay51 r) G M V W) t.val) C : sProp 𝕄) from
      pointsTo_congr (putB _ C t.val u.val _ (codeB (newW κ (k0_pay49 p) (k0_pay50 d) (k0_pay51 r) G M V W) W t.val u.val ht hu)),
    ← show _ = ((c : Thread nD τ).loc cc0_scratch5 ↦[ctS t.val]{fullShare} partT (u.val + 1) (newT (newW κ (k0_pay49 p) (k0_pay50 d) (k0_pay51 r) G M V W) t.val) T : sProp 𝕄) from
      pointsTo_congr (putT _ T t.val u.val _ (codeT (newW κ (k0_pay49 p) (k0_pay50 d) (k0_pay51 r) G M V W) W t.val u.val ht hu))]
  isplitr
  · ipureintro; rfl
  isplitl [HG HM HV HW]
  · isplitl [HG]; · iexact HG
    isplitl [HM]; · iexact HM
    isplitl [HV]; · iexact HV
    iexact HW
  isplitl [HC]; · iexact HC
  iexact HT

end Cert.Proof.K
-- ==== Proof.Ship.lean ====
/-
  Rules for local transfers between buffers, the ends given by the sets of elements they cover and the contents by
  functions on indices; and a counted loop each trip of which turns its own resource into another.
-/
module

public import proofs.«01_k».proof.Proof.Rules

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

universe u

variable {nD : ℕ} {τ : Topo} {sig : RefSig} {Ix : Type} [DecidableEq Ix] {Val : EltTy → Type} {Name : Type} [DecidableEq Name] [Infinite Name]
  {U : Type} [URA U] {Lvl : Type} [Preorder Lvl] {Λ : Labels} {defs : Defs nD τ sig Val Λ}

local notation "𝕄" => MT nD τ sig Ix Val Name U Lvl

/-- A transfer's destination reads what the source read. -/
theorem landed {c : Thread nD τ} {sp sp' : Space} {s : Shape} {e : EltTy} {src : Memref sig c.2.kind sp s e} {dst : Memref sig c.2.kind sp' s e}
    (fs : Buf Val (src.view.loc c)) (fd f' : Buf Val (dst.view.loc c)) {T : Finset (Idx (dst.view.loc c))} (hT : dst.view.set = T)
    (hr : ∀ x, src.view.read Val fs x = dst.view.read Val f' x) :
    (dst.view.loc c ↦[T]{fullShare} (dst.view.write Val fd (ReadAs.same.apply (src.view.read Val fs)) Finset.univ) : sProp 𝕄)
      = (dst.view.loc c ↦[T]{fullShare} f') := by
  subst hT
  refine pointsTo_congr fun i hi => ?_
  obtain ⟨x, -, rfl⟩ := Finset.mem_map.1 hi
  have h1 := congrFun (View.read_write_univ (v := dst.view) (Val := Val) fd (ReadAs.same.apply (src.view.read Val fs))) x
  rw [ReadAs.apply_same, hr x] at h1
  rw [View.read_apply, View.read_apply] at h1
  have h2 := (cast_inj _).1 h1
  rw [ReadAs.apply_same]
  exact h2

variable (EC : UEmb Counters (MT nD τ sig Ix Val Name U Lvl)) (𝒱 : Variants) {n : ℕ}

/-- A semaphore's next transfer issued. -/
theorem ship [EC.LandsIn (upEmb : UEmb _ 𝕄)] {α : Type} {Q : α → sProp 𝕄} (c : Thread nD τ) (bd : Option 𝒱.V) {sp sp' : Space} {s : Shape} {e : EltTy}
    {src : Memref sig c.2.kind sp s e} {dst : Memref sig c.2.kind sp' s e} {sm sm' : SemLoc sig}
    {hsrc : src.view.WordExact} {hdst : dst.view.WordExact} {hsem : DmaTarget.Typed (nD := nD) sp sm (.here dst)}
    {k : PUnit → Prog (TpuEff nD τ sig Val Λ c.2) α} {q : PosShare TreeShare}
    {S : Finset (Idx (src.view.loc c))} {fs : Buf Val (src.view.loc c)} {T : Finset (Idx (dst.view.loc c))} {fd f' : Buf Val (dst.view.loc c)}
    {D : Fin n → sProp 𝕄} {j u : ℕ} (ι : Ix) (A : Fin n → ℕ) (hj : j < n) (hsm : sm = sm')
    (hS : src.view.set = S) (hT : dst.view.set = T) (hA : dst.view.amount sm = A ⟨j, hj⟩) (hu : u ≤ Transfers.sumTo A j)
    (hr : ∀ x, src.view.read Val fs x = dst.view.read Val f' x)
    (hD : iprop((dst.view.loc c ↦[T]{fullShare} f') ∗ (src.view.loc c ↦[S]{q} fs)) ⊢ D ⟨j, hj⟩) :
    iprop((src.view.loc c ↦[S]{q} fs) ∗ (dst.view.loc c ↦[T]{fullShare} fd) ∗ Transfers.MixedBatch EC c sm' ι A D j u)
      ⊢ iprop((Transfers.MixedBatch EC c sm' ι A D (j + 1) u -∗ wp frame (wpE defs 𝒱 c bd) Set.univ (k ⟨⟩) Q)
          -∗ wp frame (wpE defs 𝒱 c bd) Set.univ (.op (.enqueueDmaAs src (.here dst) ReadAs.same sm hsrc hdst hsem) k) Q) := by
  subst hsm
  subst hS
  refine Transfers.wp_dmaMixedBatch EC 𝒱 c bd ι A (subset_of_eq hT) hj hA hu ?_
  rw [landed fs fd f' hT hr]
  exact hD

/-- A wait that is not a semaphore's last. -/
theorem await [EC.LandsIn (upEmb : UEmb _ 𝕄)] {α : Type} {Q : α → sProp 𝕄} (c : Thread nD τ) (bd : Option 𝒱.V) {sp sp' : Space} {s s' : Shape} {e e' : EltTy} {κ' : Kind} {sem sem' : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {A : Fin n → ℕ} (J : ℕ) (hsem : sem = sem') (hJ : dstw.view.dmaCredit = J)
    {D : Fin n → sProp 𝕄} {j u : ℕ} (hu : u + J ≤ Transfers.sumTo A j) :
    iprop(Transfers.MixedBatch EC c (.dma sem') ι A D j u ∗ (∃ W, owes c 0 W))
      ⊢ iprop((iprop(Transfers.MixedBatch EC c (.dma sem') ι A D j (u + J) ∗ (∃ W, owes c 0 W)) -∗ wp frame (wpE defs 𝒱 c bd) Set.univ (k ⟨⟩) Q)
          -∗ wp frame (wpE defs 𝒱 c bd) Set.univ (.op (.waitDma2 sem srcw dstw hsrc hdst) k) Q) := by
  subst hsem
  iintro ⟨HB, %W, HO⟩ Hk
  iapply (Transfers.wp_waitMixedBatch EC 𝒱 c bd ι hJ hu) $$ [HB HO]
  · isplitl [HB] <;> iassumption
  iintro ⟨HB, HO⟩
  iapply Hk
  isplitl [HB]; · iexact HB
  iexists _; iexact HO

/-- A semaphore's last wait: everything lands. -/
theorem awaitAll [EC.LandsIn (upEmb : UEmb _ 𝕄)] {α : Type} {Q : α → sProp 𝕄} (c : Thread nD τ) (bd : Option 𝒱.V) {sp sp' : Space} {s s' : Shape} {e e' : EltTy} {κ' : Kind} {sem sem' : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {A : Fin n → ℕ} (J : ℕ) (hsem : sem = sem') (hJ : dstw.view.dmaCredit = J) (hA0 : ∀ t, 0 < A t)
    {D : Fin n → sProp 𝕄} {u : ℕ} (hu : u + J = Transfers.sumTo A n) :
    iprop(Transfers.MixedBatch EC c (.dma sem') ι A D n u ∗ (∃ W, owes c 0 W))
      ⊢ iprop((iprop(bigSep Finset.univ D ∗ semVal (c, .dma sem') 0 ∗ (∃ W, owes c 0 W)) -∗ wp frame (wpE defs 𝒱 c bd) Set.univ (k ⟨⟩) Q)
          -∗ wp frame (wpE defs 𝒱 c bd) Set.univ (.op (.waitDma2 sem srcw dstw hsrc hdst) k) Q) := by
  subst hsem
  iintro ⟨HB, %W, HO⟩ Hk
  iapply (Transfers.wp_waitMixedBatchAll EC 𝒱 c bd ι hJ hA0 hu) $$ [HB HO]
  · isplitl [HB] <;> iassumption
  iintro ⟨HD, HV, HO⟩
  iapply Hk
  isplitl [HD]; · iexact HD
  isplitl [HV]; · iexact HV
  iexists _; iexact HO

/-- A counted loop that carries `R k` and turns `A k` into `B k` at trip `k`. -/
theorem for_each {N : ℕ} {acc : Type} {E : Set Name} (c : Dev nD) (bd : Option 𝒱.V) (L : Scf.Loop 32) (ok : L.OK) (hN : L.trips = N)
    (A B : Fin N → sProp 𝕄) (R : ℕ → acc → sProp 𝕄) (init : acc)
    (body : Fin L.trips → acc → Prog (TpuEff nD τ sig Val Λ .tc) acc)
    (hb : ∀ (k : Fin L.trips) a, iprop(R k.val a ∗ A ⟨k.val, lt_of_lt_of_eq k.isLt hN⟩) ⊢ wp frame (wpE defs 𝒱 (c : Thread nD τ) bd) E (body k a) (fun a' => iprop(R (k.val + 1) a' ∗ B ⟨k.val, lt_of_lt_of_eq k.isLt hN⟩))) :
    iprop(R 0 init ∗ bigSep Finset.univ A)
      ⊢ wp frame (wpE defs 𝒱 (c : Thread nD τ) bd) E (Scf.Loop.for L ok init body) (fun a => iprop(R N a ∗ bigSep Finset.univ B)) := by
  subst hN
  iintro ⟨HR, HA⟩
  iapply (Scf.wp_for (M := 𝕄) frame (wpE defs 𝒱 (c : Thread nD τ) bd) E _ _ _ ok init body
    (fun k a => iprop(R k a ∗ bigSep (Ring.rangeSet L.trips 0 k) B ∗ bigSep (Ring.rangeSet L.trips k L.trips) A)) ?_)
  · intro k a
    rw [Ring.bigSep_rangeSet_head k.isLt k.isLt, show bigSep (Ring.rangeSet L.trips 0 (k.val + 1)) B = iprop(B k ∗ bigSep (Ring.rangeSet L.trips 0 k.val) B) from
      Ring.bigSep_rangeSet_last (lo := 0) (hi := k.val + 1) (Nat.succ_pos _) k.isLt]
    iintro ⟨HR, HB, HA, HAs⟩
    iapply (wp_wand_r frame (wpE defs 𝒱 (c : Thread nD τ) bd) E)
    isplitl [HR HA]
    · iapply (hb k a)
      isplitl [HR] <;> iassumption
    iintro %a' ⟨HR, HBk⟩
    isplitl [HR]; · iexact HR
    isplitl [HBk HB]
    · isplitl [HBk]
      · iexact HBk
      · iexact HB
    iexact HAs
  isplitl
  · isplitl [HR]; · iexact HR
    rw [Ring.bigSep_rangeSet_empty (le_refl 0), Ring.rangeSet_univ]
    isplitr
    · iempintro
    iexact HA
  iintro %a ⟨HR, HB, -⟩
  isplitl [HR]; · iexact HR
  rw [← Ring.rangeSet_univ (NB := L.trips)]
  iexact HB

end Cert.Proof
-- ==== Proof.KIn.lean ====
/-
  The transfers in: each chunk of the weights and of the two moments on its own semaphore, three transfers each, and
  each matrix of gradients on its own.
-/
module

public import proofs.«01_k».proof.Proof.KBlock
public import proofs.«01_k».proof.Proof.Ship
public import Idealize.ShloMosaic.Lib.Pipeline.FrameBody

@[expose] public section

set_option maxRecDepth 65536

noncomputable section

namespace Cert.Proof.K

open Cert.Kernel Cert.Kernel.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

/-- The counters' embedding. -/
abbrev EC : UEmb Counters 𝕄 := countersEmb (U := Pipeline.UD sig nD τ)

/-- A chunk's semaphore. -/
def semI (t : Fin 12) : DmaSem sig := ⟨6 + t.val, by have := t.isLt; show 6 + t.val < 23; omega⟩
/-- A matrix of gradients' semaphore. -/
def semG (t : Fin 6) : DmaSem sig := ⟨t.val, by have := t.isLt; show t.val < 23; omega⟩

theorem sem3 : ∀ t : Fin k0_t2_loop.trips, ((cc0_scratch12.slice (Rect.unit (s := S12) (k0_off3 t) S1.size (k0_off3_inb t))).squeeze S_ squeezes_S1_S_).sem = semI ⟨t.val, lt_of_lt_of_eq t.isLt trips2⟩ := by
  decide +kernel
theorem sem23 : ∀ t : Fin k0_t6_loop.trips, ((cc0_scratch12.slice (Rect.unit (s := S12) (k0_off23 t) S1.size (k0_off23_inb t))).squeeze S_ squeezes_S1_S_).sem = semI ⟨t.val, lt_of_lt_of_eq t.isLt trips6⟩ := by
  decide +kernel
theorem sem1 : ∀ t : Fin k0_t1_loop.trips, ((cc0_scratch11.slice (Rect.unit (s := S6) (k0_off1 t) S1.size (k0_off1_inb t))).squeeze S_ squeezes_S1_S_).sem = semG ⟨t.val, lt_of_lt_of_eq t.isLt trips1⟩ := by
  decide +kernel
theorem sem9 : ∀ t : Fin k0_t4_loop.trips, ((cc0_scratch11.slice (Rect.unit (s := S6) (k0_off9 t) S1.size (k0_off9_inb t))).squeeze S_ squeezes_S1_S_).sem = semG ⟨t.val, lt_of_lt_of_eq t.isLt trips4⟩ := by
  decide +kernel

/-- A chunk's set, as a window's. -/
theorem chSet {t : ℕ} {off : Fin 3 → ℕ} {inb : ∀ a, off a + S1x128x1536.size a ≤ S6x256x1536.size a} (h : off = ![t / 2, t % 2 * 128, 0]) :
    (Rect.unit (s := S6x256x1536) off S1x128x1536.size inb).set = chS t := by
  subst h
  ext y
  have b2 : (y 2).val < 1536 := (y 2).isLt
  refine (Rect.mem_set_unit (s := S6x256x1536)).trans (fin3.trans (Iff.trans ?_ mem_chS.symm))
  constructor
  · rintro ⟨⟨p0, q0⟩, ⟨p1, q1⟩, -⟩
    change t / 2 ≤ _ at p0; change _ < t / 2 + 1 at q0; change t % 2 * 128 ≤ _ at p1; change _ < t % 2 * 128 + 128 at q1
    refine ⟨?_, ?_⟩ <;> omega
  · rintro ⟨c0, c1⟩
    exact ⟨⟨show t / 2 ≤ _ by omega, show _ < t / 2 + 1 by omega⟩, ⟨show t % 2 * 128 ≤ _ by omega, show _ < t % 2 * 128 + 128 by omega⟩, ⟨show 0 ≤ _ by omega, show _ < 0 + 1536 by omega⟩⟩

/-- A chunk's set of the transposed codes, as a window's. -/
theorem ctSet {t : ℕ} {off : Fin 3 → ℕ} {inb : ∀ a, off a + S1x1536x128.size a ≤ S6x1536x256.size a} (h : off = ![t / 2, 0, t % 2 * 128]) :
    (Rect.unit (s := S6x1536x256) off S1x1536x128.size inb).set = ctS t := by
  subst h
  ext y
  have b2 : (y 1).val < 1536 := (y 1).isLt
  refine (Rect.mem_set_unit (s := S6x1536x256)).trans (fin3.trans (Iff.trans ?_ mem_ctS.symm))
  constructor
  · rintro ⟨⟨p0, q0⟩, -, ⟨p1, q1⟩⟩
    change t / 2 ≤ _ at p0; change _ < t / 2 + 1 at q0; change t % 2 * 128 ≤ _ at p1; change _ < t % 2 * 128 + 128 at q1
    refine ⟨?_, ?_⟩ <;> omega
  · rintro ⟨c0, c1⟩
    exact ⟨⟨show t / 2 ≤ _ by omega, show _ < t / 2 + 1 by omega⟩, ⟨show 0 ≤ _ by omega, show _ < 0 + 1536 by omega⟩, ⟨show t % 2 * 128 ≤ _ by omega, show _ < t % 2 * 128 + 128 by omega⟩⟩

/-- One matrix's elements. -/
def gmS (t : ℕ) : Finset S6x256x1536.Idx := Finset.univ.filter fun y => (y 0).val = t
theorem mem_gmS {t : ℕ} {y : S6x256x1536.Idx} : y ∈ gmS t ↔ (y 0).val = t := by simp [gmS]
theorem gSet {t : ℕ} {off : Fin 3 → ℕ} {inb : ∀ a, off a + S1x256x1536.size a ≤ S6x256x1536.size a} (h : off = ![t, 0, 0]) :
    (Rect.unit (s := S6x256x1536) off S1x256x1536.size inb).set = gmS t := by
  subst h
  ext y
  have b1 : (y 1).val < 256 := (y 1).isLt
  have b2 : (y 2).val < 1536 := (y 2).isLt
  refine (Rect.mem_set_unit (s := S6x256x1536)).trans (fin3.trans (Iff.trans ?_ mem_gmS.symm))
  constructor
  · rintro ⟨⟨p0, q0⟩, -, -⟩
    change t ≤ _ at p0; change _ < t + 1 at q0
    omega
  · intro c0
    exact ⟨⟨show t ≤ _ by omega, show _ < t + 1 by omega⟩, ⟨show 0 ≤ _ by omega, show _ < 0 + 256 by omega⟩, ⟨show 0 ≤ _ by omega, show _ < 0 + 1536 by omega⟩⟩

/-- What one transfer of a chunk of 32-bit floats pays. -/
abbrev aF : ℕ := 24576
abbrev aC : ℕ := 6144

/-- A buffer's chunk at given contents. -/
abbrev ch (c : Dev nD) (b : Ref sig .tc) (S : Finset (Idx ((c : Thread nD τ).loc b))) (f : Buf (Elt F) ((c : Thread nD τ).loc b)) : sProp 𝕄 :=
  ((c : Thread nD τ).loc b) ↦[S]{fullShare} f

section In
variable (c : Dev nD) (W M V : Vec F S6x256x1536 .f32) (G : Vec F S6x256x1536 .bf16)

/-- A chunk's three deliveries. -/
def dIn (t : Fin 12) : Fin 3 → sProp 𝕄
  | 0 => iprop(ch c cc0_scratch0 (chS t) W ∗ ch c main_arg0 (chS t) W)
  | 1 => iprop(ch c cc0_scratch2 (chS t) M ∗ ch c main_arg2 (chS t) M)
  | 2 => iprop(ch c cc0_scratch3 (chS t) V ∗ ch c main_arg3 (chS t) V)
instance (t : Fin 12) (i : Fin 3) : Storable (upEmb : UEmb _ 𝕄) (dIn c W M V t i) := by
  fin_cases i <;> simp only [dIn] <;> infer_instance

/-- A chunk before its transfers, -/
def preIn (W0 M0 V0 : Vec F S6x256x1536 .f32) (t : Fin 12) : sProp 𝕄 :=
  iprop(semVal ((c : Thread nD τ), .dma (semI t)) 0 ∗ (ch c main_arg0 (chS t) W ∗ ch c main_arg2 (chS t) M ∗ ch c main_arg3 (chS t) V)
    ∗ (ch c cc0_scratch0 (chS t) W0 ∗ ch c cc0_scratch2 (chS t) M0 ∗ ch c cc0_scratch3 (chS t) V0))
/-- and in flight. -/
def flyIn (t : Fin 12) : sProp 𝕄 := Transfers.MixedBatch EC (c : Thread nD τ) (.dma (semI t)) () (fun _ => aF) (dIn c W M V t) 3 0

/-- Both ends of a chunk's transfer are the chunk. -/
theorem wSet {κ : Kind} (b : Ref sig κ) {off : Fin b.ty.shape.rank → ℕ} {size : Fin b.ty.shape.rank → ℕ} {inb : ∀ a, off a + size a ≤ b.ty.shape.size a}
    {s' : Shape} {h : s'.numel = (Rect.unit off size inb).shape.numel} {S : Finset b.ty.shape.Idx} (hS : (Rect.unit off size inb).set = S) :
    (((View.whole b).slice (Rect.unit off size inb)).reshape s' h).set = S :=
  (View.set_reshape _ _).trans ((View.set_slice_whole _ _).trans hS)

theorem part1 (𝒱₀ : Variants) (W0 : Vec F S6x256x1536 .f32) (t : Fin k0_t2_loop.trips) :
    iprop(ch c main_arg0 (chS t.val) W ∗ ch c cc0_scratch0 (chS t.val) W0 ∗ Transfers.MixedBatch EC (c : Thread nD τ) (.dma (semI ⟨t.val, lt_of_lt_of_eq t.isLt trips2⟩)) () (fun _ => aF) (dIn c W M V ⟨t.val, lt_of_lt_of_eq t.isLt trips2⟩) 0 0)
      ⊢ wp frame (wpE (defs₀ (F := F)) 𝒱₀ (c : Thread nD τ) none) Set.univ (k0_part1 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 0#32 1#32 t)
          (fun _ => Transfers.MixedBatch EC (c : Thread nD τ) (.dma (semI ⟨t.val, lt_of_lt_of_eq t.isLt trips2⟩)) () (fun _ => aF) (dIn c W M V ⟨t.val, lt_of_lt_of_eq t.isLt trips2⟩) 1 0) := by
  rw [k0_part1_eq_skeleton]
  unfold k0_part1_skel
  iintro ⟨HA0, HB0, HB⟩
  iapply (ship EC 𝒱₀ (n := 3) (j := 0) (u := 0) (q := fullShare) (D := dIn c W M V ⟨t.val, lt_of_lt_of_eq t.isLt trips2⟩) (c : Thread nD τ) none (fs := W) (f' := W) () (fun _ => aF) (by decide) (congrArg SemLoc.dma (sem3 t))
    (wSet main_arg0 (chSet (off4_eq t))) (wSet cc0_scratch0 (chSet (off4_eq t)))
    (by rfl) (Nat.zero_le _) (fun _ => rfl) (by unfold dIn; exact .rfl)) $$ [HA0 HB0 HB]
  · isplitl [HA0]; · iexact HA0
    isplitl [HB0]; · iexact HB0
    iexact HB
  iintro HB
  rw [ret_bind']
  sl_step
  iexact HB

set_option maxHeartbeats 1600000 in
/-- One chunk's transfers issued. -/
theorem trip2 (𝒱₀ : Variants) (W0 M0 V0 : Vec F S6x256x1536 .f32) (t : Fin k0_t2_loop.trips) (a : Unit) :
    preIn c W M V W0 M0 V0 ⟨t.val, lt_of_lt_of_eq t.isLt trips2⟩
      ⊢ wp frame (wpE (defs₀ (F := F)) 𝒱₀ (c : Thread nD τ) none) Set.univ (k0_t2_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t a)
          (fun _ => flyIn c W M V ⟨t.val, lt_of_lt_of_eq t.isLt trips2⟩) := by
  unfold preIn k0_t2_body
  iintro ⟨HS, ⟨HA0, HA2, HA3⟩, HB0, HB2, HB3⟩
  imod (Transfers.mixedBatch_alloc' EC (c : Thread nD τ) () (fun _ => aF) (dIn c W M V ⟨t.val, lt_of_lt_of_eq t.isLt trips2⟩) (sm := .dma (semI ⟨t.val, lt_of_lt_of_eq t.isLt trips2⟩)) (E := Set.univ)) $$ HS with HB
  iapply (wp_seq 𝒱₀ c none (part1 c W M V 𝒱₀ W0 t)) $$ [HA0 HB0 HB]
  · isplitl [HA0]; · iexact HA0
    isplitl [HB0]; · iexact HB0
    iexact HB
  iintro %x HB
  iapply (ship EC 𝒱₀ (n := 3) (j := 1) (u := 0) (q := fullShare) (D := dIn c W M V ⟨t.val, lt_of_lt_of_eq t.isLt trips2⟩) (c : Thread nD τ) none (fs := M) (f' := M) () (fun _ => aF) (by decide) (congrArg SemLoc.dma (sem3 t))
    (wSet main_arg2 (chSet (off4_eq t))) (wSet cc0_scratch2 (chSet (off4_eq t)))
    (by rfl) (Nat.zero_le _) (fun _ => rfl) (by unfold dIn; exact .rfl)) $$ [HA2 HB2 HB]
  · isplitl [HA2]; · iexact HA2
    isplitl [HB2]; · iexact HB2
    iexact HB
  iintro HB
  rw [ret_bind']
  iapply (ship EC 𝒱₀ (n := 3) (j := 2) (u := 0) (q := fullShare) (D := dIn c W M V ⟨t.val, lt_of_lt_of_eq t.isLt trips2⟩) (c : Thread nD τ) none (fs := V) (f' := V) () (fun _ => aF) (by decide) (congrArg SemLoc.dma (sem3 t))
    (wSet main_arg3 (chSet (off4_eq t))) (wSet cc0_scratch3 (chSet (off4_eq t)))
    (by rfl) (Nat.zero_le _) (fun _ => rfl) (by unfold dIn; exact .rfl)) $$ [HA3 HB3 HB]
  · isplitl [HA3]; · iexact HA3
    isplitl [HB3]; · iexact HB3
    iexact HB
  iintro HB
  rw [ret_bind']
  sl_step
  unfold flyIn
  iexact HB
end In

end Cert.Proof.K
-- ==== Proof.KGrad.lean ====
/-
  The gradients: each matrix's transfer, and the running sums of their squares.
-/
module

public import proofs.«01_k».proof.Proof.KIn
public import Idealize.ShloMosaic.Lib.Pipeline.FrameBody

@[expose] public section

set_option maxRecDepth 65536

noncomputable section

namespace Cert.Proof.K

open Cert.Kernel Cert.Kernel.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

theorem off1_eq : ∀ t, k0_off1 t = ![t.val] := by decide +kernel
theorem off2_eq : ∀ t, k0_off2 t = ![t.val, 0, 0] := by decide +kernel
theorem off10_eq : ∀ t, k0_off10 t = ![t.val, 0, 0] := by decide +kernel
theorem off11_eq : ∀ t s, k0_off11 t s = ![t.val, 16 * s.val, 0] := by decide +kernel
theorem off12_eq : ∀ t s, k0_off12 t s = ![t.val, 16 * s.val, 128 * 1] := by decide +kernel
theorem off13_eq : ∀ t s, k0_off13 t s = ![t.val, 16 * s.val, 128 * 2] := by decide +kernel
theorem off14_eq : ∀ t s, k0_off14 t s = ![t.val, 16 * s.val, 128 * 3] := by decide +kernel
theorem off15_eq : ∀ t s, k0_off15 t s = ![t.val, 16 * s.val, 128 * 4] := by decide +kernel
theorem off16_eq : ∀ t s, k0_off16 t s = ![t.val, 16 * s.val, 128 * 5] := by decide +kernel
theorem off17_eq : ∀ t s, k0_off17 t s = ![t.val, 16 * s.val, 128 * 6] := by decide +kernel
theorem off18_eq : ∀ t s, k0_off18 t s = ![t.val, 16 * s.val, 128 * 7] := by decide +kernel
theorem off19_eq : ∀ t s, k0_off19 t s = ![t.val, 16 * s.val, 128 * 8] := by decide +kernel
theorem off20_eq : ∀ t s, k0_off20 t s = ![t.val, 16 * s.val, 128 * 9] := by decide +kernel
theorem off21_eq : ∀ t s, k0_off21 t s = ![t.val, 16 * s.val, 128 * 10] := by decide +kernel
theorem off22_eq : ∀ t s, k0_off22 t s = ![t.val, 16 * s.val, 128 * 11] := by decide +kernel
section Grad
variable (c : Dev nD) (G : Vec F S6x256x1536 .bf16) (𝒱₀ : Variants)

/-- What a matrix's transfer delivers. -/
def dG (t : Fin 6) : Fin 1 → sProp 𝕄 := fun _ => iprop(ch c cc0_scratch1 (gmS t) G ∗ ch c main_arg1 (gmS t) G)
instance (t : Fin 6) (i : Fin 1) : Storable (upEmb : UEmb _ 𝕄) (dG c G t i) := by
  simp only [dG]; infer_instance
/-- A matrix before its transfer, -/
def preG (G0 : Vec F S6x256x1536 .bf16) (t : Fin 6) : sProp 𝕄 :=
  iprop(semVal ((c : Thread nD τ), .dma (semG t)) 0 ∗ ch c main_arg1 (gmS t) G ∗ ch c cc0_scratch1 (gmS t) G0)
/-- in flight, -/
def flyG (t : Fin 6) : sProp 𝕄 := Transfers.MixedBatch EC (c : Thread nD τ) (.dma (semG t)) () (fun _ => aF) (dG c G t) 1 0
/-- and landed. -/
def atG (t : Fin 6) : sProp 𝕄 :=
  iprop(semVal ((c : Thread nD τ), .dma (semG t)) 0 ∗ ch c main_arg1 (gmS t) G ∗ ch c cc0_scratch1 (gmS t) G)

/-- One matrix's transfer issued. -/
theorem trip1 (G0 : Vec F S6x256x1536 .bf16) (t : Fin k0_t1_loop.trips) (a : Unit) :
    preG c G G0 ⟨t.val, lt_of_lt_of_eq t.isLt trips1⟩
      ⊢ wp frame (wpE (defs₀ (F := F)) 𝒱₀ (c : Thread nD τ) none) Set.univ (k0_t1_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t a)
          (fun _ => flyG c G ⟨t.val, lt_of_lt_of_eq t.isLt trips1⟩) := by
  unfold preG k0_t1_body
  iintro ⟨HS, HA, HB0⟩
  imod (Transfers.mixedBatch_alloc' EC (c : Thread nD τ) () (fun _ => aF) (dG c G ⟨t.val, lt_of_lt_of_eq t.isLt trips1⟩) (sm := .dma (semG ⟨t.val, lt_of_lt_of_eq t.isLt trips1⟩)) (E := Set.univ)) $$ HS with HB
  iapply (ship EC 𝒱₀ (n := 1) (j := 0) (u := 0) (q := fullShare) (D := dG c G ⟨t.val, lt_of_lt_of_eq t.isLt trips1⟩) (c : Thread nD τ) none (fs := G) (f' := G) () (fun _ => aF) (by decide) (congrArg SemLoc.dma (sem1 t))
    (wSet main_arg1 (gSet (off2_eq t))) (wSet cc0_scratch1 (gSet (off2_eq t)))
    (by rfl) (Nat.zero_le _) (fun _ => rfl) (by unfold dG; exact .rfl)) $$ [HA HB0 HB]
  · isplitl [HA]; · iexact HA
    isplitl [HB0]; · iexact HB0
    iexact HB
  iintro HB
  rw [ret_bind']
  sl_step
  unfold flyG
  iexact HB

/-- All of them. -/
theorem loop1 (G0 : Vec F S6x256x1536 .bf16) :
    bigSep Finset.univ (preG c G G0)
      ⊢ wp frame (wpE (defs₀ (F := F)) 𝒱₀ (c : Thread nD τ) none) Set.univ (Scf.Loop.for k0_t1_loop k0_t1_ok ⟨⟩ (k0_t1_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17))
          (fun _ => bigSep Finset.univ (flyG c G)) := by
  have h := for_each (defs := defs₀ (F := F)) 𝒱₀ (E := Set.univ) c none k0_t1_loop k0_t1_ok trips1 (preG c G G0) (flyG c G) (fun _ _ => (iprop(emp) : sProp 𝕄)) (⟨⟩ : Unit)
    (k0_t1_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17) (fun k a => by
      iintro ⟨-, H⟩
      iapply (wp_wand_r frame (wpE (defs₀ (F := F)) 𝒱₀ (c : Thread nD τ) none) Set.univ)
      isplitl [H]
      · iapply (trip1 c G 𝒱₀ G0 k a) $$ H
      · iintro %x H
        isplitr; · iempintro
        iexact H)
  iintro H
  iapply (wp_wand_r frame (wpE (defs₀ (F := F)) 𝒱₀ (c : Thread nD τ) none) Set.univ)
  isplitl [H]
  · iapply h
    isplitr; · iempintro
    iexact H
  · iintro %x ⟨-, H⟩
    iexact H

/-- All the chunks' transfers issued. -/
theorem loop2 (W M V W0 M0 V0 : Vec F S6x256x1536 .f32) :
    bigSep Finset.univ (preIn c W M V W0 M0 V0)
      ⊢ wp frame (wpE (defs₀ (F := F)) 𝒱₀ (c : Thread nD τ) none) Set.univ (Scf.Loop.for k0_t2_loop k0_t2_ok ⟨⟩ (k0_t2_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17))
          (fun _ => bigSep Finset.univ (flyIn c W M V)) := by
  have h := for_each (defs := defs₀ (F := F)) 𝒱₀ (E := Set.univ) c none k0_t2_loop k0_t2_ok trips2 (preIn c W M V W0 M0 V0) (flyIn c W M V) (fun _ _ => (iprop(emp) : sProp 𝕄)) (⟨⟩ : Unit)
    (k0_t2_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17) (fun k a => by
      iintro ⟨-, H⟩
      iapply (wp_wand_r frame (wpE (defs₀ (F := F)) 𝒱₀ (c : Thread nD τ) none) Set.univ)
      isplitl [H]
      · iapply (trip2 c W M V 𝒱₀ W0 M0 V0 k a) $$ H
      · iintro %x H
        isplitr; · iempintro
        iexact H)
  iintro H
  iapply (wp_wand_r frame (wpE (defs₀ (F := F)) 𝒱₀ (c : Thread nD τ) none) Set.univ)
  isplitl [H]
  · iapply h
    isplitr; · iempintro
    iexact H
  · iintro %x ⟨-, H⟩
    iexact H

/-- Sixteen rows of 128 gradients. -/
def gAt (a r l : ℕ) : Vec F S1x16x128 .bf16 := fun x => G (at3 a (r + (x 1).val) (l + (x 2).val))

theorem win_g {a r l : ℕ} (inb : ∀ i, (![a, r, l] : Fin 3 → ℕ) i + S1x16x128.size i ≤ S6x256x1536.size i) :
    (window (s := S6x256x1536) G ![a, r, l] S1x16x128.size inb : Vec F S1x16x128 .bf16) = gAt G a r l := by
  have h0 : a + 1 ≤ 6 := inb 0
  have h1 : r + 16 ≤ 256 := inb 1
  have h2 : l + 128 ≤ 1536 := inb 2
  funext x
  have b0 : (x 0).val < 1 := (x 0).isLt
  have b1 : (x 1).val < 16 := (x 1).isLt
  have b2 : (x 2).val < 128 := (x 2).isLt
  refine congrArg G (funext fun i => ?_)
  match i with
  | ⟨0, _⟩ => exact Fin.ext (show a + 1 * (x 0).val = a % 6 by omega)
  | ⟨1, _⟩ => exact Fin.ext (show r + 1 * (x 1).val = (r + (x 1).val) % 256 by omega)
  | ⟨2, _⟩ => exact Fin.ext (show l + 1 * (x 2).val = (l + (x 2).val) % 1536 by omega)

theorem g_sub {a r l : ℕ} (inb : ∀ i, (![a, r, l] : Fin 3 → ℕ) i + S1x16x128.size i ≤ S6x256x1536.size i) :
    (Rect.unit (s := S6x256x1536) ![a, r, l] S1x16x128.size inb).set ⊆ gmS a := by
  intro y hy
  have h := (fin3.1 ((Rect.mem_set_unit (s := S6x256x1536)).1 hy)).1
  change a ≤ _ ∧ _ < a + 1 at h
  exact mem_gmS.2 (by omega)

/-- A load of them. -/
theorem ldG {α : Type} {Q : α → sProp 𝕄} {a r l : ℕ} {off : Fin 3 → ℕ} {inb : ∀ i, off i + S1x16x128.size i ≤ S6x256x1536.size i} (ho : off = ![a, r, l])
    {hl : (Memref.whole cc0_scratch1 : Memref sig .tc _ _ _).view.LoadsAt (Rect.unit (s := S6x256x1536) off S1x16x128.size inb).toLoadRect}
    {k : Vec F S1x16x128 .bf16 → Prog (TpuEff nD τ sig (Elt F) Λ₀ .tc) α} :
    ch c cc0_scratch1 (gmS a) G
      ⊢ iprop((ch c cc0_scratch1 (gmS a) G -∗ wp frame (wpE (defs₀ (F := F)) 𝒱₀ (c : Thread nD τ) none) Set.univ (k (gAt G a r l)) Q)
        -∗ wp frame (wpE (defs₀ (F := F)) 𝒱₀ (c : Thread nD τ) none) Set.univ (.op (.load (Memref.whole cc0_scratch1) (Rect.unit (s := S6x256x1536) off S1x16x128.size inb).toLoadRect hl) k) Q) := by
  subst ho
  rw [← win_g G inb]
  exact ld 𝒱₀ c none rfl (g_sub inb)

/-- Four running sums. -/
abbrev Acc (F : FTy → Type) [FloatOps F] := FVec F S8x128 .f32 × FVec F S8x128 .f32 × FVec F S8x128 .f32 × FVec F S8x128 .f32

/-- Sixteen rows' squares taken in. -/
def step5 (t s : ℕ) (a : Acc F) : Acc F :=
  (k0_pay9 (k0_pay1 a.1 (gAt G t (16 * s) 0)) (k0_pay5 (gAt G t (16 * s) (128 * 4))) (gAt G t (16 * s) (128 * 8)),
   k0_pay43 (k0_pay6 (k0_pay2 a.2.1 (gAt G t (16 * s) (128 * 1))) (gAt G t (16 * s) (128 * 5))) (gAt G t (16 * s) (128 * 9)),
   k0_pay44 (k0_pay7 (k0_pay3 a.2.2.1 (gAt G t (16 * s) (128 * 2))) (gAt G t (16 * s) (128 * 6))) (gAt G t (16 * s) (128 * 10)),
   k0_pay45 (k0_pay8 (k0_pay4 a.2.2.2 (gAt G t (16 * s) (128 * 3))) (gAt G t (16 * s) (128 * 7))) (gAt G t (16 * s) (128 * 11)))
/-- `n` times sixteen rows, -/
def acc5 (t : ℕ) (a : Acc F) : ℕ → Acc F
  | 0 => a
  | n + 1 => step5 G t n (acc5 t a n)
/-- and `n` matrices. -/
def acc4 : ℕ → Acc F
  | 0 => (k0_pay42, k0_pay42, k0_pay42, k0_pay42)
  | n + 1 => acc5 G n (acc4 n) 16

theorem part2 (t : Fin k0_t4_loop.trips) (s : Fin k0_t5_loop.trips) (a31 b e : BitVec 32) (a : Acc F) :
    ch c cc0_scratch1 (gmS t.val) G
      ⊢ wp frame (wpE (defs₀ (F := F)) 𝒱₀ (c : Thread nD τ) none) Set.univ (k0_part2 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t a31 b e s a.1 a.2.1 a.2.2.1 a.2.2.2)
          (fun x => iprop(⌜x = ⟨Scf.iv b e s.val, k0_pay1 a.1 (gAt G t.val (16 * s.val) 0), k0_pay2 a.2.1 (gAt G t.val (16 * s.val) (128 * 1)),
            k0_pay3 a.2.2.1 (gAt G t.val (16 * s.val) (128 * 2)), k0_pay4 a.2.2.2 (gAt G t.val (16 * s.val) (128 * 3)), k0_pay5 (gAt G t.val (16 * s.val) (128 * 4))⟩⌝ ∗ ch c cc0_scratch1 (gmS t.val) G)) := by
  rw [k0_part2_eq_skeleton]
  unfold k0_part2_skel
  iintro HG
  iapply (ldG c G 𝒱₀ (off11_eq t s)) $$ HG
  iintro HG
  iapply (ldG c G 𝒱₀ (off12_eq t s)) $$ HG
  iintro HG
  iapply (ldG c G 𝒱₀ (off13_eq t s)) $$ HG
  iintro HG
  iapply (ldG c G 𝒱₀ (off14_eq t s)) $$ HG
  iintro HG
  iapply (ldG c G 𝒱₀ (off15_eq t s)) $$ HG
  iintro HG
  rw [ret_bind']
  sl_step
  isplitr
  · ipureintro; simp only [win_g]
  iexact HG

theorem part3 (t : Fin k0_t4_loop.trips) (s : Fin k0_t5_loop.trips) (a31 b : BitVec 32) (p q r l : FVec F S8x128 .f32) (h : FVec F S16x128 .bf16) :
    ch c cc0_scratch1 (gmS t.val) G
      ⊢ wp frame (wpE (defs₀ (F := F)) 𝒱₀ (c : Thread nD τ) none) Set.univ (k0_part3 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t a31 s b p q r l h)
          (fun x => iprop(⌜x = ⟨k0_pay6 q (gAt G t.val (16 * s.val) (128 * 5)), k0_pay7 r (gAt G t.val (16 * s.val) (128 * 6)), k0_pay8 l (gAt G t.val (16 * s.val) (128 * 7)),
            k0_pay9 p h (gAt G t.val (16 * s.val) (128 * 8)), Scalar.muli b 16#32⟩⌝ ∗ ch c cc0_scratch1 (gmS t.val) G)) := by
  rw [k0_part3_eq_skeleton]
  unfold k0_part3_skel
  iintro HG
  iapply (ldG c G 𝒱₀ (off16_eq t s)) $$ HG
  iintro HG
  iapply (ldG c G 𝒱₀ (off17_eq t s)) $$ HG
  iintro HG
  iapply (ldG c G 𝒱₀ (off18_eq t s)) $$ HG
  iintro HG
  iapply (ldG c G 𝒱₀ (off19_eq t s)) $$ HG
  iintro HG
  rw [ret_bind']
  dsimp only
  sl_step
  isplitr
  · ipureintro; simp only [win_g]
  iexact HG

theorem trip5 (t : Fin k0_t4_loop.trips) (s : Fin k0_t5_loop.trips) (a31 : BitVec 32) (a : Acc F) :
    ch c cc0_scratch1 (gmS t.val) G
      ⊢ wp frame (wpE (defs₀ (F := F)) 𝒱₀ (c : Thread nD τ) none) Set.univ (k0_t5_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t a31 s a)
          (fun x => iprop(⌜x = step5 G t.val s.val a⌝ ∗ ch c cc0_scratch1 (gmS t.val) G)) := by
  unfold k0_t5_body
  iintro HG
  iapply (wp_seq 𝒱₀ c none (part2 c G 𝒱₀ t s a31 0#32 1#32 a)) $$ HG
  iintro %x ⟨%h, HG⟩
  subst h
  iapply (wp_seq 𝒱₀ c none (part3 c G 𝒱₀ t s a31 _ _ _ _ _ _)) $$ HG
  iintro %x ⟨%h, HG⟩
  subst h
  iapply (ldG c G 𝒱₀ (off20_eq t s)) $$ HG
  iintro HG
  iapply (ldG c G 𝒱₀ (off21_eq t s)) $$ HG
  iintro HG
  iapply (ldG c G 𝒱₀ (off22_eq t s)) $$ HG
  iintro HG
  rw [ret_bind']
  sl_step
  isplitr
  · ipureintro; rfl
  iexact HG

/-- One matrix's squares. -/
theorem trip4 (t : Fin k0_t4_loop.trips) (a : Acc F) :
    iprop((⌜a = acc4 G t.val⌝ ∗ (∃ W, owes (c : Thread nD τ) 0 W)) ∗ flyG c G ⟨t.val, lt_of_lt_of_eq t.isLt trips4⟩)
      ⊢ wp frame (wpE (defs₀ (F := F)) 𝒱₀ (c : Thread nD τ) none) Set.univ (k0_t4_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t a)
          (fun x => iprop((⌜x = acc4 G (t.val + 1)⌝ ∗ (∃ W, owes (c : Thread nD τ) 0 W)) ∗ atG c G ⟨t.val, lt_of_lt_of_eq t.isLt trips4⟩)) := by
  unfold flyG k0_t4_body
  iintro ⟨⟨%h, HO⟩, HB⟩
  iapply (awaitAll EC 𝒱₀ (n := 1) (u := 0) (A := fun _ => aF) (D := dG c G ⟨t.val, lt_of_lt_of_eq t.isLt trips4⟩) (c : Thread nD τ) none () aF (sem9 t) (by rfl) (fun _ => by decide) (by decide)) $$ [HB HO]
  · isplitl [HB]; · iexact HB
    iexact HO
  iintro ⟨HD, HS, HO⟩
  rw [ret_bind']
  ihave HD' := (show bigSep Finset.univ (dG c G ⟨t.val, lt_of_lt_of_eq t.isLt trips4⟩) ⊢ iprop(ch c cc0_scratch1 (gmS t.val) G ∗ ch c main_arg1 (gmS t.val) G) from (bigSep_singleton (i := (0 : Fin 1))).le) $$ HD
  icases HD' with ⟨HG, HA⟩
  iapply (Scf.wp_for_bind (M := 𝕄) frame (wpE (defs₀ (F := F)) 𝒱₀ (c : Thread nD τ) none) Set.univ _ _ _ k0_t5_ok _ _
    (fun n x => iprop(⌜x = acc5 G t.val a n⌝ ∗ ch c cc0_scratch1 (gmS t.val) G)) ?_) $$ [HG]
  · intro s x
    iintro ⟨%h, HG⟩
    subst h
    iapply (trip5 c G 𝒱₀ t s _ _) $$ HG
  · isplitr
    · ipureintro; rfl
    · iexact HG
  iintro %x ⟨%h', HG⟩
  obtain ⟨x1, x2, x3, x4⟩ := x
  dsimp only
  sl_step
  isplitl [HO]
  · isplitr
    · ipureintro; subst h; exact h'.trans (congrArg (acc5 G t.val (acc4 G t.val)) trips5)
    iexact HO
  unfold atG
  isplitl [HS]; · iexact HS
  isplitl [HA]; · iexact HA
  iexact HG

/-- All the squares. -/
theorem loop4 :
    iprop((∃ W, owes (c : Thread nD τ) 0 W) ∗ bigSep Finset.univ (flyG c G))
      ⊢ wp frame (wpE (defs₀ (F := F)) 𝒱₀ (c : Thread nD τ) none) Set.univ (Scf.Loop.for k0_t4_loop k0_t4_ok (k0_pay42 (F := F), k0_pay42 (F := F), k0_pay42 (F := F), k0_pay42 (F := F)) (k0_t4_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17))
          (fun x => iprop((⌜x = acc4 G 6⌝ ∗ (∃ W, owes (c : Thread nD τ) 0 W)) ∗ bigSep Finset.univ (atG c G))) := by
  have h := for_each (defs := defs₀ (F := F)) 𝒱₀ (E := Set.univ) c none k0_t4_loop k0_t4_ok trips4 (flyG c G) (atG c G) (fun n x => iprop(⌜x = acc4 G n⌝ ∗ (∃ W, owes (c : Thread nD τ) 0 W))) (k0_pay42 (F := F), k0_pay42 (F := F), k0_pay42 (F := F), k0_pay42 (F := F))
    (k0_t4_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17) (fun k a => trip4 c G 𝒱₀ k a)
  iintro ⟨HO, H⟩
  iapply h
  isplitl [HO]
  · isplitr
    · ipureintro; rfl
    iexact HO
  iexact H
end Grad

end Cert.Proof.K
-- ==== Proof.KCoef.lean ====
/-
  The coefficients of each matrix, and the kernel's first part: every transfer in issued, the coefficients, the norm of
  the gradients and the transfer of the norm.
-/
module

public import proofs.«01_k».proof.Proof.KGrad
public import Idealize.ShloMosaic.Lib.Pipeline.FrameBody

@[expose] public section

set_option maxRecDepth 65536

noncomputable section

namespace Cert.Proof.K

open Cert.Kernel Cert.Kernel.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

theorem off5_eq : ∀ t, k0_off5 t = ![t.val] := by decide +kernel
theorem off6_eq : ∀ t, k0_off6 t = ![t.val, 0, 0, 0] := by decide +kernel
theorem off7_eq : ∀ t, k0_off7 t = ![t.val, 1, 0, 0] := by decide +kernel
theorem off8_eq : ∀ t, k0_off8 t = ![t.val, 2, 0, 0] := by decide +kernel

/-- The semaphores of the transfers that stand alone, and the results'. -/
def sLR : DmaSem sig := ⟨18, by decide⟩
def sST : DmaSem sig := ⟨19, by decide⟩
def sGN : DmaSem sig := ⟨20, by decide⟩
def sSC : DmaSem sig := ⟨21, by decide⟩
def sO : DmaSem sig := ⟨22, by decide⟩
theorem sLR_eq : cc0_scratch13.sem = sLR := by decide +kernel
theorem sST_eq : cc0_scratch14.sem = sST := by decide +kernel
theorem sGN_eq : cc0_scratch15.sem = sGN := by decide +kernel
theorem sSC_eq : cc0_scratch16.sem = sSC := by decide +kernel
theorem sO_eq : cc0_scratch17.sem = sO := by decide +kernel
theorem cLR : (Memref.whole cc0_scratch8).view.dmaCredit = 16 := by rfl
theorem cST : (Memref.whole cc0_scratch9).view.dmaCredit = 16 := by rfl
theorem cGN : (Memref.whole main_v0_3).view.dmaCredit = 16 := by rfl
theorem cSC : (Memref.whole main_v0_5).view.dmaCredit = 192 := by rfl
theorem off0_eq : (![0] : Fin 1 → ℕ) = ![0] := rfl

section Coef
variable (c : Dev nD) (𝒱₀ : Variants)

/-- A scalar load at a window of one element of a buffer named whole. -/
theorem ldS {α : Type} {Q : α → sProp 𝕄} {i : Fin (sig.nNear .tc .smem)} {hκ : sig.names .tc .smem i = true}
    {off off' size : Fin (sig.tyNear .tc .smem i).shape.rank → ℕ} {inb : ∀ a, off a + size a ≤ (sig.tyNear .tc .smem i).shape.size a}
    {h1 : (Rect.unit off size inb).shape.numel = 1} {hp : (sig.tyNear .tc .smem i).elt.packing = 1}
    {k : Elt F (sig.tyNear .tc .smem i).elt → Prog (TpuEff nD τ sig (Elt F) Λ₀ .tc) α} {f : Buf (Elt F) ((c : Thread nD τ).loc ⟨.smem, i, hκ⟩)}
    (ho : off = off') :
    ((c : Thread nD τ).loc ⟨.smem, i, hκ⟩ ↦[Finset.univ]{fullShare} f)
      ⊢ iprop((((c : Thread nD τ).loc ⟨.smem, i, hκ⟩ ↦[Finset.univ]{fullShare} f) -∗ wp frame (wpE (defs₀ (F := F)) 𝒱₀ (c : Thread nD τ) none) Set.univ (k (window f off' size (ho ▸ inb) (Shape.Idx.first (by subst ho; exact h1.symm ▸ Nat.one_pos)))) Q)
        -∗ wp frame (wpE (defs₀ (F := F)) 𝒱₀ (c : Thread nD τ) none) Set.univ (smemLoad (Memref.whole ⟨.smem, i, hκ⟩) (Rect.unit off size inb) h1 hp >>= k) Q) := by
  subst ho
  exact ld (k := fun g => k (g (Shape.Idx.first (h1.symm ▸ Nat.one_pos)))) 𝒱₀ c none rfl (Finset.subset_univ _)

variable (LR : Vec F S6 .f32) (ST : Vec F S6 .i32) (C0 : Vec F S6x3x8x128 .f32)

/-- A matrix's entry of a vector of six. -/
def at6 {α : Type} (f : S6.Idx → α) (a : ℕ) : α := f (ix1 (⟨a % 6, Nat.mod_lt _ (by decide)⟩ : Fin 6))
theorem win_6 {α : Type} (f : S6.Idx → α) {a : ℕ} (inb : ∀ i, (![a] : Fin 1 → ℕ) i + S1.size i ≤ S6.size i) (x : S1.Idx) :
    window (s := S6) f ![a] S1.size inb x = at6 f a := by
  have h0 : a + 1 ≤ 6 := inb 0
  have b0 : (x 0).val < 1 := (x 0).isLt
  refine congrArg f (funext fun i => ?_)
  match i with
  | ⟨0, _⟩ => exact Fin.ext (show a + 1 * (x 0).val = a % 6 by omega)

/-- The coefficients after `n` matrices. -/
def coefN : ℕ → Vec F S6x3x8x128 .f32
  | 0 => C0
  | n + 1 => put (s := S6x3x8x128) (put (s := S6x3x8x128) (put (s := S6x3x8x128) (coefN n) ![n, 0, 0, 0] S1x1x8x128.size (k0_pay39 (at6 ST n) (at6 LR n)))
      ![n, 1, 0, 0] S1x1x8x128.size (k0_pay40 (at6 LR n))) ![n, 2, 0, 0] S1x1x8x128.size (k0_pay41 (at6 ST n))

/-- The buffers the coefficients are computed from, and theirs. -/
def coefs (n : ℕ) : sProp 𝕄 :=
  iprop(ch c cc0_scratch8 Finset.univ LR ∗ ch c cc0_scratch9 Finset.univ ST ∗ ch c cc0_scratch7 Finset.univ (coefN LR ST C0 n))

theorem trip3 (t : Fin k0_t3_loop.trips) (a : Unit) :
    coefs c LR ST C0 t.val
      ⊢ wp frame (wpE (defs₀ (F := F)) 𝒱₀ (c : Thread nD τ) none) Set.univ (k0_t3_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t a) (fun _ => coefs c LR ST C0 (t.val + 1)) := by
  unfold coefs k0_t3_body
  iintro ⟨HL, HS, HC⟩
  iapply (ldS c 𝒱₀ (off5_eq t)) $$ HS
  iintro HS
  iapply (ldS c 𝒱₀ (off5_eq t)) $$ HL
  iintro HL
  iapply (ld 𝒱₀ c none (off6_eq t) (Finset.subset_univ _)) $$ HC
  iintro HC
  iapply (st 𝒱₀ c none (off6_eq t) (Finset.subset_univ _)) $$ HC
  iintro HC
  iapply (ld 𝒱₀ c none (off7_eq t) (Finset.subset_univ _)) $$ HC
  iintro HC
  iapply (st 𝒱₀ c none (off7_eq t) (Finset.subset_univ _)) $$ HC
  iintro HC
  iapply (ld 𝒱₀ c none (off8_eq t) (Finset.subset_univ _)) $$ HC
  iintro HC
  iapply (st 𝒱₀ c none (off8_eq t) (Finset.subset_univ _)) $$ HC
  iintro HC
  rw [ret_bind', win_6, win_6]
  sl_step
  isplitl [HL]; · iexact HL
  isplitl [HS]; · iexact HS
  iexact HC

variable (G : Vec F S6x256x1536 .bf16) (W M V : Vec F S6x256x1536 .f32)

/-- A single transfer's delivery. -/
def one (b b' : Ref sig .tc) (f : Buf (Elt F) ((c : Thread nD τ).loc b)) (f' : Buf (Elt F) ((c : Thread nD τ).loc b')) : Fin 1 → sProp 𝕄 :=
  fun _ => iprop(ch c b' Finset.univ f' ∗ ch c b Finset.univ f)
instance (b b' : Ref sig .tc) (f : Buf (Elt F) ((c : Thread nD τ).loc b)) (f' : Buf (Elt F) ((c : Thread nD τ).loc b')) (i : Fin 1) :
    Storable (upEmb : UEmb _ 𝕄) (one c b b' f f' i) := by
  simp only [one]; infer_instance

theorem whole_set {κ : Kind} (b : Ref sig κ) : (View.whole b).set = Finset.univ := View.set_whole b

/-- The transfers between whole buffers, each alone on its semaphore: issued and awaited. -/

theorem aLR : ∀ s : DmaSem sig, (Memref.whole cc0_scratch8).view.amount (.dma s) = 16 := fun _ => cLR
theorem rLR (f : Vec F S6 .f32) : ∀ x, (Memref.whole main_arg4).view.read (Elt F) f x = (Memref.whole cc0_scratch8).view.read (Elt F) f x := fun _ => rfl
theorem shipLR {α : Type} {Q : α → sProp 𝕄} {k : PUnit → Prog (TpuEff nD τ sig (Elt F) Λ₀ .tc) α} (f fd : Vec F S6 .f32) {h1 h2 h3} :
    iprop(ch c main_arg4 Finset.univ f ∗ ch c cc0_scratch8 Finset.univ fd ∗ Transfers.MixedBatch EC (c : Thread nD τ) (.dma sLR) () (fun _ => 16) (one c main_arg4 cc0_scratch8 f f) 0 0)
      ⊢ iprop((Transfers.MixedBatch EC (c : Thread nD τ) (.dma sLR) () (fun _ => 16) (one c main_arg4 cc0_scratch8 f f) 1 0 -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (Memref.whole main_arg4) (.here (Memref.whole cc0_scratch8)) .same (.dma cc0_scratch13.sem) h1 h2 h3) k) Q) := by
  have e1 := whole_set main_arg4
  have e2 := whole_set cc0_scratch8
  have e3 := rLR (F := F) f
  have e4 : iprop(((Memref.whole cc0_scratch8).view.loc (c : Thread nD τ) ↦[Finset.univ]{fullShare} f) ∗ ((Memref.whole main_arg4).view.loc (c : Thread nD τ) ↦[Finset.univ]{fullShare} f)) ⊢ one c main_arg4 cc0_scratch8 f f ⟨0, by decide⟩ := by
    unfold one; exact .rfl
  have h := ship (Q := Q) (k := k) (defs := defs₀ (F := F)) (src := Memref.whole main_arg4) (dst := Memref.whole cc0_scratch8) EC 𝒱₀ (n := 1) (j := 0) (u := 0) (q := fullShare) (fd := fd)
    (hsrc := ‹_›) (hdst := ‹_›) (hsem := ‹_›) (D := one c main_arg4 cc0_scratch8 f f) (c : Thread nD τ) none (fs := f) (f' := f) () (fun _ => 16) (by decide) (congrArg SemLoc.dma sLR_eq)
    e1 e2 (aLR _) (Nat.zero_le _) e3 e4
  exact h
theorem awaitLR {α : Type} {Q : α → sProp 𝕄} {k : PUnit → Prog (TpuEff nD τ sig (Elt F) Λ₀ .tc) α} (f : Vec F S6 .f32) {h1 h2} :
    iprop(Transfers.MixedBatch EC (c : Thread nD τ) (.dma sLR) () (fun _ => 16) (one c main_arg4 cc0_scratch8 f f) 1 0 ∗ (∃ W, owes (c : Thread nD τ) 0 W))
      ⊢ iprop((iprop((ch c cc0_scratch8 Finset.univ f ∗ ch c main_arg4 Finset.univ f) ∗ semVal ((c : Thread nD τ), .dma sLR) 0 ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch13.sem (Memref.whole main_arg4) (Memref.whole cc0_scratch8) h1 h2) k) Q) := by
  have h := awaitAll (Q := Q) (k := k) (defs := defs₀ (F := F)) (srcw := Memref.whole main_arg4) (dstw := Memref.whole cc0_scratch8) EC 𝒱₀ (n := 1) (u := 0) (A := fun _ => 16) (D := one c main_arg4 cc0_scratch8 f f)
    (hsrc := ‹_›) (hdst := ‹_›) (c : Thread nD τ) none () 16 sLR_eq cLR (fun _ => by decide) (by decide)
  rw [show bigSep Finset.univ (one c main_arg4 cc0_scratch8 f f) = iprop(ch c cc0_scratch8 Finset.univ f ∗ ch c main_arg4 Finset.univ f) from bigSep_singleton (i := (0 : Fin 1))] at h
  exact h

theorem aST : ∀ s : DmaSem sig, (Memref.whole cc0_scratch9).view.amount (.dma s) = 16 := fun _ => cST
theorem rST (f : Vec F S6 .i32) : ∀ x, (Memref.whole main_arg5).view.read (Elt F) f x = (Memref.whole cc0_scratch9).view.read (Elt F) f x := fun _ => rfl
theorem shipST {α : Type} {Q : α → sProp 𝕄} {k : PUnit → Prog (TpuEff nD τ sig (Elt F) Λ₀ .tc) α} (f fd : Vec F S6 .i32) {h1 h2 h3} :
    iprop(ch c main_arg5 Finset.univ f ∗ ch c cc0_scratch9 Finset.univ fd ∗ Transfers.MixedBatch EC (c : Thread nD τ) (.dma sST) () (fun _ => 16) (one c main_arg5 cc0_scratch9 f f) 0 0)
      ⊢ iprop((Transfers.MixedBatch EC (c : Thread nD τ) (.dma sST) () (fun _ => 16) (one c main_arg5 cc0_scratch9 f f) 1 0 -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (Memref.whole main_arg5) (.here (Memref.whole cc0_scratch9)) .same (.dma cc0_scratch14.sem) h1 h2 h3) k) Q) := by
  have e1 := whole_set main_arg5
  have e2 := whole_set cc0_scratch9
  have e3 := rST (F := F) f
  have e4 : iprop(((Memref.whole cc0_scratch9).view.loc (c : Thread nD τ) ↦[Finset.univ]{fullShare} f) ∗ ((Memref.whole main_arg5).view.loc (c : Thread nD τ) ↦[Finset.univ]{fullShare} f)) ⊢ one c main_arg5 cc0_scratch9 f f ⟨0, by decide⟩ := by
    unfold one; exact .rfl
  have h := ship (Q := Q) (k := k) (defs := defs₀ (F := F)) (src := Memref.whole main_arg5) (dst := Memref.whole cc0_scratch9) EC 𝒱₀ (n := 1) (j := 0) (u := 0) (q := fullShare) (fd := fd)
    (hsrc := ‹_›) (hdst := ‹_›) (hsem := ‹_›) (D := one c main_arg5 cc0_scratch9 f f) (c : Thread nD τ) none (fs := f) (f' := f) () (fun _ => 16) (by decide) (congrArg SemLoc.dma sST_eq)
    e1 e2 (aST _) (Nat.zero_le _) e3 e4
  exact h
theorem awaitST {α : Type} {Q : α → sProp 𝕄} {k : PUnit → Prog (TpuEff nD τ sig (Elt F) Λ₀ .tc) α} (f : Vec F S6 .i32) {h1 h2} :
    iprop(Transfers.MixedBatch EC (c : Thread nD τ) (.dma sST) () (fun _ => 16) (one c main_arg5 cc0_scratch9 f f) 1 0 ∗ (∃ W, owes (c : Thread nD τ) 0 W))
      ⊢ iprop((iprop((ch c cc0_scratch9 Finset.univ f ∗ ch c main_arg5 Finset.univ f) ∗ semVal ((c : Thread nD τ), .dma sST) 0 ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch14.sem (Memref.whole main_arg5) (Memref.whole cc0_scratch9) h1 h2) k) Q) := by
  have h := awaitAll (Q := Q) (k := k) (defs := defs₀ (F := F)) (srcw := Memref.whole main_arg5) (dstw := Memref.whole cc0_scratch9) EC 𝒱₀ (n := 1) (u := 0) (A := fun _ => 16) (D := one c main_arg5 cc0_scratch9 f f)
    (hsrc := ‹_›) (hdst := ‹_›) (c : Thread nD τ) none () 16 sST_eq cST (fun _ => by decide) (by decide)
  rw [show bigSep Finset.univ (one c main_arg5 cc0_scratch9 f f) = iprop(ch c cc0_scratch9 Finset.univ f ∗ ch c main_arg5 Finset.univ f) from bigSep_singleton (i := (0 : Fin 1))] at h
  exact h

theorem aGN : ∀ s : DmaSem sig, (Memref.whole main_v0_3).view.amount (.dma s) = 16 := fun _ => cGN
theorem rGN (f : Vec F S1 .f32) : ∀ x, (Memref.whole cc0_scratch10).view.read (Elt F) f x = (Memref.whole main_v0_3).view.read (Elt F) f x := fun _ => rfl
theorem shipGN {α : Type} {Q : α → sProp 𝕄} {k : PUnit → Prog (TpuEff nD τ sig (Elt F) Λ₀ .tc) α} (f fd : Vec F S1 .f32) {h1 h2 h3} :
    iprop(ch c cc0_scratch10 Finset.univ f ∗ ch c main_v0_3 Finset.univ fd ∗ Transfers.MixedBatch EC (c : Thread nD τ) (.dma sGN) () (fun _ => 16) (one c cc0_scratch10 main_v0_3 f f) 0 0)
      ⊢ iprop((Transfers.MixedBatch EC (c : Thread nD τ) (.dma sGN) () (fun _ => 16) (one c cc0_scratch10 main_v0_3 f f) 1 0 -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (Memref.whole cc0_scratch10) (.here (Memref.whole main_v0_3)) .same (.dma cc0_scratch15.sem) h1 h2 h3) k) Q) := by
  have e1 := whole_set cc0_scratch10
  have e2 := whole_set main_v0_3
  have e3 := rGN (F := F) f
  have e4 : iprop(((Memref.whole main_v0_3).view.loc (c : Thread nD τ) ↦[Finset.univ]{fullShare} f) ∗ ((Memref.whole cc0_scratch10).view.loc (c : Thread nD τ) ↦[Finset.univ]{fullShare} f)) ⊢ one c cc0_scratch10 main_v0_3 f f ⟨0, by decide⟩ := by
    unfold one; exact .rfl
  have h := ship (Q := Q) (k := k) (defs := defs₀ (F := F)) (src := Memref.whole cc0_scratch10) (dst := Memref.whole main_v0_3) EC 𝒱₀ (n := 1) (j := 0) (u := 0) (q := fullShare) (fd := fd)
    (hsrc := ‹_›) (hdst := ‹_›) (hsem := ‹_›) (D := one c cc0_scratch10 main_v0_3 f f) (c : Thread nD τ) none (fs := f) (f' := f) () (fun _ => 16) (by decide) (congrArg SemLoc.dma sGN_eq)
    e1 e2 (aGN _) (Nat.zero_le _) e3 e4
  exact h
theorem awaitGN {α : Type} {Q : α → sProp 𝕄} {k : PUnit → Prog (TpuEff nD τ sig (Elt F) Λ₀ .tc) α} (f : Vec F S1 .f32) {h1 h2} :
    iprop(Transfers.MixedBatch EC (c : Thread nD τ) (.dma sGN) () (fun _ => 16) (one c cc0_scratch10 main_v0_3 f f) 1 0 ∗ (∃ W, owes (c : Thread nD τ) 0 W))
      ⊢ iprop((iprop((ch c main_v0_3 Finset.univ f ∗ ch c cc0_scratch10 Finset.univ f) ∗ semVal ((c : Thread nD τ), .dma sGN) 0 ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch15.sem (Memref.whole cc0_scratch10) (Memref.whole main_v0_3) h1 h2) k) Q) := by
  have h := awaitAll (Q := Q) (k := k) (defs := defs₀ (F := F)) (srcw := Memref.whole cc0_scratch10) (dstw := Memref.whole main_v0_3) EC 𝒱₀ (n := 1) (u := 0) (A := fun _ => 16) (D := one c cc0_scratch10 main_v0_3 f f)
    (hsrc := ‹_›) (hdst := ‹_›) (c : Thread nD τ) none () 16 sGN_eq cGN (fun _ => by decide) (by decide)
  rw [show bigSep Finset.univ (one c cc0_scratch10 main_v0_3 f f) = iprop(ch c main_v0_3 Finset.univ f ∗ ch c cc0_scratch10 Finset.univ f) from bigSep_singleton (i := (0 : Fin 1))] at h
  exact h

theorem aSC : ∀ s : DmaSem sig, (Memref.whole main_v0_5).view.amount (.dma s) = 192 := fun _ => cSC
theorem rSC (f : Vec F S6x2x12 .f32) : ∀ x, (Memref.whole cc0_scratch6).view.read (Elt F) f x = (Memref.whole main_v0_5).view.read (Elt F) f x := fun _ => rfl
theorem shipSC {α : Type} {Q : α → sProp 𝕄} {k : PUnit → Prog (TpuEff nD τ sig (Elt F) Λ₀ .tc) α} (f fd : Vec F S6x2x12 .f32) {h1 h2 h3} :
    iprop(ch c cc0_scratch6 Finset.univ f ∗ ch c main_v0_5 Finset.univ fd ∗ Transfers.MixedBatch EC (c : Thread nD τ) (.dma sSC) () (fun _ => 192) (one c cc0_scratch6 main_v0_5 f f) 0 0)
      ⊢ iprop((Transfers.MixedBatch EC (c : Thread nD τ) (.dma sSC) () (fun _ => 192) (one c cc0_scratch6 main_v0_5 f f) 1 0 -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (Memref.whole cc0_scratch6) (.here (Memref.whole main_v0_5)) .same (.dma cc0_scratch16.sem) h1 h2 h3) k) Q) := by
  have e1 := whole_set cc0_scratch6
  have e2 := whole_set main_v0_5
  have e3 := rSC (F := F) f
  have e4 : iprop(((Memref.whole main_v0_5).view.loc (c : Thread nD τ) ↦[Finset.univ]{fullShare} f) ∗ ((Memref.whole cc0_scratch6).view.loc (c : Thread nD τ) ↦[Finset.univ]{fullShare} f)) ⊢ one c cc0_scratch6 main_v0_5 f f ⟨0, by decide⟩ := by
    unfold one; exact .rfl
  have h := ship (Q := Q) (k := k) (defs := defs₀ (F := F)) (src := Memref.whole cc0_scratch6) (dst := Memref.whole main_v0_5) EC 𝒱₀ (n := 1) (j := 0) (u := 0) (q := fullShare) (fd := fd)
    (hsrc := ‹_›) (hdst := ‹_›) (hsem := ‹_›) (D := one c cc0_scratch6 main_v0_5 f f) (c : Thread nD τ) none (fs := f) (f' := f) () (fun _ => 192) (by decide) (congrArg SemLoc.dma sSC_eq)
    e1 e2 (aSC _) (Nat.zero_le _) e3 e4
  exact h
theorem awaitSC {α : Type} {Q : α → sProp 𝕄} {k : PUnit → Prog (TpuEff nD τ sig (Elt F) Λ₀ .tc) α} (f : Vec F S6x2x12 .f32) {h1 h2} :
    iprop(Transfers.MixedBatch EC (c : Thread nD τ) (.dma sSC) () (fun _ => 192) (one c cc0_scratch6 main_v0_5 f f) 1 0 ∗ (∃ W, owes (c : Thread nD τ) 0 W))
      ⊢ iprop((iprop((ch c main_v0_5 Finset.univ f ∗ ch c cc0_scratch6 Finset.univ f) ∗ semVal ((c : Thread nD τ), .dma sSC) 0 ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch16.sem (Memref.whole cc0_scratch6) (Memref.whole main_v0_5) h1 h2) k) Q) := by
  have h := awaitAll (Q := Q) (k := k) (defs := defs₀ (F := F)) (srcw := Memref.whole cc0_scratch6) (dstw := Memref.whole main_v0_5) EC 𝒱₀ (n := 1) (u := 0) (A := fun _ => 192) (D := one c cc0_scratch6 main_v0_5 f f)
    (hsrc := ‹_›) (hdst := ‹_›) (c : Thread nD τ) none () 192 sSC_eq cSC (fun _ => by decide) (by decide)
  rw [show bigSep Finset.univ (one c cc0_scratch6 main_v0_5 f f) = iprop(ch c main_v0_5 Finset.univ f ∗ ch c cc0_scratch6 Finset.univ f) from bigSep_singleton (i := (0 : Fin 1))] at h
  exact h

/-- The clip coefficient the kernel multiplies the gradients with, -/
def kapG : FVec F S8x128 .f32 := k0_pay47 (acc4 G 6).1 (acc4 G 6).2.1 (acc4 G 6).2.2.1 (acc4 G 6).2.2.2
/-- and the norm. -/
def normG : Vec F S1 .f32 := fun _ => k0_pay48 (acc4 G 6).1 (acc4 G 6).2.1 (acc4 G 6).2.2.1 (acc4 G 6).2.2.2

theorem put_1 {α : Type} (f : S1.Idx → α) (a : α) : put (s := S1) f ![0] S1.size (fun _ => a) = fun _ => a := by
  funext y
  have b0 : (y 0).val < 1 := (y 0).isLt
  unfold put
  exact dif_pos fun i => match i with | ⟨0, _⟩ => ⟨Nat.zero_le _, show (y 0).val < 0 + 1 by omega⟩

/-- What the first part starts from, -/
def pre11 (G0 : Vec F S6x256x1536 .bf16) (W0 M0 V0 : Vec F S6x256x1536 .f32) (L0 : Vec F S6 .f32) (T0 : Vec F S6 .i32) (N0 N1 : Vec F S1 .f32) : sProp 𝕄 :=
  iprop((semVal ((c : Thread nD τ), .dma sLR) 0 ∗ semVal ((c : Thread nD τ), .dma sST) 0 ∗ semVal ((c : Thread nD τ), .dma sGN) 0)
    ∗ (ch c main_arg4 Finset.univ LR ∗ ch c cc0_scratch8 Finset.univ L0 ∗ ch c main_arg5 Finset.univ ST ∗ ch c cc0_scratch9 Finset.univ T0)
    ∗ ch c cc0_scratch7 Finset.univ C0 ∗ (ch c cc0_scratch10 Finset.univ N0 ∗ ch c main_v0_3 Finset.univ N1)
    ∗ bigSep Finset.univ (preG c G G0) ∗ bigSep Finset.univ (preIn c W M V W0 M0 V0) ∗ (∃ W, owes (c : Thread nD τ) 0 W))
/-- and what it leaves. -/
def post11 : sProp 𝕄 :=
  iprop((semVal ((c : Thread nD τ), .dma sLR) 0 ∗ semVal ((c : Thread nD τ), .dma sST) 0 ∗ ch c main_arg4 Finset.univ LR ∗ ch c main_arg5 Finset.univ ST)
    ∗ coefs c LR ST C0 6
    ∗ Transfers.MixedBatch EC (c : Thread nD τ) (.dma sGN) () (fun _ => 16) (one c cc0_scratch10 main_v0_3 (normG G) (normG G)) 1 0
    ∗ bigSep Finset.univ (atG c G) ∗ bigSep Finset.univ (flyIn c W M V) ∗ (∃ W, owes (c : Thread nD τ) 0 W))

set_option maxHeartbeats 4000000 in
/-- The first part. -/
theorem part11 (G0 : Vec F S6x256x1536 .bf16) (W0 M0 V0 : Vec F S6x256x1536 .f32) (L0 : Vec F S6 .f32) (T0 : Vec F S6 .i32) (N0 N1 : Vec F S1 .f32) :
    pre11 c LR ST C0 G W M V G0 W0 M0 V0 L0 T0 N0 N1
      ⊢ wp frame (wpE (defs₀ (F := F)) 𝒱₀ (c : Thread nD τ) none) Set.univ (k0_part11 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17)
          (fun x => iprop(⌜x = ⟨kapG G, iota .tc S1x128 32 [1] iota_S1x128_d1_w32, 0#32, 1#32⟩⌝ ∗ post11 c LR ST C0 G W M V)) := by
  rw [k0_part11_eq_skeleton]
  unfold k0_part11_skel pre11
  iintro ⟨⟨HS18, HS19, HS20⟩, ⟨HA4, HL, HA5, HT⟩, HC, ⟨HN0, HN1⟩, HG, HI, HO⟩
  imod (Transfers.mixedBatch_alloc' EC (c : Thread nD τ) () (fun _ => 16) (one c main_arg4 cc0_scratch8 LR LR) (sm := .dma sLR) (E := Set.univ)) $$ HS18 with HB18
  imod (Transfers.mixedBatch_alloc' EC (c : Thread nD τ) () (fun _ => 16) (one c main_arg5 cc0_scratch9 ST ST) (sm := .dma sST) (E := Set.univ)) $$ HS19 with HB19
  imod (Transfers.mixedBatch_alloc' EC (c : Thread nD τ) () (fun _ => 16) (one c cc0_scratch10 main_v0_3 (normG G) (normG G)) (sm := .dma sGN) (E := Set.univ)) $$ HS20 with HB20
  iapply (shipLR c 𝒱₀ LR _) $$ [HA4 HL HB18]
  · isplitl [HA4]; · iexact HA4
    isplitl [HL]; · iexact HL
    iexact HB18
  iintro HB18
  rw [ret_bind']
  iapply (shipST c 𝒱₀ ST _) $$ [HA5 HT HB19]
  · isplitl [HA5]; · iexact HA5
    isplitl [HT]; · iexact HT
    iexact HB19
  iintro HB19
  rw [ret_bind']
  iapply (wp_seq 𝒱₀ c none (loop1 c G 𝒱₀ G0)) $$ HG
  iintro %x HG
  iapply (wp_seq 𝒱₀ c none (loop2 c 𝒱₀ W M V W0 M0 V0)) $$ HI
  iintro %x HI
  iapply (awaitLR c 𝒱₀ LR) $$ [HB18 HO]
  · isplitl [HB18]; · iexact HB18
    iexact HO
  iintro ⟨HD, HS18, HO⟩
  rw [ret_bind']
  icases HD with ⟨HL, HA4⟩
  iapply (awaitST c 𝒱₀ ST) $$ [HB19 HO]
  · isplitl [HB19]; · iexact HB19
    iexact HO
  iintro ⟨HD, HS19, HO⟩
  rw [ret_bind']
  icases HD with ⟨HT, HA5⟩
  iapply (Scf.wp_for_bind (M := 𝕄) frame (wpE (defs₀ (F := F)) 𝒱₀ (c : Thread nD τ) none) Set.univ _ _ _ k0_t3_ok _ _
    (fun n _ => coefs c LR ST C0 n) ?_) $$ [HL HT HC]
  · intro t x
    exact trip3 c 𝒱₀ LR ST C0 t x
  · unfold coefs
    isplitl [HL]; · iexact HL
    isplitl [HT]; · iexact HT
    iexact HC
  iintro %x HC
  iapply (wp_seq 𝒱₀ c none (loop4 c G 𝒱₀)) $$ [HO HG]
  · isplitl [HO]; · iexact HO
    iexact HG
  iintro %x ⟨⟨%hx, HO⟩, HG⟩
  obtain ⟨x1, x2, x3, x4⟩ := x
  have e1 : kapG G = k0_pay47 x1 x2 x3 x4 := by unfold kapG; rw [← hx]
  have e2 : normG G = fun _ => k0_pay48 x1 x2 x3 x4 := by unfold normG; rw [← hx]
  rw [e1]
  dsimp only
  iapply (ldS c 𝒱₀ off0_eq) $$ HN0
  iintro HN0
  iapply (st 𝒱₀ c none off0_eq (Finset.subset_univ _)) $$ HN0
  iintro HN0
  rw [ret_bind']
  iapply (shipGN c 𝒱₀ (normG G) _) $$ [HN0 HN1 HB20]
  · isplitl [HN0]
    · rw [show normG G = put (s := S1) N0 ![0] S1.size (fun _ => k0_pay48 x1 x2 x3 x4) from e2.trans (put_1 N0 _).symm]; iexact HN0
    isplitl [HN1]; · iexact HN1
    iexact HB20
  iintro HB20
  rw [ret_bind']
  dsimp only
  sl_step
  isplitr
  · ipureintro; rfl
  unfold post11
  isplitl [HS18 HS19 HA4 HA5]
  · isplitl [HS18]; · iexact HS18
    isplitl [HS19]; · iexact HS19
    isplitl [HA4]; · iexact HA4
    iexact HA5
  isplitl [HC]
  · iexact HC
  isplitl [HB20]; · iexact HB20
  isplitl [HG]; · iexact HG
  isplitl [HI]; · iexact HI
  iexact HO
end Coef

end Cert.Proof.K
-- ==== Proof.KOut.lean ====
/-
  The transfers out: five of each chunk, sixty on one semaphore.
-/
module

public import proofs.«01_k».proof.Proof.KCoef
public import Idealize.ShloMosaic.Lib.Pipeline.FrameBody

@[expose] public section

set_option maxRecDepth 65536

noncomputable section

namespace Cert.Proof.K

open Cert.Kernel Cert.Kernel.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

theorem off33_eq' : ∀ t, k0_cond1 t = 1#1 → k0_off33 t = ![(t.val - 1) / 2, (t.val - 1) % 2 * 128, 0] := off33_eq

/-- A matrix's coefficient of the three. -/
def cAt (C : Vec F S6x3x8x128 .f32) (a j : ℕ) : Vec F S1x1x8x128 .f32 :=
  fun x => C (ix4 (⟨a % 6, Nat.mod_lt _ (by decide)⟩ : Fin 6) (⟨j % 3, Nat.mod_lt _ (by decide)⟩ : Fin 3) (x 2 : Fin 8) (x 3 : Fin 128))

theorem win_c (C : Vec F S6x3x8x128 .f32) {a j : ℕ} (inb : ∀ i, (![a, j, 0, 0] : Fin 4 → ℕ) i + S1x1x8x128.size i ≤ S6x3x8x128.size i) :
    (window (s := S6x3x8x128) C ![a, j, 0, 0] S1x1x8x128.size inb : Vec F S1x1x8x128 .f32) = cAt C a j := by
  have h0 : a + 1 ≤ 6 := inb 0
  have h1 : j + 1 ≤ 3 := inb 1
  funext x
  have b0 : (x 0).val < 1 := (x 0).isLt
  have b1 : (x 1).val < 1 := (x 1).isLt
  refine congrArg C (funext fun i => ?_)
  match i with
  | ⟨0, _⟩ => exact Fin.ext (show a + 1 * (x 0).val = a % 6 by omega)
  | ⟨1, _⟩ => exact Fin.ext (show j + 1 * (x 1).val = j % 3 by omega)
  | ⟨2, _⟩ => exact Fin.ext (show 0 + 1 * (x 2).val = (x 2).val by omega)
  | ⟨3, _⟩ => exact Fin.ext (show 0 + 1 * (x 3).val = (x 3).val by omega)

section Vals
variable (κ : FVec F S8x128 .f32) (Cf : Vec F S6x3x8x128 .f32) (G : Vec F S6x256x1536 .bf16) (W M V : Vec F S6x256x1536 .f32)

/-- The new weights by a chunk's coefficients, -/
def wT (t : ℕ) : Vec F S6x256x1536 .f32 := newW κ (k0_pay49 (cAt Cf (t / 2) 0)) (k0_pay50 (cAt Cf (t / 2) 1)) (k0_pay51 (cAt Cf (t / 2) 2)) G M V W
/-- an element's chunk, -/
def tOf (y : S6x256x1536.Idx) : ℕ := 2 * (y 0).val + (y 1).val / 128
/-- the new weights, -/
def wG : Vec F S6x256x1536 .f32 := fun y => wT κ Cf G W M V (tOf y) y
/-- their codes, -/
def cG : Vec F S6x256x1536 .fp8e4m3 := fun y => newC (wT κ Cf G W M V (tOf y)) (tOf y) y
/-- the codes transposed, -/
def tG : Vec F S6x1536x256 .fp8e4m3 := fun z => newT (wT κ Cf G W M V (tOf (tr z))) (tOf (tr z)) z
/-- and the scales after `n` chunks. -/
def scN (S0 : Vec F S6x2x12 .f32) (v24 : IVec S1x128 32) : ℕ → Vec F S6x2x12 .f32
  | 0 => S0
  | t + 1 => put (s := S6x2x12) (scN S0 v24 t) ![t / 2, t % 2, 0] S1x1x12.size (k0_pay57 (rowN (wT κ Cf G W M V t) t v24 12))

theorem tOf_ch {t : ℕ} {y : S6x256x1536.Idx} (h : y ∈ chS t) : tOf y = t := by
  obtain ⟨h0, h1⟩ := mem_chS.1 h
  have b1 : (y 1).val < 256 := (y 1).isLt
  unfold tOf; omega
theorem tOf_ct {t : ℕ} {z : S6x1536x256.Idx} (h : z ∈ ctS t) : tOf (tr z) = t := by
  obtain ⟨h0, h1⟩ := mem_ctS.1 h
  have b1 : (z 2).val < 256 := (z 2).isLt
  show 2 * (z 0).val + (z 2).val / 128 = t; omega
theorem part12 {α : Type} (N M : S6x256x1536.Idx → α) : part 12 0 N M = N := by
  funext y
  have b : (y 2).val < 1536 := (y 2).isLt
  exact if_pos (Or.inl (by omega))
theorem part00 {α : Type} (N M : S6x256x1536.Idx → α) : part 0 0 N M = M := by
  funext y
  exact if_neg (by unfold done; omega)
theorem partT12 {α : Type} (N M : S6x1536x256.Idx → α) : partT 12 N M = N := by
  funext y
  have b : (y 1).val < 1536 := (y 1).isLt
  exact if_pos (by omega)
theorem partT0 {α : Type} (N M : S6x1536x256.Idx → α) : partT 0 N M = M := by
  funext y
  exact if_neg (by omega)
theorem w_ch {t : ℕ} {y : S6x256x1536.Idx} (h : y ∈ chS t) : wT κ Cf G W M V t y = wG κ Cf G W M V y := by
  unfold wG; rw [tOf_ch h]
theorem c_ch {t : ℕ} {y : S6x256x1536.Idx} (h : y ∈ chS t) : newC (wT κ Cf G W M V t) t y = cG κ Cf G W M V y := by
  unfold cG; rw [tOf_ch h]
theorem t_ct {t : ℕ} {z : S6x1536x256.Idx} (h : z ∈ ctS t) : newT (wT κ Cf G W M V t) t z = tG κ Cf G W M V z := by
  unfold tG; rw [tOf_ct h]
end Vals

/-- Five of a chunk at some contents. -/
def five (c : Dev nD) (b0 b1 b2 b3 b4 : Ref sig .tc) (s0 : Finset (Idx ((c : Thread nD τ).loc b0))) (s1 : Finset (Idx ((c : Thread nD τ).loc b1))) (s2 : Finset (Idx ((c : Thread nD τ).loc b2)))
    (s3 : Finset (Idx ((c : Thread nD τ).loc b3))) (s4 : Finset (Idx ((c : Thread nD τ).loc b4)))
    (f0 : Buf (Elt F) ((c : Thread nD τ).loc b0)) (f1 : Buf (Elt F) ((c : Thread nD τ).loc b1)) (f2 : Buf (Elt F) ((c : Thread nD τ).loc b2))
    (f3 : Buf (Elt F) ((c : Thread nD τ).loc b3)) (f4 : Buf (Elt F) ((c : Thread nD τ).loc b4)) : sProp 𝕄 :=
  iprop(ch c b0 s0 f0 ∗ ch c b1 s1 f1 ∗ ch c b2 s2 f2 ∗ ch c b3 s3 f3 ∗ ch c b4 s4 f4)

section Out
variable (c : Dev nD) (𝒱₀ : Variants) (N0 N1 N2 : Vec F S6x256x1536 .f32) (N3 : Vec F S6x256x1536 .fp8e4m3) (N4 : Vec F S6x1536x256 .fp8e4m3)

/-- What the results' transfers deliver. -/
def dOut (t : ℕ) : ℕ → sProp 𝕄
  | 0 => iprop(ch c main_v0_0 (chS t) N0 ∗ ch c cc0_scratch0 (chS t) N0)
  | 1 => iprop(ch c main_v0_1 (chS t) N1 ∗ ch c cc0_scratch2 (chS t) N1)
  | 2 => iprop(ch c main_v0_2 (chS t) N2 ∗ ch c cc0_scratch3 (chS t) N2)
  | 3 => iprop(ch c main_v0_4 (chS t) N3 ∗ ch c cc0_scratch4 (chS t) N3)
  | _ => iprop(ch c main_v0_6 (ctS t) N4 ∗ ch c cc0_scratch5 (ctS t) N4)
def D60 (x : Fin 60) : sProp 𝕄 := dOut c N0 N1 N2 N3 N4 (x.val / 5) (x.val % 5)
instance (t i : ℕ) : Storable (upEmb : UEmb _ 𝕄) (dOut c N0 N1 N2 N3 N4 t i) := by
  unfold dOut; split <;> infer_instance
instance (x : Fin 60) : Storable (upEmb : UEmb _ 𝕄) (D60 c N0 N1 N2 N3 N4 x) := by
  unfold D60; infer_instance
theorem D60_at (t i : ℕ) (hi : i < 5) (h : 5 * t + i < 60) : D60 c N0 N1 N2 N3 N4 ⟨5 * t + i, h⟩ = dOut c N0 N1 N2 N3 N4 t i := by
  show dOut c N0 N1 N2 N3 N4 ((5 * t + i) / 5) ((5 * t + i) % 5) = _
  rw [show (5 * t + i) / 5 = t by omega, show (5 * t + i) % 5 = i by omega]
/-- What each pays. -/
def A60 (x : Fin 60) : ℕ := if x.val % 5 < 3 then aF else aC
theorem A60_pos : ∀ x, 0 < A60 x := by decide
theorem A60_at (t i : ℕ) (hi : i < 5) (h : 5 * t + i < 60) : A60 ⟨5 * t + i, h⟩ = if i < 3 then aF else aC := by
  show (if (5 * t + i) % 5 < 3 then aF else aC) = _
  rw [show (5 * t + i) % 5 = i by omega]
theorem sum55 : Transfers.sumTo A60 55 = 946176 := by decide +kernel
theorem sum60 : Transfers.sumTo A60 60 = 1032192 := by decide +kernel

/-- The semaphore with `j` transfers issued and `u` waited for. -/
abbrev mb (j u : ℕ) : sProp 𝕄 := Transfers.MixedBatch EC (c : Thread nD τ) (.dma sO) () A60 (D60 c N0 N1 N2 N3 N4) j u

/-- Transfer 0 of a chunk. -/
theorem out0 {α : Type} {Q : α → sProp 𝕄} {k : PUnit → Prog (TpuEff nD τ sig (Elt F) Λ₀ .tc) α} {t : ℕ} {off : Fin 3 → ℕ} {inb inb' : ∀ a, off a + S1x128x1536.size a ≤ S6x256x1536.size a}
    (ho : off = ![t / 2, t % 2 * 128, 0]) (fd : Vec F S6x256x1536 .f32) (u : ℕ) (hj : 5 * t + 0 < 60) (hu : u ≤ Transfers.sumTo A60 (5 * t + 0)) {h1 h2 h3} :
    iprop(ch c cc0_scratch0 (chS t) N0 ∗ ch c main_v0_0 (chS t) fd ∗ mb c N0 N1 N2 N3 N4 (5 * t + 0) u)
      ⊢ iprop((mb c N0 N1 N2 N3 N4 (5 * t + 0 + 1) u -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (((Memref.whole cc0_scratch0).slice (Rect.unit (s := S6x256x1536) off S1x128x1536.size inb) (fun _ => rfl)).squeeze S128x1536 squeezes_S1x128x1536_S128x1536)
            (.here (((Memref.whole main_v0_0).slice (Rect.unit (s := S6x256x1536) off S1x128x1536.size inb') (fun _ => rfl)).squeeze S128x1536 squeezes_S1x128x1536_S128x1536)) .same (.dma cc0_scratch17.sem) h1 h2 h3) k) Q) := by
  have e4 : iprop(ch c main_v0_0 (chS t) N0 ∗ ch c cc0_scratch0 (chS t) N0) ⊢ D60 c N0 N1 N2 N3 N4 ⟨5 * t + 0, hj⟩ := by
    rw [D60_at c N0 N1 N2 N3 N4 t 0 (by decide)]; unfold dOut; exact .rfl
  have h := ship (Q := Q) (k := k) (defs := defs₀ (F := F)) (src := ((Memref.whole cc0_scratch0).slice (Rect.unit (s := S6x256x1536) off S1x128x1536.size inb) (fun _ => rfl)).squeeze S128x1536 squeezes_S1x128x1536_S128x1536)
    (dst := ((Memref.whole main_v0_0).slice (Rect.unit (s := S6x256x1536) off S1x128x1536.size inb') (fun _ => rfl)).squeeze S128x1536 squeezes_S1x128x1536_S128x1536)
    EC 𝒱₀ (n := 60) (j := 5 * t + 0) (u := u) (q := fullShare) (fd := fd)
    (hsrc := ‹_›) (hdst := ‹_›) (hsem := ‹_›) (D := D60 c N0 N1 N2 N3 N4) (c : Thread nD τ) none (fs := N0) (f' := N0) () A60 hj (congrArg SemLoc.dma sO_eq)
    (wSet cc0_scratch0 (chSet ho)) (wSet main_v0_0 (chSet ho)) ((show _ = aF by rfl).trans (A60_at t 0 (by decide) hj).symm) hu (fun _ => rfl) e4
  exact h
/-- A wait for one. -/
theorem wait0 {α : Type} {Q : α → sProp 𝕄} {k : PUnit → Prog (TpuEff nD τ sig (Elt F) Λ₀ .tc) α} {off : Fin 3 → ℕ} {inb inb' : ∀ a, off a + S1x128x1536.size a ≤ S6x256x1536.size a}
    (j u : ℕ) (hu : u + aF ≤ Transfers.sumTo A60 j) {h1 h2} :
    iprop(mb c N0 N1 N2 N3 N4 j u ∗ (∃ W, owes (c : Thread nD τ) 0 W))
      ⊢ iprop((iprop(mb c N0 N1 N2 N3 N4 j (u + aF) ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch17.sem (((Memref.whole cc0_scratch0).slice (Rect.unit (s := S6x256x1536) off S1x128x1536.size inb) (fun _ => rfl)).squeeze S128x1536 squeezes_S1x128x1536_S128x1536)
            (((Memref.whole main_v0_0).slice (Rect.unit (s := S6x256x1536) off S1x128x1536.size inb') (fun _ => rfl)).squeeze S128x1536 squeezes_S1x128x1536_S128x1536) h1 h2) k) Q) := by
  have h := await (Q := Q) (k := k) (defs := defs₀ (F := F)) (srcw := ((Memref.whole cc0_scratch0).slice (Rect.unit (s := S6x256x1536) off S1x128x1536.size inb) (fun _ => rfl)).squeeze S128x1536 squeezes_S1x128x1536_S128x1536)
    (dstw := ((Memref.whole main_v0_0).slice (Rect.unit (s := S6x256x1536) off S1x128x1536.size inb') (fun _ => rfl)).squeeze S128x1536 squeezes_S1x128x1536_S128x1536)
    EC 𝒱₀ (n := 60) (j := j) (u := u) (A := A60) (D := D60 c N0 N1 N2 N3 N4)
    (hsrc := ‹_›) (hdst := ‹_›) (c : Thread nD τ) none () aF sO_eq (by rfl) hu
  exact h

/-- Transfer 1 of a chunk. -/
theorem out1 {α : Type} {Q : α → sProp 𝕄} {k : PUnit → Prog (TpuEff nD τ sig (Elt F) Λ₀ .tc) α} {t : ℕ} {off : Fin 3 → ℕ} {inb inb' : ∀ a, off a + S1x128x1536.size a ≤ S6x256x1536.size a}
    (ho : off = ![t / 2, t % 2 * 128, 0]) (fd : Vec F S6x256x1536 .f32) (u : ℕ) (hj : 5 * t + 1 < 60) (hu : u ≤ Transfers.sumTo A60 (5 * t + 1)) {h1 h2 h3} :
    iprop(ch c cc0_scratch2 (chS t) N1 ∗ ch c main_v0_1 (chS t) fd ∗ mb c N0 N1 N2 N3 N4 (5 * t + 1) u)
      ⊢ iprop((mb c N0 N1 N2 N3 N4 (5 * t + 1 + 1) u -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (((Memref.whole cc0_scratch2).slice (Rect.unit (s := S6x256x1536) off S1x128x1536.size inb) (fun _ => rfl)).squeeze S128x1536 squeezes_S1x128x1536_S128x1536)
            (.here (((Memref.whole main_v0_1).slice (Rect.unit (s := S6x256x1536) off S1x128x1536.size inb') (fun _ => rfl)).squeeze S128x1536 squeezes_S1x128x1536_S128x1536)) .same (.dma cc0_scratch17.sem) h1 h2 h3) k) Q) := by
  have e4 : iprop(ch c main_v0_1 (chS t) N1 ∗ ch c cc0_scratch2 (chS t) N1) ⊢ D60 c N0 N1 N2 N3 N4 ⟨5 * t + 1, hj⟩ := by
    rw [D60_at c N0 N1 N2 N3 N4 t 1 (by decide)]; unfold dOut; exact .rfl
  have h := ship (Q := Q) (k := k) (defs := defs₀ (F := F)) (src := ((Memref.whole cc0_scratch2).slice (Rect.unit (s := S6x256x1536) off S1x128x1536.size inb) (fun _ => rfl)).squeeze S128x1536 squeezes_S1x128x1536_S128x1536)
    (dst := ((Memref.whole main_v0_1).slice (Rect.unit (s := S6x256x1536) off S1x128x1536.size inb') (fun _ => rfl)).squeeze S128x1536 squeezes_S1x128x1536_S128x1536)
    EC 𝒱₀ (n := 60) (j := 5 * t + 1) (u := u) (q := fullShare) (fd := fd)
    (hsrc := ‹_›) (hdst := ‹_›) (hsem := ‹_›) (D := D60 c N0 N1 N2 N3 N4) (c : Thread nD τ) none (fs := N1) (f' := N1) () A60 hj (congrArg SemLoc.dma sO_eq)
    (wSet cc0_scratch2 (chSet ho)) (wSet main_v0_1 (chSet ho)) ((show _ = aF by rfl).trans (A60_at t 1 (by decide) hj).symm) hu (fun _ => rfl) e4
  exact h
/-- A wait for one. -/
theorem wait1 {α : Type} {Q : α → sProp 𝕄} {k : PUnit → Prog (TpuEff nD τ sig (Elt F) Λ₀ .tc) α} {off : Fin 3 → ℕ} {inb inb' : ∀ a, off a + S1x128x1536.size a ≤ S6x256x1536.size a}
    (j u : ℕ) (hu : u + aF ≤ Transfers.sumTo A60 j) {h1 h2} :
    iprop(mb c N0 N1 N2 N3 N4 j u ∗ (∃ W, owes (c : Thread nD τ) 0 W))
      ⊢ iprop((iprop(mb c N0 N1 N2 N3 N4 j (u + aF) ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch17.sem (((Memref.whole cc0_scratch2).slice (Rect.unit (s := S6x256x1536) off S1x128x1536.size inb) (fun _ => rfl)).squeeze S128x1536 squeezes_S1x128x1536_S128x1536)
            (((Memref.whole main_v0_1).slice (Rect.unit (s := S6x256x1536) off S1x128x1536.size inb') (fun _ => rfl)).squeeze S128x1536 squeezes_S1x128x1536_S128x1536) h1 h2) k) Q) := by
  have h := await (Q := Q) (k := k) (defs := defs₀ (F := F)) (srcw := ((Memref.whole cc0_scratch2).slice (Rect.unit (s := S6x256x1536) off S1x128x1536.size inb) (fun _ => rfl)).squeeze S128x1536 squeezes_S1x128x1536_S128x1536)
    (dstw := ((Memref.whole main_v0_1).slice (Rect.unit (s := S6x256x1536) off S1x128x1536.size inb') (fun _ => rfl)).squeeze S128x1536 squeezes_S1x128x1536_S128x1536)
    EC 𝒱₀ (n := 60) (j := j) (u := u) (A := A60) (D := D60 c N0 N1 N2 N3 N4)
    (hsrc := ‹_›) (hdst := ‹_›) (c : Thread nD τ) none () aF sO_eq (by rfl) hu
  exact h

/-- Transfer 2 of a chunk. -/
theorem out2 {α : Type} {Q : α → sProp 𝕄} {k : PUnit → Prog (TpuEff nD τ sig (Elt F) Λ₀ .tc) α} {t : ℕ} {off : Fin 3 → ℕ} {inb inb' : ∀ a, off a + S1x128x1536.size a ≤ S6x256x1536.size a}
    (ho : off = ![t / 2, t % 2 * 128, 0]) (fd : Vec F S6x256x1536 .f32) (u : ℕ) (hj : 5 * t + 2 < 60) (hu : u ≤ Transfers.sumTo A60 (5 * t + 2)) {h1 h2 h3} :
    iprop(ch c cc0_scratch3 (chS t) N2 ∗ ch c main_v0_2 (chS t) fd ∗ mb c N0 N1 N2 N3 N4 (5 * t + 2) u)
      ⊢ iprop((mb c N0 N1 N2 N3 N4 (5 * t + 2 + 1) u -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (((Memref.whole cc0_scratch3).slice (Rect.unit (s := S6x256x1536) off S1x128x1536.size inb) (fun _ => rfl)).squeeze S128x1536 squeezes_S1x128x1536_S128x1536)
            (.here (((Memref.whole main_v0_2).slice (Rect.unit (s := S6x256x1536) off S1x128x1536.size inb') (fun _ => rfl)).squeeze S128x1536 squeezes_S1x128x1536_S128x1536)) .same (.dma cc0_scratch17.sem) h1 h2 h3) k) Q) := by
  have e4 : iprop(ch c main_v0_2 (chS t) N2 ∗ ch c cc0_scratch3 (chS t) N2) ⊢ D60 c N0 N1 N2 N3 N4 ⟨5 * t + 2, hj⟩ := by
    rw [D60_at c N0 N1 N2 N3 N4 t 2 (by decide)]; unfold dOut; exact .rfl
  have h := ship (Q := Q) (k := k) (defs := defs₀ (F := F)) (src := ((Memref.whole cc0_scratch3).slice (Rect.unit (s := S6x256x1536) off S1x128x1536.size inb) (fun _ => rfl)).squeeze S128x1536 squeezes_S1x128x1536_S128x1536)
    (dst := ((Memref.whole main_v0_2).slice (Rect.unit (s := S6x256x1536) off S1x128x1536.size inb') (fun _ => rfl)).squeeze S128x1536 squeezes_S1x128x1536_S128x1536)
    EC 𝒱₀ (n := 60) (j := 5 * t + 2) (u := u) (q := fullShare) (fd := fd)
    (hsrc := ‹_›) (hdst := ‹_›) (hsem := ‹_›) (D := D60 c N0 N1 N2 N3 N4) (c : Thread nD τ) none (fs := N2) (f' := N2) () A60 hj (congrArg SemLoc.dma sO_eq)
    (wSet cc0_scratch3 (chSet ho)) (wSet main_v0_2 (chSet ho)) ((show _ = aF by rfl).trans (A60_at t 2 (by decide) hj).symm) hu (fun _ => rfl) e4
  exact h
/-- A wait for one. -/
theorem wait2 {α : Type} {Q : α → sProp 𝕄} {k : PUnit → Prog (TpuEff nD τ sig (Elt F) Λ₀ .tc) α} {off : Fin 3 → ℕ} {inb inb' : ∀ a, off a + S1x128x1536.size a ≤ S6x256x1536.size a}
    (j u : ℕ) (hu : u + aF ≤ Transfers.sumTo A60 j) {h1 h2} :
    iprop(mb c N0 N1 N2 N3 N4 j u ∗ (∃ W, owes (c : Thread nD τ) 0 W))
      ⊢ iprop((iprop(mb c N0 N1 N2 N3 N4 j (u + aF) ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch17.sem (((Memref.whole cc0_scratch3).slice (Rect.unit (s := S6x256x1536) off S1x128x1536.size inb) (fun _ => rfl)).squeeze S128x1536 squeezes_S1x128x1536_S128x1536)
            (((Memref.whole main_v0_2).slice (Rect.unit (s := S6x256x1536) off S1x128x1536.size inb') (fun _ => rfl)).squeeze S128x1536 squeezes_S1x128x1536_S128x1536) h1 h2) k) Q) := by
  have h := await (Q := Q) (k := k) (defs := defs₀ (F := F)) (srcw := ((Memref.whole cc0_scratch3).slice (Rect.unit (s := S6x256x1536) off S1x128x1536.size inb) (fun _ => rfl)).squeeze S128x1536 squeezes_S1x128x1536_S128x1536)
    (dstw := ((Memref.whole main_v0_2).slice (Rect.unit (s := S6x256x1536) off S1x128x1536.size inb') (fun _ => rfl)).squeeze S128x1536 squeezes_S1x128x1536_S128x1536)
    EC 𝒱₀ (n := 60) (j := j) (u := u) (A := A60) (D := D60 c N0 N1 N2 N3 N4)
    (hsrc := ‹_›) (hdst := ‹_›) (c : Thread nD τ) none () aF sO_eq (by rfl) hu
  exact h

/-- Transfer 3 of a chunk. -/
theorem out3 {α : Type} {Q : α → sProp 𝕄} {k : PUnit → Prog (TpuEff nD τ sig (Elt F) Λ₀ .tc) α} {t : ℕ} {off : Fin 3 → ℕ} {inb inb' : ∀ a, off a + S1x128x1536.size a ≤ S6x256x1536.size a}
    (ho : off = ![t / 2, t % 2 * 128, 0]) (fd : Vec F S6x256x1536 .fp8e4m3) (u : ℕ) (hj : 5 * t + 3 < 60) (hu : u ≤ Transfers.sumTo A60 (5 * t + 3)) {h1 h2 h3} :
    iprop(ch c cc0_scratch4 (chS t) N3 ∗ ch c main_v0_4 (chS t) fd ∗ mb c N0 N1 N2 N3 N4 (5 * t + 3) u)
      ⊢ iprop((mb c N0 N1 N2 N3 N4 (5 * t + 3 + 1) u -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (((Memref.whole cc0_scratch4).slice (Rect.unit (s := S6x256x1536) off S1x128x1536.size inb) (fun _ => rfl)).squeeze S128x1536 squeezes_S1x128x1536_S128x1536)
            (.here (((Memref.whole main_v0_4).slice (Rect.unit (s := S6x256x1536) off S1x128x1536.size inb') (fun _ => rfl)).squeeze S128x1536 squeezes_S1x128x1536_S128x1536)) .same (.dma cc0_scratch17.sem) h1 h2 h3) k) Q) := by
  have e4 : iprop(ch c main_v0_4 (chS t) N3 ∗ ch c cc0_scratch4 (chS t) N3) ⊢ D60 c N0 N1 N2 N3 N4 ⟨5 * t + 3, hj⟩ := by
    rw [D60_at c N0 N1 N2 N3 N4 t 3 (by decide)]; unfold dOut; exact .rfl
  have h := ship (Q := Q) (k := k) (defs := defs₀ (F := F)) (src := ((Memref.whole cc0_scratch4).slice (Rect.unit (s := S6x256x1536) off S1x128x1536.size inb) (fun _ => rfl)).squeeze S128x1536 squeezes_S1x128x1536_S128x1536)
    (dst := ((Memref.whole main_v0_4).slice (Rect.unit (s := S6x256x1536) off S1x128x1536.size inb') (fun _ => rfl)).squeeze S128x1536 squeezes_S1x128x1536_S128x1536)
    EC 𝒱₀ (n := 60) (j := 5 * t + 3) (u := u) (q := fullShare) (fd := fd)
    (hsrc := ‹_›) (hdst := ‹_›) (hsem := ‹_›) (D := D60 c N0 N1 N2 N3 N4) (c : Thread nD τ) none (fs := N3) (f' := N3) () A60 hj (congrArg SemLoc.dma sO_eq)
    (wSet cc0_scratch4 (chSet ho)) (wSet main_v0_4 (chSet ho)) ((show _ = aC by rfl).trans (A60_at t 3 (by decide) hj).symm) hu (fun _ => rfl) e4
  exact h
/-- A wait for one. -/
theorem wait3 {α : Type} {Q : α → sProp 𝕄} {k : PUnit → Prog (TpuEff nD τ sig (Elt F) Λ₀ .tc) α} {off : Fin 3 → ℕ} {inb inb' : ∀ a, off a + S1x128x1536.size a ≤ S6x256x1536.size a}
    (j u : ℕ) (hu : u + aC ≤ Transfers.sumTo A60 j) {h1 h2} :
    iprop(mb c N0 N1 N2 N3 N4 j u ∗ (∃ W, owes (c : Thread nD τ) 0 W))
      ⊢ iprop((iprop(mb c N0 N1 N2 N3 N4 j (u + aC) ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch17.sem (((Memref.whole cc0_scratch4).slice (Rect.unit (s := S6x256x1536) off S1x128x1536.size inb) (fun _ => rfl)).squeeze S128x1536 squeezes_S1x128x1536_S128x1536)
            (((Memref.whole main_v0_4).slice (Rect.unit (s := S6x256x1536) off S1x128x1536.size inb') (fun _ => rfl)).squeeze S128x1536 squeezes_S1x128x1536_S128x1536) h1 h2) k) Q) := by
  have h := await (Q := Q) (k := k) (defs := defs₀ (F := F)) (srcw := ((Memref.whole cc0_scratch4).slice (Rect.unit (s := S6x256x1536) off S1x128x1536.size inb) (fun _ => rfl)).squeeze S128x1536 squeezes_S1x128x1536_S128x1536)
    (dstw := ((Memref.whole main_v0_4).slice (Rect.unit (s := S6x256x1536) off S1x128x1536.size inb') (fun _ => rfl)).squeeze S128x1536 squeezes_S1x128x1536_S128x1536)
    EC 𝒱₀ (n := 60) (j := j) (u := u) (A := A60) (D := D60 c N0 N1 N2 N3 N4)
    (hsrc := ‹_›) (hdst := ‹_›) (c : Thread nD τ) none () aC sO_eq (by rfl) hu
  exact h

/-- Transfer 4 of a chunk. -/
theorem out4 {α : Type} {Q : α → sProp 𝕄} {k : PUnit → Prog (TpuEff nD τ sig (Elt F) Λ₀ .tc) α} {t : ℕ} {off : Fin 3 → ℕ} {inb inb' : ∀ a, off a + S1x1536x128.size a ≤ S6x1536x256.size a}
    (ho : off = ![t / 2, 0, t % 2 * 128]) (fd : Vec F S6x1536x256 .fp8e4m3) (u : ℕ) (hj : 5 * t + 4 < 60) (hu : u ≤ Transfers.sumTo A60 (5 * t + 4)) {h1 h2 h3} :
    iprop(ch c cc0_scratch5 (ctS t) N4 ∗ ch c main_v0_6 (ctS t) fd ∗ mb c N0 N1 N2 N3 N4 (5 * t + 4) u)
      ⊢ iprop((mb c N0 N1 N2 N3 N4 (5 * t + 4 + 1) u -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (((Memref.whole cc0_scratch5).slice (Rect.unit (s := S6x1536x256) off S1x1536x128.size inb) (fun _ => rfl)).squeeze S1536x128 squeezes_S1x1536x128_S1536x128)
            (.here (((Memref.whole main_v0_6).slice (Rect.unit (s := S6x1536x256) off S1x1536x128.size inb') (fun _ => rfl)).squeeze S1536x128 squeezes_S1x1536x128_S1536x128)) .same (.dma cc0_scratch17.sem) h1 h2 h3) k) Q) := by
  have e4 : iprop(ch c main_v0_6 (ctS t) N4 ∗ ch c cc0_scratch5 (ctS t) N4) ⊢ D60 c N0 N1 N2 N3 N4 ⟨5 * t + 4, hj⟩ := by
    rw [D60_at c N0 N1 N2 N3 N4 t 4 (by decide)]; unfold dOut; exact .rfl
  have h := ship (Q := Q) (k := k) (defs := defs₀ (F := F)) (src := ((Memref.whole cc0_scratch5).slice (Rect.unit (s := S6x1536x256) off S1x1536x128.size inb) (fun _ => rfl)).squeeze S1536x128 squeezes_S1x1536x128_S1536x128)
    (dst := ((Memref.whole main_v0_6).slice (Rect.unit (s := S6x1536x256) off S1x1536x128.size inb') (fun _ => rfl)).squeeze S1536x128 squeezes_S1x1536x128_S1536x128)
    EC 𝒱₀ (n := 60) (j := 5 * t + 4) (u := u) (q := fullShare) (fd := fd)
    (hsrc := ‹_›) (hdst := ‹_›) (hsem := ‹_›) (D := D60 c N0 N1 N2 N3 N4) (c : Thread nD τ) none (fs := N4) (f' := N4) () A60 hj (congrArg SemLoc.dma sO_eq)
    (wSet cc0_scratch5 (ctSet ho)) (wSet main_v0_6 (ctSet ho)) ((show _ = aC by rfl).trans (A60_at t 4 (by decide) hj).symm) hu (fun _ => rfl) e4
  exact h
/-- A wait for one. -/
theorem wait4 {α : Type} {Q : α → sProp 𝕄} {k : PUnit → Prog (TpuEff nD τ sig (Elt F) Λ₀ .tc) α} {off : Fin 3 → ℕ} {inb inb' : ∀ a, off a + S1x1536x128.size a ≤ S6x1536x256.size a}
    (j u : ℕ) (hu : u + aC ≤ Transfers.sumTo A60 j) {h1 h2} :
    iprop(mb c N0 N1 N2 N3 N4 j u ∗ (∃ W, owes (c : Thread nD τ) 0 W))
      ⊢ iprop((iprop(mb c N0 N1 N2 N3 N4 j (u + aC) ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch17.sem (((Memref.whole cc0_scratch5).slice (Rect.unit (s := S6x1536x256) off S1x1536x128.size inb) (fun _ => rfl)).squeeze S1536x128 squeezes_S1x1536x128_S1536x128)
            (((Memref.whole main_v0_6).slice (Rect.unit (s := S6x1536x256) off S1x1536x128.size inb') (fun _ => rfl)).squeeze S1536x128 squeezes_S1x1536x128_S1536x128) h1 h2) k) Q) := by
  have h := await (Q := Q) (k := k) (defs := defs₀ (F := F)) (srcw := ((Memref.whole cc0_scratch5).slice (Rect.unit (s := S6x1536x256) off S1x1536x128.size inb) (fun _ => rfl)).squeeze S1536x128 squeezes_S1x1536x128_S1536x128)
    (dstw := ((Memref.whole main_v0_6).slice (Rect.unit (s := S6x1536x256) off S1x1536x128.size inb') (fun _ => rfl)).squeeze S1536x128 squeezes_S1x1536x128_S1536x128)
    EC 𝒱₀ (n := 60) (j := j) (u := u) (A := A60) (D := D60 c N0 N1 N2 N3 N4)
    (hsrc := ‹_›) (hdst := ‹_›) (c : Thread nD τ) none () aC sO_eq (by rfl) hu
  exact h
end Out

end Cert.Proof.K
-- ==== Proof.KChunk.lean ====
/-
  One chunk: its transfers in awaited, its blocks computed, and the previous chunk's transfers out issued.
-/
module

public import proofs.«01_k».proof.Proof.KOut
public import Idealize.ShloMosaic.Lib.Pipeline.FrameBody

@[expose] public section

set_option maxRecDepth 65536

noncomputable section

namespace Cert.Proof.K

open Cert.Kernel Cert.Kernel.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

theorem fin3sep (Φ : Fin 3 → sProp 𝕄) : bigSep Finset.univ Φ = iprop(Φ 0 ∗ Φ 1 ∗ Φ 2) := by
  rw [show (Finset.univ : Finset (Fin 3)) = insert 0 (insert 1 {2}) by decide, bigSep_insert (by decide), bigSep_insert (by decide), bigSep_singleton]
  rfl

/-- A program from what it leaves to what is wanted of it. -/
theorem wp_then {α : Type} (c : Dev nD) (𝒱₀ : Variants) {P : sProp 𝕄} {a : Prog (TpuEff nD τ sig (Elt F) Λ₀ .tc) α} {R Q : α → sProp 𝕄} (h : P ⊢ wp frame (wpE (defs₀ (F := F)) 𝒱₀ (c : Thread nD τ) none) Set.univ a R) :
    P ⊢ iprop((∀ x, R x -∗ Q x) -∗ wp frame (wpE (defs₀ (F := F)) 𝒱₀ (c : Thread nD τ) none) Set.univ a Q) := by
  iintro HP HK
  iapply (wp_wand_r frame (wpE (defs₀ (F := F)) 𝒱₀ (c : Thread nD τ) none) Set.univ)
  isplitl [HP]
  · iapply h; iexact HP
  · iexact HK

section Chunk
variable (c : Dev nD) (𝒱₀ : Variants) (N0 N1 N2 : Vec F S6x256x1536 .f32) (N3 : Vec F S6x256x1536 .fp8e4m3) (N4 : Vec F S6x1536x256 .fp8e4m3)

/-- A chunk of the five results, -/
abbrev outs (t : ℕ) (O0 O1 O2 : Vec F S6x256x1536 .f32) (O3 : Vec F S6x256x1536 .fp8e4m3) (O4 : Vec F S6x1536x256 .fp8e4m3) : sProp 𝕄 :=
  iprop(ch c main_v0_0 (chS t) O0 ∗ ch c main_v0_1 (chS t) O1 ∗ ch c main_v0_2 (chS t) O2 ∗ ch c main_v0_4 (chS t) O3 ∗ ch c main_v0_6 (ctS t) O4)
/-- and of the five buffers they come from. -/
abbrev scrs (t : ℕ) (O0 O1 O2 : Vec F S6x256x1536 .f32) (O3 : Vec F S6x256x1536 .fp8e4m3) (O4 : Vec F S6x1536x256 .fp8e4m3) : sProp 𝕄 :=
  iprop(ch c cc0_scratch0 (chS t) O0 ∗ ch c cc0_scratch2 (chS t) O1 ∗ ch c cc0_scratch3 (chS t) O2 ∗ ch c cc0_scratch4 (chS t) O3 ∗ ch c cc0_scratch5 (ctS t) O4)

theorem part8 (t : Fin k0_t6_loop.trips) (x : BitVec 32) (h : k0_cond1 t = 1#1) (O0 : Vec F S6x256x1536 .f32) :
    iprop(ch c cc0_scratch0 (chS (t.val - 1)) N0 ∗ ch c main_v0_0 (chS (t.val - 1)) O0 ∗ mb c N0 N1 N2 N3 N4 (5 * (t.val - 1)) 0)
      ⊢ wp frame (wpE (defs₀ (F := F)) 𝒱₀ (c : Thread nD τ) none) Set.univ (k0_part8 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t x h) (fun _ => mb c N0 N1 N2 N3 N4 (5 * (t.val - 1) + 1) 0) := by
  have ht : t.val < 12 := lt_of_lt_of_eq t.isLt trips6
  rw [k0_part8_eq_skeleton]
  unfold k0_part8_skel
  iintro HH
  iapply (out0 c 𝒱₀ N0 N1 N2 N3 N4 (t := t.val - 1) (off33_eq' t h) O0 0 (by omega) (Nat.zero_le _)) $$ HH
  iintro HB
  rw [ret_bind']
  sl_step
  iexact HB

section Vals
variable (κ : FVec F S8x128 .f32) (Cf : Vec F S6x3x8x128 .f32) (G : Vec F S6x256x1536 .bf16) (W M V : Vec F S6x256x1536 .f32) (v24 : IVec S1x128 32)

/-- A load of a matrix's coefficient. -/
theorem ldC {α : Type} {Q : α → sProp 𝕄} {a j : ℕ} {off : Fin 4 → ℕ} {inb : ∀ i, off i + S1x1x8x128.size i ≤ S6x3x8x128.size i} (ho : off = ![a, j, 0, 0])
    {hl : (Memref.whole cc0_scratch7 : Memref sig .tc _ _ _).view.LoadsAt (Rect.unit (s := S6x3x8x128) off S1x1x8x128.size inb).toLoadRect}
    {k : Vec F S1x1x8x128 .f32 → Prog (TpuEff nD τ sig (Elt F) Λ₀ .tc) α} :
    ch c cc0_scratch7 Finset.univ Cf
      ⊢ iprop((ch c cc0_scratch7 Finset.univ Cf -∗ wp frame (wpE (defs₀ (F := F)) 𝒱₀ (c : Thread nD τ) none) Set.univ (k (cAt Cf a j)) Q)
        -∗ wp frame (wpE (defs₀ (F := F)) 𝒱₀ (c : Thread nD τ) none) Set.univ (.op (.load (Memref.whole cc0_scratch7) (Rect.unit (s := S6x3x8x128) off S1x1x8x128.size inb).toLoadRect hl) k) Q) := by
  subst ho
  rw [← win_c Cf inb]
  exact ld 𝒱₀ c none rfl (Finset.subset_univ _)

/-- A chunk's blocks before the first, -/
theorem blocks_start (t : ℕ) (C : Vec F S6x256x1536 .fp8e4m3) (T : Vec F S6x1536x256 .fp8e4m3) (p d r : FVec F S8x128 .f32) :
    iprop(ch c cc0_scratch1 Finset.univ G ∗ scrs c t W M V C T) ⊢ (blocks c κ p d r G M V W C T t 0 : sProp 𝕄) := by
  unfold blocks strips
  rw [part00, part00, part00, part00, partT0]
  iintro ⟨HG, H0, H2, H3, H4, H5⟩
  isplitr [H4 H5]
  · isplitl [HG]; · iexact HG
    isplitl [H2]; · iexact H2
    isplitl [H3]; · iexact H3
    iexact H0
  isplitl [H4]; · iexact H4
  iexact H5
/-- and after the last. -/
theorem blocks_end (t : ℕ) (C : Vec F S6x256x1536 .fp8e4m3) (T : Vec F S6x1536x256 .fp8e4m3) :
    (blocks c κ (k0_pay49 (cAt Cf (t / 2) 0)) (k0_pay50 (cAt Cf (t / 2) 1)) (k0_pay51 (cAt Cf (t / 2) 2)) G M V W C T t 12 : sProp 𝕄)
      ⊢ iprop(ch c cc0_scratch1 Finset.univ G ∗ scrs c t (wG κ Cf G W M V) (newM κ G M) (newV κ G V) (cG κ Cf G W M V) (tG κ Cf G W M V)) := by
  unfold blocks strips
  rw [part12, part12, part12, part12, partT12]
  have e0 : ((c : Thread nD τ).loc cc0_scratch0 ↦[chS t]{fullShare} wT κ Cf G W M V t : sProp 𝕄) ⊢ ch c cc0_scratch0 (chS t) (wG κ Cf G W M V) :=
    (pointsTo_congr fun y hy => w_ch κ Cf G W M V hy).le
  have e4 : ((c : Thread nD τ).loc cc0_scratch4 ↦[chS t]{fullShare} newC (wT κ Cf G W M V t) t : sProp 𝕄) ⊢ ch c cc0_scratch4 (chS t) (cG κ Cf G W M V) :=
    (pointsTo_congr fun y hy => c_ch κ Cf G W M V hy).le
  have e5 : ((c : Thread nD τ).loc cc0_scratch5 ↦[ctS t]{fullShare} newT (wT κ Cf G W M V t) t : sProp 𝕄) ⊢ ch c cc0_scratch5 (ctS t) (tG κ Cf G W M V) :=
    (pointsTo_congr fun y hy => t_ct κ Cf G W M V hy).le
  iintro ⟨⟨HG, H2, H3, H0⟩, H4, H5⟩
  isplitl [HG]; · iexact HG
  isplitl [H0]; · iapply e0; iexact H0
  isplitl [H2]; · iexact H2
  isplitl [H3]; · iexact H3
  isplitl [H4]; · iapply e4; iexact H4
  iapply e5; iexact H5

/-- The blocks of a chunk. -/
theorem loop7 (p d r : Vec F S1x1x8x128 .f32) (C : Vec F S6x256x1536 .fp8e4m3) (T : Vec F S6x1536x256 .fp8e4m3) (t : Fin k0_t6_loop.trips) (a b v83 v125 : BitVec 32) :
    blocks c κ (k0_pay49 p) (k0_pay50 d) (k0_pay51 r) G M V W C T t.val 0
      ⊢ wp frame (wpE (defs₀ (F := F)) 𝒱₀ (c : Thread nD τ) none) Set.univ (Scf.Loop.for k0_t7_loop k0_t7_ok (k0_pay52 (F := F)) (k0_t7_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 κ v24 a b t v83 p d r v125))
          (fun x => iprop(⌜x = rowN (newW κ (k0_pay49 p) (k0_pay50 d) (k0_pay51 r) G M V W) t.val v24 12⌝ ∗ blocks c κ (k0_pay49 p) (k0_pay50 d) (k0_pay51 r) G M V W C T t.val 12)) := by
  iintro HS
  iapply (Scf.wp_for (M := 𝕄) frame (wpE (defs₀ (F := F)) 𝒱₀ (c : Thread nD τ) none) Set.univ _ _ _ k0_t7_ok _ _
    (fun n x => iprop(⌜x = rowN (newW κ (k0_pay49 p) (k0_pay50 d) (k0_pay51 r) G M V W) t.val v24 n⌝ ∗ blocks c κ (k0_pay49 p) (k0_pay50 d) (k0_pay51 r) G M V W C T t.val n)) ?_) $$ [HS]
  · intro u x
    iintro ⟨%h, HS⟩
    subst h
    iapply (trip7 𝒱₀ c κ p d r v24 _ G M V W C T t u a b v83 v125) $$ HS
  isplitl [HS]
  · isplitr
    · ipureintro; rfl
    · iexact HS
  iintro %x HS
  iexact HS

/-- A chunk's first wait. -/
theorem part9 (t : Fin k0_t6_loop.trips) (a b : BitVec 32) :
    iprop(flyIn c W M V ⟨t.val, lt_of_lt_of_eq t.isLt trips6⟩ ∗ (∃ W', owes (c : Thread nD τ) 0 W'))
      ⊢ wp frame (wpE (defs₀ (F := F)) 𝒱₀ (c : Thread nD τ) none) Set.univ (k0_part9 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 a b t) (fun _ => iprop(Transfers.MixedBatch EC (c : Thread nD τ) (.dma (semI ⟨t.val, lt_of_lt_of_eq t.isLt trips6⟩)) () (fun _ => aF) (dIn c W M V ⟨t.val, lt_of_lt_of_eq t.isLt trips6⟩) 3 (0 + aF)
        ∗ (∃ W', owes (c : Thread nD τ) 0 W'))) := by
  rw [k0_part9_eq_skeleton]
  unfold k0_part9_skel flyIn
  iintro HH
  iapply (await EC 𝒱₀ (n := 3) (j := 3) (u := 0) (A := fun _ => aF) (D := dIn c W M V ⟨t.val, lt_of_lt_of_eq t.isLt trips6⟩) (c : Thread nD τ) none () aF (sem23 t) (by rfl) (by decide)) $$ HH
  iintro HH
  rw [ret_bind']
  sl_step
  iexact HH

variable (O0 O1 O2 : Vec F S6x256x1536 .f32) (O3 C : Vec F S6x256x1536 .fp8e4m3) (O4 T : Vec F S6x1536x256 .fp8e4m3) (S0 : Vec F S6x2x12 .f32)

/-- The results' semaphore at the kernel's values. -/
abbrev mbK (j u : ℕ) : sProp 𝕄 := mb c (wG κ Cf G W M V) (newM κ G M) (newV κ G V) (cG κ Cf G W M V) (tG κ Cf G W M V) j u
/-- The chunk computed last, its transfers out not yet issued. -/
def pend : ℕ → sProp 𝕄
  | 0 => iprop(emp)
  | t + 1 => iprop(outs c t O0 O1 O2 O3 O4 ∗ scrs c t (wG κ Cf G W M V) (newM κ G M) (newV κ G V) (cG κ Cf G W M V) (tG κ Cf G W M V))
/-- What is carried from chunk to chunk, -/
def carry (t : ℕ) : sProp 𝕄 :=
  iprop(mbK c κ Cf G W M V (5 * (t - 1)) 0 ∗ pend c κ Cf G W M V O0 O1 O2 O3 O4 t ∗ ch c cc0_scratch1 Finset.univ G ∗ ch c cc0_scratch7 Finset.univ Cf
    ∗ ch c cc0_scratch6 Finset.univ (scN κ Cf G W M V S0 v24 t) ∗ (∃ W', owes (c : Thread nD τ) 0 W'))
/-- what a chunk takes, -/
def takes (t : Fin 12) : sProp 𝕄 :=
  iprop(flyIn c W M V t ∗ outs c t O0 O1 O2 O3 O4 ∗ ch c cc0_scratch4 (chS t) C ∗ ch c cc0_scratch5 (ctS t) T)
/-- and what it leaves. -/
def leaves (t : Fin 12) : sProp 𝕄 :=
  iprop(semVal ((c : Thread nD τ), .dma (semI t)) 0 ∗ ch c main_arg0 (chS t) W ∗ ch c main_arg2 (chS t) M ∗ ch c main_arg3 (chS t) V)

theorem sumF : 0 + aF + aF + aF = Transfers.sumTo (fun _ : Fin 3 => aF) 3 := by decide +kernel

set_option maxHeartbeats 3200000 in
/-- One chunk. -/
theorem trip6 (t : Fin k0_t6_loop.trips) (x : Unit) :
    iprop(carry c κ Cf G W M V v24 O0 O1 O2 O3 O4 S0 t.val ∗ takes c W M V O0 O1 O2 O3 C O4 T ⟨t.val, lt_of_lt_of_eq t.isLt trips6⟩)
      ⊢ wp frame (wpE (defs₀ (F := F)) 𝒱₀ (c : Thread nD τ) none) Set.univ (k0_t6_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 κ v24 0#32 1#32 t x)
          (fun _ => iprop(carry c κ Cf G W M V v24 O0 O1 O2 O3 O4 S0 (t.val + 1) ∗ leaves c W M V ⟨t.val, lt_of_lt_of_eq t.isLt trips6⟩)) := by
  have ht : t.val < 12 := lt_of_lt_of_eq t.isLt trips6
  unfold carry takes leaves k0_t6_body
  iintro ⟨⟨HMB, HP, HG, HCf, HSc, HO⟩, HF, HOut, HC, HT⟩
  iapply (wp_seq 𝒱₀ c none (part9 c 𝒱₀ W M V t 0#32 1#32)) $$ [HF HO]
  · isplitl [HF]; · iexact HF
    iexact HO
  iintro %y HH
  obtain ⟨y1, y2, y3⟩ := y
  dsimp only
  iapply (await EC 𝒱₀ (n := 3) (j := 3) (u := 0 + aF) (A := fun _ => aF) (D := dIn c W M V ⟨t.val, lt_of_lt_of_eq t.isLt trips6⟩) (c : Thread nD τ) none () aF (sem23 t) (by rfl) (by decide)) $$ HH
  iintro HH
  rw [ret_bind']
  iapply (awaitAll EC 𝒱₀ (n := 3) (u := 0 + aF + aF) (A := fun _ => aF) (D := dIn c W M V ⟨t.val, lt_of_lt_of_eq t.isLt trips6⟩) (c : Thread nD τ) none () aF (sem23 t) (by rfl) (fun _ => by decide) sumF) $$ HH
  iintro ⟨HD, HS, HO⟩
  rw [ret_bind']
  ihave HD' := (show bigSep Finset.univ (dIn c W M V ⟨t.val, lt_of_lt_of_eq t.isLt trips6⟩) ⊢ iprop((ch c cc0_scratch0 (chS t.val) W ∗ ch c main_arg0 (chS t.val) W)
      ∗ (ch c cc0_scratch2 (chS t.val) M ∗ ch c main_arg2 (chS t.val) M) ∗ (ch c cc0_scratch3 (chS t.val) V ∗ ch c main_arg3 (chS t.val) V)) from (fin3sep _).le) $$ HD
  icases HD' with ⟨⟨H0, A0⟩, ⟨H2, A2⟩, H3, A3⟩
  iapply (ldC c 𝒱₀ Cf (off25_eq t)) $$ HCf
  iintro HCf
  rw [ret_bind']
  iapply (ldC c 𝒱₀ Cf (off26_eq t)) $$ HCf
  iintro HCf
  rw [ret_bind']
  iapply (ldC c 𝒱₀ Cf (off27_eq t)) $$ HCf
  iintro HCf
  rw [ret_bind']
  ihave HBl := (blocks_start c κ G W M V t.val C T (k0_pay49 (cAt Cf (t.val / 2) 0)) (k0_pay50 (cAt Cf (t.val / 2) 1)) (k0_pay51 (cAt Cf (t.val / 2) 2))) $$ [HG H0 H2 H3 HC HT]
  · isplitl [HG]; · iexact HG
    isplitl [H0]; · iexact H0
    isplitl [H2]; · iexact H2
    isplitl [H3]; · iexact H3
    isplitl [HC]; · iexact HC
    iexact HT
  iapply (wp_seq 𝒱₀ c none (loop7 c 𝒱₀ κ G W M V v24 (cAt Cf (t.val / 2) 0) (cAt Cf (t.val / 2) 1) (cAt Cf (t.val / 2) 2) C T t 0#32 1#32 y2 (Scalar.muli y3 128#32))) $$ HBl
  iintro %row ⟨%hrow, HBl⟩
  subst hrow
  ihave HBl' := (blocks_end c κ Cf G W M V t.val C T) $$ HBl
  icases HBl' with ⟨HG, HScr⟩
  iapply (ld 𝒱₀ c none (off32_eq t) (Finset.subset_univ _)) $$ HSc
  iintro HSc
  rw [ret_bind']
  iapply (st 𝒱₀ c none (off32_eq t) (Finset.subset_univ _)) $$ HSc
  iintro HSc
  rw [ret_bind']
  iapply (wp_then c 𝒱₀ (P := iprop(mbK c κ Cf G W M V (5 * (t.val - 1)) 0 ∗ pend c κ Cf G W M V O0 O1 O2 O3 O4 t.val)) (R := fun _ => mbK c κ Cf G W M V (5 * (t.val + 1 - 1)) 0) ?_) $$ [HMB HP]
  · by_cases hc : k0_cond1 t = 1#1
    · have h0 : 0 < t.val := (cond1_iff t).1 hc
      rw [dif_pos hc]
      obtain ⟨j, hj⟩ : ∃ j, t.val = j + 1 := ⟨t.val - 1, by omega⟩
      have hj' : t.val - 1 = j := by omega
      rw [show pend c κ Cf G W M V O0 O1 O2 O3 O4 t.val = iprop(outs c (t.val - 1) O0 O1 O2 O3 O4 ∗ scrs c (t.val - 1) (wG κ Cf G W M V) (newM κ G M) (newV κ G V) (cG κ Cf G W M V) (tG κ Cf G W M V)) by rw [hj', hj]; rfl,
        show 5 * (t.val + 1 - 1) = 5 * (t.val - 1) + 5 by omega]
      iintro ⟨HMB, ⟨P0, P1, P2, P3, P4⟩, Q0, Q1, Q2, Q3, Q4⟩
      iapply (wp_seq 𝒱₀ c none (part8 c 𝒱₀ (wG κ Cf G W M V) (newM κ G M) (newV κ G V) (cG κ Cf G W M V) (tG κ Cf G W M V) t y1 hc O0)) $$ [P0 Q0 HMB]
      · isplitl [Q0]; · iexact Q0
        isplitl [P0]; · iexact P0
        iexact HMB
      iintro %z HMB
      iapply (out1 c 𝒱₀ (wG κ Cf G W M V) (newM κ G M) (newV κ G V) (cG κ Cf G W M V) (tG κ Cf G W M V) (t := t.val - 1) (off33_eq' t hc) O1 0 (by omega) (Nat.zero_le _)) $$ [P1 Q1 HMB]
      · isplitl [Q1]; · iexact Q1
        isplitl [P1]; · iexact P1
        iexact HMB
      iintro HMB
      rw [ret_bind']
      iapply (out2 c 𝒱₀ (wG κ Cf G W M V) (newM κ G M) (newV κ G V) (cG κ Cf G W M V) (tG κ Cf G W M V) (t := t.val - 1) (off33_eq' t hc) O2 0 (by omega) (Nat.zero_le _)) $$ [P2 Q2 HMB]
      · isplitl [Q2]; · iexact Q2
        isplitl [P2]; · iexact P2
        iexact HMB
      iintro HMB
      rw [ret_bind']
      iapply (out3 c 𝒱₀ (wG κ Cf G W M V) (newM κ G M) (newV κ G V) (cG κ Cf G W M V) (tG κ Cf G W M V) (t := t.val - 1) (off33_eq' t hc) O3 0 (by omega) (Nat.zero_le _)) $$ [P3 Q3 HMB]
      · isplitl [Q3]; · iexact Q3
        isplitl [P3]; · iexact P3
        iexact HMB
      iintro HMB
      rw [ret_bind']
      iapply (out4 c 𝒱₀ (wG κ Cf G W M V) (newM κ G M) (newV κ G V) (cG κ Cf G W M V) (tG κ Cf G W M V) (t := t.val - 1) (off34_eq t hc) O4 0 (by omega) (Nat.zero_le _)) $$ [P4 Q4 HMB]
      · isplitl [Q4]; · iexact Q4
        isplitl [P4]; · iexact P4
        iexact HMB
      iintro HMB
      rw [ret_bind']
      sl_step
      iexact HMB
    · have h0 : t.val = 0 := by
        have := mt (cond1_iff t).2 hc
        omega
      rw [dif_neg hc]
      iintro ⟨HMB, -⟩
      sl_step
      rw [h0]
      iexact HMB
  · isplitl [HMB]; · iexact HMB
    iexact HP
  iintro %z HMB
  isplitr [HS A0 A2 A3]
  · isplitl [HMB]; · iexact HMB
    isplitl [HOut HScr]
    · iapply (show iprop(outs c t.val O0 O1 O2 O3 O4 ∗ scrs c t.val (wG κ Cf G W M V) (newM κ G M) (newV κ G V) (cG κ Cf G W M V) (tG κ Cf G W M V))
        ⊢ pend c κ Cf G W M V O0 O1 O2 O3 O4 (t.val + 1) from .rfl)
      isplitl [HOut]; · iexact HOut
      iexact HScr
    isplitl [HG]; · iexact HG
    isplitl [HCf]; · iexact HCf
    isplitl [HSc]; · iexact HSc
    iexact HO
  isplitl [HS]; · iexact HS
  isplitl [A0]; · iexact A0
  isplitl [A2]; · iexact A2
  iexact A3

/-- Every chunk. -/
theorem loop6 :
    iprop(carry c κ Cf G W M V v24 O0 O1 O2 O3 O4 S0 0 ∗ bigSep Finset.univ (takes c W M V O0 O1 O2 O3 C O4 T))
      ⊢ wp frame (wpE (defs₀ (F := F)) 𝒱₀ (c : Thread nD τ) none) Set.univ (Scf.Loop.for k0_t6_loop k0_t6_ok ⟨⟩ (k0_t6_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 κ v24 0#32 1#32))
          (fun _ => iprop(carry c κ Cf G W M V v24 O0 O1 O2 O3 O4 S0 12 ∗ bigSep Finset.univ (leaves c W M V))) :=
  for_each 𝒱₀ c none k0_t6_loop k0_t6_ok trips6 (takes c W M V O0 O1 O2 O3 C O4 T) (leaves c W M V) (fun h _ => carry c κ Cf G W M V v24 O0 O1 O2 O3 O4 S0 h) ⟨⟩ _
    (fun t x => trip6 c 𝒱₀ κ Cf G W M V v24 O0 O1 O2 O3 C O4 T S0 t x)
end Vals
end Chunk

end Cert.Proof.K
-- ==== Proof.KTail.lean ====
/-
  The last parts, and the program whole.
-/
module

public import proofs.«01_k».proof.Proof.KChunk
public import Idealize.ShloMosaic.Lib.Pipeline.FrameBody

@[expose] public section

set_option maxRecDepth 65536

noncomputable section

namespace Cert.Proof.K

open Cert.Kernel Cert.Kernel.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

theorem fin5sep (Φ : Fin 5 → sProp 𝕄) : bigSep Finset.univ Φ = iprop(Φ 0 ∗ Φ 1 ∗ Φ 2 ∗ Φ 3 ∗ Φ 4) := by
  rw [show (Finset.univ : Finset (Fin 5)) = insert 0 (insert 1 (insert 2 (insert 3 {4}))) by decide, bigSep_insert (by decide), bigSep_insert (by decide), bigSep_insert (by decide), bigSep_insert (by decide), bigSep_singleton]
  rfl

theorem chS_dis : ∀ a b : Fin 12, a ≠ b → Disjoint (chS a.val) (chS b.val) := by
  intro a b h
  refine Finset.disjoint_left.2 fun y hy hy' => h (Fin.ext ?_)
  rw [← tOf_ch hy, ← tOf_ch hy']
theorem ctS_dis : ∀ a b : Fin 12, a ≠ b → Disjoint (ctS a.val) (ctS b.val) := by
  intro a b h
  refine Finset.disjoint_left.2 fun y hy hy' => h (Fin.ext ?_)
  rw [← tOf_ct hy, ← tOf_ct hy']
theorem gmS_dis : ∀ a b : Fin 6, a ≠ b → Disjoint (gmS a.val) (gmS b.val) := by
  intro a b h
  refine Finset.disjoint_left.2 fun y hy hy' => h (Fin.ext ?_)
  rw [← mem_gmS.1 hy, ← mem_gmS.1 hy']
theorem chS_cov : Finset.univ.biUnion (fun t : Fin 12 => chS t.val) = Finset.univ := by
  refine Finset.eq_univ_of_forall fun y => Finset.mem_biUnion.2 ?_
  have b0 : (y 0).val < 6 := (y 0).isLt
  have b1 : (y 1).val < 256 := (y 1).isLt
  exact ⟨⟨2 * (y 0).val + (y 1).val / 128, by omega⟩, Finset.mem_univ _, mem_chS.2 ⟨by show _ = (2 * (y 0).val + (y 1).val / 128) / 2; omega, by show _ = (2 * (y 0).val + (y 1).val / 128) % 2; omega⟩⟩
theorem ctS_cov : Finset.univ.biUnion (fun t : Fin 12 => ctS t.val) = Finset.univ := by
  refine Finset.eq_univ_of_forall fun y => Finset.mem_biUnion.2 ?_
  have b0 : (y 0).val < 6 := (y 0).isLt
  have b1 : (y 2).val < 256 := (y 2).isLt
  exact ⟨⟨2 * (y 0).val + (y 2).val / 128, by omega⟩, Finset.mem_univ _, mem_ctS.2 ⟨by show _ = (2 * (y 0).val + (y 2).val / 128) / 2; omega, by show _ = (2 * (y 0).val + (y 2).val / 128) % 2; omega⟩⟩
theorem gmS_cov : Finset.univ.biUnion (fun t : Fin 6 => gmS t.val) = Finset.univ := by
  refine Finset.eq_univ_of_forall fun y => Finset.mem_biUnion.2 ?_
  exact ⟨y 0, Finset.mem_univ _, mem_gmS.2 rfl⟩

section Tail
variable (c : Dev nD) (𝒱₀ : Variants) (N0 N1 N2 : Vec F S6x256x1536 .f32) (N3 : Vec F S6x256x1536 .fp8e4m3) (N4 : Vec F S6x1536x256 .fp8e4m3)

theorem part10 (k : Fin k0_t9_loop.trips) (a b : BitVec 32) (u : ℕ) (hu : u + aF + aF ≤ Transfers.sumTo A60 60) :
    iprop(mb c N0 N1 N2 N3 N4 60 u ∗ (∃ W, owes (c : Thread nD τ) 0 W))
      ⊢ wp frame (wpE (defs₀ (F := F)) 𝒱₀ (c : Thread nD τ) none) Set.univ (k0_part10 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 a b k) (fun _ => iprop(mb c N0 N1 N2 N3 N4 60 (u + aF + aF) ∗ (∃ W, owes (c : Thread nD τ) 0 W))) := by
  rw [k0_part10_eq_skeleton]
  unfold k0_part10_skel
  iintro HH
  iapply (wait0 c 𝒱₀ N0 N1 N2 N3 N4 60 u (le_trans (Nat.le_add_right _ _) hu)) $$ HH
  iintro HH
  rw [ret_bind']
  iapply (wait1 c 𝒱₀ N0 N1 N2 N3 N4 60 (u + aF) hu) $$ HH
  iintro HH
  rw [ret_bind']
  sl_step
  iexact HH

/-- One chunk's transfers out awaited. -/
theorem trip9 (k : Fin k0_t9_loop.trips) (x : Unit) :
    iprop(mb c N0 N1 N2 N3 N4 60 (86016 * (k.val + 1)) ∗ (∃ W, owes (c : Thread nD τ) 0 W))
      ⊢ wp frame (wpE (defs₀ (F := F)) 𝒱₀ (c : Thread nD τ) none) Set.univ (k0_t9_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 k x) (fun _ => iprop(mb c N0 N1 N2 N3 N4 60 (86016 * (k.val + 1 + 1)) ∗ (∃ W, owes (c : Thread nD τ) 0 W))) := by
  have hk : k.val < 11 := lt_of_lt_of_eq k.isLt trips9
  have eF : aF = 24576 := rfl
  have eC : aC = 6144 := rfl
  have hs := sum60
  unfold k0_t9_body
  iintro HH
  iapply (wp_seq 𝒱₀ c none (part10 c 𝒱₀ N0 N1 N2 N3 N4 k 1#32 1#32 (86016 * (k.val + 1)) (by omega))) $$ HH
  iintro %y HH
  iapply (wait2 c 𝒱₀ N0 N1 N2 N3 N4 60 _ (by omega)) $$ HH
  iintro HH
  rw [ret_bind']
  iapply (wait3 c 𝒱₀ N0 N1 N2 N3 N4 60 _ (by omega)) $$ HH
  iintro HH
  rw [ret_bind']
  iapply (wait4 c 𝒱₀ N0 N1 N2 N3 N4 60 _ (by omega)) $$ HH
  iintro HH
  rw [ret_bind']
  sl_step
  rw [show 86016 * (k.val + 1 + 1) = 86016 * (k.val + 1) + aF + aF + aF + aC + aC by omega]
  iexact HH

set_option maxHeartbeats 1600000 in
/-- The last chunk's transfers out, the scales', and every wait but the scales'. -/
theorem part13 (O0 O1 O2 : Vec F S6x256x1536 .f32) (O3 : Vec F S6x256x1536 .fp8e4m3) (O4 : Vec F S6x1536x256 .fp8e4m3) (sc sc0 : Vec F S6x2x12 .f32) (n : Vec F S1 .f32) :
    iprop(mb c N0 N1 N2 N3 N4 (5 * 11) 86016 ∗ (outs c 11 O0 O1 O2 O3 O4 ∗ scrs c 11 N0 N1 N2 N3 N4)
      ∗ ch c cc0_scratch6 Finset.univ sc ∗ ch c main_v0_5 Finset.univ sc0 ∗ semVal ((c : Thread nD τ), .dma sSC) 0
      ∗ Transfers.MixedBatch EC (c : Thread nD τ) (.dma sGN) () (fun _ => 16) (one c cc0_scratch10 main_v0_3 n n) 1 0 ∗ (∃ W, owes (c : Thread nD τ) 0 W))
      ⊢ wp frame (wpE (defs₀ (F := F)) 𝒱₀ (c : Thread nD τ) none) Set.univ (k0_part13 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17) (fun _ => iprop(mb c N0 N1 N2 N3 N4 60 1032192
        ∗ Transfers.MixedBatch EC (c : Thread nD τ) (.dma sSC) () (fun _ => 192) (one c cc0_scratch6 main_v0_5 sc sc) 1 0
        ∗ (ch c main_v0_3 Finset.univ n ∗ ch c cc0_scratch10 Finset.univ n) ∗ semVal ((c : Thread nD τ), .dma sGN) 0 ∗ (∃ W, owes (c : Thread nD τ) 0 W))) := by
  have s0 : 86016 ≤ Transfers.sumTo A60 (5 * 11 + 0) := by decide +kernel
  have s1 : 86016 ≤ Transfers.sumTo A60 (5 * 11 + 1) := by decide +kernel
  have s2 : 86016 ≤ Transfers.sumTo A60 (5 * 11 + 2) := by decide +kernel
  have s3 : 86016 ≤ Transfers.sumTo A60 (5 * 11 + 3) := by decide +kernel
  have s4 : 86016 ≤ Transfers.sumTo A60 (5 * 11 + 4) := by decide +kernel
  have oC : (![5, 128, 0] : Fin 3 → ℕ) = ![11 / 2, 11 % 2 * 128, 0] := rfl
  have oT : (![5, 0, 128] : Fin 3 → ℕ) = ![11 / 2, 0, 11 % 2 * 128] := rfl
  rw [k0_part13_eq_skeleton]
  unfold k0_part13_skel
  iintro ⟨HMB, ⟨⟨P0, P1, P2, P3, P4⟩, Q0, Q1, Q2, Q3, Q4⟩, HSc, HS0, HSC, HGN, HO⟩
  imod (Transfers.mixedBatch_alloc' EC (c : Thread nD τ) () (fun _ => 192) (one c cc0_scratch6 main_v0_5 sc sc) (sm := .dma sSC) (E := Set.univ)) $$ HSC with HSC
  iapply (out0 c 𝒱₀ N0 N1 N2 N3 N4 (t := 11) oC O0 86016 (by decide) s0) $$ [P0 Q0 HMB]
  · isplitl [Q0]; · iexact Q0
    isplitl [P0]; · iexact P0
    iexact HMB
  iintro HMB
  rw [ret_bind']
  iapply (out1 c 𝒱₀ N0 N1 N2 N3 N4 (t := 11) oC O1 86016 (by decide) s1) $$ [P1 Q1 HMB]
  · isplitl [Q1]; · iexact Q1
    isplitl [P1]; · iexact P1
    iexact HMB
  iintro HMB
  rw [ret_bind']
  iapply (out2 c 𝒱₀ N0 N1 N2 N3 N4 (t := 11) oC O2 86016 (by decide) s2) $$ [P2 Q2 HMB]
  · isplitl [Q2]; · iexact Q2
    isplitl [P2]; · iexact P2
    iexact HMB
  iintro HMB
  rw [ret_bind']
  iapply (out3 c 𝒱₀ N0 N1 N2 N3 N4 (t := 11) oC O3 86016 (by decide) s3) $$ [P3 Q3 HMB]
  · isplitl [Q3]; · iexact Q3
    isplitl [P3]; · iexact P3
    iexact HMB
  iintro HMB
  rw [ret_bind']
  iapply (out4 c 𝒱₀ N0 N1 N2 N3 N4 (t := 11) oT O4 86016 (by decide) s4) $$ [P4 Q4 HMB]
  · isplitl [Q4]; · iexact Q4
    isplitl [P4]; · iexact P4
    iexact HMB
  iintro HMB
  rw [ret_bind']
  iapply (shipSC c 𝒱₀ sc sc0) $$ [HSc HS0 HSC]
  · isplitl [HSc]; · iexact HSc
    isplitl [HS0]; · iexact HS0
    iexact HSC
  iintro HSC
  rw [ret_bind']
  iapply (Scf.wp_for_bind (M := 𝕄) frame (wpE (defs₀ (F := F)) 𝒱₀ (c : Thread nD τ) none) Set.univ _ _ _ k0_t9_ok _ _
    (fun k _ => iprop(mb c N0 N1 N2 N3 N4 60 (86016 * (k + 1)) ∗ (∃ W, owes (c : Thread nD τ) 0 W))) ?_) $$ [HMB HO]
  · intro k x
    exact trip9 c 𝒱₀ N0 N1 N2 N3 N4 k x
  · isplitl [HMB]; · iexact HMB
    iexact HO
  iintro %x ⟨HMB, HO⟩
  iapply (awaitGN c 𝒱₀ n) $$ [HGN HO]
  · isplitl [HGN]; · iexact HGN
    iexact HO
  iintro ⟨HN, HGN, HO⟩
  rw [ret_bind']
  sl_step
  isplitl [HMB]
  · iapply (show mb c N0 N1 N2 N3 N4 60 (86016 * (k0_t9_loop.trips + 1)) ⊢ (mb c N0 N1 N2 N3 N4 60 1032192 : sProp 𝕄) from by rw [trips9])
    iexact HMB
  isplitl [HSC]; · iexact HSC
  isplitl [HN]; · iexact HN
  isplitl [HGN]; · iexact HGN
  iexact HO

section Vals
variable (κ : FVec F S8x128 .f32) (Cf : Vec F S6x3x8x128 .f32) (G : Vec F S6x256x1536 .bf16) (W M V : Vec F S6x256x1536 .f32) (v24 : IVec S1x128 32)
variable (O0 O1 O2 : Vec F S6x256x1536 .f32) (O3 C : Vec F S6x256x1536 .fp8e4m3) (O4 T : Vec F S6x1536x256 .fp8e4m3) (S0 : Vec F S6x2x12 .f32)

set_option maxHeartbeats 1600000 in
/-- The chunks, and the first one's transfers out awaited. -/
theorem part12' :
    iprop(carry c κ Cf G W M V v24 O0 O1 O2 O3 O4 S0 0 ∗ bigSep Finset.univ (takes c W M V O0 O1 O2 O3 C O4 T))
      ⊢ wp frame (wpE (defs₀ (F := F)) 𝒱₀ (c : Thread nD τ) none) Set.univ (k0_part12 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 κ v24 0#32 1#32)
          (fun _ => iprop(mbK c κ Cf G W M V (5 * 11) 86016 ∗ pend c κ Cf G W M V O0 O1 O2 O3 O4 12 ∗ ch c cc0_scratch1 Finset.univ G ∗ ch c cc0_scratch7 Finset.univ Cf
            ∗ ch c cc0_scratch6 Finset.univ (scN κ Cf G W M V S0 v24 12) ∗ (∃ W', owes (c : Thread nD τ) 0 W') ∗ bigSep Finset.univ (leaves c W M V))) := by
  have eF : aF = 24576 := rfl
  have eC : aC = 6144 := rfl
  have hs := sum55
  have hs' : Transfers.sumTo A60 (5 * (12 - 1)) = 946176 := sum55
  rw [k0_part12_eq_skeleton]
  unfold k0_part12_skel
  iintro HH
  iapply (wp_seq 𝒱₀ c none (loop6 c 𝒱₀ κ Cf G W M V v24 O0 O1 O2 O3 C O4 T S0)) $$ HH
  unfold carry
  iintro %x ⟨⟨HMB, HP, HG, HCf, HSc, HO⟩, HL⟩
  iapply (wait0 c 𝒱₀ (wG κ Cf G W M V) (newM κ G M) (newV κ G V) (cG κ Cf G W M V) (tG κ Cf G W M V) (5 * (12 - 1)) (0) (by omega)) $$ [HMB HO]
  · isplitl [HMB]; · iexact HMB
    iexact HO
  iintro ⟨HMB, HO⟩
  rw [ret_bind']
  iapply (wait1 c 𝒱₀ (wG κ Cf G W M V) (newM κ G M) (newV κ G V) (cG κ Cf G W M V) (tG κ Cf G W M V) (5 * (12 - 1)) (0 + aF) (by omega)) $$ [HMB HO]
  · isplitl [HMB]; · iexact HMB
    iexact HO
  iintro ⟨HMB, HO⟩
  rw [ret_bind']
  iapply (wait2 c 𝒱₀ (wG κ Cf G W M V) (newM κ G M) (newV κ G V) (cG κ Cf G W M V) (tG κ Cf G W M V) (5 * (12 - 1)) (0 + aF + aF) (by omega)) $$ [HMB HO]
  · isplitl [HMB]; · iexact HMB
    iexact HO
  iintro ⟨HMB, HO⟩
  rw [ret_bind']
  iapply (wait3 c 𝒱₀ (wG κ Cf G W M V) (newM κ G M) (newV κ G V) (cG κ Cf G W M V) (tG κ Cf G W M V) (5 * (12 - 1)) (0 + aF + aF + aF) (by omega)) $$ [HMB HO]
  · isplitl [HMB]; · iexact HMB
    iexact HO
  iintro ⟨HMB, HO⟩
  rw [ret_bind']
  iapply (wait4 c 𝒱₀ (wG κ Cf G W M V) (newM κ G M) (newV κ G V) (cG κ Cf G W M V) (tG κ Cf G W M V) (5 * (12 - 1)) (0 + aF + aF + aF + aC) (by omega)) $$ [HMB HO]
  · isplitl [HMB]; · iexact HMB
    iexact HO
  iintro ⟨HMB, HO⟩
  rw [ret_bind']
  sl_step
  isplitl [HMB]; · iexact HMB
  isplitl [HP]; · iexact HP
  isplitl [HG]; · iexact HG
  isplitl [HCf]; · iexact HCf
  isplitl [HSc]; · iexact HSc
  isplitl [HO]; · iexact HO
  iexact HL
end Vals
end Tail

end Cert.Proof.K
-- ==== Proof.KBody.lean ====
/-
  The program whole: what it needs and what it leaves.
-/
module

public import proofs.«01_k».proof.Proof.KTail
public import Idealize.ShloMosaic.Lib.Pipeline.FrameBody
public import Idealize.ShloMosaic.Lib.Ring

@[expose] public section

set_option maxRecDepth 65536

noncomputable section

namespace Cert.Proof.K

open Cert.Kernel Cert.Kernel.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

section Indep
variable (LR : Vec F S6 .f32) (ST : Vec F S6 .i32) (G : Vec F S6x256x1536 .bf16) (W M V : Vec F S6x256x1536 .f32)

/-- The coefficients do not depend on what their buffer held, -/
theorem coefN_eq (C0 C1 : Vec F S6x3x8x128 .f32) (n : ℕ) (y : S6x3x8x128.Idx) (h : (y 0).val < n) : coefN LR ST C0 n y = coefN LR ST C1 n y := by
  induction n with
  | zero => omega
  | succ n ih =>
    have b1 : (y 1).val < 3 := (y 1).isLt
    have b2 : (y 2).val < 8 := (y 2).isLt
    have b3 : (y 3).val < 128 := (y 3).isLt
    have key : ∀ j, (y 0).val = n → (y 1).val = j → ∀ a : Fin 4, (![n, j, 0, 0] : Fin 4 → ℕ) a ≤ (y a).val ∧ (y a).val < (![n, j, 0, 0] : Fin 4 → ℕ) a + S1x1x8x128.size a := by
      intro j e0 e1 a
      match a with
      | ⟨0, _⟩ => exact ⟨show n ≤ (y 0).val by omega, show (y 0).val < n + 1 by omega⟩
      | ⟨1, _⟩ => exact ⟨show j ≤ (y 1).val by omega, show (y 1).val < j + 1 by omega⟩
      | ⟨2, _⟩ => exact ⟨Nat.zero_le _, show (y 2).val < 0 + 8 by omega⟩
      | ⟨3, _⟩ => exact ⟨Nat.zero_le _, show (y 3).val < 0 + 128 by omega⟩
    show put _ _ _ _ y = put _ _ _ _ y
    unfold put
    by_cases h2 : ∀ a : Fin 4, (![n, 2, 0, 0] : Fin 4 → ℕ) a ≤ (y a).val ∧ (y a).val < (![n, 2, 0, 0] : Fin 4 → ℕ) a + S1x1x8x128.size a
    · rw [dif_pos h2, dif_pos h2]
    rw [dif_neg h2, dif_neg h2]
    by_cases h1 : ∀ a : Fin 4, (![n, 1, 0, 0] : Fin 4 → ℕ) a ≤ (y a).val ∧ (y a).val < (![n, 1, 0, 0] : Fin 4 → ℕ) a + S1x1x8x128.size a
    · rw [dif_pos h1, dif_pos h1]
    rw [dif_neg h1, dif_neg h1]
    by_cases h0 : ∀ a : Fin 4, (![n, 0, 0, 0] : Fin 4 → ℕ) a ≤ (y a).val ∧ (y a).val < (![n, 0, 0, 0] : Fin 4 → ℕ) a + S1x1x8x128.size a
    · rw [dif_pos h0, dif_pos h0]
    rw [dif_neg h0, dif_neg h0]
    refine ih (Nat.lt_of_le_of_ne (Nat.le_of_lt_succ h) fun e => ?_)
    have n2 := mt (key 2 e) h2
    have n1 := mt (key 1 e) h1
    have n0 := mt (key 0 e) h0
    omega
/-- and are these. -/
def coefA : Vec F S6x3x8x128 .f32 := coefN LR ST (fun _ => k0_pay52 (F := F) (ix2 (0 : Fin 1) (0 : Fin 128))) 6
theorem coefN_6 (C0 : Vec F S6x3x8x128 .f32) : coefN LR ST C0 6 = coefA LR ST := by
  funext y
  exact coefN_eq LR ST C0 _ 6 y (y 0).isLt

/-- Likewise the scales. -/
theorem scN_eq (κ : FVec F S8x128 .f32) (Cf : Vec F S6x3x8x128 .f32) (v24 : IVec S1x128 32) (S0 S1' : Vec F S6x2x12 .f32) (n : ℕ) (y : S6x2x12.Idx) (h : 2 * (y 0).val + (y 1).val < n) :
    scN κ Cf G W M V S0 v24 n y = scN κ Cf G W M V S1' v24 n y := by
  induction n with
  | zero => omega
  | succ n ih =>
    have b1 : (y 1).val < 2 := (y 1).isLt
    have b2 : (y 2).val < 12 := (y 2).isLt
    show put _ _ _ _ y = put _ _ _ _ y
    unfold put
    by_cases h2 : ∀ a : Fin 3, (![n / 2, n % 2, 0] : Fin 3 → ℕ) a ≤ (y a).val ∧ (y a).val < (![n / 2, n % 2, 0] : Fin 3 → ℕ) a + S1x1x12.size a
    · rw [dif_pos h2, dif_pos h2]
    rw [dif_neg h2, dif_neg h2]
    refine ih (Nat.lt_of_le_of_ne (Nat.le_of_lt_succ h) fun e => h2 fun a => ?_)
    match a with
    | ⟨0, _⟩ => exact ⟨show n / 2 ≤ (y 0).val by omega, show (y 0).val < n / 2 + 1 by omega⟩
    | ⟨1, _⟩ => exact ⟨show n % 2 ≤ (y 1).val by omega, show (y 1).val < n % 2 + 1 by omega⟩
    | ⟨2, _⟩ => exact ⟨Nat.zero_le _, show (y 2).val < 0 + 12 by omega⟩

/-- The lane numbers. -/
def lanes : IVec S1x128 32 := iota .tc S1x128 32 [1] iota_S1x128_d1_w32
/-- The results: the new weights, -/
def outW : Vec F S6x256x1536 .f32 := wG (kapG G) (coefA LR ST) G W M V
/-- their codes, -/
def outC : Vec F S6x256x1536 .fp8e4m3 := cG (kapG G) (coefA LR ST) G W M V
/-- the codes transposed, -/
def outT : Vec F S6x1536x256 .fp8e4m3 := tG (kapG G) (coefA LR ST) G W M V
/-- and the scales. -/
def outS : Vec F S6x2x12 .f32 := scN (kapG G) (coefA LR ST) G W M V (fun _ => k0_pay52 (F := F) (ix2 (0 : Fin 1) (0 : Fin 128))) lanes 12
theorem scN_12 (S0 : Vec F S6x2x12 .f32) : scN (kapG G) (coefA LR ST) G W M V S0 lanes 12 = outS LR ST G W M V := by
  funext y
  have b0 : (y 0).val < 6 := (y 0).isLt
  have b1 : (y 1).val < 2 := (y 1).isLt
  exact scN_eq G W M V _ _ _ S0 _ 12 y (by omega)
end Indep

section Body
variable (c : Dev nD) (𝒱₀ : Variants) (LR : Vec F S6 .f32) (ST : Vec F S6 .i32) (G : Vec F S6x256x1536 .bf16) (W M V : Vec F S6x256x1536 .f32)

/-- A buffer's chunks are the buffer, -/
theorem cut (b : Ref sig .tc) (S : Fin 12 → Finset (Idx ((c : Thread nD τ).loc b))) (hd : ∀ x y, x ≠ y → Disjoint (S x) (S y)) (hc : Finset.univ.biUnion S = Finset.univ)
    (f : Buf (Elt F) ((c : Thread nD τ).loc b)) : ch c b Finset.univ f = bigSep Finset.univ fun t => ch c b (S t) f := Ring.pointsTo_blocks S hd hc f
/-- and its matrices. -/
theorem cut6 (b : Ref sig .tc) (S : Fin 6 → Finset (Idx ((c : Thread nD τ).loc b))) (hd : ∀ x y, x ≠ y → Disjoint (S x) (S y)) (hc : Finset.univ.biUnion S = Finset.univ)
    (f : Buf (Elt F) ((c : Thread nD τ).loc b)) : ch c b Finset.univ f = bigSep Finset.univ fun t => ch c b (S t) f := Ring.pointsTo_blocks S hd hc f

theorem ofEq (P Q : sProp 𝕄) (h : P = Q) : P ⊢ Q := h ▸ .rfl
theorem preG_all (G0 : Vec F S6x256x1536 .bf16) :
    iprop((bigSep Finset.univ fun t => semVal ((c : Thread nD τ), .dma (semG t)) 0) ∗ ch c main_arg1 Finset.univ G ∗ ch c cc0_scratch1 Finset.univ G0) = (bigSep Finset.univ (preG c G G0) : sProp 𝕄) := by
  rw [(cut6 c main_arg1 (fun t : Fin 6 => gmS t.val) gmS_dis gmS_cov G), (cut6 c cc0_scratch1 (fun t : Fin 6 => gmS t.val) gmS_dis gmS_cov G0), ← bigSep_sep', ← bigSep_sep']
  rfl
theorem atG_all :
    iprop((bigSep Finset.univ fun t => semVal ((c : Thread nD τ), .dma (semG t)) 0) ∗ ch c main_arg1 Finset.univ G ∗ ch c cc0_scratch1 Finset.univ G) = (bigSep Finset.univ (atG c G) : sProp 𝕄) := by
  rw [(cut6 c main_arg1 (fun t : Fin 6 => gmS t.val) gmS_dis gmS_cov G), (cut6 c cc0_scratch1 (fun t : Fin 6 => gmS t.val) gmS_dis gmS_cov G), ← bigSep_sep', ← bigSep_sep']
  rfl
theorem preIn_all (W0 M0 V0 : Vec F S6x256x1536 .f32) :
    iprop((bigSep Finset.univ fun t => semVal ((c : Thread nD τ), .dma (semI t)) 0) ∗ (ch c main_arg0 Finset.univ W ∗ ch c main_arg2 Finset.univ M ∗ ch c main_arg3 Finset.univ V)
      ∗ ch c cc0_scratch0 Finset.univ W0 ∗ ch c cc0_scratch2 Finset.univ M0 ∗ ch c cc0_scratch3 Finset.univ V0) = (bigSep Finset.univ (preIn c W M V W0 M0 V0) : sProp 𝕄) := by
  rw [(cut c main_arg0 (fun t : Fin 12 => chS t.val) chS_dis chS_cov W), (cut c main_arg2 (fun t : Fin 12 => chS t.val) chS_dis chS_cov M), (cut c main_arg3 (fun t : Fin 12 => chS t.val) chS_dis chS_cov V),
    (cut c cc0_scratch0 (fun t : Fin 12 => chS t.val) chS_dis chS_cov W0), (cut c cc0_scratch2 (fun t : Fin 12 => chS t.val) chS_dis chS_cov M0), (cut c cc0_scratch3 (fun t : Fin 12 => chS t.val) chS_dis chS_cov V0)]
  rw [← bigSep_sep', ← bigSep_sep', ← bigSep_sep', ← bigSep_sep', ← bigSep_sep', ← bigSep_sep']
  rfl
theorem leaves_all :
    iprop((bigSep Finset.univ fun t => semVal ((c : Thread nD τ), .dma (semI t)) 0) ∗ ch c main_arg0 Finset.univ W ∗ ch c main_arg2 Finset.univ M ∗ ch c main_arg3 Finset.univ V)
      = (bigSep Finset.univ (leaves c W M V) : sProp 𝕄) := by
  rw [(cut c main_arg0 (fun t : Fin 12 => chS t.val) chS_dis chS_cov W), (cut c main_arg2 (fun t : Fin 12 => chS t.val) chS_dis chS_cov M), (cut c main_arg3 (fun t : Fin 12 => chS t.val) chS_dis chS_cov V)]
  rw [← bigSep_sep', ← bigSep_sep', ← bigSep_sep']
  rfl
theorem takes_all (O0 O1 O2 : Vec F S6x256x1536 .f32) (O3 C : Vec F S6x256x1536 .fp8e4m3) (O4 T : Vec F S6x1536x256 .fp8e4m3) :
    iprop(bigSep Finset.univ (flyIn c W M V) ∗ (ch c main_v0_0 Finset.univ O0 ∗ ch c main_v0_1 Finset.univ O1 ∗ ch c main_v0_2 Finset.univ O2 ∗ ch c main_v0_4 Finset.univ O3 ∗ ch c main_v0_6 Finset.univ O4)
      ∗ ch c cc0_scratch4 Finset.univ C ∗ ch c cc0_scratch5 Finset.univ T) = (bigSep Finset.univ (takes c W M V O0 O1 O2 O3 C O4 T) : sProp 𝕄) := by
  rw [(cut c main_v0_0 (fun t : Fin 12 => chS t.val) chS_dis chS_cov O0), (cut c main_v0_1 (fun t : Fin 12 => chS t.val) chS_dis chS_cov O1), (cut c main_v0_2 (fun t : Fin 12 => chS t.val) chS_dis chS_cov O2), (cut c main_v0_4 (fun t : Fin 12 => chS t.val) chS_dis chS_cov O3), (cut c main_v0_6 (fun t : Fin 12 => ctS t.val) ctS_dis ctS_cov O4),
    (cut c cc0_scratch4 (fun t : Fin 12 => chS t.val) chS_dis chS_cov C), (cut c cc0_scratch5 (fun t : Fin 12 => ctS t.val) ctS_dis ctS_cov T)]
  rw [← bigSep_sep', ← bigSep_sep', ← bigSep_sep', ← bigSep_sep', ← bigSep_sep', ← bigSep_sep', ← bigSep_sep']
  rfl
/-- The sixty deliveries are the five results and the buffers they came from. -/
theorem D60_all (N0 N1 N2 : Vec F S6x256x1536 .f32) (N3 : Vec F S6x256x1536 .fp8e4m3) (N4 : Vec F S6x1536x256 .fp8e4m3) :
    bigSep Finset.univ (D60 c N0 N1 N2 N3 N4) = (iprop((ch c main_v0_0 Finset.univ N0 ∗ ch c cc0_scratch0 Finset.univ N0) ∗ (ch c main_v0_1 Finset.univ N1 ∗ ch c cc0_scratch2 Finset.univ N1)
      ∗ (ch c main_v0_2 Finset.univ N2 ∗ ch c cc0_scratch3 Finset.univ N2) ∗ (ch c main_v0_4 Finset.univ N3 ∗ ch c cc0_scratch4 Finset.univ N3) ∗ (ch c main_v0_6 Finset.univ N4 ∗ ch c cc0_scratch5 Finset.univ N4)) : sProp 𝕄) := by
  rw [(cut c main_v0_0 (fun t : Fin 12 => chS t.val) chS_dis chS_cov N0), (cut c main_v0_1 (fun t : Fin 12 => chS t.val) chS_dis chS_cov N1), (cut c main_v0_2 (fun t : Fin 12 => chS t.val) chS_dis chS_cov N2), (cut c main_v0_4 (fun t : Fin 12 => chS t.val) chS_dis chS_cov N3), (cut c main_v0_6 (fun t : Fin 12 => ctS t.val) ctS_dis ctS_cov N4),
    (cut c cc0_scratch0 (fun t : Fin 12 => chS t.val) chS_dis chS_cov N0), (cut c cc0_scratch2 (fun t : Fin 12 => chS t.val) chS_dis chS_cov N1), (cut c cc0_scratch3 (fun t : Fin 12 => chS t.val) chS_dis chS_cov N2), (cut c cc0_scratch4 (fun t : Fin 12 => chS t.val) chS_dis chS_cov N3), (cut c cc0_scratch5 (fun t : Fin 12 => ctS t.val) ctS_dis ctS_cov N4)]
  rw [← bigSep_sep', ← bigSep_sep', ← bigSep_sep', ← bigSep_sep', ← bigSep_sep', ← bigSep_sep', ← bigSep_sep', ← bigSep_sep', ← bigSep_sep']
  rw [bigSep_univ_equiv (finProdFinEquiv : Fin 12 × Fin 5 ≃ Fin (12 * 5)) (D60 c N0 N1 N2 N3 N4), bigSep_univ_prod]
  refine bigSep_congr fun t _ => ?_
  rw [fin5sep]
  have e : ∀ i : Fin 5, D60 c N0 N1 N2 N3 N4 (finProdFinEquiv (t, i)) = dOut c N0 N1 N2 N3 N4 t.val i.val := by
    intro i
    have hi := i.isLt
    show dOut c N0 N1 N2 N3 N4 ((i.val + 5 * t.val) / 5) ((i.val + 5 * t.val) % 5) = _
    rw [show (i.val + 5 * t.val) / 5 = t.val by omega, show (i.val + 5 * t.val) % 5 = i.val by omega]
  rw [e, e, e, e, e]
  rfl

/-- The scratch buffers, at anything, -/
def scr : sProp 𝕄 := iprop((∃ f, ch c cc0_scratch0 Finset.univ f) ∗ (∃ f, ch c cc0_scratch1 Finset.univ f) ∗ (∃ f, ch c cc0_scratch2 Finset.univ f) ∗ (∃ f, ch c cc0_scratch3 Finset.univ f) ∗ (∃ f, ch c cc0_scratch4 Finset.univ f) ∗ (∃ f, ch c cc0_scratch5 Finset.univ f) ∗ (∃ f, ch c cc0_scratch6 Finset.univ f) ∗ (∃ f, ch c cc0_scratch7 Finset.univ f) ∗ (∃ f, ch c cc0_scratch8 Finset.univ f) ∗ (∃ f, ch c cc0_scratch9 Finset.univ f) ∗ (∃ f, ch c cc0_scratch10 Finset.univ f))
/-- the semaphores at zero, -/
def sems : sProp 𝕄 := iprop((bigSep Finset.univ fun t => semVal ((c : Thread nD τ), .dma (semG t)) 0) ∗ (bigSep Finset.univ fun t => semVal ((c : Thread nD τ), .dma (semI t)) 0)
  ∗ semVal ((c : Thread nD τ), .dma sLR) 0 ∗ semVal ((c : Thread nD τ), .dma sST) 0 ∗ semVal ((c : Thread nD τ), .dma sGN) 0 ∗ semVal ((c : Thread nD τ), .dma sSC) 0 ∗ semVal ((c : Thread nD τ), .dma sO) 0)
/-- the arguments, -/
def argv : sProp 𝕄 := iprop(ch c main_arg0 Finset.univ W ∗ ch c main_arg1 Finset.univ G ∗ ch c main_arg2 Finset.univ M ∗ ch c main_arg3 Finset.univ V ∗ ch c main_arg4 Finset.univ LR ∗ ch c main_arg5 Finset.univ ST)
/-- and the results. -/
def resv (O0 O1 O2 : Vec F S6x256x1536 .f32) (O3 : Vec F S1 .f32) (O4 : Vec F S6x256x1536 .fp8e4m3) (O5 : Vec F S6x2x12 .f32) (O6 : Vec F S6x1536x256 .fp8e4m3) : sProp 𝕄 := iprop(ch c main_v0_0 Finset.univ O0 ∗ ch c main_v0_1 Finset.univ O1 ∗ ch c main_v0_2 Finset.univ O2 ∗ ch c main_v0_3 Finset.univ O3 ∗ ch c main_v0_4 Finset.univ O4 ∗ ch c main_v0_5 Finset.univ O5 ∗ ch c main_v0_6 Finset.univ O6)

set_option maxHeartbeats 6400000 in
/-- The kernel computes its results and leaves its arguments and its semaphores as they were. -/
theorem body (O0 O1 O2 : Vec F S6x256x1536 .f32) (O3 : Vec F S1 .f32) (O4 : Vec F S6x256x1536 .fp8e4m3) (O5 : Vec F S6x2x12 .f32) (O6 : Vec F S6x1536x256 .fp8e4m3) :
    iprop(scr c ∗ sems c ∗ argv c LR ST G W M V ∗ resv c O0 O1 O2 O3 O4 O5 O6 ∗ (∃ W', owes (c : Thread nD τ) 0 W'))
      ⊢ wp frame (wpE (defs₀ (F := F)) 𝒱₀ (c : Thread nD τ) none) Set.univ (cc0_adamw_fp8 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17) (fun _ => iprop(scr c ∗ sems c ∗ argv c LR ST G W M V ∗ resv c (outW LR ST G W M V) (newM (kapG G) G M) (newV (kapG G) G V) (normG G) (outC LR ST G W M V) (outS LR ST G W M V) (outT LR ST G W M V) ∗ (∃ W', owes (c : Thread nD τ) 0 W'))) := by
  rw [cc0_adamw_fp8_eq_skeleton]
  unfold cc0_adamw_fp8_skel scr sems argv resv
  iintro ⟨⟨⟨%b0, B0⟩, ⟨%b1, B1⟩, ⟨%b2, B2⟩, ⟨%b3, B3⟩, ⟨%b4, B4⟩, ⟨%b5, B5⟩, ⟨%b6, B6⟩, ⟨%b7, B7⟩, ⟨%b8, B8⟩, ⟨%b9, B9⟩, ⟨%b10, B10⟩⟩, ⟨SG, SI, SL, ST', SN, SS, SO⟩, ⟨A0, A1, A2, A3, A4, A5⟩, ⟨R0, R1, R2, R3, R4, R5, R6⟩, HO⟩
  imod (Transfers.mixedBatch_alloc' EC (c : Thread nD τ) () A60 (D60 c (wG (kapG G) (coefA LR ST) G W M V) (newM (kapG G) G M) (newV (kapG G) G V) (cG (kapG G) (coefA LR ST) G W M V) (tG (kapG G) (coefA LR ST) G W M V)) (sm := .dma sO) (E := Set.univ)) $$ SO with HMB
  ihave HG := (ofEq _ _ (preG_all c G b1)) $$ [SG A1 B1]
  · isplitl [SG]; · iexact SG
    isplitl [A1]; · iexact A1
    iexact B1
  ihave HI := (ofEq _ _ (preIn_all c W M V b0 b2 b3)) $$ [SI A0 A2 A3 B0 B2 B3]
  · isplitl [SI]; · iexact SI
    isplitl [A0 A2 A3]
    · isplitl [A0]; · iexact A0
      isplitl [A2]; · iexact A2
      iexact A3
    isplitl [B0]; · iexact B0
    isplitl [B2]; · iexact B2
    iexact B3
  iapply (wp_seq 𝒱₀ c none (part11 c 𝒱₀ LR ST b7 G W M V b1 b0 b2 b3 b8 b9 b10 O3)) $$ [SL ST' SN A4 B8 A5 B9 B7 B10 R3 HG HI HO]
  · unfold pre11
    isplitl [SL ST' SN]
    · isplitl [SL]; · iexact SL
      isplitl [ST']; · iexact ST'
      iexact SN
    isplitl [A4 B8 A5 B9]
    · isplitl [A4]; · iexact A4
      isplitl [B8]; · iexact B8
      isplitl [A5]; · iexact A5
      iexact B9
    isplitl [B7]; · iexact B7
    isplitl [B10 R3]
    · isplitl [B10]; · iexact B10
      iexact R3
    isplitl [HG]; · iexact HG
    isplitl [HI]; · iexact HI
    iexact HO
  iintro %x ⟨%hx, HP⟩
  subst hx
  unfold post11
  icases HP with ⟨⟨SL, ST', A4, A5⟩, HCf, HGN, HG, HF, HO⟩
  unfold coefs
  icases HCf with ⟨B8, B9, B7⟩
  ihave B7' := (show ch c cc0_scratch7 Finset.univ (coefN LR ST b7 6) ⊢ ch c cc0_scratch7 Finset.univ (coefA LR ST) from by rw [coefN_6]) $$ B7
  ihave HG' := (ofEq _ _ (atG_all c G).symm) $$ HG
  icases HG' with ⟨SG, A1, B1⟩
  ihave HT := (ofEq _ _ (takes_all c W M V O0 O1 O2 O4 b4 O6 b5)) $$ [HF R0 R1 R2 R4 R6 B4 B5]
  · isplitl [HF]; · iexact HF
    isplitl [R0 R1 R2 R4 R6]
    · isplitl [R0]; · iexact R0
      isplitl [R1]; · iexact R1
      isplitl [R2]; · iexact R2
      isplitl [R4]; · iexact R4
      iexact R6
    isplitl [B4]; · iexact B4
    iexact B5
  dsimp only
  iapply (wp_seq 𝒱₀ c none (part12' c 𝒱₀ (kapG G) (coefA LR ST) G W M V lanes O0 O1 O2 O4 b4 O6 b5 b6)) $$ [HMB B1 B7' B6 HO HT]
  · unfold carry pend
    isplitr [HT]
    · isplitl [HMB]; · iexact HMB
      isplitr; · iempintro
      isplitl [B1]; · iexact B1
      isplitl [B7']; · iexact B7'
      isplitl [B6]; · iexact B6
      iexact HO
    iexact HT
  iintro %x ⟨HMB, HP, B1, B7, B6, HO, HL⟩
  ihave HL' := (ofEq _ _ (leaves_all c W M V).symm) $$ HL
  icases HL' with ⟨SI, A0, A2, A3⟩
  ihave HP' := (show pend c (kapG G) (coefA LR ST) G W M V O0 O1 O2 O4 O6 12 ⊢ iprop(outs c 11 O0 O1 O2 O4 O6 ∗ scrs c 11 (wG (kapG G) (coefA LR ST) G W M V) (newM (kapG G) G M) (newV (kapG G) G V) (cG (kapG G) (coefA LR ST) G W M V) (tG (kapG G) (coefA LR ST) G W M V)) from .rfl) $$ HP
  iapply (wp_seq 𝒱₀ c none (part13 c 𝒱₀ (wG (kapG G) (coefA LR ST) G W M V) (newM (kapG G) G M) (newV (kapG G) G V) (cG (kapG G) (coefA LR ST) G W M V) (tG (kapG G) (coefA LR ST) G W M V) O0 O1 O2 O4 O6 (scN (kapG G) (coefA LR ST) G W M V b6 lanes 12) O5 (normG G))) $$ [HMB HP' B6 R5 SS HGN HO]
  · isplitl [HMB]; · iexact HMB
    isplitl [HP']; · iexact HP'
    isplitl [B6]; · iexact B6
    isplitl [R5]; · iexact R5
    isplitl [SS]; · iexact SS
    isplitl [HGN]; · iexact HGN
    iexact HO
  iintro %x ⟨HMB, HSC, ⟨R3, B10⟩, SN, HO⟩
  iapply (awaitSC c 𝒱₀ _) $$ [HSC HO]
  · isplitl [HSC]; · iexact HSC
    iexact HO
  iintro ⟨HD, SS, HO⟩
  icases HD with ⟨R5, B6⟩
  rw [ret_bind']
  imod (show mb c (wG (kapG G) (coefA LR ST) G W M V) (newM (kapG G) G M) (newV (kapG G) G V) (cG (kapG G) (coefA LR ST) G W M V) (tG (kapG G) (coefA LR ST) G W M V) 60 1032192 ⊢ (|={Set.univ}=> iprop(bigSep Finset.univ (D60 c (wG (kapG G) (coefA LR ST) G W M V) (newM (kapG G) G M) (newV (kapG G) G V) (cG (kapG G) (coefA LR ST) G W M V) (tG (kapG G) (coefA LR ST) G W M V)) ∗ semVal ((c : Thread nD τ), .dma sO) 0) : sProp 𝕄) from by
    rw [← sum60]; exact Transfers.mixedBatch_collect' EC (c : Thread nD τ) A60_pos) $$ HMB with ⟨HD, SO⟩
  ihave HD' := (ofEq _ _ (D60_all c (wG (kapG G) (coefA LR ST) G W M V) (newM (kapG G) G M) (newV (kapG G) G V) (cG (kapG G) (coefA LR ST) G W M V) (tG (kapG G) (coefA LR ST) G W M V))) $$ HD
  icases HD' with ⟨⟨R0, B0⟩, ⟨R1, B2⟩, ⟨R2, B3⟩, ⟨R4, B4⟩, R6, B5⟩
  ihave R5' := (show ch c main_v0_5 Finset.univ (scN (kapG G) (coefA LR ST) G W M V b6 lanes 12) ⊢ ch c main_v0_5 Finset.univ (outS LR ST G W M V) from by rw [scN_12]) $$ R5
  sl_step
  isplitl [B0 B1 B2 B3 B4 B5 B6 B7 B8 B9 B10]
  · isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    isplitl [B6]; · iexists _; iexact B6
    isplitl [B7]; · iexists _; iexact B7
    isplitl [B8]; · iexists _; iexact B8
    isplitl [B9]; · iexists _; iexact B9
    iexists _; iexact B10
  isplitl [SG SI SL ST' SN SS SO]
  · isplitl [SG]; · iexact SG
    isplitl [SI]; · iexact SI
    isplitl [SL]; · iexact SL
    isplitl [ST']; · iexact ST'
    isplitl [SN]; · iexact SN
    isplitl [SS]; · iexact SS
    iexact SO
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [R0 R1 R2 R3 R4 R5' R6]
  · isplitl [R0]; · iexact R0
    isplitl [R1]; · iexact R1
    isplitl [R2]; · iexact R2
    isplitl [R3]; · iexact R3
    isplitl [R4]; · iexact R4
    isplitl [R5']; · iexact R5'
    iexact R6
  iexact HO
end Body

end Cert.Proof.K
-- ==== Proof.KRun.lean ====
/-
  The launch: the program run from any memory, what it leaves, and every semaphore back at zero.
-/
module

public import proofs.«01_k».proof.Proof.KBody
public import proofs.«01_k».proof.Proof.Gen.Kernel.Launch
public import proofs.«01_k».proof.Proof.Gen.Kernel.Points
public import Idealize.ShloMosaic.Lib.Pipeline.FrameBody
public import Idealize.ShloMosaic.Lib.Pipeline.FrameValue

@[expose] public section

set_option maxRecDepth 65536

noncomputable section

namespace Cert.Proof.K

open Cert.Kernel Cert.Kernel.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own semaphores: the gradient's, the inputs', the others. -/
def osem0 : Fin 6 ⊕ Fin 12 ⊕ Fin 5 → SemLoc sig := Sum.elim (fun t => .dma (semG t)) (Sum.elim (fun t => .dma (semI t)) fun k => match k with
  | 0 => .dma sLR | 1 => .dma sST | 2 => .dma sGN | 3 => .dma sSC | 4 => .dma sO)
theorem ownSemFacts0 : Pipeline.OwnSemFacts (cfg0.spec) osem0 := by decide
/-- The arguments -/
def H0 : Finset (Ref sig .tc) := {main_arg0, main_arg1, main_arg2, main_arg3, main_arg4, main_arg5}
/-- and the results. -/
def R0 : Finset (Ref sig .tc) := {main_v0_0, main_v0_1, main_v0_2, main_v0_3, main_v0_4, main_v0_5, main_v0_6}
theorem H0_sub : H0 ⊆ Pipeline.restRefs sig (cfg0.spec) := by decide
theorem R0_sub : R0 ⊆ Pipeline.restRefs sig (cfg0.spec) \ H0 := by decide

abbrev V (c : Dev nD) (b : Ref sig .tc) : Buf (Elt F) ((c : Thread nD τ).loc b) := m ((c : Thread nD τ).loc b)
/-- What the run leaves. -/
def G (c : Dev nD) : (b : Ref sig .tc) → Buf (Elt F) ((c : Thread nD τ).loc b) :=
  Function.update (Function.update (Function.update (Function.update (Function.update (Function.update (Function.update (V m c) main_v0_6 (outT (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3)))) main_v0_5 (outS (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3)))) main_v0_4 (outC (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3)))) main_v0_3 (normG (m ((c : Thread nD τ).loc main_arg1)))) main_v0_2 (newV (kapG (m ((c : Thread nD τ).loc main_arg1))) (m ((c : Thread nD τ).loc main_arg1)) (m ((c : Thread nD τ).loc main_arg3)))) main_v0_1 (newM (kapG (m ((c : Thread nD τ).loc main_arg1))) (m ((c : Thread nD τ).loc main_arg1)) (m ((c : Thread nD τ).loc main_arg2)))) main_v0_0 (outW (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3)))
theorem G_0 (c : Dev nD) : G m c main_v0_0 = (outW (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3))) := Function.update_self _ _ _
theorem G_1 (c : Dev nD) : G m c main_v0_1 = (newM (kapG (m ((c : Thread nD τ).loc main_arg1))) (m ((c : Thread nD τ).loc main_arg1)) (m ((c : Thread nD τ).loc main_arg2))) := (Function.update_of_ne (by decide : main_v0_1 ≠ main_v0_0) _ _).trans (Function.update_self _ _ _)
theorem G_2 (c : Dev nD) : G m c main_v0_2 = (newV (kapG (m ((c : Thread nD τ).loc main_arg1))) (m ((c : Thread nD τ).loc main_arg1)) (m ((c : Thread nD τ).loc main_arg3))) := (Function.update_of_ne (by decide : main_v0_2 ≠ main_v0_0) _ _).trans ((Function.update_of_ne (by decide : main_v0_2 ≠ main_v0_1) _ _).trans (Function.update_self _ _ _))
theorem G_3 (c : Dev nD) : G m c main_v0_3 = (normG (m ((c : Thread nD τ).loc main_arg1))) := (Function.update_of_ne (by decide : main_v0_3 ≠ main_v0_0) _ _).trans ((Function.update_of_ne (by decide : main_v0_3 ≠ main_v0_1) _ _).trans ((Function.update_of_ne (by decide : main_v0_3 ≠ main_v0_2) _ _).trans (Function.update_self _ _ _)))
theorem G_4 (c : Dev nD) : G m c main_v0_4 = (outC (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3))) := (Function.update_of_ne (by decide : main_v0_4 ≠ main_v0_0) _ _).trans ((Function.update_of_ne (by decide : main_v0_4 ≠ main_v0_1) _ _).trans ((Function.update_of_ne (by decide : main_v0_4 ≠ main_v0_2) _ _).trans ((Function.update_of_ne (by decide : main_v0_4 ≠ main_v0_3) _ _).trans (Function.update_self _ _ _))))
theorem G_5 (c : Dev nD) : G m c main_v0_5 = (outS (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3))) := (Function.update_of_ne (by decide : main_v0_5 ≠ main_v0_0) _ _).trans ((Function.update_of_ne (by decide : main_v0_5 ≠ main_v0_1) _ _).trans ((Function.update_of_ne (by decide : main_v0_5 ≠ main_v0_2) _ _).trans ((Function.update_of_ne (by decide : main_v0_5 ≠ main_v0_3) _ _).trans ((Function.update_of_ne (by decide : main_v0_5 ≠ main_v0_4) _ _).trans (Function.update_self _ _ _)))))
theorem G_6 (c : Dev nD) : G m c main_v0_6 = (outT (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3))) := (Function.update_of_ne (by decide : main_v0_6 ≠ main_v0_0) _ _).trans ((Function.update_of_ne (by decide : main_v0_6 ≠ main_v0_1) _ _).trans ((Function.update_of_ne (by decide : main_v0_6 ≠ main_v0_2) _ _).trans ((Function.update_of_ne (by decide : main_v0_6 ≠ main_v0_3) _ _).trans ((Function.update_of_ne (by decide : main_v0_6 ≠ main_v0_4) _ _).trans ((Function.update_of_ne (by decide : main_v0_6 ≠ main_v0_5) _ _).trans (Function.update_self _ _ _))))))

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

def dats (_ : Fin 1) (c : Dev nD) : Dat τ (Elt F) Unit ℕ (Pipeline.UD sig nD τ) ℕ cfg0 c where
  A w := V m c (Pipeline.arrRef (cfg0.spec) w)
  after w _ := w.elim0
  Φ t := Pipeline.ΦDRG osem0 (cfg0.spec) H0 R0 (V m) (if t = 0 then V m else G m) c
  q _ := fullShare
  owed _ := 0
theorem A_eq (c : Dev nD) (w : Fin cfg0.W) : (dats m 0 c).A w = V m c (Pipeline.arrRef (cfg0.spec) w) := by
  dsimp only [dats]

theorem sems_eq (c : Dev nD) : (Pipeline.ownSems0 (Ix := Unit) (Name := ℕ) (U := Pipeline.UD sig nD τ) (Lvl := ℕ) (Val := Elt F) (τ := τ) osem0 c : sProp 𝕄) = sems c := by
  unfold Pipeline.ownSems0 sems
  rw [bigSep_univ_sum, bigSep_univ_sum, fin5sep]
  rfl
theorem args_eq (c : Dev nD) : (bigSep H0 fun b => ((c.tc : Thread nD τ).loc b) ↦{fullShare} V m c b : sProp 𝕄)
    = argv c (V m c main_arg4) (V m c main_arg5) (V m c main_arg1) (V m c main_arg0) (V m c main_arg2) (V m c main_arg3) := by
  rw [BI.bigSep_eq_bigSepL_of_eq [main_arg0, main_arg1, main_arg2, main_arg3, main_arg4, main_arg5] (by decide) (by decide)]
  rfl
theorem res_eq (c : Dev nD) (G : (b : Ref sig .tc) → Buf (Elt F) ((c : Thread nD τ).loc b)) : (Pipeline.routed R0 c G : sProp 𝕄)
    = resv c (G main_v0_0) (G main_v0_1) (G main_v0_2) (G main_v0_3) (G main_v0_4) (G main_v0_5) (G main_v0_6) := by
  unfold Pipeline.routed
  rw [BI.bigSep_eq_bigSepL_of_eq [main_v0_0, main_v0_1, main_v0_2, main_v0_3, main_v0_4, main_v0_5, main_v0_6] (by decide) (by decide)]
  rfl
/-- The invariant, as the body has it. -/
theorem phi_eq (c : Dev nD) (G : (c : Dev nD) → (b : Ref sig .tc) → Buf (Elt F) ((c : Thread nD τ).loc b)) :
    Pipeline.ΦDRG osem0 (cfg0.spec) H0 R0 (V m) G c = (iprop(scr c ∗ (∃ r, prngReg c r) ∗ sems c
      ∗ argv c (V m c main_arg4) (V m c main_arg5) (V m c main_arg1) (V m c main_arg0) (V m c main_arg2) (V m c main_arg3)
      ∗ resv c (G c main_v0_0) (G c main_v0_1) (G c main_v0_2) (G c main_v0_3) (G c main_v0_4) (G c main_v0_5) (G c main_v0_6)) : sProp 𝕄) := by
  rw [Pipeline.ΦDRG_eq, scopedRest0_eq, sems_eq, args_eq, res_eq]
  rfl

theorem sound_body (c : Dev nD) (t : Fin cfg0.N) :
    iprop((dats m 0 c).Φ t.castSucc ∗ (dats m 0 c).owesAt () t.castSucc)
      ⊢ wp frame (wpE (defs₀ (F := F)) Variants.none (c : Thread nD τ) none) Set.univ (bodyAt0 t) (fun _ => iprop((dats m 0 c).Φ t.succ ∗ (dats m 0 c).owesAt () t.succ)) := by
  obtain rfl := fin_N0 t
  rw [show (dats m 0 c).Φ t0_0.castSucc = Pipeline.ΦDRG osem0 (cfg0.spec) H0 R0 (V m) (V m) c from rfl,
    show (dats m 0 c).Φ t0_0.succ = Pipeline.ΦDRG osem0 (cfg0.spec) H0 R0 (V m) (G m) c from rfl, phi_eq, phi_eq]
  rw [G_0, G_1, G_2, G_3, G_4, G_5, G_6]
  unfold Dat.owesAt Pipeline.owesWithin
  rw [show (dats m 0 c).owed t0_0.castSucc = 0 from rfl, show (dats m 0 c).owed t0_0.succ = 0 from rfl]
  iintro ⟨⟨HS, Hg, HQ, HA, HR⟩, ⟨%W, -, HW⟩⟩
  have hb := body (F := F) c Variants.none (V m c main_arg4) (V m c main_arg5) (V m c main_arg1) (V m c main_arg0) (V m c main_arg2) (V m c main_arg3)
    (V m c main_v0_0) (V m c main_v0_1) (V m c main_v0_2) (V m c main_v0_3) (V m c main_v0_4) (V m c main_v0_5) (V m c main_v0_6)
  iapply (wp_then c Variants.none hb) $$ [HS HQ HA HR HW]
  · isplitl [HS]; · iexact HS
    isplitl [HQ]; · iexact HQ
    isplitl [HA]; · iexact HA
    isplitl [HR]; · iexact HR
    iexists W; iexact HW
  iintro %x ⟨HS, HQ, HA, HR, ⟨%W', HW⟩⟩
  isplitr [HW]
  · isplitl [HS]; · iexact HS
    isplitl [Hg]; · iexact Hg
    isplitl [HQ]; · iexact HQ
    isplitl [HA]; · iexact HA
    iexact HR
  iexists W'; isplitr; · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]
theorem none_eq (Φ : Fin 0 → sProp 𝕄) : bigSep Finset.univ Φ = iprop(emp) := by
  rw [Finset.univ_eq_empty, bigSep_empty]
  rfl

theorem body_obligation (c : Dev nD) : BodyObligation (dats (F := F) m 0 c) (defs₀ (F := F)) Variants.none () Set.univ := fun t => by
  rw [defs₀_row]
  refine triple_restated (sound_body m c t) rfl ?_ fun _ => ?_
  · iintro ⟨H, H', -⟩
    isplitl [H]; · iexact H
    iexact H'
  · iintro ⟨H, H'⟩
    isplitl [H]; · iexact H
    isplitl [H']; · iexact H'
    iapply (ofEq _ _ (none_eq _).symm)
    iempintro

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => .rfl) (hout := fun _ => .rfl)

theorem arg_same (c : Dev nD) (r : PUnit × MemSt nD τ sig (Elt F)) (h : Pipeline.FramePostRG cfgs (dats m) 0 R0 (V m) (G m) r) (b : Ref sig .tc) (hb : b ∈ Pipeline.restRefs sig (cfg0.spec) \ R0) :
    r.2.mem ((c.tc : Thread nD τ).loc b) = m ((c.tc : Thread nD τ).loc b) := (h.1 c).2 b hb

/-- The arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs (onTc (τ := τ) (main (F := F))) ⟨m, fun _ => 0, ρ⟩).mono (fun r h => ⟨fun c => ⟨arg_same m c r h.1 main_arg0 (by decide), arg_same m c r h.1 main_arg1 (by decide), arg_same m c r h.1 main_arg2 (by decide), arg_same m c r h.1 main_arg3 (by decide), arg_same m c r h.1 main_arg4 (by decide), arg_same m c r h.1 main_arg5 (by decide)⟩, h.2⟩) (run_main m ρ)

/-- The values. -/
theorem values : θ_run defs (onTc (τ := τ) (main (F := F))) ⟨m, fun _ => 0, ρ⟩ (fun r => ∀ c : Dev nD,
      (r.2.mem ((c.tc : Thread nD τ).loc main_v0_0) = (outW (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3)))
      ∧ r.2.mem ((c.tc : Thread nD τ).loc main_v0_1) = (newM (kapG (m ((c : Thread nD τ).loc main_arg1))) (m ((c : Thread nD τ).loc main_arg1)) (m ((c : Thread nD τ).loc main_arg2)))
      ∧ r.2.mem ((c.tc : Thread nD τ).loc main_v0_2) = (newV (kapG (m ((c : Thread nD τ).loc main_arg1))) (m ((c : Thread nD τ).loc main_arg1)) (m ((c : Thread nD τ).loc main_arg3)))
      ∧ r.2.mem ((c.tc : Thread nD τ).loc main_v0_3) = (normG (m ((c : Thread nD τ).loc main_arg1)))
      ∧ r.2.mem ((c.tc : Thread nD τ).loc main_v0_4) = (outC (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3)))
      ∧ r.2.mem ((c.tc : Thread nD τ).loc main_v0_5) = (outS (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3)))
      ∧ r.2.mem ((c.tc : Thread nD τ).loc main_v0_6) = (outT (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs (onTc (τ := τ) (main (F := F))) ⟨m, fun _ => 0, ρ⟩).mono (fun r h c => ⟨⟨(h.1.2 c main_v0_0 (by decide)).trans (G_0 m c), (h.1.2 c main_v0_1 (by decide)).trans (G_1 m c), (h.1.2 c main_v0_2 (by decide)).trans (G_2 m c), (h.1.2 c main_v0_3 (by decide)).trans (G_3 m c), (h.1.2 c main_v0_4 (by decide)).trans (G_4 m c), (h.1.2 c main_v0_5 (by decide)).trans (G_5 m c), (h.1.2 c main_v0_6 (by decide)).trans (G_6 m c)⟩, arg_same m c r h.1 main_arg0 (by decide), arg_same m c r h.1 main_arg1 (by decide), arg_same m c r h.1 main_arg2 (by decide), arg_same m c r h.1 main_arg3 (by decide), arg_same m c r h.1 main_arg4 (by decide), arg_same m c r h.1 main_arg5 (by decide)⟩) (run_main m ρ)

end Cert.Proof.K
-- ==== Proof.KIPay.lean ====
/-
  The strip's payloads read at one position: each half of a strip computes, lane by lane, the same scalar
  functions of the moments, the weight, the gradient and the coefficients.
-/
module

public import proofs.«01_k».proof.Proof.Gen.KernelIdeal.Skeleton
public import Idealize.ShloMosaic.Lib.PointwiseCore

@[expose] public section

noncomputable section

namespace Cert.Proof.KI

open Cert.KernelIdeal Cert.KernelIdeal.Gen
open Idealize.ShloMosaic Idealize.ShloMosaic.Pointwise

variable {F : FTy → Type} [FloatOps F]

/-- The clipped gradient. -/
def gS (κ : F .f32) (g : F .bf16) : F .f32 := FloatOps.mulf κ (FloatOps.extf .f32 bitsLt_bf16_f32 g)

/-- The new first moment, of the clip coefficient, the gradient and the old moment. -/
def mS (κ : F .f32) (g : F .bf16) (m : F .f32) : F .f32 :=
  FloatOps.addf (FloatOps.mulf (FloatOps.ofBits .f32 0x3F666666#32) m) (FloatOps.mulf (FloatOps.ofBits .f32 0x3DCCCCCD#32) (gS κ g))

/-- The new second moment. -/
def vS (κ : F .f32) (g : F .bf16) (v : F .f32) : F .f32 :=
  FloatOps.addf (FloatOps.mulf (FloatOps.ofBits .f32 0x3F733333#32) v)
    (FloatOps.mulf (FloatOps.mulf (FloatOps.ofBits .f32 0x3D4CCCCD#32) (gS κ g)) (gS κ g))

/-- The new weight, of the step size, the decay, the second moment's correction, the new moments and the old weight. -/
def wS (p d r : F .f32) (m v w : F .f32) : F .f32 :=
  FloatOps.subf (FloatOps.mulf w d)
    (FloatOps.mulf p (FloatOps.divf m (FloatOps.addf (FloatOps.mulf (FloatOps.sqrt v) r) (FloatOps.ofBits .f32 0x322BCC77#32))))

/-- Row `i` of the first half of a strip of the gradient. -/
def lo (x : Fin 8) : Fin 16 := ⟨x.val, by omega⟩
/-- Row `i` of the second half. -/
def hi (x : Fin 8) : Fin 16 := ⟨8 + x.val, by omega⟩

section Halves
variable (κ p d r a b : FVec F S8x128 .f32) (G : Vec F S1x16x128 .bf16) (M V W : Vec F S1x8x128 .f32)

theorem pay14_apply (x : S1x8x128.Idx) : k0_pay14 κ G M x = mS (κ (ix2 (x 1) (x 2))) (G (ix3 0 (lo (x 1)) (x 2))) (M x) := by
  pointwise [k0_pay14, k0_pay12, k0_pay11, k0_pay10, mS, gS]; rfl
theorem pay15_apply (x : S1x8x128.Idx) : k0_pay15 κ G V x = vS (κ (ix2 (x 1) (x 2))) (G (ix3 0 (lo (x 1)) (x 2))) (V x) := by
  pointwise [k0_pay15, k0_pay13, k0_pay11, k0_pay10, vS, gS]; rfl
theorem pay19_apply (x : S1x8x128.Idx) : k0_pay19 p d (k0_pay12 κ G M) (k0_pay16 κ r G V) k0_pay17 W x
    = wS (p (ix2 (x 1) (x 2))) (d (ix2 (x 1) (x 2))) (r (ix2 (x 1) (x 2))) (k0_pay14 κ G M x) (k0_pay15 κ G V x) (W x) := by
  pointwise [k0_pay19, k0_pay18, k0_pay16, k0_pay17, k0_pay14, k0_pay15, wS]
theorem pay20_apply (x : S1x8x128.Idx) : k0_pay20 p d a (k0_pay12 κ G M) (k0_pay16 κ r G V) k0_pay17 W (ix2 (x 1) (x 2))
    = FloatOps.maximumf (a (ix2 (x 1) (x 2))) (FloatOps.absf (k0_pay19 p d (k0_pay12 κ G M) (k0_pay16 κ r G V) k0_pay17 W x)) := by
  pointwise [k0_pay20, k0_pay19]
theorem pay24_apply (x : S1x8x128.Idx) : k0_pay24 κ (k0_pay10 G) M x = mS (κ (ix2 (x 1) (x 2))) (G (ix3 0 (hi (x 1)) (x 2))) (M x) := by
  pointwise [k0_pay24, k0_pay22, k0_pay21, k0_pay10, mS, gS]; rfl
theorem pay26_apply (x : S1x8x128.Idx) : k0_pay26 (k0_pay23 κ (k0_pay10 G) V) x = vS (κ (ix2 (x 1) (x 2))) (G (ix3 0 (hi (x 1)) (x 2))) (V x) := by
  pointwise [k0_pay26, k0_pay23, k0_pay21, k0_pay10, vS, gS]; rfl
theorem pay28_apply (x : S1x8x128.Idx) : k0_pay28 p d r (k0_pay22 κ (k0_pay10 G) M) (k0_pay23 κ (k0_pay10 G) V) W x
    = wS (p (ix2 (x 1) (x 2))) (d (ix2 (x 1) (x 2))) (r (ix2 (x 1) (x 2))) (k0_pay24 κ (k0_pay10 G) M x) (k0_pay26 (k0_pay23 κ (k0_pay10 G) V) x) (W x) := by
  pointwise [k0_pay28, k0_pay27, k0_pay24, k0_pay26, wS]
theorem pay29_apply (x : S1x8x128.Idx) : k0_pay29 p d r a (k0_pay22 κ (k0_pay10 G) M) (k0_pay23 κ (k0_pay10 G) V) W (ix2 (x 1) (x 2))
    = FloatOps.maximumf (a (ix2 (x 1) (x 2))) (FloatOps.absf (k0_pay28 p d r (k0_pay22 κ (k0_pay10 G) M) (k0_pay23 κ (k0_pay10 G) V) W x)) := by
  pointwise [k0_pay29, k0_pay28]
end Halves

end Cert.Proof.KI
-- ==== Proof.KISets.lean ====
/-
  Where the kernel's windows lie: the closed forms of the offsets the program computes, and the sets of elements of
  the chunks (128 rows of one matrix), of the columns of the transposed codes, and of the matrices.
-/
module

public import proofs.«01_k».proof.Proof.Gen.KernelIdeal.Skeleton
public import proofs.«01_k».proof.Proof.Rules

@[expose] public section

noncomputable section

namespace Cert.Proof.KI

open Cert.KernelIdeal Cert.KernelIdeal.Gen
open Idealize.ShloMosaic

theorem trips1 : k0_t1_loop.trips = 6 := by decide +kernel
theorem trips2 : k0_t2_loop.trips = 12 := by decide +kernel
theorem trips3 : k0_t3_loop.trips = 6 := by decide +kernel
theorem trips4 : k0_t4_loop.trips = 6 := by decide +kernel
theorem trips5 : k0_t5_loop.trips = 16 := by decide +kernel
theorem trips6 : k0_t6_loop.trips = 12 := by decide +kernel
theorem trips7 : k0_t7_loop.trips = 12 := by decide +kernel
theorem trips8 : k0_t8_loop.trips = 8 := by decide +kernel
theorem trips9 : k0_t9_loop.trips = 11 := by decide +kernel

theorem off3_eq : ∀ t, k0_off3 t = ![t.val] := by decide +kernel
theorem off4_eq : ∀ t, k0_off4 t = ![t.val / 2, t.val % 2 * 128, 0] := by decide +kernel
theorem off23_eq : ∀ t, k0_off23 t = ![t.val] := by decide +kernel
theorem off24_eq : ∀ t, k0_off24 t = ![t.val / 2, t.val % 2 * 128, 0] := by decide +kernel
theorem off25_eq : ∀ t, k0_off25 t = ![t.val / 2, 0, 0, 0] := by decide +kernel
theorem off26_eq : ∀ t, k0_off26 t = ![t.val / 2, 1, 0, 0] := by decide +kernel
theorem off27_eq : ∀ t, k0_off27 t = ![t.val / 2, 2, 0, 0] := by decide +kernel
theorem off28_eq : ∀ t u s, k0_off28 t u s = ![t.val / 2, t.val % 2 * 128 + 16 * s.val, 128 * u.val] := by decide +kernel
theorem off29_eq0 : ∀ t u s, k0_off29 t u s 0#32 = ![t.val / 2, t.val % 2 * 128 + 16 * s.val, 128 * u.val] := by decide +kernel
theorem off29_eq8 : ∀ t u s, k0_off29 t u s 8#32 = ![t.val / 2, t.val % 2 * 128 + 16 * s.val + 8, 128 * u.val] := by decide +kernel
theorem off30_eq : ∀ t u, k0_off30 t u = ![t.val / 2, t.val % 2 * 128, 128 * u.val] := by decide +kernel
theorem off31_eq : ∀ t u, k0_off31 t u = ![t.val / 2, 128 * u.val, t.val % 2 * 128] := by decide +kernel
theorem off32_eq : ∀ t, k0_off32 t = ![t.val / 2, t.val % 2, 0] := by decide +kernel
theorem off33_eq : ∀ t, k0_cond1 t = 1#1 → k0_off33 t = ![(t.val - 1) / 2, (t.val - 1) % 2 * 128, 0] := by decide +kernel
theorem off34_eq : ∀ t, k0_cond1 t = 1#1 → k0_off34 t = ![(t.val - 1) / 2, 0, (t.val - 1) % 2 * 128] := by decide +kernel
theorem cond1_iff : ∀ t, k0_cond1 t = 1#1 ↔ 0 < t.val := by decide +kernel

end Cert.Proof.KI
-- ==== Proof.KIStrip.lean ====
/-
  One strip: sixteen rows of one 128-wide block get their new moments and weight, and the running absolute maximum of
  the block takes them in. The buffers' contents are functions on indices: where the strip has passed they hold the new
  values, elsewhere the old ones.
-/
module

public import proofs.«01_k».proof.Proof.KIPay
public import proofs.«01_k».proof.Proof.KISets

@[expose] public section

set_option maxRecDepth 8192

noncomputable section

namespace Cert.Proof.KI

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

/-- The proof's resource algebra. -/
local notation "𝕄" => MT nD τ sig Unit (Elt F) ℕ (Pipeline.UD sig nD τ) ℕ

/-- The position of an element within the coefficient vectors. -/
def sub (y : S6x256x1536.Idx) : S8x128.Idx := ix2 (⟨(y 1).val % 8, Nat.mod_lt _ (by decide)⟩ : Fin 8) (⟨(y 2).val % 128, Nat.mod_lt _ (by decide)⟩ : Fin 128)

/-- An element named by numbers. -/
def at3 (a r l : ℕ) : S6x256x1536.Idx :=
  ix3 (⟨a % 6, Nat.mod_lt _ (by decide)⟩ : Fin 6) (⟨r % 256, Nat.mod_lt _ (by decide)⟩ : Fin 256) (⟨l % 1536, Nat.mod_lt _ (by decide)⟩ : Fin 1536)

/-- The new first moments. -/
def newM (κ : FVec F S8x128 .f32) (G : Vec F S6x256x1536 .bf16) (M : Vec F S6x256x1536 .f32) : Vec F S6x256x1536 .f32 :=
  fun y => mS (κ (sub y)) (G y) (M y)
/-- The new second moments. -/
def newV (κ : FVec F S8x128 .f32) (G : Vec F S6x256x1536 .bf16) (V : Vec F S6x256x1536 .f32) : Vec F S6x256x1536 .f32 :=
  fun y => vS (κ (sub y)) (G y) (V y)
/-- The new weights. -/
def newW (κ p d r : FVec F S8x128 .f32) (G : Vec F S6x256x1536 .bf16) (M V W : Vec F S6x256x1536 .f32) : Vec F S6x256x1536 .f32 :=
  fun y => wS (p (sub y)) (d (sub y)) (r (sub y)) (newM κ G M y) (newV κ G V y) (W y)

/-- The elements of a chunk that block `u`'s strip `s` and everything before have passed. -/
def done (u s : ℕ) (y : S6x256x1536.Idx) : Prop := (y 2).val < 128 * u ∨ ((y 2).val < 128 * u + 128 ∧ (y 1).val % 128 < 16 * s)

instance (u s : ℕ) (y : S6x256x1536.Idx) : Decidable (done u s y) := inferInstanceAs (Decidable (_ ∨ _))

/-- The new contents where `done`, the old ones elsewhere. -/
def part {α : Type} (u s : ℕ) (N M : S6x256x1536.Idx → α) : S6x256x1536.Idx → α := fun y => if done u s y then N y else M y

/-- A chunk: 128 rows of one matrix. -/
def inCh (t : ℕ) (y : S6x256x1536.Idx) : Prop := (y 0).val = t / 2 ∧ (y 1).val / 128 = t % 2
instance (t : ℕ) (y : S6x256x1536.Idx) : Decidable (inCh t y) := inferInstanceAs (Decidable (_ ∧ _))
def chS (t : ℕ) : Finset S6x256x1536.Idx := Finset.univ.filter (inCh t)

theorem mem_chS {t : ℕ} {y : S6x256x1536.Idx} : y ∈ chS t ↔ inCh t y := by simp [chS]

/-- The maximum of the magnitudes of a strip's new weights, folded into the accumulator. -/
def accS (N : Vec F S6x256x1536 .f32) (a r l : ℕ) (acc : FVec F S8x128 .f32) : FVec F S8x128 .f32 := fun x =>
  FloatOps.maximumf (FloatOps.maximumf (acc x) (FloatOps.absf (N (at3 a (r + (x 0).val) (l + (x 1).val)))))
    (FloatOps.absf (N (at3 a (r + 8 + (x 0).val) (l + (x 1).val))))

/-- The accumulator after `n` strips of block `u` of chunk `t`. -/
def accN (N : Vec F S6x256x1536 .f32) (t u : ℕ) : ℕ → FVec F S8x128 .f32
  | 0 => k0_pay25
  | n + 1 => accS N (t / 2) (t % 2 * 128 + 16 * n) (128 * u) (accN N t u n)

/-- Where a strip's half begins. -/
abbrev o0 (t u s : ℕ) : Fin 3 → ℕ := ![t / 2, t % 2 * 128 + 16 * s, 128 * u]
abbrev o8 (t u s : ℕ) : Fin 3 → ℕ := ![t / 2, t % 2 * 128 + 16 * s + 8, 128 * u]

theorem inb_o0 {t u s : ℕ} (ht : t < 12) (hu : u < 12) (hs : s < 8) : ∀ a, o0 t u s a + S1x8x128.size a ≤ S6x256x1536.size a := by
  intro a; match a with
  | ⟨0, _⟩ => show t / 2 + 1 ≤ 6; omega
  | ⟨1, _⟩ => show t % 2 * 128 + 16 * s + 8 ≤ 256; omega
  | ⟨2, _⟩ => show 128 * u + 128 ≤ 1536; omega

theorem fin3 {P : Fin 3 → Prop} : (∀ a, P a) ↔ P 0 ∧ P 1 ∧ P 2 :=
  ⟨fun h => ⟨h 0, h 1, h 2⟩, fun h a => match a with | ⟨0, _⟩ => h.1 | ⟨1, _⟩ => h.2.1 | ⟨2, _⟩ => h.2.2⟩

theorem strip_sub (t u s : ℕ) (hs : s < 8) (off size : Fin 3 → ℕ) (inb : ∀ a, off a + size a ≤ S6x256x1536.size a)
    (h0 : off 0 = t / 2 ∧ size 0 = 1) (h1 : t % 2 * 128 + 16 * s ≤ off 1 ∧ off 1 + size 1 ≤ t % 2 * 128 + 16 * s + 16) :
    (Rect.unit (s := S6x256x1536) off size inb).set ⊆ chS t := by
  intro y hy
  have h := (Rect.mem_set_unit (s := S6x256x1536)).1 hy
  have a0 := h 0; have a1 := h 1
  refine mem_chS.2 ⟨?_, ?_⟩ <;> omega

/-- Two windows of eight rows put over the old contents are the strip done. -/
theorem put2 {α : Type} (N M : S6x256x1536.Idx → α) (t u s : ℕ) (w0 w8 : (S1x8x128).Idx → α)
    (h0 : ∀ x : S1x8x128.Idx, w0 x = N (at3 (t / 2) (t % 2 * 128 + 16 * s + (x 1).val) (128 * u + (x 2).val)))
    (h8 : ∀ x : S1x8x128.Idx, w8 x = N (at3 (t / 2) (t % 2 * 128 + 16 * s + 8 + (x 1).val) (128 * u + (x 2).val)))
    (y : S6x256x1536.Idx) (hy : y ∈ chS t) :
    put (s := S6x256x1536) (put (s := S6x256x1536) (part u s N M) (o0 t u s) S1x8x128.size w0) (o8 t u s) S1x8x128.size w8 y = part u (s + 1) N M y := by
  obtain ⟨c0, c1⟩ := mem_chS.1 hy
  have b0 := (y 0).isLt; have b1 := (y 1).isLt; have b2 := (y 2).isLt
  change (y 0).val < 6 at b0; change (y 1).val < 256 at b1; change (y 2).val < 1536 at b2
  unfold put
  by_cases hA : ∀ a : Fin 3, o8 t u s a ≤ (y a).val ∧ (y a).val < o8 t u s a + S1x8x128.size a
  · rw [dif_pos hA, h8]
    obtain ⟨⟨p0, q0⟩, ⟨p1, q1⟩, ⟨p2, q2⟩⟩ := fin3.1 hA
    change t / 2 ≤ _ at p0; change _ < t / 2 + 1 at q0; change t % 2 * 128 + 16 * s + 8 ≤ _ at p1; change _ < t % 2 * 128 + 16 * s + 8 + 8 at q1
    change 128 * u ≤ _ at p2; change _ < 128 * u + 128 at q2
    rw [part, if_pos (by unfold done; omega)]
    congr 1
    funext a; match a with
    | ⟨0, _⟩ => exact Fin.ext (show t / 2 % 6 = (y 0).val by omega)
    | ⟨1, _⟩ => exact Fin.ext (show (t % 2 * 128 + 16 * s + 8 + ((y 1).val - (t % 2 * 128 + 16 * s + 8))) % 256 = (y 1).val by omega)
    | ⟨2, _⟩ => exact Fin.ext (show (128 * u + ((y 2).val - 128 * u)) % 1536 = (y 2).val by omega)
  rw [dif_neg hA]
  have hA' : ¬ ((y 1).val ≥ t % 2 * 128 + 16 * s + 8 ∧ (y 1).val < t % 2 * 128 + 16 * s + 16 ∧ (y 2).val ≥ 128 * u ∧ (y 2).val < 128 * u + 128) := fun hh => hA (fin3.2
    ⟨⟨show t / 2 ≤ _ by omega, show _ < t / 2 + 1 by omega⟩, ⟨show t % 2 * 128 + 16 * s + 8 ≤ _ by omega, show _ < t % 2 * 128 + 16 * s + 8 + 8 by omega⟩, ⟨show 128 * u ≤ _ by omega, show _ < 128 * u + 128 by omega⟩⟩)
  by_cases hB : ∀ a : Fin 3, o0 t u s a ≤ (y a).val ∧ (y a).val < o0 t u s a + S1x8x128.size a
  · rw [dif_pos hB, h0]
    obtain ⟨⟨p0, q0⟩, ⟨p1, q1⟩, ⟨p2, q2⟩⟩ := fin3.1 hB
    change t / 2 ≤ _ at p0; change _ < t / 2 + 1 at q0; change t % 2 * 128 + 16 * s ≤ _ at p1; change _ < t % 2 * 128 + 16 * s + 8 at q1
    change 128 * u ≤ _ at p2; change _ < 128 * u + 128 at q2
    rw [part, if_pos (by unfold done; omega)]
    congr 1
    funext a; match a with
    | ⟨0, _⟩ => exact Fin.ext (show t / 2 % 6 = (y 0).val by omega)
    | ⟨1, _⟩ => exact Fin.ext (show (t % 2 * 128 + 16 * s + ((y 1).val - (t % 2 * 128 + 16 * s))) % 256 = (y 1).val by omega)
    | ⟨2, _⟩ => exact Fin.ext (show (128 * u + ((y 2).val - 128 * u)) % 1536 = (y 2).val by omega)
  rw [dif_neg hB]
  have hB' : ¬ ((y 1).val ≥ t % 2 * 128 + 16 * s ∧ (y 1).val < t % 2 * 128 + 16 * s + 8 ∧ (y 2).val ≥ 128 * u ∧ (y 2).val < 128 * u + 128) := fun hh => hB (fin3.2
    ⟨⟨show t / 2 ≤ _ by omega, show _ < t / 2 + 1 by omega⟩, ⟨show t % 2 * 128 + 16 * s ≤ _ by omega, show _ < t % 2 * 128 + 16 * s + 8 by omega⟩, ⟨show 128 * u ≤ _ by omega, show _ < 128 * u + 128 by omega⟩⟩)
  have e : done u s y ↔ done u (s + 1) y := by unfold done; omega
  unfold part
  by_cases hd : done u s y
  · rw [if_pos hd, if_pos (e.1 hd)]
  · rw [if_neg hd, if_neg fun h => hd (e.2 h)]

/-- What a window of eight rows of a strip not yet done reads. -/
theorem window_part {α : Type} (N M : S6x256x1536.Idx → α) (t u s e : ℕ) (he : e < 9) (ht : t < 12) (hu : u < 12) (hs : s < 8) (off : Fin 3 → ℕ)
    (ho : off = ![t / 2, t % 2 * 128 + 16 * s + e, 128 * u]) (inb : ∀ a, off a + S1x8x128.size a ≤ S6x256x1536.size a) (x : S1x8x128.Idx) :
    window (s := S6x256x1536) (part u s N M) off S1x8x128.size inb x = M (at3 (t / 2) (t % 2 * 128 + 16 * s + e + (x 1).val) (128 * u + (x 2).val)) := by
  subst ho
  have b0 : (x 0).val < 1 := (x 0).isLt
  have b1 : (x 1).val < 8 := (x 1).isLt
  have b2 : (x 2).val < 128 := (x 2).isLt
  have e0 : (Rect.unit (s := S6x256x1536) ![t / 2, t % 2 * 128 + 16 * s + e, 128 * u] S1x8x128.size inb).emb x
      = at3 (t / 2) (t % 2 * 128 + 16 * s + e + (x 1).val) (128 * u + (x 2).val) := by
    funext a; match a with
    | ⟨0, _⟩ => exact Fin.ext (show t / 2 + 1 * (x 0).val = t / 2 % 6 by omega)
    | ⟨1, _⟩ => exact Fin.ext (show t % 2 * 128 + 16 * s + e + 1 * (x 1).val = (t % 2 * 128 + 16 * s + e + (x 1).val) % 256 by omega)
    | ⟨2, _⟩ => exact Fin.ext (show 128 * u + 1 * (x 2).val = (128 * u + (x 2).val) % 1536 by omega)
  show part u s N M ((Rect.unit (s := S6x256x1536) ![t / 2, t % 2 * 128 + 16 * s + e, 128 * u] S1x8x128.size inb).emb x) = _
  rw [e0, part, if_neg]
  intro h
  change (128 * u + (x 2).val) % 1536 < 128 * u ∨ ((128 * u + (x 2).val) % 1536 < 128 * u + 128 ∧ (t % 2 * 128 + 16 * s + e + (x 1).val) % 256 % 128 < 16 * s) at h
  omega

/-- What a window of sixteen rows reads. -/
theorem window_G {α : Type} (M : S6x256x1536.Idx → α) (t u s : ℕ) (ht : t < 12) (hu : u < 12) (hs : s < 8)
    (inb : ∀ a, o0 t u s a + S1x16x128.size a ≤ S6x256x1536.size a) (x : S1x16x128.Idx) :
    window (s := S6x256x1536) M (o0 t u s) S1x16x128.size inb x = M (at3 (t / 2) (t % 2 * 128 + 16 * s + (x 1).val) (128 * u + (x 2).val)) := by
  have b0 : (x 0).val < 1 := (x 0).isLt
  have b1 : (x 1).val < 16 := (x 1).isLt
  have b2 : (x 2).val < 128 := (x 2).isLt
  refine congrArg M (funext fun a => ?_)
  match a with
    | ⟨0, _⟩ => exact Fin.ext (show t / 2 + 1 * (x 0).val = t / 2 % 6 by omega)
    | ⟨1, _⟩ => exact Fin.ext (show t % 2 * 128 + 16 * s + 1 * (x 1).val = (t % 2 * 128 + 16 * s + (x 1).val) % 256 by omega)
    | ⟨2, _⟩ => exact Fin.ext (show 128 * u + 1 * (x 2).val = (128 * u + (x 2).val) % 1536 by omega)

theorem sub_at3 (t u s e : ℕ) (he : e = 0 ∨ e = 8) (ht : t < 12) (hu : u < 12) (hs : s < 8) (i : Fin 8) (j : Fin 128) :
    sub (at3 (t / 2) (t % 2 * 128 + 16 * s + e + i.val) (128 * u + j.val)) = ix2 i j := by
  have := i.isLt; have := j.isLt
  funext a; match a with
  | ⟨0, _⟩ => exact Fin.ext (show (t % 2 * 128 + 16 * s + e + i.val) % 256 % 8 = i.val by omega)
  | ⟨1, _⟩ => exact Fin.ext (show (128 * u + j.val) % 1536 % 128 = j.val by omega)

end Cert.Proof.KI
-- ==== Proof.KITrip8.lean ====
/-
  One trip of the strip loop, run: the three buffers' chunk and the accumulator step from strip `s` to strip `s + 1`.
-/
module

public import proofs.«01_k».proof.Proof.KIStrip
public import Idealize.ShloMosaic.Lib.Pipeline.FrameBody

@[expose] public section

set_option maxRecDepth 65536

noncomputable section

namespace Cert.Proof.KI

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

/-- The chunk's three buffers and the gradient, with strip `s` of block `u` next. -/
def strips (c : Dev nD) (κ p d r : FVec F S8x128 .f32) (G : Vec F S6x256x1536 .bf16) (M V W : Vec F S6x256x1536 .f32) (t u s : ℕ) : sProp 𝕄 :=
  iprop((((c : Thread nD τ).loc cc0_scratch1) ↦{fullShare} G)
    ∗ (((c : Thread nD τ).loc cc0_scratch2) ↦[chS t]{fullShare} (part u s (newM κ G M) M))
    ∗ (((c : Thread nD τ).loc cc0_scratch3) ↦[chS t]{fullShare} (part u s (newV κ G V) V))
    ∗ (((c : Thread nD τ).loc cc0_scratch0) ↦[chS t]{fullShare} (part u s (newW κ p d r G M V W) W)))

theorem inb_G {t u s : ℕ} (ht : t < 12) (hu : u < 12) (hs : s < 8) : ∀ a, o0 t u s a + S1x16x128.size a ≤ S6x256x1536.size a := by
  intro a; match a with
  | ⟨0, _⟩ => show t / 2 + 1 ≤ 6; omega
  | ⟨1, _⟩ => show t % 2 * 128 + 16 * s + 16 ≤ 256; omega
  | ⟨2, _⟩ => show 128 * u + 128 ≤ 1536; omega

/-! ## The two halves of a strip, at one position -/

section Half
variable (κ p d r acc : FVec F S8x128 .f32) (G : Vec F S6x256x1536 .bf16) (M V W : Vec F S6x256x1536 .f32) (t u s : ℕ) (ht : t < 12) (hu : u < 12) (hs : s < 8)

theorem inb_o8 {t u s : ℕ} (ht : t < 12) (hu : u < 12) (hs : s < 8) : ∀ a, o8 t u s a + S1x8x128.size a ≤ S6x256x1536.size a := by
  intro a; match a with
  | ⟨0, _⟩ => show t / 2 + 1 ≤ 6; omega
  | ⟨1, _⟩ => show t % 2 * 128 + 16 * s + 8 + 8 ≤ 256; omega
  | ⟨2, _⟩ => show 128 * u + 128 ≤ 1536; omega

/-- The strip's gradient, and a buffer's first and second eight rows. -/
abbrev gW : Vec F S1x16x128 .bf16 := window (s := S6x256x1536) G (o0 t u s) S1x16x128.size (inb_G ht hu hs)
abbrev w0 (N M : Vec F S6x256x1536 .f32) : Vec F S1x8x128 .f32 := window (s := S6x256x1536) (part u s N M) (o0 t u s) S1x8x128.size (inb_o0 ht hu hs)
abbrev w8 (N M : Vec F S6x256x1536 .f32) : Vec F S1x8x128 .f32 := window (s := S6x256x1536) (part u s N M) (o8 t u s) S1x8x128.size (inb_o8 ht hu hs)

theorem w8_put (f : Vec F S6x256x1536 .f32) (w : Vec F S1x8x128 .f32) :
    window (s := S6x256x1536) (put (s := S6x256x1536) f (o0 t u s) S1x8x128.size w) (o8 t u s) S1x8x128.size (inb_o8 ht hu hs)
      = window (s := S6x256x1536) f (o8 t u s) S1x8x128.size (inb_o8 ht hu hs) :=
  window_put_of_disjoint (s := S6x256x1536) f (o0 t u s) S1x8x128.size (o8 t u s) S1x8x128.size (inb_o8 ht hu hs) w 1 (.inr (by show t % 2 * 128 + 16 * s + 8 ≤ t % 2 * 128 + 16 * s + 8; omega))

theorem mS_congr {a a' : F .f32} {b b' : F .bf16} {e e' : F .f32} (h : a = a') (h' : b = b') (h'' : e = e') : mS a b e = mS a' b' e' := by subst h h' h''; rfl
theorem vS_congr {a a' : F .f32} {b b' : F .bf16} {e e' : F .f32} (h : a = a') (h' : b = b') (h'' : e = e') : vS a b e = vS a' b' e' := by subst h h' h''; rfl
theorem wS_congr {a a' b b' e e' m m' v v' w w' : F .f32} (h : a = a') (h' : b = b') (h'' : e = e') (h1 : m = m') (h2 : v = v') (h3 : w = w') :
    wS a b e m v w = wS a' b' e' m' v' w' := by subst h h' h'' h1 h2 h3; rfl
theorem max_congr {a a' b b' : F .f32} (h : a = a') (h' : b = b') : FloatOps.maximumf a (FloatOps.absf b) = FloatOps.maximumf a' (FloatOps.absf b') := by subst h h'; rfl

include ht hu hs in
theorem s0 (f : FVec F S8x128 .f32) (x : S1x8x128.Idx) : f (ix2 (x 1 : Fin 8) (x 2 : Fin 128)) = f (sub (at3 (t / 2) (t % 2 * 128 + 16 * s + (x 1).val) (128 * u + (x 2).val))) :=
  congrArg f (sub_at3 t u s 0 (.inl rfl) ht hu hs (x 1) (x 2)).symm
include ht hu hs in
theorem s8 (f : FVec F S8x128 .f32) (x : S1x8x128.Idx) : f (ix2 (x 1 : Fin 8) (x 2 : Fin 128)) = f (sub (at3 (t / 2) (t % 2 * 128 + 16 * s + 8 + (x 1).val) (128 * u + (x 2).val))) :=
  congrArg f (sub_at3 t u s 8 (.inr rfl) ht hu hs (x 1) (x 2)).symm
theorem g0 (x : S1x8x128.Idx) : gW G t u s ht hu hs (ix3 0 (lo (x 1)) (x 2 : Fin 128)) = G (at3 (t / 2) (t % 2 * 128 + 16 * s + (x 1).val) (128 * u + (x 2).val)) :=
  window_G G t u s ht hu hs _ _
theorem g8 (x : S1x8x128.Idx) : gW G t u s ht hu hs (ix3 0 (hi (x 1)) (x 2 : Fin 128)) = G (at3 (t / 2) (t % 2 * 128 + 16 * s + 8 + (x 1).val) (128 * u + (x 2).val)) :=
  (window_G G t u s ht hu hs _ _).trans (congrArg (fun n => G (at3 (t / 2) n (128 * u + (x 2).val))) (Nat.add_assoc (t % 2 * 128 + 16 * s) 8 (x 1).val).symm)
theorem p0 (N M : Vec F S6x256x1536 .f32) (x : S1x8x128.Idx) : w0 t u s ht hu hs N M x = M (at3 (t / 2) (t % 2 * 128 + 16 * s + (x 1).val) (128 * u + (x 2).val)) :=
  window_part N M t u s 0 (by decide) ht hu hs _ rfl _ x
theorem p8 (N M : Vec F S6x256x1536 .f32) (x : S1x8x128.Idx) : w8 t u s ht hu hs N M x = M (at3 (t / 2) (t % 2 * 128 + 16 * s + 8 + (x 1).val) (128 * u + (x 2).val)) :=
  window_part N M t u s 8 (by decide) ht hu hs _ rfl _ x

theorem m0_eq (x : S1x8x128.Idx) : k0_pay14 κ (gW G t u s ht hu hs) (w0 t u s ht hu hs (newM κ G M) M) x
    = newM κ G M (at3 (t / 2) (t % 2 * 128 + 16 * s + (x 1).val) (128 * u + (x 2).val)) :=
  (pay14_apply κ _ _ x).trans (mS_congr (s0 t u s ht hu hs κ x) (g0 G t u s ht hu hs x) (p0 t u s ht hu hs _ _ x))
theorem v0_eq (x : S1x8x128.Idx) : k0_pay15 κ (gW G t u s ht hu hs) (w0 t u s ht hu hs (newV κ G V) V) x
    = newV κ G V (at3 (t / 2) (t % 2 * 128 + 16 * s + (x 1).val) (128 * u + (x 2).val)) :=
  (pay15_apply κ _ _ x).trans (vS_congr (s0 t u s ht hu hs κ x) (g0 G t u s ht hu hs x) (p0 t u s ht hu hs _ _ x))
theorem x0_eq (x : S1x8x128.Idx) : k0_pay19 p d (k0_pay12 κ (gW G t u s ht hu hs) (w0 t u s ht hu hs (newM κ G M) M))
      (k0_pay16 κ r (gW G t u s ht hu hs) (w0 t u s ht hu hs (newV κ G V) V)) k0_pay17 (w0 t u s ht hu hs (newW κ p d r G M V W) W) x
    = newW κ p d r G M V W (at3 (t / 2) (t % 2 * 128 + 16 * s + (x 1).val) (128 * u + (x 2).val)) :=
  (pay19_apply κ p d r _ _ _ _ x).trans (wS_congr (s0 t u s ht hu hs p x) (s0 t u s ht hu hs d x) (s0 t u s ht hu hs r x) (m0_eq κ G M t u s ht hu hs x)
    (v0_eq κ G V t u s ht hu hs x) (p0 t u s ht hu hs _ _ x))
theorem m8_eq (x : S1x8x128.Idx) : k0_pay24 κ (k0_pay10 (gW G t u s ht hu hs)) (w8 t u s ht hu hs (newM κ G M) M) x
    = newM κ G M (at3 (t / 2) (t % 2 * 128 + 16 * s + 8 + (x 1).val) (128 * u + (x 2).val)) :=
  (pay24_apply κ _ _ x).trans (mS_congr (s8 t u s ht hu hs κ x) (g8 G t u s ht hu hs x) (p8 t u s ht hu hs _ _ x))
theorem v8_eq (x : S1x8x128.Idx) : k0_pay26 (k0_pay23 κ (k0_pay10 (gW G t u s ht hu hs)) (w8 t u s ht hu hs (newV κ G V) V)) x
    = newV κ G V (at3 (t / 2) (t % 2 * 128 + 16 * s + 8 + (x 1).val) (128 * u + (x 2).val)) :=
  (pay26_apply κ _ _ x).trans (vS_congr (s8 t u s ht hu hs κ x) (g8 G t u s ht hu hs x) (p8 t u s ht hu hs _ _ x))
theorem x8_eq (x : S1x8x128.Idx) : k0_pay28 p d r (k0_pay22 κ (k0_pay10 (gW G t u s ht hu hs)) (w8 t u s ht hu hs (newM κ G M) M))
      (k0_pay23 κ (k0_pay10 (gW G t u s ht hu hs)) (w8 t u s ht hu hs (newV κ G V) V)) (w8 t u s ht hu hs (newW κ p d r G M V W) W) x
    = newW κ p d r G M V W (at3 (t / 2) (t % 2 * 128 + 16 * s + 8 + (x 1).val) (128 * u + (x 2).val)) :=
  (pay28_apply κ p d r _ _ _ _ x).trans (wS_congr (s8 t u s ht hu hs p x) (s8 t u s ht hu hs d x) (s8 t u s ht hu hs r x) (m8_eq κ G M t u s ht hu hs x)
    (v8_eq κ G V t u s ht hu hs x) (p8 t u s ht hu hs _ _ x))
theorem acc_eq : k0_pay29 p d r (k0_pay20 p d acc (k0_pay12 κ (gW G t u s ht hu hs) (w0 t u s ht hu hs (newM κ G M) M))
        (k0_pay16 κ r (gW G t u s ht hu hs) (w0 t u s ht hu hs (newV κ G V) V)) k0_pay17 (w0 t u s ht hu hs (newW κ p d r G M V W) W))
      (k0_pay22 κ (k0_pay10 (gW G t u s ht hu hs)) (w8 t u s ht hu hs (newM κ G M) M))
      (k0_pay23 κ (k0_pay10 (gW G t u s ht hu hs)) (w8 t u s ht hu hs (newV κ G V) V)) (w8 t u s ht hu hs (newW κ p d r G M V W) W)
    = accS (newW κ p d r G M V W) (t / 2) (t % 2 * 128 + 16 * s) (128 * u) acc := by
  funext j
  obtain ⟨a, b, rfl⟩ : ∃ (a : Fin 8) (b : Fin 128), j = ix2 a b := ⟨j 0, j 1, by funext e; match e with | ⟨0, _⟩ => rfl | ⟨1, _⟩ => rfl⟩
  exact (pay29_apply κ p d r _ _ _ _ _ (ix3 (0 : Fin 1) a b)).trans (max_congr ((pay20_apply κ p d r acc _ _ _ _ (ix3 (0 : Fin 1) a b)).trans
    (max_congr rfl (x0_eq κ p d r G M V W t u s ht hu hs (ix3 (0 : Fin 1) a b)))) (x8_eq κ p d r G M V W t u s ht hu hs (ix3 (0 : Fin 1) a b)))
end Half

theorem trip8 (𝒱₀ : Variants) (c : Dev nD) (κ p d r acc : FVec F S8x128 .f32) (G : Vec F S6x256x1536 .bf16) (M V W : Vec F S6x256x1536 .f32)
    (t : Fin k0_t6_loop.trips) (u : Fin k0_t7_loop.trips) (s : Fin k0_t8_loop.trips) (v83 v125 a b v139 : BitVec 32) :
    strips c κ p d r G M V W t.val u.val s.val
      ⊢ wp frame (wpE (defs₀ (F := F)) 𝒱₀ (c : Thread nD τ) none) Set.univ
          (k0_t8_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 κ t v83 p d r v125 a b u v139 s acc)
          (fun acc' => iprop(⌜acc' = accS (newW κ p d r G M V W) (t.val / 2) (t.val % 2 * 128 + 16 * s.val) (128 * u.val) acc⌝ ∗ strips c κ p d r G M V W t.val u.val (s.val + 1))) := by
  have ht : t.val < 12 := lt_of_lt_of_eq t.isLt trips6
  have hu : u.val < 12 := lt_of_lt_of_eq u.isLt trips7
  have hs : s.val < 8 := lt_of_lt_of_eq s.isLt trips8
  have hsub0 := fun inb => strip_sub t.val u.val s.val hs (o0 t.val u.val s.val) S1x8x128.size inb ⟨rfl, rfl⟩ ⟨le_refl _, by show t.val % 2 * 128 + 16 * s.val + 8 ≤ _; omega⟩
  have hsub8 := fun inb => strip_sub t.val u.val s.val hs (o8 t.val u.val s.val) S1x8x128.size inb ⟨rfl, rfl⟩ ⟨by show _ ≤ t.val % 2 * 128 + 16 * s.val + 8; omega, by show t.val % 2 * 128 + 16 * s.val + 8 + 8 ≤ _; omega⟩
  unfold strips k0_t8_body
  rw [k0_part4_eq_skeleton, k0_part5_eq_skeleton]
  unfold k0_part4_skel k0_part5_skel
  iintro ⟨HG, HM, HV, HW⟩
  iapply (ld 𝒱₀ c none (off28_eq t u s) (Finset.subset_univ _)) $$ HG
  iintro HG
  iapply (ld 𝒱₀ c none (off29_eq0 t u s) (hsub0 _)) $$ HM
  iintro HM
  iapply (ld 𝒱₀ c none (off29_eq0 t u s) (hsub0 _)) $$ HV
  iintro HV
  iapply (ld 𝒱₀ c none (off29_eq0 t u s) (hsub0 _)) $$ HM
  iintro HM
  iapply (st 𝒱₀ c none (off29_eq0 t u s) (hsub0 _)) $$ HM
  iintro HM
  iapply (ld 𝒱₀ c none (off29_eq0 t u s) (hsub0 _)) $$ HV
  iintro HV
  iapply (st 𝒱₀ c none (off29_eq0 t u s) (hsub0 _)) $$ HV
  iintro HV
  iapply (ld 𝒱₀ c none (off29_eq0 t u s) (hsub0 _)) $$ HW
  iintro HW
  iapply (ld 𝒱₀ c none (off29_eq0 t u s) (hsub0 _)) $$ HW
  iintro HW
  iapply (st 𝒱₀ c none (off29_eq0 t u s) (hsub0 _)) $$ HW
  iintro HW
  iapply (ld 𝒱₀ c none (off29_eq8 t u s) (hsub8 _)) $$ HM
  iintro HM
  iapply (ld 𝒱₀ c none (off29_eq8 t u s) (hsub8 _)) $$ HV
  iintro HV
  iapply (ld 𝒱₀ c none (off29_eq8 t u s) (hsub8 _)) $$ HM
  iintro HM
  iapply (st 𝒱₀ c none (off29_eq8 t u s) (hsub8 _)) $$ HM
  iintro HM
  iapply (ld 𝒱₀ c none (off29_eq8 t u s) (hsub8 _)) $$ HV
  iintro HV
  iapply (st 𝒱₀ c none (off29_eq8 t u s) (hsub8 _)) $$ HV
  iintro HV
  iapply (ld 𝒱₀ c none (off29_eq8 t u s) (hsub8 _)) $$ HW
  iintro HW
  iapply (ld 𝒱₀ c none (off29_eq8 t u s) (hsub8 _)) $$ HW
  iintro HW
  iapply (st 𝒱₀ c none (off29_eq8 t u s) (hsub8 _)) $$ HW
  iintro HW
  rw [ret_bind']
  sl_step
  rw [w8_put t.val u.val s.val ht hu hs, w8_put t.val u.val s.val ht hu hs, w8_put t.val u.val s.val ht hu hs]
  rw [← show _ = ((c : Thread nD τ).loc cc0_scratch2 ↦[chS t.val]{fullShare} part u.val (s.val + 1) (newM κ G M) M : sProp 𝕄) from
      pointsTo_congr (put2 (newM κ G M) M t.val u.val s.val _ _ (m0_eq κ G M t.val u.val s.val ht hu hs) (m8_eq κ G M t.val u.val s.val ht hu hs)),
    ← show _ = ((c : Thread nD τ).loc cc0_scratch3 ↦[chS t.val]{fullShare} part u.val (s.val + 1) (newV κ G V) V : sProp 𝕄) from
      pointsTo_congr (put2 (newV κ G V) V t.val u.val s.val _ _ (v0_eq κ G V t.val u.val s.val ht hu hs) (v8_eq κ G V t.val u.val s.val ht hu hs)),
    ← show _ = ((c : Thread nD τ).loc cc0_scratch0 ↦[chS t.val]{fullShare} part u.val (s.val + 1) (newW κ p d r G M V W) W : sProp 𝕄) from
      pointsTo_congr (put2 (newW κ p d r G M V W) W t.val u.val s.val _ _ (x0_eq κ p d r G M V W t.val u.val s.val ht hu hs) (x8_eq κ p d r G M V W t.val u.val s.val ht hu hs))]
  isplitr
  · ipureintro
    exact acc_eq κ p d r acc G M V W t.val u.val s.val ht hu hs
  isplitl [HG]; · iexact HG
  isplitl [HM]; · iexact HM
  isplitl [HV]; · iexact HV
  iexact HW

end Cert.Proof.KI
-- ==== Proof.KIBlock.lean ====
/-
  One block: eight strips, then the block's exponent, its codes and their transpose, and its scale in its lane of the
  row of scales.
-/
module

public import proofs.«01_k».proof.Proof.KITrip8
public import Idealize.ShloMosaic.Lib.Pipeline.FrameBody

@[expose] public section

set_option maxRecDepth 65536

noncomputable section

namespace Cert.Proof.KI

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

/-- One code: the weight times the power of two whose biased exponent is `e`, clipped and rounded. -/
def codeS (w : F .f32) (e : BitVec 32) : F .fp8e4m3 :=
  FloatOps.truncf .fp8e4m3 bitsLt_fp8e4m3_f32 (FloatOps.minimumf (FloatOps.ofBits .f32 0x43E00000#32)
    (FloatOps.maximumf (FloatOps.ofBits .f32 0xC3E00000#32) (FloatOps.mulf w (FloatOps.ofBits .f32 (IntOp.shli .vector e 23#32)))))

theorem pay55_apply (e : IVec S8x128 32) (w : Vec F S1x128x128 .f32) (x : S1x128x128.Idx) :
    k0_pay55 e w x = codeS (w x) (e (ix2 0 (x 2 : Fin 128))) := by
  pointwise [k0_pay55, k0_pay54, codeS]
theorem pay56_apply (e : IVec S8x128 32) (w : Vec F S1x128x128 .f32) (x : S1x128x128.Idx) :
    k0_pay56 e w x = codeS (w (ix3 0 (x 2 : Fin 128) (x 1 : Fin 128))) (e (ix2 0 (x 1 : Fin 128))) := by
  pointwise [k0_pay56, k0_pay54, codeS]

/-- A block's scale, of its accumulated maximum: a power of two, in every lane. -/
def scaleV (A : FVec F S8x128 .f32) : FVec F S8x128 .f32 := k0_pay35 (k0_pay30 A) (k0_pay31 A) (k0_pay32 A) (k0_pay33 A)
/-- The biased exponent of its reciprocal. -/
def invE (A : FVec F S8x128 .f32) : IVec S8x128 32 := k0_pay36 (k0_pay30 A) (k0_pay31 A) (k0_pay32 A) (k0_pay33 A)

/-- The exponent one code is scaled with. -/
def codeE (N : Vec F S6x256x1536 .f32) (t : ℕ) (y : S6x256x1536.Idx) : BitVec 32 :=
  invE (accN N t ((y 2).val / 128) 8) (ix2 (0 : Fin 8) (⟨(y 2).val % 128, Nat.mod_lt _ (by decide)⟩ : Fin 128))
/-- The codes of a chunk. -/
def newC (N : Vec F S6x256x1536 .f32) (t : ℕ) : Vec F S6x256x1536 .fp8e4m3 := fun y => codeS (N y) (codeE N t y)

/-- An element of the transposed codes and the element of the codes it is. -/
def tr (z : S6x1536x256.Idx) : S6x256x1536.Idx := ix3 (z 0 : Fin 6) (z 2 : Fin 256) (z 1 : Fin 1536)
/-- The transposed codes of a chunk, but for the lane the exponent is read from. -/
def newT (N : Vec F S6x256x1536 .f32) (t : ℕ) : Vec F S6x1536x256 .fp8e4m3 := fun z => newC N t (tr z)

/-- The columns of the transposed codes that are a chunk's rows. -/
def inCt (t : ℕ) (z : S6x1536x256.Idx) : Prop := (z 0).val = t / 2 ∧ (z 2).val / 128 = t % 2
instance (t : ℕ) (z : S6x1536x256.Idx) : Decidable (inCt t z) := inferInstanceAs (Decidable (_ ∧ _))
def ctS (t : ℕ) : Finset S6x1536x256.Idx := Finset.univ.filter (inCt t)
theorem mem_ctS {t : ℕ} {y : S6x1536x256.Idx} : y ∈ ctS t ↔ inCt t y := by simp [ctS]

/-- The transposed codes with the first `u` blocks done. -/
def partT {α : Type} (u : ℕ) (N M : S6x1536x256.Idx → α) : S6x1536x256.Idx → α := fun z => if (z 1).val < 128 * u then N z else M z

/-- The row of scales after `n` blocks. -/
def rowN (N : Vec F S6x256x1536 .f32) (t : ℕ) (v24 : IVec S1x128 32) : ℕ → FVec F S1x128 .f32
  | 0 => k0_pay52
  | n + 1 => k0_pay53 v24 (rowN N t v24 n) (Scf.iv 0#32 1#32 n) (scaleV (accN N t n 8))

abbrev oB (t u : ℕ) : Fin 3 → ℕ := ![t / 2, t % 2 * 128, 128 * u]
abbrev oT (t u : ℕ) : Fin 3 → ℕ := ![t / 2, 128 * u, t % 2 * 128]

theorem inb_oB {t u : ℕ} (ht : t < 12) (hu : u < 12) : ∀ a, oB t u a + S1x128x128.size a ≤ S6x256x1536.size a := by
  intro a; match a with
  | ⟨0, _⟩ => show t / 2 + 1 ≤ 6; omega
  | ⟨1, _⟩ => show t % 2 * 128 + 128 ≤ 256; omega
  | ⟨2, _⟩ => show 128 * u + 128 ≤ 1536; omega

theorem oB_sub (t u : ℕ) (inb : ∀ a, oB t u a + S1x128x128.size a ≤ S6x256x1536.size a) :
    (Rect.unit (s := S6x256x1536) (oB t u) S1x128x128.size inb).set ⊆ chS t := by
  intro y hy
  obtain ⟨⟨p0, q0⟩, ⟨p1, q1⟩, -⟩ := fin3.1 ((Rect.mem_set_unit (s := S6x256x1536)).1 hy)
  change t / 2 ≤ _ at p0; change _ < t / 2 + 1 at q0; change t % 2 * 128 ≤ _ at p1; change _ < t % 2 * 128 + 128 at q1
  refine mem_chS.2 ⟨?_, ?_⟩ <;> omega

theorem oT_sub (t u : ℕ) (inb : ∀ a, oT t u a + S1x128x128.size a ≤ S6x1536x256.size a) :
    (Rect.unit (s := S6x1536x256) (oT t u) S1x128x128.size inb).set ⊆ ctS t := by
  intro y hy
  obtain ⟨⟨p0, q0⟩, -, ⟨p1, q1⟩⟩ := fin3.1 ((Rect.mem_set_unit (s := S6x1536x256)).1 hy)
  change t / 2 ≤ _ at p0; change _ < t / 2 + 1 at q0; change t % 2 * 128 ≤ _ at p1; change _ < t % 2 * 128 + 128 at q1
  refine mem_ctS.2 ⟨?_, ?_⟩ <;> omega

/-- Eight strips are the block. -/
theorem part_8 {α : Type} (u : ℕ) (N M : S6x256x1536.Idx → α) : part u 8 N M = part (u + 1) 0 N M := by
  funext y
  have e : done u 8 y ↔ done (u + 1) 0 y := by unfold done; omega
  unfold part
  by_cases h : done u 8 y
  · rw [if_pos h, if_pos (e.1 h)]
  · rw [if_neg h, if_neg fun h' => h (e.2 h')]

/-- A done block reads the new contents. -/
theorem window_B {α : Type} (N M : S6x256x1536.Idx → α) (t u : ℕ) (ht : t < 12) (hu : u < 12) (x : S1x128x128.Idx) :
    window (s := S6x256x1536) (part (u + 1) 0 N M) (oB t u) S1x128x128.size (inb_oB ht hu) x = N (at3 (t / 2) (t % 2 * 128 + (x 1).val) (128 * u + (x 2).val)) := by
  have b0 : (x 0).val < 1 := (x 0).isLt
  have b1 : (x 1).val < 128 := (x 1).isLt
  have b2 : (x 2).val < 128 := (x 2).isLt
  have e0 : (Rect.unit (s := S6x256x1536) (oB t u) S1x128x128.size (inb_oB ht hu)).emb x = at3 (t / 2) (t % 2 * 128 + (x 1).val) (128 * u + (x 2).val) := by
    funext a; match a with
    | ⟨0, _⟩ => exact Fin.ext (show t / 2 + 1 * (x 0).val = t / 2 % 6 by omega)
    | ⟨1, _⟩ => exact Fin.ext (show t % 2 * 128 + 1 * (x 1).val = (t % 2 * 128 + (x 1).val) % 256 by omega)
    | ⟨2, _⟩ => exact Fin.ext (show 128 * u + 1 * (x 2).val = (128 * u + (x 2).val) % 1536 by omega)
  show part (u + 1) 0 N M ((Rect.unit (s := S6x256x1536) (oB t u) S1x128x128.size (inb_oB ht hu)).emb x) = _
  rw [e0, part, if_pos]
  refine .inl ?_
  show (128 * u + (x 2).val) % 1536 < 128 * (u + 1)
  omega

/-- A block put over the old contents is the block done. -/
theorem putB {α : Type} (N M : S6x256x1536.Idx → α) (t u : ℕ) (w : S1x128x128.Idx → α)
    (h : ∀ x : S1x128x128.Idx, w x = N (at3 (t / 2) (t % 2 * 128 + (x 1).val) (128 * u + (x 2).val)))
    (y : S6x256x1536.Idx) (hy : y ∈ chS t) :
    put (s := S6x256x1536) (part u 0 N M) (oB t u) S1x128x128.size w y = part (u + 1) 0 N M y := by
  obtain ⟨c0, c1⟩ := mem_chS.1 hy
  have b0 : (y 0).val < 6 := (y 0).isLt
  have b1 : (y 1).val < 256 := (y 1).isLt
  have b2 : (y 2).val < 1536 := (y 2).isLt
  unfold put
  by_cases hA : ∀ a : Fin 3, oB t u a ≤ (y a).val ∧ (y a).val < oB t u a + S1x128x128.size a
  · rw [dif_pos hA, h]
    obtain ⟨⟨p0, q0⟩, ⟨p1, q1⟩, ⟨p2, q2⟩⟩ := fin3.1 hA
    change t / 2 ≤ _ at p0; change _ < t / 2 + 1 at q0; change t % 2 * 128 ≤ _ at p1; change _ < t % 2 * 128 + 128 at q1
    change 128 * u ≤ _ at p2; change _ < 128 * u + 128 at q2
    rw [part, if_pos (by unfold done; omega)]
    congr 1
    funext a; match a with
    | ⟨0, _⟩ => exact Fin.ext (show t / 2 % 6 = (y 0).val by omega)
    | ⟨1, _⟩ => exact Fin.ext (show (t % 2 * 128 + ((y 1).val - t % 2 * 128)) % 256 = (y 1).val by omega)
    | ⟨2, _⟩ => exact Fin.ext (show (128 * u + ((y 2).val - 128 * u)) % 1536 = (y 2).val by omega)
  rw [dif_neg hA]
  have hA' : ¬ ((y 2).val ≥ 128 * u ∧ (y 2).val < 128 * u + 128) := fun hh => hA (fin3.2
    ⟨⟨show t / 2 ≤ _ by omega, show _ < t / 2 + 1 by omega⟩, ⟨show t % 2 * 128 ≤ _ by omega, show _ < t % 2 * 128 + 128 by omega⟩, ⟨show 128 * u ≤ _ by omega, show _ < 128 * u + 128 by omega⟩⟩)
  have e : done u 0 y ↔ done (u + 1) 0 y := by unfold done; omega
  unfold part
  by_cases hd : done u 0 y
  · rw [if_pos hd, if_pos (e.1 hd)]
  · rw [if_neg hd, if_neg fun h => hd (e.2 h)]

/-- The same of the transposed codes. -/
theorem putT {α : Type} (N M : S6x1536x256.Idx → α) (t u : ℕ) (w : S1x128x128.Idx → α)
    (h : ∀ (x : S1x128x128.Idx) (z : S6x1536x256.Idx), (z 0).val = t / 2 → (z 1).val = 128 * u + (x 1).val → (z 2).val = t % 2 * 128 + (x 2).val → w x = N z)
    (y : S6x1536x256.Idx) (hy : y ∈ ctS t) :
    put (s := S6x1536x256) (partT u N M) (oT t u) S1x128x128.size w y = partT (u + 1) N M y := by
  obtain ⟨c0, c1⟩ := mem_ctS.1 hy
  unfold put
  by_cases hA : ∀ a : Fin 3, oT t u a ≤ (y a).val ∧ (y a).val < oT t u a + S1x128x128.size a
  · rw [dif_pos hA]
    obtain ⟨⟨p0, q0⟩, ⟨p1, q1⟩, ⟨p2, q2⟩⟩ := fin3.1 hA
    change t / 2 ≤ _ at p0; change _ < t / 2 + 1 at q0; change 128 * u ≤ _ at p1; change _ < 128 * u + 128 at q1
    change t % 2 * 128 ≤ _ at p2; change _ < t % 2 * 128 + 128 at q2
    rw [partT, if_pos (by omega)]
    exact h _ y c0 (show (y 1).val = 128 * u + ((y 1).val - 128 * u) by omega) (show (y 2).val = t % 2 * 128 + ((y 2).val - t % 2 * 128) by omega)
  rw [dif_neg hA]
  have hA' : ¬ ((y 1).val ≥ 128 * u ∧ (y 1).val < 128 * u + 128) := fun hh => hA (fin3.2
    ⟨⟨show t / 2 ≤ _ by omega, show _ < t / 2 + 1 by omega⟩, ⟨show 128 * u ≤ _ by omega, show _ < 128 * u + 128 by omega⟩, ⟨show t % 2 * 128 ≤ _ by omega, show _ < t % 2 * 128 + 128 by omega⟩⟩)
  have e : (y 1).val < 128 * u ↔ (y 1).val < 128 * (u + 1) := by omega
  unfold partT
  by_cases hd : (y 1).val < 128 * u
  · rw [if_pos hd, if_pos (e.1 hd)]
  · rw [if_neg hd, if_neg fun h => hd (e.2 h)]

theorem codeS_congr {w w' : F .f32} {e e' : BitVec 32} (h : w = w') (h' : e = e') : codeS w e = codeS w' e' := by subst h h'; rfl

theorem codeB (N M : Vec F S6x256x1536 .f32) (t u : ℕ) (ht : t < 12) (hu : u < 12) (x : S1x128x128.Idx) :
    k0_pay55 (invE (accN N t u 8)) (window (s := S6x256x1536) (part (u + 1) 0 N M) (oB t u) S1x128x128.size (inb_oB ht hu)) x
      = newC N t (at3 (t / 2) (t % 2 * 128 + (x 1).val) (128 * u + (x 2).val)) := by
  have b2 : (x 2).val < 128 := (x 2).isLt
  refine (pay55_apply _ _ x).trans (codeS_congr (window_B N M t u ht hu x) ?_)
  have h1 : (128 * u + (x 2).val) % 1536 / 128 = u := by omega
  have h2 : (128 * u + (x 2).val) % 1536 % 128 = (x 2).val := by omega
  show _ = invE (accN N t ((128 * u + (x 2).val) % 1536 / 128) 8) (ix2 (0 : Fin 8) (⟨(128 * u + (x 2).val) % 1536 % 128, _⟩ : Fin 128))
  rw [h1]
  exact congrArg (fun e : Fin 128 => invE (accN N t u 8) (ix2 (0 : Fin 8) e)) (Fin.ext h2.symm)

theorem codeT (N M : Vec F S6x256x1536 .f32) (t u : ℕ) (ht : t < 12) (hu : u < 12) (x : S1x128x128.Idx) (z : S6x1536x256.Idx)
    (h0 : (z 0).val = t / 2) (h1 : (z 1).val = 128 * u + (x 1).val) (h2 : (z 2).val = t % 2 * 128 + (x 2).val) :
    k0_pay56 (invE (accN N t u 8)) (window (s := S6x256x1536) (part (u + 1) 0 N M) (oB t u) S1x128x128.size (inb_oB ht hu)) x = newT N t z := by
  have b1 : (x 1).val < 128 := (x 1).isLt
  have b2 : (x 2).val < 128 := (x 2).isLt
  refine (pay56_apply _ _ x).trans (codeS_congr ((window_B N M t u ht hu _).trans (congrArg N ?_)) ?_)
  · funext a; match a with
    | ⟨0, _⟩ => exact Fin.ext (show t / 2 % 6 = (z 0).val by omega)
    | ⟨1, _⟩ => exact Fin.ext (show (t % 2 * 128 + (x 2).val) % 256 = (z 2).val by omega)
    | ⟨2, _⟩ => exact Fin.ext (show (128 * u + (x 1).val) % 1536 = (z 1).val by omega)
  · have e1 : (z 1).val / 128 = u := by omega
    have e2 : (z 1).val % 128 = (x 1).val := by omega
    show _ = invE (accN N t ((z 1).val / 128) 8) (ix2 (0 : Fin 8) (⟨(z 1).val % 128, _⟩ : Fin 128))
    rw [e1]
    exact congrArg (fun e : Fin 128 => invE (accN N t u 8) (ix2 (0 : Fin 8) e)) (Fin.ext e2.symm)

/-- A chunk's buffers with block `u` next. -/
def blocks (c : Dev nD) (κ p d r : FVec F S8x128 .f32) (G : Vec F S6x256x1536 .bf16) (M V W : Vec F S6x256x1536 .f32)
    (C : Vec F S6x256x1536 .fp8e4m3) (T : Vec F S6x1536x256 .fp8e4m3) (t u : ℕ) : sProp 𝕄 :=
  iprop(strips c κ p d r G M V W t u 0
    ∗ (((c : Thread nD τ).loc cc0_scratch4) ↦[chS t]{fullShare} (part u 0 (newC (newW κ p d r G M V W) t) C))
    ∗ (((c : Thread nD τ).loc cc0_scratch5) ↦[ctS t]{fullShare} (partT u (newT (newW κ p d r G M V W) t) T)))

theorem strips_8 (c : Dev nD) (κ p d r : FVec F S8x128 .f32) (G : Vec F S6x256x1536 .bf16) (M V W : Vec F S6x256x1536 .f32) (t u : ℕ) :
    (strips c κ p d r G M V W t u 8 : sProp 𝕄) = strips c κ p d r G M V W t (u + 1) 0 := by
  unfold strips; rw [part_8, part_8, part_8]

/-- The strips of one block. -/
theorem part6 (𝒱₀ : Variants) (c : Dev nD) (κ p d r : FVec F S8x128 .f32) (G : Vec F S6x256x1536 .bf16) (M V W : Vec F S6x256x1536 .f32)
    (t : Fin k0_t6_loop.trips) (u : Fin k0_t7_loop.trips) (v83 v125 : BitVec 32) :
    strips c κ p d r G M V W t.val u.val 0
      ⊢ wp frame (wpE (defs₀ (F := F)) 𝒱₀ (c : Thread nD τ) none) Set.univ
          (k0_part6 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 κ t v83 p d r v125 0#32 1#32 u)
          (fun x => iprop(⌜x = ⟨Scf.iv 0#32 1#32 u.val, Scalar.muli (Scf.iv 0#32 1#32 u.val) 128#32, k0_pay30 (accN (newW κ p d r G M V W) t.val u.val 8),
              k0_pay31 (accN (newW κ p d r G M V W) t.val u.val 8), k0_pay32 (accN (newW κ p d r G M V W) t.val u.val 8),
              k0_pay33 (accN (newW κ p d r G M V W) t.val u.val 8)⟩⌝ ∗ strips c κ p d r G M V W t.val (u.val + 1) 0)) := by
  rw [k0_part6_eq_skeleton]
  unfold k0_part6_skel
  iintro HS
  iapply (Scf.wp_for_bind (M := 𝕄) frame (wpE (defs₀ (F := F)) 𝒱₀ (c : Thread nD τ) none) Set.univ _ _ _ k0_t8_ok _ _
    (fun n acc => iprop(⌜acc = accN (newW κ p d r G M V W) t.val u.val n⌝ ∗ strips c κ p d r G M V W t.val u.val n)) ?_) $$ [HS]
  · intro s acc
    iintro ⟨%h, HS⟩
    subst h
    iapply (trip8 𝒱₀ c κ p d r _ G M V W t u s) $$ HS
  · isplitr
    · ipureintro; rfl
    · iexact HS
  iintro %acc ⟨%h, HS⟩
  subst h
  sl_step
  isplitr
  · ipureintro; rfl
  rw [← strips_8]
  iexact HS

/-- One block. -/
theorem trip7 (𝒱₀ : Variants) (c : Dev nD) (κ : FVec F S8x128 .f32) (p d r : Vec F S1x1x8x128 .f32) (v24 : IVec S1x128 32) (row : FVec F S1x128 .f32)
    (G : Vec F S6x256x1536 .bf16) (M V W : Vec F S6x256x1536 .f32) (C : Vec F S6x256x1536 .fp8e4m3) (T : Vec F S6x1536x256 .fp8e4m3)
    (t : Fin k0_t6_loop.trips) (u : Fin k0_t7_loop.trips) (a b v83 v125 : BitVec 32) :
    blocks c κ (k0_pay49 p) (k0_pay50 d) (k0_pay51 r) G M V W C T t.val u.val
      ⊢ wp frame (wpE (defs₀ (F := F)) 𝒱₀ (c : Thread nD τ) none) Set.univ
          (k0_t7_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 κ v24 a b t v83 p d r v125 u row)
          (fun x => iprop(⌜x = k0_pay53 v24 row (Scf.iv 0#32 1#32 u.val) (scaleV (accN (newW κ (k0_pay49 p) (k0_pay50 d) (k0_pay51 r) G M V W) t.val u.val 8))⌝
            ∗ blocks c κ (k0_pay49 p) (k0_pay50 d) (k0_pay51 r) G M V W C T t.val (u.val + 1))) := by
  have ht : t.val < 12 := lt_of_lt_of_eq t.isLt trips6
  have hu : u.val < 12 := lt_of_lt_of_eq u.isLt trips7
  unfold blocks k0_t7_body
  iintro ⟨HS, HC, HT⟩
  iapply (wp_seq 𝒱₀ c none (part6 𝒱₀ c κ (k0_pay49 p) (k0_pay50 d) (k0_pay51 r) G M V W t u v83 v125)) $$ HS
  iintro %x ⟨%h, HS⟩
  subst h
  rw [k0_part7_eq_skeleton]
  unfold k0_part7_skel strips
  icases HS with ⟨HG, HM, HV, HW⟩
  iapply (ld 𝒱₀ c none (off30_eq t u) (oB_sub _ _ _)) $$ HW
  iintro HW
  iapply (ld 𝒱₀ c none (off30_eq t u) (oB_sub _ _ _)) $$ HC
  iintro HC
  iapply (st 𝒱₀ c none (off30_eq t u) (oB_sub _ _ _)) $$ HC
  iintro HC
  iapply (ld 𝒱₀ c none (off31_eq t u) (oT_sub _ _ _)) $$ HT
  iintro HT
  iapply (st 𝒱₀ c none (off31_eq t u) (oT_sub _ _ _)) $$ HT
  iintro HT
  rw [ret_bind']
  sl_step
  rw [← show _ = ((c : Thread nD τ).loc cc0_scratch4 ↦[chS t.val]{fullShare} part (u.val + 1) 0 (newC (newW κ (k0_pay49 p) (k0_pay50 d) (k0_pay51 r) G M V W) t.val) C : sProp 𝕄) from
      pointsTo_congr (putB _ C t.val u.val _ (codeB (newW κ (k0_pay49 p) (k0_pay50 d) (k0_pay51 r) G M V W) W t.val u.val ht hu)),
    ← show _ = ((c : Thread nD τ).loc cc0_scratch5 ↦[ctS t.val]{fullShare} partT (u.val + 1) (newT (newW κ (k0_pay49 p) (k0_pay50 d) (k0_pay51 r) G M V W) t.val) T : sProp 𝕄) from
      pointsTo_congr (putT _ T t.val u.val _ (codeT (newW κ (k0_pay49 p) (k0_pay50 d) (k0_pay51 r) G M V W) W t.val u.val ht hu))]
  isplitr
  · ipureintro; rfl
  isplitl [HG HM HV HW]
  · isplitl [HG]; · iexact HG
    isplitl [HM]; · iexact HM
    isplitl [HV]; · iexact HV
    iexact HW
  isplitl [HC]; · iexact HC
  iexact HT

end Cert.Proof.KI
-- ==== Proof.KIIn.lean ====
/-
  The transfers in: each chunk of the weights and of the two moments on its own semaphore, three transfers each, and
  each matrix of gradients on its own.
-/
module

public import proofs.«01_k».proof.Proof.KIBlock
public import proofs.«01_k».proof.Proof.Ship
public import Idealize.ShloMosaic.Lib.Pipeline.FrameBody

@[expose] public section

set_option maxRecDepth 65536

noncomputable section

namespace Cert.Proof.KI

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

/-- The counters' embedding. -/
abbrev EC : UEmb Counters 𝕄 := countersEmb (U := Pipeline.UD sig nD τ)

/-- A chunk's semaphore. -/
def semI (t : Fin 12) : DmaSem sig := ⟨6 + t.val, by have := t.isLt; show 6 + t.val < 23; omega⟩
/-- A matrix of gradients' semaphore. -/
def semG (t : Fin 6) : DmaSem sig := ⟨t.val, by have := t.isLt; show t.val < 23; omega⟩

theorem sem3 : ∀ t : Fin k0_t2_loop.trips, ((cc0_scratch12.slice (Rect.unit (s := S12) (k0_off3 t) S1.size (k0_off3_inb t))).squeeze S_ squeezes_S1_S_).sem = semI ⟨t.val, lt_of_lt_of_eq t.isLt trips2⟩ := by
  decide +kernel
theorem sem23 : ∀ t : Fin k0_t6_loop.trips, ((cc0_scratch12.slice (Rect.unit (s := S12) (k0_off23 t) S1.size (k0_off23_inb t))).squeeze S_ squeezes_S1_S_).sem = semI ⟨t.val, lt_of_lt_of_eq t.isLt trips6⟩ := by
  decide +kernel
theorem sem1 : ∀ t : Fin k0_t1_loop.trips, ((cc0_scratch11.slice (Rect.unit (s := S6) (k0_off1 t) S1.size (k0_off1_inb t))).squeeze S_ squeezes_S1_S_).sem = semG ⟨t.val, lt_of_lt_of_eq t.isLt trips1⟩ := by
  decide +kernel
theorem sem9 : ∀ t : Fin k0_t4_loop.trips, ((cc0_scratch11.slice (Rect.unit (s := S6) (k0_off9 t) S1.size (k0_off9_inb t))).squeeze S_ squeezes_S1_S_).sem = semG ⟨t.val, lt_of_lt_of_eq t.isLt trips4⟩ := by
  decide +kernel

/-- A chunk's set, as a window's. -/
theorem chSet {t : ℕ} {off : Fin 3 → ℕ} {inb : ∀ a, off a + S1x128x1536.size a ≤ S6x256x1536.size a} (h : off = ![t / 2, t % 2 * 128, 0]) :
    (Rect.unit (s := S6x256x1536) off S1x128x1536.size inb).set = chS t := by
  subst h
  ext y
  have b2 : (y 2).val < 1536 := (y 2).isLt
  refine (Rect.mem_set_unit (s := S6x256x1536)).trans (fin3.trans (Iff.trans ?_ mem_chS.symm))
  constructor
  · rintro ⟨⟨p0, q0⟩, ⟨p1, q1⟩, -⟩
    change t / 2 ≤ _ at p0; change _ < t / 2 + 1 at q0; change t % 2 * 128 ≤ _ at p1; change _ < t % 2 * 128 + 128 at q1
    refine ⟨?_, ?_⟩ <;> omega
  · rintro ⟨c0, c1⟩
    exact ⟨⟨show t / 2 ≤ _ by omega, show _ < t / 2 + 1 by omega⟩, ⟨show t % 2 * 128 ≤ _ by omega, show _ < t % 2 * 128 + 128 by omega⟩, ⟨show 0 ≤ _ by omega, show _ < 0 + 1536 by omega⟩⟩

/-- A chunk's set of the transposed codes, as a window's. -/
theorem ctSet {t : ℕ} {off : Fin 3 → ℕ} {inb : ∀ a, off a + S1x1536x128.size a ≤ S6x1536x256.size a} (h : off = ![t / 2, 0, t % 2 * 128]) :
    (Rect.unit (s := S6x1536x256) off S1x1536x128.size inb).set = ctS t := by
  subst h
  ext y
  have b2 : (y 1).val < 1536 := (y 1).isLt
  refine (Rect.mem_set_unit (s := S6x1536x256)).trans (fin3.trans (Iff.trans ?_ mem_ctS.symm))
  constructor
  · rintro ⟨⟨p0, q0⟩, -, ⟨p1, q1⟩⟩
    change t / 2 ≤ _ at p0; change _ < t / 2 + 1 at q0; change t % 2 * 128 ≤ _ at p1; change _ < t % 2 * 128 + 128 at q1
    refine ⟨?_, ?_⟩ <;> omega
  · rintro ⟨c0, c1⟩
    exact ⟨⟨show t / 2 ≤ _ by omega, show _ < t / 2 + 1 by omega⟩, ⟨show 0 ≤ _ by omega, show _ < 0 + 1536 by omega⟩, ⟨show t % 2 * 128 ≤ _ by omega, show _ < t % 2 * 128 + 128 by omega⟩⟩

/-- One matrix's elements. -/
def gmS (t : ℕ) : Finset S6x256x1536.Idx := Finset.univ.filter fun y => (y 0).val = t
theorem mem_gmS {t : ℕ} {y : S6x256x1536.Idx} : y ∈ gmS t ↔ (y 0).val = t := by simp [gmS]
theorem gSet {t : ℕ} {off : Fin 3 → ℕ} {inb : ∀ a, off a + S1x256x1536.size a ≤ S6x256x1536.size a} (h : off = ![t, 0, 0]) :
    (Rect.unit (s := S6x256x1536) off S1x256x1536.size inb).set = gmS t := by
  subst h
  ext y
  have b1 : (y 1).val < 256 := (y 1).isLt
  have b2 : (y 2).val < 1536 := (y 2).isLt
  refine (Rect.mem_set_unit (s := S6x256x1536)).trans (fin3.trans (Iff.trans ?_ mem_gmS.symm))
  constructor
  · rintro ⟨⟨p0, q0⟩, -, -⟩
    change t ≤ _ at p0; change _ < t + 1 at q0
    omega
  · intro c0
    exact ⟨⟨show t ≤ _ by omega, show _ < t + 1 by omega⟩, ⟨show 0 ≤ _ by omega, show _ < 0 + 256 by omega⟩, ⟨show 0 ≤ _ by omega, show _ < 0 + 1536 by omega⟩⟩

/-- What one transfer of a chunk of 32-bit floats pays. -/
abbrev aF : ℕ := 24576
abbrev aC : ℕ := 6144

/-- A buffer's chunk at given contents. -/
abbrev ch (c : Dev nD) (b : Ref sig .tc) (S : Finset (Idx ((c : Thread nD τ).loc b))) (f : Buf (Elt F) ((c : Thread nD τ).loc b)) : sProp 𝕄 :=
  ((c : Thread nD τ).loc b) ↦[S]{fullShare} f

section In
variable (c : Dev nD) (W M V : Vec F S6x256x1536 .f32) (G : Vec F S6x256x1536 .bf16)

/-- A chunk's three deliveries. -/
def dIn (t : Fin 12) : Fin 3 → sProp 𝕄
  | 0 => iprop(ch c cc0_scratch0 (chS t) W ∗ ch c main_arg0 (chS t) W)
  | 1 => iprop(ch c cc0_scratch2 (chS t) M ∗ ch c main_arg2 (chS t) M)
  | 2 => iprop(ch c cc0_scratch3 (chS t) V ∗ ch c main_arg3 (chS t) V)
instance (t : Fin 12) (i : Fin 3) : Storable (upEmb : UEmb _ 𝕄) (dIn c W M V t i) := by
  fin_cases i <;> simp only [dIn] <;> infer_instance

/-- A chunk before its transfers, -/
def preIn (W0 M0 V0 : Vec F S6x256x1536 .f32) (t : Fin 12) : sProp 𝕄 :=
  iprop(semVal ((c : Thread nD τ), .dma (semI t)) 0 ∗ (ch c main_arg0 (chS t) W ∗ ch c main_arg2 (chS t) M ∗ ch c main_arg3 (chS t) V)
    ∗ (ch c cc0_scratch0 (chS t) W0 ∗ ch c cc0_scratch2 (chS t) M0 ∗ ch c cc0_scratch3 (chS t) V0))
/-- and in flight. -/
def flyIn (t : Fin 12) : sProp 𝕄 := Transfers.MixedBatch EC (c : Thread nD τ) (.dma (semI t)) () (fun _ => aF) (dIn c W M V t) 3 0

/-- Both ends of a chunk's transfer are the chunk. -/
theorem wSet {κ : Kind} (b : Ref sig κ) {off : Fin b.ty.shape.rank → ℕ} {size : Fin b.ty.shape.rank → ℕ} {inb : ∀ a, off a + size a ≤ b.ty.shape.size a}
    {s' : Shape} {h : s'.numel = (Rect.unit off size inb).shape.numel} {S : Finset b.ty.shape.Idx} (hS : (Rect.unit off size inb).set = S) :
    (((View.whole b).slice (Rect.unit off size inb)).reshape s' h).set = S :=
  (View.set_reshape _ _).trans ((View.set_slice_whole _ _).trans hS)

theorem part1 (𝒱₀ : Variants) (W0 : Vec F S6x256x1536 .f32) (t : Fin k0_t2_loop.trips) :
    iprop(ch c main_arg0 (chS t.val) W ∗ ch c cc0_scratch0 (chS t.val) W0 ∗ Transfers.MixedBatch EC (c : Thread nD τ) (.dma (semI ⟨t.val, lt_of_lt_of_eq t.isLt trips2⟩)) () (fun _ => aF) (dIn c W M V ⟨t.val, lt_of_lt_of_eq t.isLt trips2⟩) 0 0)
      ⊢ wp frame (wpE (defs₀ (F := F)) 𝒱₀ (c : Thread nD τ) none) Set.univ (k0_part1 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 0#32 1#32 t)
          (fun _ => Transfers.MixedBatch EC (c : Thread nD τ) (.dma (semI ⟨t.val, lt_of_lt_of_eq t.isLt trips2⟩)) () (fun _ => aF) (dIn c W M V ⟨t.val, lt_of_lt_of_eq t.isLt trips2⟩) 1 0) := by
  rw [k0_part1_eq_skeleton]
  unfold k0_part1_skel
  iintro ⟨HA0, HB0, HB⟩
  iapply (ship EC 𝒱₀ (n := 3) (j := 0) (u := 0) (q := fullShare) (D := dIn c W M V ⟨t.val, lt_of_lt_of_eq t.isLt trips2⟩) (c : Thread nD τ) none (fs := W) (f' := W) () (fun _ => aF) (by decide) (congrArg SemLoc.dma (sem3 t))
    (wSet main_arg0 (chSet (off4_eq t))) (wSet cc0_scratch0 (chSet (off4_eq t)))
    (by rfl) (Nat.zero_le _) (fun _ => rfl) (by unfold dIn; exact .rfl)) $$ [HA0 HB0 HB]
  · isplitl [HA0]; · iexact HA0
    isplitl [HB0]; · iexact HB0
    iexact HB
  iintro HB
  rw [ret_bind']
  sl_step
  iexact HB

set_option maxHeartbeats 1600000 in
/-- One chunk's transfers issued. -/
theorem trip2 (𝒱₀ : Variants) (W0 M0 V0 : Vec F S6x256x1536 .f32) (t : Fin k0_t2_loop.trips) (a : Unit) :
    preIn c W M V W0 M0 V0 ⟨t.val, lt_of_lt_of_eq t.isLt trips2⟩
      ⊢ wp frame (wpE (defs₀ (F := F)) 𝒱₀ (c : Thread nD τ) none) Set.univ (k0_t2_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t a)
          (fun _ => flyIn c W M V ⟨t.val, lt_of_lt_of_eq t.isLt trips2⟩) := by
  unfold preIn k0_t2_body
  iintro ⟨HS, ⟨HA0, HA2, HA3⟩, HB0, HB2, HB3⟩
  imod (Transfers.mixedBatch_alloc' EC (c : Thread nD τ) () (fun _ => aF) (dIn c W M V ⟨t.val, lt_of_lt_of_eq t.isLt trips2⟩) (sm := .dma (semI ⟨t.val, lt_of_lt_of_eq t.isLt trips2⟩)) (E := Set.univ)) $$ HS with HB
  iapply (wp_seq 𝒱₀ c none (part1 c W M V 𝒱₀ W0 t)) $$ [HA0 HB0 HB]
  · isplitl [HA0]; · iexact HA0
    isplitl [HB0]; · iexact HB0
    iexact HB
  iintro %x HB
  iapply (ship EC 𝒱₀ (n := 3) (j := 1) (u := 0) (q := fullShare) (D := dIn c W M V ⟨t.val, lt_of_lt_of_eq t.isLt trips2⟩) (c : Thread nD τ) none (fs := M) (f' := M) () (fun _ => aF) (by decide) (congrArg SemLoc.dma (sem3 t))
    (wSet main_arg2 (chSet (off4_eq t))) (wSet cc0_scratch2 (chSet (off4_eq t)))
    (by rfl) (Nat.zero_le _) (fun _ => rfl) (by unfold dIn; exact .rfl)) $$ [HA2 HB2 HB]
  · isplitl [HA2]; · iexact HA2
    isplitl [HB2]; · iexact HB2
    iexact HB
  iintro HB
  rw [ret_bind']
  iapply (ship EC 𝒱₀ (n := 3) (j := 2) (u := 0) (q := fullShare) (D := dIn c W M V ⟨t.val, lt_of_lt_of_eq t.isLt trips2⟩) (c : Thread nD τ) none (fs := V) (f' := V) () (fun _ => aF) (by decide) (congrArg SemLoc.dma (sem3 t))
    (wSet main_arg3 (chSet (off4_eq t))) (wSet cc0_scratch3 (chSet (off4_eq t)))
    (by rfl) (Nat.zero_le _) (fun _ => rfl) (by unfold dIn; exact .rfl)) $$ [HA3 HB3 HB]
  · isplitl [HA3]; · iexact HA3
    isplitl [HB3]; · iexact HB3
    iexact HB
  iintro HB
  rw [ret_bind']
  sl_step
  unfold flyIn
  iexact HB
end In

end Cert.Proof.KI
-- ==== Proof.KIGrad.lean ====
/-
  The gradients: each matrix's transfer, and the running sums of their squares.
-/
module

public import proofs.«01_k».proof.Proof.KIIn
public import Idealize.ShloMosaic.Lib.Pipeline.FrameBody

@[expose] public section

set_option maxRecDepth 65536

noncomputable section

namespace Cert.Proof.KI

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

theorem off1_eq : ∀ t, k0_off1 t = ![t.val] := by decide +kernel
theorem off2_eq : ∀ t, k0_off2 t = ![t.val, 0, 0] := by decide +kernel
theorem off10_eq : ∀ t, k0_off10 t = ![t.val, 0, 0] := by decide +kernel
theorem off11_eq : ∀ t s, k0_off11 t s = ![t.val, 16 * s.val, 0] := by decide +kernel
theorem off12_eq : ∀ t s, k0_off12 t s = ![t.val, 16 * s.val, 128 * 1] := by decide +kernel
theorem off13_eq : ∀ t s, k0_off13 t s = ![t.val, 16 * s.val, 128 * 2] := by decide +kernel
theorem off14_eq : ∀ t s, k0_off14 t s = ![t.val, 16 * s.val, 128 * 3] := by decide +kernel
theorem off15_eq : ∀ t s, k0_off15 t s = ![t.val, 16 * s.val, 128 * 4] := by decide +kernel
theorem off16_eq : ∀ t s, k0_off16 t s = ![t.val, 16 * s.val, 128 * 5] := by decide +kernel
theorem off17_eq : ∀ t s, k0_off17 t s = ![t.val, 16 * s.val, 128 * 6] := by decide +kernel
theorem off18_eq : ∀ t s, k0_off18 t s = ![t.val, 16 * s.val, 128 * 7] := by decide +kernel
theorem off19_eq : ∀ t s, k0_off19 t s = ![t.val, 16 * s.val, 128 * 8] := by decide +kernel
theorem off20_eq : ∀ t s, k0_off20 t s = ![t.val, 16 * s.val, 128 * 9] := by decide +kernel
theorem off21_eq : ∀ t s, k0_off21 t s = ![t.val, 16 * s.val, 128 * 10] := by decide +kernel
theorem off22_eq : ∀ t s, k0_off22 t s = ![t.val, 16 * s.val, 128 * 11] := by decide +kernel
section Grad
variable (c : Dev nD) (G : Vec F S6x256x1536 .bf16) (𝒱₀ : Variants)

/-- What a matrix's transfer delivers. -/
def dG (t : Fin 6) : Fin 1 → sProp 𝕄 := fun _ => iprop(ch c cc0_scratch1 (gmS t) G ∗ ch c main_arg1 (gmS t) G)
instance (t : Fin 6) (i : Fin 1) : Storable (upEmb : UEmb _ 𝕄) (dG c G t i) := by
  simp only [dG]; infer_instance
/-- A matrix before its transfer, -/
def preG (G0 : Vec F S6x256x1536 .bf16) (t : Fin 6) : sProp 𝕄 :=
  iprop(semVal ((c : Thread nD τ), .dma (semG t)) 0 ∗ ch c main_arg1 (gmS t) G ∗ ch c cc0_scratch1 (gmS t) G0)
/-- in flight, -/
def flyG (t : Fin 6) : sProp 𝕄 := Transfers.MixedBatch EC (c : Thread nD τ) (.dma (semG t)) () (fun _ => aF) (dG c G t) 1 0
/-- and landed. -/
def atG (t : Fin 6) : sProp 𝕄 :=
  iprop(semVal ((c : Thread nD τ), .dma (semG t)) 0 ∗ ch c main_arg1 (gmS t) G ∗ ch c cc0_scratch1 (gmS t) G)

/-- One matrix's transfer issued. -/
theorem trip1 (G0 : Vec F S6x256x1536 .bf16) (t : Fin k0_t1_loop.trips) (a : Unit) :
    preG c G G0 ⟨t.val, lt_of_lt_of_eq t.isLt trips1⟩
      ⊢ wp frame (wpE (defs₀ (F := F)) 𝒱₀ (c : Thread nD τ) none) Set.univ (k0_t1_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t a)
          (fun _ => flyG c G ⟨t.val, lt_of_lt_of_eq t.isLt trips1⟩) := by
  unfold preG k0_t1_body
  iintro ⟨HS, HA, HB0⟩
  imod (Transfers.mixedBatch_alloc' EC (c : Thread nD τ) () (fun _ => aF) (dG c G ⟨t.val, lt_of_lt_of_eq t.isLt trips1⟩) (sm := .dma (semG ⟨t.val, lt_of_lt_of_eq t.isLt trips1⟩)) (E := Set.univ)) $$ HS with HB
  iapply (ship EC 𝒱₀ (n := 1) (j := 0) (u := 0) (q := fullShare) (D := dG c G ⟨t.val, lt_of_lt_of_eq t.isLt trips1⟩) (c : Thread nD τ) none (fs := G) (f' := G) () (fun _ => aF) (by decide) (congrArg SemLoc.dma (sem1 t))
    (wSet main_arg1 (gSet (off2_eq t))) (wSet cc0_scratch1 (gSet (off2_eq t)))
    (by rfl) (Nat.zero_le _) (fun _ => rfl) (by unfold dG; exact .rfl)) $$ [HA HB0 HB]
  · isplitl [HA]; · iexact HA
    isplitl [HB0]; · iexact HB0
    iexact HB
  iintro HB
  rw [ret_bind']
  sl_step
  unfold flyG
  iexact HB

/-- All of them. -/
theorem loop1 (G0 : Vec F S6x256x1536 .bf16) :
    bigSep Finset.univ (preG c G G0)
      ⊢ wp frame (wpE (defs₀ (F := F)) 𝒱₀ (c : Thread nD τ) none) Set.univ (Scf.Loop.for k0_t1_loop k0_t1_ok ⟨⟩ (k0_t1_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17))
          (fun _ => bigSep Finset.univ (flyG c G)) := by
  have h := for_each (defs := defs₀ (F := F)) 𝒱₀ (E := Set.univ) c none k0_t1_loop k0_t1_ok trips1 (preG c G G0) (flyG c G) (fun _ _ => (iprop(emp) : sProp 𝕄)) (⟨⟩ : Unit)
    (k0_t1_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17) (fun k a => by
      iintro ⟨-, H⟩
      iapply (wp_wand_r frame (wpE (defs₀ (F := F)) 𝒱₀ (c : Thread nD τ) none) Set.univ)
      isplitl [H]
      · iapply (trip1 c G 𝒱₀ G0 k a) $$ H
      · iintro %x H
        isplitr; · iempintro
        iexact H)
  iintro H
  iapply (wp_wand_r frame (wpE (defs₀ (F := F)) 𝒱₀ (c : Thread nD τ) none) Set.univ)
  isplitl [H]
  · iapply h
    isplitr; · iempintro
    iexact H
  · iintro %x ⟨-, H⟩
    iexact H

/-- All the chunks' transfers issued. -/
theorem loop2 (W M V W0 M0 V0 : Vec F S6x256x1536 .f32) :
    bigSep Finset.univ (preIn c W M V W0 M0 V0)
      ⊢ wp frame (wpE (defs₀ (F := F)) 𝒱₀ (c : Thread nD τ) none) Set.univ (Scf.Loop.for k0_t2_loop k0_t2_ok ⟨⟩ (k0_t2_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17))
          (fun _ => bigSep Finset.univ (flyIn c W M V)) := by
  have h := for_each (defs := defs₀ (F := F)) 𝒱₀ (E := Set.univ) c none k0_t2_loop k0_t2_ok trips2 (preIn c W M V W0 M0 V0) (flyIn c W M V) (fun _ _ => (iprop(emp) : sProp 𝕄)) (⟨⟩ : Unit)
    (k0_t2_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17) (fun k a => by
      iintro ⟨-, H⟩
      iapply (wp_wand_r frame (wpE (defs₀ (F := F)) 𝒱₀ (c : Thread nD τ) none) Set.univ)
      isplitl [H]
      · iapply (trip2 c W M V 𝒱₀ W0 M0 V0 k a) $$ H
      · iintro %x H
        isplitr; · iempintro
        iexact H)
  iintro H
  iapply (wp_wand_r frame (wpE (defs₀ (F := F)) 𝒱₀ (c : Thread nD τ) none) Set.univ)
  isplitl [H]
  · iapply h
    isplitr; · iempintro
    iexact H
  · iintro %x ⟨-, H⟩
    iexact H

/-- Sixteen rows of 128 gradients. -/
def gAt (a r l : ℕ) : Vec F S1x16x128 .bf16 := fun x => G (at3 a (r + (x 1).val) (l + (x 2).val))

theorem win_g {a r l : ℕ} (inb : ∀ i, (![a, r, l] : Fin 3 → ℕ) i + S1x16x128.size i ≤ S6x256x1536.size i) :
    (window (s := S6x256x1536) G ![a, r, l] S1x16x128.size inb : Vec F S1x16x128 .bf16) = gAt G a r l := by
  have h0 : a + 1 ≤ 6 := inb 0
  have h1 : r + 16 ≤ 256 := inb 1
  have h2 : l + 128 ≤ 1536 := inb 2
  funext x
  have b0 : (x 0).val < 1 := (x 0).isLt
  have b1 : (x 1).val < 16 := (x 1).isLt
  have b2 : (x 2).val < 128 := (x 2).isLt
  refine congrArg G (funext fun i => ?_)
  match i with
  | ⟨0, _⟩ => exact Fin.ext (show a + 1 * (x 0).val = a % 6 by omega)
  | ⟨1, _⟩ => exact Fin.ext (show r + 1 * (x 1).val = (r + (x 1).val) % 256 by omega)
  | ⟨2, _⟩ => exact Fin.ext (show l + 1 * (x 2).val = (l + (x 2).val) % 1536 by omega)

theorem g_sub {a r l : ℕ} (inb : ∀ i, (![a, r, l] : Fin 3 → ℕ) i + S1x16x128.size i ≤ S6x256x1536.size i) :
    (Rect.unit (s := S6x256x1536) ![a, r, l] S1x16x128.size inb).set ⊆ gmS a := by
  intro y hy
  have h := (fin3.1 ((Rect.mem_set_unit (s := S6x256x1536)).1 hy)).1
  change a ≤ _ ∧ _ < a + 1 at h
  exact mem_gmS.2 (by omega)

/-- A load of them. -/
theorem ldG {α : Type} {Q : α → sProp 𝕄} {a r l : ℕ} {off : Fin 3 → ℕ} {inb : ∀ i, off i + S1x16x128.size i ≤ S6x256x1536.size i} (ho : off = ![a, r, l])
    {hl : (Memref.whole cc0_scratch1 : Memref sig .tc _ _ _).view.LoadsAt (Rect.unit (s := S6x256x1536) off S1x16x128.size inb).toLoadRect}
    {k : Vec F S1x16x128 .bf16 → Prog (TpuEff nD τ sig (Elt F) Λ₀ .tc) α} :
    ch c cc0_scratch1 (gmS a) G
      ⊢ iprop((ch c cc0_scratch1 (gmS a) G -∗ wp frame (wpE (defs₀ (F := F)) 𝒱₀ (c : Thread nD τ) none) Set.univ (k (gAt G a r l)) Q)
        -∗ wp frame (wpE (defs₀ (F := F)) 𝒱₀ (c : Thread nD τ) none) Set.univ (.op (.load (Memref.whole cc0_scratch1) (Rect.unit (s := S6x256x1536) off S1x16x128.size inb).toLoadRect hl) k) Q) := by
  subst ho
  rw [← win_g G inb]
  exact ld 𝒱₀ c none rfl (g_sub inb)

/-- Four running sums. -/
abbrev Acc (F : FTy → Type) [FloatOps F] := FVec F S8x128 .f32 × FVec F S8x128 .f32 × FVec F S8x128 .f32 × FVec F S8x128 .f32

/-- Sixteen rows' squares taken in. -/
def step5 (t s : ℕ) (a : Acc F) : Acc F :=
  (k0_pay9 (k0_pay1 a.1 (gAt G t (16 * s) 0)) (k0_pay5 (gAt G t (16 * s) (128 * 4))) (gAt G t (16 * s) (128 * 8)),
   k0_pay43 (k0_pay6 (k0_pay2 a.2.1 (gAt G t (16 * s) (128 * 1))) (gAt G t (16 * s) (128 * 5))) (gAt G t (16 * s) (128 * 9)),
   k0_pay44 (k0_pay7 (k0_pay3 a.2.2.1 (gAt G t (16 * s) (128 * 2))) (gAt G t (16 * s) (128 * 6))) (gAt G t (16 * s) (128 * 10)),
   k0_pay45 (k0_pay8 (k0_pay4 a.2.2.2 (gAt G t (16 * s) (128 * 3))) (gAt G t (16 * s) (128 * 7))) (gAt G t (16 * s) (128 * 11)))
/-- `n` times sixteen rows, -/
def acc5 (t : ℕ) (a : Acc F) : ℕ → Acc F
  | 0 => a
  | n + 1 => step5 G t n (acc5 t a n)
/-- and `n` matrices. -/
def acc4 : ℕ → Acc F
  | 0 => (k0_pay42, k0_pay42, k0_pay42, k0_pay42)
  | n + 1 => acc5 G n (acc4 n) 16

theorem part2 (t : Fin k0_t4_loop.trips) (s : Fin k0_t5_loop.trips) (a31 b e : BitVec 32) (a : Acc F) :
    ch c cc0_scratch1 (gmS t.val) G
      ⊢ wp frame (wpE (defs₀ (F := F)) 𝒱₀ (c : Thread nD τ) none) Set.univ (k0_part2 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t a31 b e s a.1 a.2.1 a.2.2.1 a.2.2.2)
          (fun x => iprop(⌜x = ⟨Scf.iv b e s.val, k0_pay1 a.1 (gAt G t.val (16 * s.val) 0), k0_pay2 a.2.1 (gAt G t.val (16 * s.val) (128 * 1)),
            k0_pay3 a.2.2.1 (gAt G t.val (16 * s.val) (128 * 2)), k0_pay4 a.2.2.2 (gAt G t.val (16 * s.val) (128 * 3)), k0_pay5 (gAt G t.val (16 * s.val) (128 * 4))⟩⌝ ∗ ch c cc0_scratch1 (gmS t.val) G)) := by
  rw [k0_part2_eq_skeleton]
  unfold k0_part2_skel
  iintro HG
  iapply (ldG c G 𝒱₀ (off11_eq t s)) $$ HG
  iintro HG
  iapply (ldG c G 𝒱₀ (off12_eq t s)) $$ HG
  iintro HG
  iapply (ldG c G 𝒱₀ (off13_eq t s)) $$ HG
  iintro HG
  iapply (ldG c G 𝒱₀ (off14_eq t s)) $$ HG
  iintro HG
  iapply (ldG c G 𝒱₀ (off15_eq t s)) $$ HG
  iintro HG
  rw [ret_bind']
  sl_step
  isplitr
  · ipureintro; simp only [win_g]
  iexact HG

theorem part3 (t : Fin k0_t4_loop.trips) (s : Fin k0_t5_loop.trips) (a31 b : BitVec 32) (p q r l : FVec F S8x128 .f32) (h : FVec F S16x128 .bf16) :
    ch c cc0_scratch1 (gmS t.val) G
      ⊢ wp frame (wpE (defs₀ (F := F)) 𝒱₀ (c : Thread nD τ) none) Set.univ (k0_part3 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t a31 s b p q r l h)
          (fun x => iprop(⌜x = ⟨k0_pay6 q (gAt G t.val (16 * s.val) (128 * 5)), k0_pay7 r (gAt G t.val (16 * s.val) (128 * 6)), k0_pay8 l (gAt G t.val (16 * s.val) (128 * 7)),
            k0_pay9 p h (gAt G t.val (16 * s.val) (128 * 8)), Scalar.muli b 16#32⟩⌝ ∗ ch c cc0_scratch1 (gmS t.val) G)) := by
  rw [k0_part3_eq_skeleton]
  unfold k0_part3_skel
  iintro HG
  iapply (ldG c G 𝒱₀ (off16_eq t s)) $$ HG
  iintro HG
  iapply (ldG c G 𝒱₀ (off17_eq t s)) $$ HG
  iintro HG
  iapply (ldG c G 𝒱₀ (off18_eq t s)) $$ HG
  iintro HG
  iapply (ldG c G 𝒱₀ (off19_eq t s)) $$ HG
  iintro HG
  rw [ret_bind']
  dsimp only
  sl_step
  isplitr
  · ipureintro; simp only [win_g]
  iexact HG

theorem trip5 (t : Fin k0_t4_loop.trips) (s : Fin k0_t5_loop.trips) (a31 : BitVec 32) (a : Acc F) :
    ch c cc0_scratch1 (gmS t.val) G
      ⊢ wp frame (wpE (defs₀ (F := F)) 𝒱₀ (c : Thread nD τ) none) Set.univ (k0_t5_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t a31 s a)
          (fun x => iprop(⌜x = step5 G t.val s.val a⌝ ∗ ch c cc0_scratch1 (gmS t.val) G)) := by
  unfold k0_t5_body
  iintro HG
  iapply (wp_seq 𝒱₀ c none (part2 c G 𝒱₀ t s a31 0#32 1#32 a)) $$ HG
  iintro %x ⟨%h, HG⟩
  subst h
  iapply (wp_seq 𝒱₀ c none (part3 c G 𝒱₀ t s a31 _ _ _ _ _ _)) $$ HG
  iintro %x ⟨%h, HG⟩
  subst h
  iapply (ldG c G 𝒱₀ (off20_eq t s)) $$ HG
  iintro HG
  iapply (ldG c G 𝒱₀ (off21_eq t s)) $$ HG
  iintro HG
  iapply (ldG c G 𝒱₀ (off22_eq t s)) $$ HG
  iintro HG
  rw [ret_bind']
  sl_step
  isplitr
  · ipureintro; rfl
  iexact HG

/-- One matrix's squares. -/
theorem trip4 (t : Fin k0_t4_loop.trips) (a : Acc F) :
    iprop((⌜a = acc4 G t.val⌝ ∗ (∃ W, owes (c : Thread nD τ) 0 W)) ∗ flyG c G ⟨t.val, lt_of_lt_of_eq t.isLt trips4⟩)
      ⊢ wp frame (wpE (defs₀ (F := F)) 𝒱₀ (c : Thread nD τ) none) Set.univ (k0_t4_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t a)
          (fun x => iprop((⌜x = acc4 G (t.val + 1)⌝ ∗ (∃ W, owes (c : Thread nD τ) 0 W)) ∗ atG c G ⟨t.val, lt_of_lt_of_eq t.isLt trips4⟩)) := by
  unfold flyG k0_t4_body
  iintro ⟨⟨%h, HO⟩, HB⟩
  iapply (awaitAll EC 𝒱₀ (n := 1) (u := 0) (A := fun _ => aF) (D := dG c G ⟨t.val, lt_of_lt_of_eq t.isLt trips4⟩) (c : Thread nD τ) none () aF (sem9 t) (by rfl) (fun _ => by decide) (by decide)) $$ [HB HO]
  · isplitl [HB]; · iexact HB
    iexact HO
  iintro ⟨HD, HS, HO⟩
  rw [ret_bind']
  ihave HD' := (show bigSep Finset.univ (dG c G ⟨t.val, lt_of_lt_of_eq t.isLt trips4⟩) ⊢ iprop(ch c cc0_scratch1 (gmS t.val) G ∗ ch c main_arg1 (gmS t.val) G) from (bigSep_singleton (i := (0 : Fin 1))).le) $$ HD
  icases HD' with ⟨HG, HA⟩
  iapply (Scf.wp_for_bind (M := 𝕄) frame (wpE (defs₀ (F := F)) 𝒱₀ (c : Thread nD τ) none) Set.univ _ _ _ k0_t5_ok _ _
    (fun n x => iprop(⌜x = acc5 G t.val a n⌝ ∗ ch c cc0_scratch1 (gmS t.val) G)) ?_) $$ [HG]
  · intro s x
    iintro ⟨%h, HG⟩
    subst h
    iapply (trip5 c G 𝒱₀ t s _ _) $$ HG
  · isplitr
    · ipureintro; rfl
    · iexact HG
  iintro %x ⟨%h', HG⟩
  obtain ⟨x1, x2, x3, x4⟩ := x
  dsimp only
  sl_step
  isplitl [HO]
  · isplitr
    · ipureintro; subst h; exact h'.trans (congrArg (acc5 G t.val (acc4 G t.val)) trips5)
    iexact HO
  unfold atG
  isplitl [HS]; · iexact HS
  isplitl [HA]; · iexact HA
  iexact HG

/-- All the squares. -/
theorem loop4 :
    iprop((∃ W, owes (c : Thread nD τ) 0 W) ∗ bigSep Finset.univ (flyG c G))
      ⊢ wp frame (wpE (defs₀ (F := F)) 𝒱₀ (c : Thread nD τ) none) Set.univ (Scf.Loop.for k0_t4_loop k0_t4_ok (k0_pay42 (F := F), k0_pay42 (F := F), k0_pay42 (F := F), k0_pay42 (F := F)) (k0_t4_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17))
          (fun x => iprop((⌜x = acc4 G 6⌝ ∗ (∃ W, owes (c : Thread nD τ) 0 W)) ∗ bigSep Finset.univ (atG c G))) := by
  have h := for_each (defs := defs₀ (F := F)) 𝒱₀ (E := Set.univ) c none k0_t4_loop k0_t4_ok trips4 (flyG c G) (atG c G) (fun n x => iprop(⌜x = acc4 G n⌝ ∗ (∃ W, owes (c : Thread nD τ) 0 W))) (k0_pay42 (F := F), k0_pay42 (F := F), k0_pay42 (F := F), k0_pay42 (F := F))
    (k0_t4_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17) (fun k a => trip4 c G 𝒱₀ k a)
  iintro ⟨HO, H⟩
  iapply h
  isplitl [HO]
  · isplitr
    · ipureintro; rfl
    iexact HO
  iexact H
end Grad

end Cert.Proof.KI
-- ==== Proof.KICoef.lean ====
/-
  The coefficients of each matrix, and the kernel's first part: every transfer in issued, the coefficients, the norm of
  the gradients and the transfer of the norm.
-/
module

public import proofs.«01_k».proof.Proof.KIGrad
public import Idealize.ShloMosaic.Lib.Pipeline.FrameBody

@[expose] public section

set_option maxRecDepth 65536

noncomputable section

namespace Cert.Proof.KI

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

theorem off5_eq : ∀ t, k0_off5 t = ![t.val] := by decide +kernel
theorem off6_eq : ∀ t, k0_off6 t = ![t.val, 0, 0, 0] := by decide +kernel
theorem off7_eq : ∀ t, k0_off7 t = ![t.val, 1, 0, 0] := by decide +kernel
theorem off8_eq : ∀ t, k0_off8 t = ![t.val, 2, 0, 0] := by decide +kernel

/-- The semaphores of the transfers that stand alone, and the results'. -/
def sLR : DmaSem sig := ⟨18, by decide⟩
def sST : DmaSem sig := ⟨19, by decide⟩
def sGN : DmaSem sig := ⟨20, by decide⟩
def sSC : DmaSem sig := ⟨21, by decide⟩
def sO : DmaSem sig := ⟨22, by decide⟩
theorem sLR_eq : cc0_scratch13.sem = sLR := by decide +kernel
theorem sST_eq : cc0_scratch14.sem = sST := by decide +kernel
theorem sGN_eq : cc0_scratch15.sem = sGN := by decide +kernel
theorem sSC_eq : cc0_scratch16.sem = sSC := by decide +kernel
theorem sO_eq : cc0_scratch17.sem = sO := by decide +kernel
theorem cLR : (Memref.whole cc0_scratch8).view.dmaCredit = 16 := by rfl
theorem cST : (Memref.whole cc0_scratch9).view.dmaCredit = 16 := by rfl
theorem cGN : (Memref.whole main_v0_3).view.dmaCredit = 16 := by rfl
theorem cSC : (Memref.whole main_v0_5).view.dmaCredit = 192 := by rfl
theorem off0_eq : (![0] : Fin 1 → ℕ) = ![0] := rfl

section Coef
variable (c : Dev nD) (𝒱₀ : Variants)

/-- A scalar load at a window of one element of a buffer named whole. -/
theorem ldS {α : Type} {Q : α → sProp 𝕄} {i : Fin (sig.nNear .tc .smem)} {hκ : sig.names .tc .smem i = true}
    {off off' size : Fin (sig.tyNear .tc .smem i).shape.rank → ℕ} {inb : ∀ a, off a + size a ≤ (sig.tyNear .tc .smem i).shape.size a}
    {h1 : (Rect.unit off size inb).shape.numel = 1} {hp : (sig.tyNear .tc .smem i).elt.packing = 1}
    {k : Elt F (sig.tyNear .tc .smem i).elt → Prog (TpuEff nD τ sig (Elt F) Λ₀ .tc) α} {f : Buf (Elt F) ((c : Thread nD τ).loc ⟨.smem, i, hκ⟩)}
    (ho : off = off') :
    ((c : Thread nD τ).loc ⟨.smem, i, hκ⟩ ↦[Finset.univ]{fullShare} f)
      ⊢ iprop((((c : Thread nD τ).loc ⟨.smem, i, hκ⟩ ↦[Finset.univ]{fullShare} f) -∗ wp frame (wpE (defs₀ (F := F)) 𝒱₀ (c : Thread nD τ) none) Set.univ (k (window f off' size (ho ▸ inb) (Shape.Idx.first (by subst ho; exact h1.symm ▸ Nat.one_pos)))) Q)
        -∗ wp frame (wpE (defs₀ (F := F)) 𝒱₀ (c : Thread nD τ) none) Set.univ (smemLoad (Memref.whole ⟨.smem, i, hκ⟩) (Rect.unit off size inb) h1 hp >>= k) Q) := by
  subst ho
  exact ld (k := fun g => k (g (Shape.Idx.first (h1.symm ▸ Nat.one_pos)))) 𝒱₀ c none rfl (Finset.subset_univ _)

variable (LR : Vec F S6 .f32) (ST : Vec F S6 .i32) (C0 : Vec F S6x3x8x128 .f32)

/-- A matrix's entry of a vector of six. -/
def at6 {α : Type} (f : S6.Idx → α) (a : ℕ) : α := f (ix1 (⟨a % 6, Nat.mod_lt _ (by decide)⟩ : Fin 6))
theorem win_6 {α : Type} (f : S6.Idx → α) {a : ℕ} (inb : ∀ i, (![a] : Fin 1 → ℕ) i + S1.size i ≤ S6.size i) (x : S1.Idx) :
    window (s := S6) f ![a] S1.size inb x = at6 f a := by
  have h0 : a + 1 ≤ 6 := inb 0
  have b0 : (x 0).val < 1 := (x 0).isLt
  refine congrArg f (funext fun i => ?_)
  match i with
  | ⟨0, _⟩ => exact Fin.ext (show a + 1 * (x 0).val = a % 6 by omega)

/-- The coefficients after `n` matrices. -/
def coefN : ℕ → Vec F S6x3x8x128 .f32
  | 0 => C0
  | n + 1 => put (s := S6x3x8x128) (put (s := S6x3x8x128) (put (s := S6x3x8x128) (coefN n) ![n, 0, 0, 0] S1x1x8x128.size (k0_pay39 (at6 ST n) (at6 LR n)))
      ![n, 1, 0, 0] S1x1x8x128.size (k0_pay40 (at6 LR n))) ![n, 2, 0, 0] S1x1x8x128.size (k0_pay41 (at6 ST n))

/-- The buffers the coefficients are computed from, and theirs. -/
def coefs (n : ℕ) : sProp 𝕄 :=
  iprop(ch c cc0_scratch8 Finset.univ LR ∗ ch c cc0_scratch9 Finset.univ ST ∗ ch c cc0_scratch7 Finset.univ (coefN LR ST C0 n))

theorem trip3 (t : Fin k0_t3_loop.trips) (a : Unit) :
    coefs c LR ST C0 t.val
      ⊢ wp frame (wpE (defs₀ (F := F)) 𝒱₀ (c : Thread nD τ) none) Set.univ (k0_t3_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t a) (fun _ => coefs c LR ST C0 (t.val + 1)) := by
  unfold coefs k0_t3_body
  iintro ⟨HL, HS, HC⟩
  iapply (ldS c 𝒱₀ (off5_eq t)) $$ HS
  iintro HS
  iapply (ldS c 𝒱₀ (off5_eq t)) $$ HL
  iintro HL
  iapply (ld 𝒱₀ c none (off6_eq t) (Finset.subset_univ _)) $$ HC
  iintro HC
  iapply (st 𝒱₀ c none (off6_eq t) (Finset.subset_univ _)) $$ HC
  iintro HC
  iapply (ld 𝒱₀ c none (off7_eq t) (Finset.subset_univ _)) $$ HC
  iintro HC
  iapply (st 𝒱₀ c none (off7_eq t) (Finset.subset_univ _)) $$ HC
  iintro HC
  iapply (ld 𝒱₀ c none (off8_eq t) (Finset.subset_univ _)) $$ HC
  iintro HC
  iapply (st 𝒱₀ c none (off8_eq t) (Finset.subset_univ _)) $$ HC
  iintro HC
  rw [ret_bind', win_6, win_6]
  sl_step
  isplitl [HL]; · iexact HL
  isplitl [HS]; · iexact HS
  iexact HC

variable (G : Vec F S6x256x1536 .bf16) (W M V : Vec F S6x256x1536 .f32)

/-- A single transfer's delivery. -/
def one (b b' : Ref sig .tc) (f : Buf (Elt F) ((c : Thread nD τ).loc b)) (f' : Buf (Elt F) ((c : Thread nD τ).loc b')) : Fin 1 → sProp 𝕄 :=
  fun _ => iprop(ch c b' Finset.univ f' ∗ ch c b Finset.univ f)
instance (b b' : Ref sig .tc) (f : Buf (Elt F) ((c : Thread nD τ).loc b)) (f' : Buf (Elt F) ((c : Thread nD τ).loc b')) (i : Fin 1) :
    Storable (upEmb : UEmb _ 𝕄) (one c b b' f f' i) := by
  simp only [one]; infer_instance

theorem whole_set {κ : Kind} (b : Ref sig κ) : (View.whole b).set = Finset.univ := View.set_whole b

/-- The transfers between whole buffers, each alone on its semaphore: issued and awaited. -/

theorem aLR : ∀ s : DmaSem sig, (Memref.whole cc0_scratch8).view.amount (.dma s) = 16 := fun _ => cLR
theorem rLR (f : Vec F S6 .f32) : ∀ x, (Memref.whole main_arg4).view.read (Elt F) f x = (Memref.whole cc0_scratch8).view.read (Elt F) f x := fun _ => rfl
theorem shipLR {α : Type} {Q : α → sProp 𝕄} {k : PUnit → Prog (TpuEff nD τ sig (Elt F) Λ₀ .tc) α} (f fd : Vec F S6 .f32) {h1 h2 h3} :
    iprop(ch c main_arg4 Finset.univ f ∗ ch c cc0_scratch8 Finset.univ fd ∗ Transfers.MixedBatch EC (c : Thread nD τ) (.dma sLR) () (fun _ => 16) (one c main_arg4 cc0_scratch8 f f) 0 0)
      ⊢ iprop((Transfers.MixedBatch EC (c : Thread nD τ) (.dma sLR) () (fun _ => 16) (one c main_arg4 cc0_scratch8 f f) 1 0 -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (Memref.whole main_arg4) (.here (Memref.whole cc0_scratch8)) .same (.dma cc0_scratch13.sem) h1 h2 h3) k) Q) := by
  have e1 := whole_set main_arg4
  have e2 := whole_set cc0_scratch8
  have e3 := rLR (F := F) f
  have e4 : iprop(((Memref.whole cc0_scratch8).view.loc (c : Thread nD τ) ↦[Finset.univ]{fullShare} f) ∗ ((Memref.whole main_arg4).view.loc (c : Thread nD τ) ↦[Finset.univ]{fullShare} f)) ⊢ one c main_arg4 cc0_scratch8 f f ⟨0, by decide⟩ := by
    unfold one; exact .rfl
  have h := ship (Q := Q) (k := k) (defs := defs₀ (F := F)) (src := Memref.whole main_arg4) (dst := Memref.whole cc0_scratch8) EC 𝒱₀ (n := 1) (j := 0) (u := 0) (q := fullShare) (fd := fd)
    (hsrc := ‹_›) (hdst := ‹_›) (hsem := ‹_›) (D := one c main_arg4 cc0_scratch8 f f) (c : Thread nD τ) none (fs := f) (f' := f) () (fun _ => 16) (by decide) (congrArg SemLoc.dma sLR_eq)
    e1 e2 (aLR _) (Nat.zero_le _) e3 e4
  exact h
theorem awaitLR {α : Type} {Q : α → sProp 𝕄} {k : PUnit → Prog (TpuEff nD τ sig (Elt F) Λ₀ .tc) α} (f : Vec F S6 .f32) {h1 h2} :
    iprop(Transfers.MixedBatch EC (c : Thread nD τ) (.dma sLR) () (fun _ => 16) (one c main_arg4 cc0_scratch8 f f) 1 0 ∗ (∃ W, owes (c : Thread nD τ) 0 W))
      ⊢ iprop((iprop((ch c cc0_scratch8 Finset.univ f ∗ ch c main_arg4 Finset.univ f) ∗ semVal ((c : Thread nD τ), .dma sLR) 0 ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch13.sem (Memref.whole main_arg4) (Memref.whole cc0_scratch8) h1 h2) k) Q) := by
  have h := awaitAll (Q := Q) (k := k) (defs := defs₀ (F := F)) (srcw := Memref.whole main_arg4) (dstw := Memref.whole cc0_scratch8) EC 𝒱₀ (n := 1) (u := 0) (A := fun _ => 16) (D := one c main_arg4 cc0_scratch8 f f)
    (hsrc := ‹_›) (hdst := ‹_›) (c : Thread nD τ) none () 16 sLR_eq cLR (fun _ => by decide) (by decide)
  rw [show bigSep Finset.univ (one c main_arg4 cc0_scratch8 f f) = iprop(ch c cc0_scratch8 Finset.univ f ∗ ch c main_arg4 Finset.univ f) from bigSep_singleton (i := (0 : Fin 1))] at h
  exact h

theorem aST : ∀ s : DmaSem sig, (Memref.whole cc0_scratch9).view.amount (.dma s) = 16 := fun _ => cST
theorem rST (f : Vec F S6 .i32) : ∀ x, (Memref.whole main_arg5).view.read (Elt F) f x = (Memref.whole cc0_scratch9).view.read (Elt F) f x := fun _ => rfl
theorem shipST {α : Type} {Q : α → sProp 𝕄} {k : PUnit → Prog (TpuEff nD τ sig (Elt F) Λ₀ .tc) α} (f fd : Vec F S6 .i32) {h1 h2 h3} :
    iprop(ch c main_arg5 Finset.univ f ∗ ch c cc0_scratch9 Finset.univ fd ∗ Transfers.MixedBatch EC (c : Thread nD τ) (.dma sST) () (fun _ => 16) (one c main_arg5 cc0_scratch9 f f) 0 0)
      ⊢ iprop((Transfers.MixedBatch EC (c : Thread nD τ) (.dma sST) () (fun _ => 16) (one c main_arg5 cc0_scratch9 f f) 1 0 -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (Memref.whole main_arg5) (.here (Memref.whole cc0_scratch9)) .same (.dma cc0_scratch14.sem) h1 h2 h3) k) Q) := by
  have e1 := whole_set main_arg5
  have e2 := whole_set cc0_scratch9
  have e3 := rST (F := F) f
  have e4 : iprop(((Memref.whole cc0_scratch9).view.loc (c : Thread nD τ) ↦[Finset.univ]{fullShare} f) ∗ ((Memref.whole main_arg5).view.loc (c : Thread nD τ) ↦[Finset.univ]{fullShare} f)) ⊢ one c main_arg5 cc0_scratch9 f f ⟨0, by decide⟩ := by
    unfold one; exact .rfl
  have h := ship (Q := Q) (k := k) (defs := defs₀ (F := F)) (src := Memref.whole main_arg5) (dst := Memref.whole cc0_scratch9) EC 𝒱₀ (n := 1) (j := 0) (u := 0) (q := fullShare) (fd := fd)
    (hsrc := ‹_›) (hdst := ‹_›) (hsem := ‹_›) (D := one c main_arg5 cc0_scratch9 f f) (c : Thread nD τ) none (fs := f) (f' := f) () (fun _ => 16) (by decide) (congrArg SemLoc.dma sST_eq)
    e1 e2 (aST _) (Nat.zero_le _) e3 e4
  exact h
theorem awaitST {α : Type} {Q : α → sProp 𝕄} {k : PUnit → Prog (TpuEff nD τ sig (Elt F) Λ₀ .tc) α} (f : Vec F S6 .i32) {h1 h2} :
    iprop(Transfers.MixedBatch EC (c : Thread nD τ) (.dma sST) () (fun _ => 16) (one c main_arg5 cc0_scratch9 f f) 1 0 ∗ (∃ W, owes (c : Thread nD τ) 0 W))
      ⊢ iprop((iprop((ch c cc0_scratch9 Finset.univ f ∗ ch c main_arg5 Finset.univ f) ∗ semVal ((c : Thread nD τ), .dma sST) 0 ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch14.sem (Memref.whole main_arg5) (Memref.whole cc0_scratch9) h1 h2) k) Q) := by
  have h := awaitAll (Q := Q) (k := k) (defs := defs₀ (F := F)) (srcw := Memref.whole main_arg5) (dstw := Memref.whole cc0_scratch9) EC 𝒱₀ (n := 1) (u := 0) (A := fun _ => 16) (D := one c main_arg5 cc0_scratch9 f f)
    (hsrc := ‹_›) (hdst := ‹_›) (c : Thread nD τ) none () 16 sST_eq cST (fun _ => by decide) (by decide)
  rw [show bigSep Finset.univ (one c main_arg5 cc0_scratch9 f f) = iprop(ch c cc0_scratch9 Finset.univ f ∗ ch c main_arg5 Finset.univ f) from bigSep_singleton (i := (0 : Fin 1))] at h
  exact h

theorem aGN : ∀ s : DmaSem sig, (Memref.whole main_v0_3).view.amount (.dma s) = 16 := fun _ => cGN
theorem rGN (f : Vec F S1 .f32) : ∀ x, (Memref.whole cc0_scratch10).view.read (Elt F) f x = (Memref.whole main_v0_3).view.read (Elt F) f x := fun _ => rfl
theorem shipGN {α : Type} {Q : α → sProp 𝕄} {k : PUnit → Prog (TpuEff nD τ sig (Elt F) Λ₀ .tc) α} (f fd : Vec F S1 .f32) {h1 h2 h3} :
    iprop(ch c cc0_scratch10 Finset.univ f ∗ ch c main_v0_3 Finset.univ fd ∗ Transfers.MixedBatch EC (c : Thread nD τ) (.dma sGN) () (fun _ => 16) (one c cc0_scratch10 main_v0_3 f f) 0 0)
      ⊢ iprop((Transfers.MixedBatch EC (c : Thread nD τ) (.dma sGN) () (fun _ => 16) (one c cc0_scratch10 main_v0_3 f f) 1 0 -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (Memref.whole cc0_scratch10) (.here (Memref.whole main_v0_3)) .same (.dma cc0_scratch15.sem) h1 h2 h3) k) Q) := by
  have e1 := whole_set cc0_scratch10
  have e2 := whole_set main_v0_3
  have e3 := rGN (F := F) f
  have e4 : iprop(((Memref.whole main_v0_3).view.loc (c : Thread nD τ) ↦[Finset.univ]{fullShare} f) ∗ ((Memref.whole cc0_scratch10).view.loc (c : Thread nD τ) ↦[Finset.univ]{fullShare} f)) ⊢ one c cc0_scratch10 main_v0_3 f f ⟨0, by decide⟩ := by
    unfold one; exact .rfl
  have h := ship (Q := Q) (k := k) (defs := defs₀ (F := F)) (src := Memref.whole cc0_scratch10) (dst := Memref.whole main_v0_3) EC 𝒱₀ (n := 1) (j := 0) (u := 0) (q := fullShare) (fd := fd)
    (hsrc := ‹_›) (hdst := ‹_›) (hsem := ‹_›) (D := one c cc0_scratch10 main_v0_3 f f) (c : Thread nD τ) none (fs := f) (f' := f) () (fun _ => 16) (by decide) (congrArg SemLoc.dma sGN_eq)
    e1 e2 (aGN _) (Nat.zero_le _) e3 e4
  exact h
theorem awaitGN {α : Type} {Q : α → sProp 𝕄} {k : PUnit → Prog (TpuEff nD τ sig (Elt F) Λ₀ .tc) α} (f : Vec F S1 .f32) {h1 h2} :
    iprop(Transfers.MixedBatch EC (c : Thread nD τ) (.dma sGN) () (fun _ => 16) (one c cc0_scratch10 main_v0_3 f f) 1 0 ∗ (∃ W, owes (c : Thread nD τ) 0 W))
      ⊢ iprop((iprop((ch c main_v0_3 Finset.univ f ∗ ch c cc0_scratch10 Finset.univ f) ∗ semVal ((c : Thread nD τ), .dma sGN) 0 ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch15.sem (Memref.whole cc0_scratch10) (Memref.whole main_v0_3) h1 h2) k) Q) := by
  have h := awaitAll (Q := Q) (k := k) (defs := defs₀ (F := F)) (srcw := Memref.whole cc0_scratch10) (dstw := Memref.whole main_v0_3) EC 𝒱₀ (n := 1) (u := 0) (A := fun _ => 16) (D := one c cc0_scratch10 main_v0_3 f f)
    (hsrc := ‹_›) (hdst := ‹_›) (c : Thread nD τ) none () 16 sGN_eq cGN (fun _ => by decide) (by decide)
  rw [show bigSep Finset.univ (one c cc0_scratch10 main_v0_3 f f) = iprop(ch c main_v0_3 Finset.univ f ∗ ch c cc0_scratch10 Finset.univ f) from bigSep_singleton (i := (0 : Fin 1))] at h
  exact h

theorem aSC : ∀ s : DmaSem sig, (Memref.whole main_v0_5).view.amount (.dma s) = 192 := fun _ => cSC
theorem rSC (f : Vec F S6x2x12 .f32) : ∀ x, (Memref.whole cc0_scratch6).view.read (Elt F) f x = (Memref.whole main_v0_5).view.read (Elt F) f x := fun _ => rfl
theorem shipSC {α : Type} {Q : α → sProp 𝕄} {k : PUnit → Prog (TpuEff nD τ sig (Elt F) Λ₀ .tc) α} (f fd : Vec F S6x2x12 .f32) {h1 h2 h3} :
    iprop(ch c cc0_scratch6 Finset.univ f ∗ ch c main_v0_5 Finset.univ fd ∗ Transfers.MixedBatch EC (c : Thread nD τ) (.dma sSC) () (fun _ => 192) (one c cc0_scratch6 main_v0_5 f f) 0 0)
      ⊢ iprop((Transfers.MixedBatch EC (c : Thread nD τ) (.dma sSC) () (fun _ => 192) (one c cc0_scratch6 main_v0_5 f f) 1 0 -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (Memref.whole cc0_scratch6) (.here (Memref.whole main_v0_5)) .same (.dma cc0_scratch16.sem) h1 h2 h3) k) Q) := by
  have e1 := whole_set cc0_scratch6
  have e2 := whole_set main_v0_5
  have e3 := rSC (F := F) f
  have e4 : iprop(((Memref.whole main_v0_5).view.loc (c : Thread nD τ) ↦[Finset.univ]{fullShare} f) ∗ ((Memref.whole cc0_scratch6).view.loc (c : Thread nD τ) ↦[Finset.univ]{fullShare} f)) ⊢ one c cc0_scratch6 main_v0_5 f f ⟨0, by decide⟩ := by
    unfold one; exact .rfl
  have h := ship (Q := Q) (k := k) (defs := defs₀ (F := F)) (src := Memref.whole cc0_scratch6) (dst := Memref.whole main_v0_5) EC 𝒱₀ (n := 1) (j := 0) (u := 0) (q := fullShare) (fd := fd)
    (hsrc := ‹_›) (hdst := ‹_›) (hsem := ‹_›) (D := one c cc0_scratch6 main_v0_5 f f) (c : Thread nD τ) none (fs := f) (f' := f) () (fun _ => 192) (by decide) (congrArg SemLoc.dma sSC_eq)
    e1 e2 (aSC _) (Nat.zero_le _) e3 e4
  exact h
theorem awaitSC {α : Type} {Q : α → sProp 𝕄} {k : PUnit → Prog (TpuEff nD τ sig (Elt F) Λ₀ .tc) α} (f : Vec F S6x2x12 .f32) {h1 h2} :
    iprop(Transfers.MixedBatch EC (c : Thread nD τ) (.dma sSC) () (fun _ => 192) (one c cc0_scratch6 main_v0_5 f f) 1 0 ∗ (∃ W, owes (c : Thread nD τ) 0 W))
      ⊢ iprop((iprop((ch c main_v0_5 Finset.univ f ∗ ch c cc0_scratch6 Finset.univ f) ∗ semVal ((c : Thread nD τ), .dma sSC) 0 ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch16.sem (Memref.whole cc0_scratch6) (Memref.whole main_v0_5) h1 h2) k) Q) := by
  have h := awaitAll (Q := Q) (k := k) (defs := defs₀ (F := F)) (srcw := Memref.whole cc0_scratch6) (dstw := Memref.whole main_v0_5) EC 𝒱₀ (n := 1) (u := 0) (A := fun _ => 192) (D := one c cc0_scratch6 main_v0_5 f f)
    (hsrc := ‹_›) (hdst := ‹_›) (c : Thread nD τ) none () 192 sSC_eq cSC (fun _ => by decide) (by decide)
  rw [show bigSep Finset.univ (one c cc0_scratch6 main_v0_5 f f) = iprop(ch c main_v0_5 Finset.univ f ∗ ch c cc0_scratch6 Finset.univ f) from bigSep_singleton (i := (0 : Fin 1))] at h
  exact h

/-- The clip coefficient the kernel multiplies the gradients with, -/
def kapG : FVec F S8x128 .f32 := k0_pay47 (acc4 G 6).1 (acc4 G 6).2.1 (acc4 G 6).2.2.1 (acc4 G 6).2.2.2
/-- and the norm. -/
def normG : Vec F S1 .f32 := fun _ => k0_pay48 (acc4 G 6).1 (acc4 G 6).2.1 (acc4 G 6).2.2.1 (acc4 G 6).2.2.2

theorem put_1 {α : Type} (f : S1.Idx → α) (a : α) : put (s := S1) f ![0] S1.size (fun _ => a) = fun _ => a := by
  funext y
  have b0 : (y 0).val < 1 := (y 0).isLt
  unfold put
  exact dif_pos fun i => match i with | ⟨0, _⟩ => ⟨Nat.zero_le _, show (y 0).val < 0 + 1 by omega⟩

/-- What the first part starts from, -/
def pre11 (G0 : Vec F S6x256x1536 .bf16) (W0 M0 V0 : Vec F S6x256x1536 .f32) (L0 : Vec F S6 .f32) (T0 : Vec F S6 .i32) (N0 N1 : Vec F S1 .f32) : sProp 𝕄 :=
  iprop((semVal ((c : Thread nD τ), .dma sLR) 0 ∗ semVal ((c : Thread nD τ), .dma sST) 0 ∗ semVal ((c : Thread nD τ), .dma sGN) 0)
    ∗ (ch c main_arg4 Finset.univ LR ∗ ch c cc0_scratch8 Finset.univ L0 ∗ ch c main_arg5 Finset.univ ST ∗ ch c cc0_scratch9 Finset.univ T0)
    ∗ ch c cc0_scratch7 Finset.univ C0 ∗ (ch c cc0_scratch10 Finset.univ N0 ∗ ch c main_v0_3 Finset.univ N1)
    ∗ bigSep Finset.univ (preG c G G0) ∗ bigSep Finset.univ (preIn c W M V W0 M0 V0) ∗ (∃ W, owes (c : Thread nD τ) 0 W))
/-- and what it leaves. -/
def post11 : sProp 𝕄 :=
  iprop((semVal ((c : Thread nD τ), .dma sLR) 0 ∗ semVal ((c : Thread nD τ), .dma sST) 0 ∗ ch c main_arg4 Finset.univ LR ∗ ch c main_arg5 Finset.univ ST)
    ∗ coefs c LR ST C0 6
    ∗ Transfers.MixedBatch EC (c : Thread nD τ) (.dma sGN) () (fun _ => 16) (one c cc0_scratch10 main_v0_3 (normG G) (normG G)) 1 0
    ∗ bigSep Finset.univ (atG c G) ∗ bigSep Finset.univ (flyIn c W M V) ∗ (∃ W, owes (c : Thread nD τ) 0 W))

set_option maxHeartbeats 4000000 in
/-- The first part. -/
theorem part11 (G0 : Vec F S6x256x1536 .bf16) (W0 M0 V0 : Vec F S6x256x1536 .f32) (L0 : Vec F S6 .f32) (T0 : Vec F S6 .i32) (N0 N1 : Vec F S1 .f32) :
    pre11 c LR ST C0 G W M V G0 W0 M0 V0 L0 T0 N0 N1
      ⊢ wp frame (wpE (defs₀ (F := F)) 𝒱₀ (c : Thread nD τ) none) Set.univ (k0_part11 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17)
          (fun x => iprop(⌜x = ⟨kapG G, iota .tc S1x128 32 [1] iota_S1x128_d1_w32, 0#32, 1#32⟩⌝ ∗ post11 c LR ST C0 G W M V)) := by
  rw [k0_part11_eq_skeleton]
  unfold k0_part11_skel pre11
  iintro ⟨⟨HS18, HS19, HS20⟩, ⟨HA4, HL, HA5, HT⟩, HC, ⟨HN0, HN1⟩, HG, HI, HO⟩
  imod (Transfers.mixedBatch_alloc' EC (c : Thread nD τ) () (fun _ => 16) (one c main_arg4 cc0_scratch8 LR LR) (sm := .dma sLR) (E := Set.univ)) $$ HS18 with HB18
  imod (Transfers.mixedBatch_alloc' EC (c : Thread nD τ) () (fun _ => 16) (one c main_arg5 cc0_scratch9 ST ST) (sm := .dma sST) (E := Set.univ)) $$ HS19 with HB19
  imod (Transfers.mixedBatch_alloc' EC (c : Thread nD τ) () (fun _ => 16) (one c cc0_scratch10 main_v0_3 (normG G) (normG G)) (sm := .dma sGN) (E := Set.univ)) $$ HS20 with HB20
  iapply (shipLR c 𝒱₀ LR _) $$ [HA4 HL HB18]
  · isplitl [HA4]; · iexact HA4
    isplitl [HL]; · iexact HL
    iexact HB18
  iintro HB18
  rw [ret_bind']
  iapply (shipST c 𝒱₀ ST _) $$ [HA5 HT HB19]
  · isplitl [HA5]; · iexact HA5
    isplitl [HT]; · iexact HT
    iexact HB19
  iintro HB19
  rw [ret_bind']
  iapply (wp_seq 𝒱₀ c none (loop1 c G 𝒱₀ G0)) $$ HG
  iintro %x HG
  iapply (wp_seq 𝒱₀ c none (loop2 c 𝒱₀ W M V W0 M0 V0)) $$ HI
  iintro %x HI
  iapply (awaitLR c 𝒱₀ LR) $$ [HB18 HO]
  · isplitl [HB18]; · iexact HB18
    iexact HO
  iintro ⟨HD, HS18, HO⟩
  rw [ret_bind']
  icases HD with ⟨HL, HA4⟩
  iapply (awaitST c 𝒱₀ ST) $$ [HB19 HO]
  · isplitl [HB19]; · iexact HB19
    iexact HO
  iintro ⟨HD, HS19, HO⟩
  rw [ret_bind']
  icases HD with ⟨HT, HA5⟩
  iapply (Scf.wp_for_bind (M := 𝕄) frame (wpE (defs₀ (F := F)) 𝒱₀ (c : Thread nD τ) none) Set.univ _ _ _ k0_t3_ok _ _
    (fun n _ => coefs c LR ST C0 n) ?_) $$ [HL HT HC]
  · intro t x
    exact trip3 c 𝒱₀ LR ST C0 t x
  · unfold coefs
    isplitl [HL]; · iexact HL
    isplitl [HT]; · iexact HT
    iexact HC
  iintro %x HC
  iapply (wp_seq 𝒱₀ c none (loop4 c G 𝒱₀)) $$ [HO HG]
  · isplitl [HO]; · iexact HO
    iexact HG
  iintro %x ⟨⟨%hx, HO⟩, HG⟩
  obtain ⟨x1, x2, x3, x4⟩ := x
  have e1 : kapG G = k0_pay47 x1 x2 x3 x4 := by unfold kapG; rw [← hx]
  have e2 : normG G = fun _ => k0_pay48 x1 x2 x3 x4 := by unfold normG; rw [← hx]
  rw [e1]
  dsimp only
  iapply (ldS c 𝒱₀ off0_eq) $$ HN0
  iintro HN0
  iapply (st 𝒱₀ c none off0_eq (Finset.subset_univ _)) $$ HN0
  iintro HN0
  rw [ret_bind']
  iapply (shipGN c 𝒱₀ (normG G) _) $$ [HN0 HN1 HB20]
  · isplitl [HN0]
    · rw [show normG G = put (s := S1) N0 ![0] S1.size (fun _ => k0_pay48 x1 x2 x3 x4) from e2.trans (put_1 N0 _).symm]; iexact HN0
    isplitl [HN1]; · iexact HN1
    iexact HB20
  iintro HB20
  rw [ret_bind']
  dsimp only
  sl_step
  isplitr
  · ipureintro; rfl
  unfold post11
  isplitl [HS18 HS19 HA4 HA5]
  · isplitl [HS18]; · iexact HS18
    isplitl [HS19]; · iexact HS19
    isplitl [HA4]; · iexact HA4
    iexact HA5
  isplitl [HC]
  · iexact HC
  isplitl [HB20]; · iexact HB20
  isplitl [HG]; · iexact HG
  isplitl [HI]; · iexact HI
  iexact HO
end Coef

end Cert.Proof.KI
-- ==== Proof.KIOut.lean ====
/-
  The transfers out: five of each chunk, sixty on one semaphore.
-/
module

public import proofs.«01_k».proof.Proof.KICoef
public import Idealize.ShloMosaic.Lib.Pipeline.FrameBody

@[expose] public section

set_option maxRecDepth 65536

noncomputable section

namespace Cert.Proof.KI

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

theorem off33_eq' : ∀ t, k0_cond1 t = 1#1 → k0_off33 t = ![(t.val - 1) / 2, (t.val - 1) % 2 * 128, 0] := off33_eq

/-- A matrix's coefficient of the three. -/
def cAt (C : Vec F S6x3x8x128 .f32) (a j : ℕ) : Vec F S1x1x8x128 .f32 :=
  fun x => C (ix4 (⟨a % 6, Nat.mod_lt _ (by decide)⟩ : Fin 6) (⟨j % 3, Nat.mod_lt _ (by decide)⟩ : Fin 3) (x 2 : Fin 8) (x 3 : Fin 128))

theorem win_c (C : Vec F S6x3x8x128 .f32) {a j : ℕ} (inb : ∀ i, (![a, j, 0, 0] : Fin 4 → ℕ) i + S1x1x8x128.size i ≤ S6x3x8x128.size i) :
    (window (s := S6x3x8x128) C ![a, j, 0, 0] S1x1x8x128.size inb : Vec F S1x1x8x128 .f32) = cAt C a j := by
  have h0 : a + 1 ≤ 6 := inb 0
  have h1 : j + 1 ≤ 3 := inb 1
  funext x
  have b0 : (x 0).val < 1 := (x 0).isLt
  have b1 : (x 1).val < 1 := (x 1).isLt
  refine congrArg C (funext fun i => ?_)
  match i with
  | ⟨0, _⟩ => exact Fin.ext (show a + 1 * (x 0).val = a % 6 by omega)
  | ⟨1, _⟩ => exact Fin.ext (show j + 1 * (x 1).val = j % 3 by omega)
  | ⟨2, _⟩ => exact Fin.ext (show 0 + 1 * (x 2).val = (x 2).val by omega)
  | ⟨3, _⟩ => exact Fin.ext (show 0 + 1 * (x 3).val = (x 3).val by omega)

section Vals
variable (κ : FVec F S8x128 .f32) (Cf : Vec F S6x3x8x128 .f32) (G : Vec F S6x256x1536 .bf16) (W M V : Vec F S6x256x1536 .f32)

/-- The new weights by a chunk's coefficients, -/
def wT (t : ℕ) : Vec F S6x256x1536 .f32 := newW κ (k0_pay49 (cAt Cf (t / 2) 0)) (k0_pay50 (cAt Cf (t / 2) 1)) (k0_pay51 (cAt Cf (t / 2) 2)) G M V W
/-- an element's chunk, -/
def tOf (y : S6x256x1536.Idx) : ℕ := 2 * (y 0).val + (y 1).val / 128
/-- the new weights, -/
def wG : Vec F S6x256x1536 .f32 := fun y => wT κ Cf G W M V (tOf y) y
/-- their codes, -/
def cG : Vec F S6x256x1536 .fp8e4m3 := fun y => newC (wT κ Cf G W M V (tOf y)) (tOf y) y
/-- the codes transposed, -/
def tG : Vec F S6x1536x256 .fp8e4m3 := fun z => newT (wT κ Cf G W M V (tOf (tr z))) (tOf (tr z)) z
/-- and the scales after `n` chunks. -/
def scN (S0 : Vec F S6x2x12 .f32) (v24 : IVec S1x128 32) : ℕ → Vec F S6x2x12 .f32
  | 0 => S0
  | t + 1 => put (s := S6x2x12) (scN S0 v24 t) ![t / 2, t % 2, 0] S1x1x12.size (k0_pay57 (rowN (wT κ Cf G W M V t) t v24 12))

theorem tOf_ch {t : ℕ} {y : S6x256x1536.Idx} (h : y ∈ chS t) : tOf y = t := by
  obtain ⟨h0, h1⟩ := mem_chS.1 h
  have b1 : (y 1).val < 256 := (y 1).isLt
  unfold tOf; omega
theorem tOf_ct {t : ℕ} {z : S6x1536x256.Idx} (h : z ∈ ctS t) : tOf (tr z) = t := by
  obtain ⟨h0, h1⟩ := mem_ctS.1 h
  have b1 : (z 2).val < 256 := (z 2).isLt
  show 2 * (z 0).val + (z 2).val / 128 = t; omega
theorem part12 {α : Type} (N M : S6x256x1536.Idx → α) : part 12 0 N M = N := by
  funext y
  have b : (y 2).val < 1536 := (y 2).isLt
  exact if_pos (Or.inl (by omega))
theorem part00 {α : Type} (N M : S6x256x1536.Idx → α) : part 0 0 N M = M := by
  funext y
  exact if_neg (by unfold done; omega)
theorem partT12 {α : Type} (N M : S6x1536x256.Idx → α) : partT 12 N M = N := by
  funext y
  have b : (y 1).val < 1536 := (y 1).isLt
  exact if_pos (by omega)
theorem partT0 {α : Type} (N M : S6x1536x256.Idx → α) : partT 0 N M = M := by
  funext y
  exact if_neg (by omega)
theorem w_ch {t : ℕ} {y : S6x256x1536.Idx} (h : y ∈ chS t) : wT κ Cf G W M V t y = wG κ Cf G W M V y := by
  unfold wG; rw [tOf_ch h]
theorem c_ch {t : ℕ} {y : S6x256x1536.Idx} (h : y ∈ chS t) : newC (wT κ Cf G W M V t) t y = cG κ Cf G W M V y := by
  unfold cG; rw [tOf_ch h]
theorem t_ct {t : ℕ} {z : S6x1536x256.Idx} (h : z ∈ ctS t) : newT (wT κ Cf G W M V t) t z = tG κ Cf G W M V z := by
  unfold tG; rw [tOf_ct h]
end Vals

/-- Five of a chunk at some contents. -/
def five (c : Dev nD) (b0 b1 b2 b3 b4 : Ref sig .tc) (s0 : Finset (Idx ((c : Thread nD τ).loc b0))) (s1 : Finset (Idx ((c : Thread nD τ).loc b1))) (s2 : Finset (Idx ((c : Thread nD τ).loc b2)))
    (s3 : Finset (Idx ((c : Thread nD τ).loc b3))) (s4 : Finset (Idx ((c : Thread nD τ).loc b4)))
    (f0 : Buf (Elt F) ((c : Thread nD τ).loc b0)) (f1 : Buf (Elt F) ((c : Thread nD τ).loc b1)) (f2 : Buf (Elt F) ((c : Thread nD τ).loc b2))
    (f3 : Buf (Elt F) ((c : Thread nD τ).loc b3)) (f4 : Buf (Elt F) ((c : Thread nD τ).loc b4)) : sProp 𝕄 :=
  iprop(ch c b0 s0 f0 ∗ ch c b1 s1 f1 ∗ ch c b2 s2 f2 ∗ ch c b3 s3 f3 ∗ ch c b4 s4 f4)

section Out
variable (c : Dev nD) (𝒱₀ : Variants) (N0 N1 N2 : Vec F S6x256x1536 .f32) (N3 : Vec F S6x256x1536 .fp8e4m3) (N4 : Vec F S6x1536x256 .fp8e4m3)

/-- What the results' transfers deliver. -/
def dOut (t : ℕ) : ℕ → sProp 𝕄
  | 0 => iprop(ch c main_v0_0 (chS t) N0 ∗ ch c cc0_scratch0 (chS t) N0)
  | 1 => iprop(ch c main_v0_1 (chS t) N1 ∗ ch c cc0_scratch2 (chS t) N1)
  | 2 => iprop(ch c main_v0_2 (chS t) N2 ∗ ch c cc0_scratch3 (chS t) N2)
  | 3 => iprop(ch c main_v0_4 (chS t) N3 ∗ ch c cc0_scratch4 (chS t) N3)
  | _ => iprop(ch c main_v0_6 (ctS t) N4 ∗ ch c cc0_scratch5 (ctS t) N4)
def D60 (x : Fin 60) : sProp 𝕄 := dOut c N0 N1 N2 N3 N4 (x.val / 5) (x.val % 5)
instance (t i : ℕ) : Storable (upEmb : UEmb _ 𝕄) (dOut c N0 N1 N2 N3 N4 t i) := by
  unfold dOut; split <;> infer_instance
instance (x : Fin 60) : Storable (upEmb : UEmb _ 𝕄) (D60 c N0 N1 N2 N3 N4 x) := by
  unfold D60; infer_instance
theorem D60_at (t i : ℕ) (hi : i < 5) (h : 5 * t + i < 60) : D60 c N0 N1 N2 N3 N4 ⟨5 * t + i, h⟩ = dOut c N0 N1 N2 N3 N4 t i := by
  show dOut c N0 N1 N2 N3 N4 ((5 * t + i) / 5) ((5 * t + i) % 5) = _
  rw [show (5 * t + i) / 5 = t by omega, show (5 * t + i) % 5 = i by omega]
/-- What each pays. -/
def A60 (x : Fin 60) : ℕ := if x.val % 5 < 3 then aF else aC
theorem A60_pos : ∀ x, 0 < A60 x := by decide
theorem A60_at (t i : ℕ) (hi : i < 5) (h : 5 * t + i < 60) : A60 ⟨5 * t + i, h⟩ = if i < 3 then aF else aC := by
  show (if (5 * t + i) % 5 < 3 then aF else aC) = _
  rw [show (5 * t + i) % 5 = i by omega]
theorem sum55 : Transfers.sumTo A60 55 = 946176 := by decide +kernel
theorem sum60 : Transfers.sumTo A60 60 = 1032192 := by decide +kernel

/-- The semaphore with `j` transfers issued and `u` waited for. -/
abbrev mb (j u : ℕ) : sProp 𝕄 := Transfers.MixedBatch EC (c : Thread nD τ) (.dma sO) () A60 (D60 c N0 N1 N2 N3 N4) j u

/-- Transfer 0 of a chunk. -/
theorem out0 {α : Type} {Q : α → sProp 𝕄} {k : PUnit → Prog (TpuEff nD τ sig (Elt F) Λ₀ .tc) α} {t : ℕ} {off : Fin 3 → ℕ} {inb inb' : ∀ a, off a + S1x128x1536.size a ≤ S6x256x1536.size a}
    (ho : off = ![t / 2, t % 2 * 128, 0]) (fd : Vec F S6x256x1536 .f32) (u : ℕ) (hj : 5 * t + 0 < 60) (hu : u ≤ Transfers.sumTo A60 (5 * t + 0)) {h1 h2 h3} :
    iprop(ch c cc0_scratch0 (chS t) N0 ∗ ch c main_v0_0 (chS t) fd ∗ mb c N0 N1 N2 N3 N4 (5 * t + 0) u)
      ⊢ iprop((mb c N0 N1 N2 N3 N4 (5 * t + 0 + 1) u -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (((Memref.whole cc0_scratch0).slice (Rect.unit (s := S6x256x1536) off S1x128x1536.size inb) (fun _ => rfl)).squeeze S128x1536 squeezes_S1x128x1536_S128x1536)
            (.here (((Memref.whole main_v0_0).slice (Rect.unit (s := S6x256x1536) off S1x128x1536.size inb') (fun _ => rfl)).squeeze S128x1536 squeezes_S1x128x1536_S128x1536)) .same (.dma cc0_scratch17.sem) h1 h2 h3) k) Q) := by
  have e4 : iprop(ch c main_v0_0 (chS t) N0 ∗ ch c cc0_scratch0 (chS t) N0) ⊢ D60 c N0 N1 N2 N3 N4 ⟨5 * t + 0, hj⟩ := by
    rw [D60_at c N0 N1 N2 N3 N4 t 0 (by decide)]; unfold dOut; exact .rfl
  have h := ship (Q := Q) (k := k) (defs := defs₀ (F := F)) (src := ((Memref.whole cc0_scratch0).slice (Rect.unit (s := S6x256x1536) off S1x128x1536.size inb) (fun _ => rfl)).squeeze S128x1536 squeezes_S1x128x1536_S128x1536)
    (dst := ((Memref.whole main_v0_0).slice (Rect.unit (s := S6x256x1536) off S1x128x1536.size inb') (fun _ => rfl)).squeeze S128x1536 squeezes_S1x128x1536_S128x1536)
    EC 𝒱₀ (n := 60) (j := 5 * t + 0) (u := u) (q := fullShare) (fd := fd)
    (hsrc := ‹_›) (hdst := ‹_›) (hsem := ‹_›) (D := D60 c N0 N1 N2 N3 N4) (c : Thread nD τ) none (fs := N0) (f' := N0) () A60 hj (congrArg SemLoc.dma sO_eq)
    (wSet cc0_scratch0 (chSet ho)) (wSet main_v0_0 (chSet ho)) ((show _ = aF by rfl).trans (A60_at t 0 (by decide) hj).symm) hu (fun _ => rfl) e4
  exact h
/-- A wait for one. -/
theorem wait0 {α : Type} {Q : α → sProp 𝕄} {k : PUnit → Prog (TpuEff nD τ sig (Elt F) Λ₀ .tc) α} {off : Fin 3 → ℕ} {inb inb' : ∀ a, off a + S1x128x1536.size a ≤ S6x256x1536.size a}
    (j u : ℕ) (hu : u + aF ≤ Transfers.sumTo A60 j) {h1 h2} :
    iprop(mb c N0 N1 N2 N3 N4 j u ∗ (∃ W, owes (c : Thread nD τ) 0 W))
      ⊢ iprop((iprop(mb c N0 N1 N2 N3 N4 j (u + aF) ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch17.sem (((Memref.whole cc0_scratch0).slice (Rect.unit (s := S6x256x1536) off S1x128x1536.size inb) (fun _ => rfl)).squeeze S128x1536 squeezes_S1x128x1536_S128x1536)
            (((Memref.whole main_v0_0).slice (Rect.unit (s := S6x256x1536) off S1x128x1536.size inb') (fun _ => rfl)).squeeze S128x1536 squeezes_S1x128x1536_S128x1536) h1 h2) k) Q) := by
  have h := await (Q := Q) (k := k) (defs := defs₀ (F := F)) (srcw := ((Memref.whole cc0_scratch0).slice (Rect.unit (s := S6x256x1536) off S1x128x1536.size inb) (fun _ => rfl)).squeeze S128x1536 squeezes_S1x128x1536_S128x1536)
    (dstw := ((Memref.whole main_v0_0).slice (Rect.unit (s := S6x256x1536) off S1x128x1536.size inb') (fun _ => rfl)).squeeze S128x1536 squeezes_S1x128x1536_S128x1536)
    EC 𝒱₀ (n := 60) (j := j) (u := u) (A := A60) (D := D60 c N0 N1 N2 N3 N4)
    (hsrc := ‹_›) (hdst := ‹_›) (c : Thread nD τ) none () aF sO_eq (by rfl) hu
  exact h

/-- Transfer 1 of a chunk. -/
theorem out1 {α : Type} {Q : α → sProp 𝕄} {k : PUnit → Prog (TpuEff nD τ sig (Elt F) Λ₀ .tc) α} {t : ℕ} {off : Fin 3 → ℕ} {inb inb' : ∀ a, off a + S1x128x1536.size a ≤ S6x256x1536.size a}
    (ho : off = ![t / 2, t % 2 * 128, 0]) (fd : Vec F S6x256x1536 .f32) (u : ℕ) (hj : 5 * t + 1 < 60) (hu : u ≤ Transfers.sumTo A60 (5 * t + 1)) {h1 h2 h3} :
    iprop(ch c cc0_scratch2 (chS t) N1 ∗ ch c main_v0_1 (chS t) fd ∗ mb c N0 N1 N2 N3 N4 (5 * t + 1) u)
      ⊢ iprop((mb c N0 N1 N2 N3 N4 (5 * t + 1 + 1) u -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (((Memref.whole cc0_scratch2).slice (Rect.unit (s := S6x256x1536) off S1x128x1536.size inb) (fun _ => rfl)).squeeze S128x1536 squeezes_S1x128x1536_S128x1536)
            (.here (((Memref.whole main_v0_1).slice (Rect.unit (s := S6x256x1536) off S1x128x1536.size inb') (fun _ => rfl)).squeeze S128x1536 squeezes_S1x128x1536_S128x1536)) .same (.dma cc0_scratch17.sem) h1 h2 h3) k) Q) := by
  have e4 : iprop(ch c main_v0_1 (chS t) N1 ∗ ch c cc0_scratch2 (chS t) N1) ⊢ D60 c N0 N1 N2 N3 N4 ⟨5 * t + 1, hj⟩ := by
    rw [D60_at c N0 N1 N2 N3 N4 t 1 (by decide)]; unfold dOut; exact .rfl
  have h := ship (Q := Q) (k := k) (defs := defs₀ (F := F)) (src := ((Memref.whole cc0_scratch2).slice (Rect.unit (s := S6x256x1536) off S1x128x1536.size inb) (fun _ => rfl)).squeeze S128x1536 squeezes_S1x128x1536_S128x1536)
    (dst := ((Memref.whole main_v0_1).slice (Rect.unit (s := S6x256x1536) off S1x128x1536.size inb') (fun _ => rfl)).squeeze S128x1536 squeezes_S1x128x1536_S128x1536)
    EC 𝒱₀ (n := 60) (j := 5 * t + 1) (u := u) (q := fullShare) (fd := fd)
    (hsrc := ‹_›) (hdst := ‹_›) (hsem := ‹_›) (D := D60 c N0 N1 N2 N3 N4) (c : Thread nD τ) none (fs := N1) (f' := N1) () A60 hj (congrArg SemLoc.dma sO_eq)
    (wSet cc0_scratch2 (chSet ho)) (wSet main_v0_1 (chSet ho)) ((show _ = aF by rfl).trans (A60_at t 1 (by decide) hj).symm) hu (fun _ => rfl) e4
  exact h
/-- A wait for one. -/
theorem wait1 {α : Type} {Q : α → sProp 𝕄} {k : PUnit → Prog (TpuEff nD τ sig (Elt F) Λ₀ .tc) α} {off : Fin 3 → ℕ} {inb inb' : ∀ a, off a + S1x128x1536.size a ≤ S6x256x1536.size a}
    (j u : ℕ) (hu : u + aF ≤ Transfers.sumTo A60 j) {h1 h2} :
    iprop(mb c N0 N1 N2 N3 N4 j u ∗ (∃ W, owes (c : Thread nD τ) 0 W))
      ⊢ iprop((iprop(mb c N0 N1 N2 N3 N4 j (u + aF) ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch17.sem (((Memref.whole cc0_scratch2).slice (Rect.unit (s := S6x256x1536) off S1x128x1536.size inb) (fun _ => rfl)).squeeze S128x1536 squeezes_S1x128x1536_S128x1536)
            (((Memref.whole main_v0_1).slice (Rect.unit (s := S6x256x1536) off S1x128x1536.size inb') (fun _ => rfl)).squeeze S128x1536 squeezes_S1x128x1536_S128x1536) h1 h2) k) Q) := by
  have h := await (Q := Q) (k := k) (defs := defs₀ (F := F)) (srcw := ((Memref.whole cc0_scratch2).slice (Rect.unit (s := S6x256x1536) off S1x128x1536.size inb) (fun _ => rfl)).squeeze S128x1536 squeezes_S1x128x1536_S128x1536)
    (dstw := ((Memref.whole main_v0_1).slice (Rect.unit (s := S6x256x1536) off S1x128x1536.size inb') (fun _ => rfl)).squeeze S128x1536 squeezes_S1x128x1536_S128x1536)
    EC 𝒱₀ (n := 60) (j := j) (u := u) (A := A60) (D := D60 c N0 N1 N2 N3 N4)
    (hsrc := ‹_›) (hdst := ‹_›) (c : Thread nD τ) none () aF sO_eq (by rfl) hu
  exact h

/-- Transfer 2 of a chunk. -/
theorem out2 {α : Type} {Q : α → sProp 𝕄} {k : PUnit → Prog (TpuEff nD τ sig (Elt F) Λ₀ .tc) α} {t : ℕ} {off : Fin 3 → ℕ} {inb inb' : ∀ a, off a + S1x128x1536.size a ≤ S6x256x1536.size a}
    (ho : off = ![t / 2, t % 2 * 128, 0]) (fd : Vec F S6x256x1536 .f32) (u : ℕ) (hj : 5 * t + 2 < 60) (hu : u ≤ Transfers.sumTo A60 (5 * t + 2)) {h1 h2 h3} :
    iprop(ch c cc0_scratch3 (chS t) N2 ∗ ch c main_v0_2 (chS t) fd ∗ mb c N0 N1 N2 N3 N4 (5 * t + 2) u)
      ⊢ iprop((mb c N0 N1 N2 N3 N4 (5 * t + 2 + 1) u -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (((Memref.whole cc0_scratch3).slice (Rect.unit (s := S6x256x1536) off S1x128x1536.size inb) (fun _ => rfl)).squeeze S128x1536 squeezes_S1x128x1536_S128x1536)
            (.here (((Memref.whole main_v0_2).slice (Rect.unit (s := S6x256x1536) off S1x128x1536.size inb') (fun _ => rfl)).squeeze S128x1536 squeezes_S1x128x1536_S128x1536)) .same (.dma cc0_scratch17.sem) h1 h2 h3) k) Q) := by
  have e4 : iprop(ch c main_v0_2 (chS t) N2 ∗ ch c cc0_scratch3 (chS t) N2) ⊢ D60 c N0 N1 N2 N3 N4 ⟨5 * t + 2, hj⟩ := by
    rw [D60_at c N0 N1 N2 N3 N4 t 2 (by decide)]; unfold dOut; exact .rfl
  have h := ship (Q := Q) (k := k) (defs := defs₀ (F := F)) (src := ((Memref.whole cc0_scratch3).slice (Rect.unit (s := S6x256x1536) off S1x128x1536.size inb) (fun _ => rfl)).squeeze S128x1536 squeezes_S1x128x1536_S128x1536)
    (dst := ((Memref.whole main_v0_2).slice (Rect.unit (s := S6x256x1536) off S1x128x1536.size inb') (fun _ => rfl)).squeeze S128x1536 squeezes_S1x128x1536_S128x1536)
    EC 𝒱₀ (n := 60) (j := 5 * t + 2) (u := u) (q := fullShare) (fd := fd)
    (hsrc := ‹_›) (hdst := ‹_›) (hsem := ‹_›) (D := D60 c N0 N1 N2 N3 N4) (c : Thread nD τ) none (fs := N2) (f' := N2) () A60 hj (congrArg SemLoc.dma sO_eq)
    (wSet cc0_scratch3 (chSet ho)) (wSet main_v0_2 (chSet ho)) ((show _ = aF by rfl).trans (A60_at t 2 (by decide) hj).symm) hu (fun _ => rfl) e4
  exact h
/-- A wait for one. -/
theorem wait2 {α : Type} {Q : α → sProp 𝕄} {k : PUnit → Prog (TpuEff nD τ sig (Elt F) Λ₀ .tc) α} {off : Fin 3 → ℕ} {inb inb' : ∀ a, off a + S1x128x1536.size a ≤ S6x256x1536.size a}
    (j u : ℕ) (hu : u + aF ≤ Transfers.sumTo A60 j) {h1 h2} :
    iprop(mb c N0 N1 N2 N3 N4 j u ∗ (∃ W, owes (c : Thread nD τ) 0 W))
      ⊢ iprop((iprop(mb c N0 N1 N2 N3 N4 j (u + aF) ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch17.sem (((Memref.whole cc0_scratch3).slice (Rect.unit (s := S6x256x1536) off S1x128x1536.size inb) (fun _ => rfl)).squeeze S128x1536 squeezes_S1x128x1536_S128x1536)
            (((Memref.whole main_v0_2).slice (Rect.unit (s := S6x256x1536) off S1x128x1536.size inb') (fun _ => rfl)).squeeze S128x1536 squeezes_S1x128x1536_S128x1536) h1 h2) k) Q) := by
  have h := await (Q := Q) (k := k) (defs := defs₀ (F := F)) (srcw := ((Memref.whole cc0_scratch3).slice (Rect.unit (s := S6x256x1536) off S1x128x1536.size inb) (fun _ => rfl)).squeeze S128x1536 squeezes_S1x128x1536_S128x1536)
    (dstw := ((Memref.whole main_v0_2).slice (Rect.unit (s := S6x256x1536) off S1x128x1536.size inb') (fun _ => rfl)).squeeze S128x1536 squeezes_S1x128x1536_S128x1536)
    EC 𝒱₀ (n := 60) (j := j) (u := u) (A := A60) (D := D60 c N0 N1 N2 N3 N4)
    (hsrc := ‹_›) (hdst := ‹_›) (c : Thread nD τ) none () aF sO_eq (by rfl) hu
  exact h

/-- Transfer 3 of a chunk. -/
theorem out3 {α : Type} {Q : α → sProp 𝕄} {k : PUnit → Prog (TpuEff nD τ sig (Elt F) Λ₀ .tc) α} {t : ℕ} {off : Fin 3 → ℕ} {inb inb' : ∀ a, off a + S1x128x1536.size a ≤ S6x256x1536.size a}
    (ho : off = ![t / 2, t % 2 * 128, 0]) (fd : Vec F S6x256x1536 .fp8e4m3) (u : ℕ) (hj : 5 * t + 3 < 60) (hu : u ≤ Transfers.sumTo A60 (5 * t + 3)) {h1 h2 h3} :
    iprop(ch c cc0_scratch4 (chS t) N3 ∗ ch c main_v0_4 (chS t) fd ∗ mb c N0 N1 N2 N3 N4 (5 * t + 3) u)
      ⊢ iprop((mb c N0 N1 N2 N3 N4 (5 * t + 3 + 1) u -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (((Memref.whole cc0_scratch4).slice (Rect.unit (s := S6x256x1536) off S1x128x1536.size inb) (fun _ => rfl)).squeeze S128x1536 squeezes_S1x128x1536_S128x1536)
            (.here (((Memref.whole main_v0_4).slice (Rect.unit (s := S6x256x1536) off S1x128x1536.size inb') (fun _ => rfl)).squeeze S128x1536 squeezes_S1x128x1536_S128x1536)) .same (.dma cc0_scratch17.sem) h1 h2 h3) k) Q) := by
  have e4 : iprop(ch c main_v0_4 (chS t) N3 ∗ ch c cc0_scratch4 (chS t) N3) ⊢ D60 c N0 N1 N2 N3 N4 ⟨5 * t + 3, hj⟩ := by
    rw [D60_at c N0 N1 N2 N3 N4 t 3 (by decide)]; unfold dOut; exact .rfl
  have h := ship (Q := Q) (k := k) (defs := defs₀ (F := F)) (src := ((Memref.whole cc0_scratch4).slice (Rect.unit (s := S6x256x1536) off S1x128x1536.size inb) (fun _ => rfl)).squeeze S128x1536 squeezes_S1x128x1536_S128x1536)
    (dst := ((Memref.whole main_v0_4).slice (Rect.unit (s := S6x256x1536) off S1x128x1536.size inb') (fun _ => rfl)).squeeze S128x1536 squeezes_S1x128x1536_S128x1536)
    EC 𝒱₀ (n := 60) (j := 5 * t + 3) (u := u) (q := fullShare) (fd := fd)
    (hsrc := ‹_›) (hdst := ‹_›) (hsem := ‹_›) (D := D60 c N0 N1 N2 N3 N4) (c : Thread nD τ) none (fs := N3) (f' := N3) () A60 hj (congrArg SemLoc.dma sO_eq)
    (wSet cc0_scratch4 (chSet ho)) (wSet main_v0_4 (chSet ho)) ((show _ = aC by rfl).trans (A60_at t 3 (by decide) hj).symm) hu (fun _ => rfl) e4
  exact h
/-- A wait for one. -/
theorem wait3 {α : Type} {Q : α → sProp 𝕄} {k : PUnit → Prog (TpuEff nD τ sig (Elt F) Λ₀ .tc) α} {off : Fin 3 → ℕ} {inb inb' : ∀ a, off a + S1x128x1536.size a ≤ S6x256x1536.size a}
    (j u : ℕ) (hu : u + aC ≤ Transfers.sumTo A60 j) {h1 h2} :
    iprop(mb c N0 N1 N2 N3 N4 j u ∗ (∃ W, owes (c : Thread nD τ) 0 W))
      ⊢ iprop((iprop(mb c N0 N1 N2 N3 N4 j (u + aC) ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch17.sem (((Memref.whole cc0_scratch4).slice (Rect.unit (s := S6x256x1536) off S1x128x1536.size inb) (fun _ => rfl)).squeeze S128x1536 squeezes_S1x128x1536_S128x1536)
            (((Memref.whole main_v0_4).slice (Rect.unit (s := S6x256x1536) off S1x128x1536.size inb') (fun _ => rfl)).squeeze S128x1536 squeezes_S1x128x1536_S128x1536) h1 h2) k) Q) := by
  have h := await (Q := Q) (k := k) (defs := defs₀ (F := F)) (srcw := ((Memref.whole cc0_scratch4).slice (Rect.unit (s := S6x256x1536) off S1x128x1536.size inb) (fun _ => rfl)).squeeze S128x1536 squeezes_S1x128x1536_S128x1536)
    (dstw := ((Memref.whole main_v0_4).slice (Rect.unit (s := S6x256x1536) off S1x128x1536.size inb') (fun _ => rfl)).squeeze S128x1536 squeezes_S1x128x1536_S128x1536)
    EC 𝒱₀ (n := 60) (j := j) (u := u) (A := A60) (D := D60 c N0 N1 N2 N3 N4)
    (hsrc := ‹_›) (hdst := ‹_›) (c : Thread nD τ) none () aC sO_eq (by rfl) hu
  exact h

/-- Transfer 4 of a chunk. -/
theorem out4 {α : Type} {Q : α → sProp 𝕄} {k : PUnit → Prog (TpuEff nD τ sig (Elt F) Λ₀ .tc) α} {t : ℕ} {off : Fin 3 → ℕ} {inb inb' : ∀ a, off a + S1x1536x128.size a ≤ S6x1536x256.size a}
    (ho : off = ![t / 2, 0, t % 2 * 128]) (fd : Vec F S6x1536x256 .fp8e4m3) (u : ℕ) (hj : 5 * t + 4 < 60) (hu : u ≤ Transfers.sumTo A60 (5 * t + 4)) {h1 h2 h3} :
    iprop(ch c cc0_scratch5 (ctS t) N4 ∗ ch c main_v0_6 (ctS t) fd ∗ mb c N0 N1 N2 N3 N4 (5 * t + 4) u)
      ⊢ iprop((mb c N0 N1 N2 N3 N4 (5 * t + 4 + 1) u -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDmaAs (((Memref.whole cc0_scratch5).slice (Rect.unit (s := S6x1536x256) off S1x1536x128.size inb) (fun _ => rfl)).squeeze S1536x128 squeezes_S1x1536x128_S1536x128)
            (.here (((Memref.whole main_v0_6).slice (Rect.unit (s := S6x1536x256) off S1x1536x128.size inb') (fun _ => rfl)).squeeze S1536x128 squeezes_S1x1536x128_S1536x128)) .same (.dma cc0_scratch17.sem) h1 h2 h3) k) Q) := by
  have e4 : iprop(ch c main_v0_6 (ctS t) N4 ∗ ch c cc0_scratch5 (ctS t) N4) ⊢ D60 c N0 N1 N2 N3 N4 ⟨5 * t + 4, hj⟩ := by
    rw [D60_at c N0 N1 N2 N3 N4 t 4 (by decide)]; unfold dOut; exact .rfl
  have h := ship (Q := Q) (k := k) (defs := defs₀ (F := F)) (src := ((Memref.whole cc0_scratch5).slice (Rect.unit (s := S6x1536x256) off S1x1536x128.size inb) (fun _ => rfl)).squeeze S1536x128 squeezes_S1x1536x128_S1536x128)
    (dst := ((Memref.whole main_v0_6).slice (Rect.unit (s := S6x1536x256) off S1x1536x128.size inb') (fun _ => rfl)).squeeze S1536x128 squeezes_S1x1536x128_S1536x128)
    EC 𝒱₀ (n := 60) (j := 5 * t + 4) (u := u) (q := fullShare) (fd := fd)
    (hsrc := ‹_›) (hdst := ‹_›) (hsem := ‹_›) (D := D60 c N0 N1 N2 N3 N4) (c : Thread nD τ) none (fs := N4) (f' := N4) () A60 hj (congrArg SemLoc.dma sO_eq)
    (wSet cc0_scratch5 (ctSet ho)) (wSet main_v0_6 (ctSet ho)) ((show _ = aC by rfl).trans (A60_at t 4 (by decide) hj).symm) hu (fun _ => rfl) e4
  exact h
/-- A wait for one. -/
theorem wait4 {α : Type} {Q : α → sProp 𝕄} {k : PUnit → Prog (TpuEff nD τ sig (Elt F) Λ₀ .tc) α} {off : Fin 3 → ℕ} {inb inb' : ∀ a, off a + S1x1536x128.size a ≤ S6x1536x256.size a}
    (j u : ℕ) (hu : u + aC ≤ Transfers.sumTo A60 j) {h1 h2} :
    iprop(mb c N0 N1 N2 N3 N4 j u ∗ (∃ W, owes (c : Thread nD τ) 0 W))
      ⊢ iprop((iprop(mb c N0 N1 N2 N3 N4 j (u + aC) ∗ (∃ W, owes (c : Thread nD τ) 0 W)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 cc0_scratch17.sem (((Memref.whole cc0_scratch5).slice (Rect.unit (s := S6x1536x256) off S1x1536x128.size inb) (fun _ => rfl)).squeeze S1536x128 squeezes_S1x1536x128_S1536x128)
            (((Memref.whole main_v0_6).slice (Rect.unit (s := S6x1536x256) off S1x1536x128.size inb') (fun _ => rfl)).squeeze S1536x128 squeezes_S1x1536x128_S1536x128) h1 h2) k) Q) := by
  have h := await (Q := Q) (k := k) (defs := defs₀ (F := F)) (srcw := ((Memref.whole cc0_scratch5).slice (Rect.unit (s := S6x1536x256) off S1x1536x128.size inb) (fun _ => rfl)).squeeze S1536x128 squeezes_S1x1536x128_S1536x128)
    (dstw := ((Memref.whole main_v0_6).slice (Rect.unit (s := S6x1536x256) off S1x1536x128.size inb') (fun _ => rfl)).squeeze S1536x128 squeezes_S1x1536x128_S1536x128)
    EC 𝒱₀ (n := 60) (j := j) (u := u) (A := A60) (D := D60 c N0 N1 N2 N3 N4)
    (hsrc := ‹_›) (hdst := ‹_›) (c : Thread nD τ) none () aC sO_eq (by rfl) hu
  exact h
end Out

end Cert.Proof.KI
-- ==== Proof.KIChunk.lean ====
/-
  One chunk: its transfers in awaited, its blocks computed, and the previous chunk's transfers out issued.
-/
module

public import proofs.«01_k».proof.Proof.KIOut
public import Idealize.ShloMosaic.Lib.Pipeline.FrameBody

@[expose] public section

set_option maxRecDepth 65536

noncomputable section

namespace Cert.Proof.KI

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

theorem fin3sep (Φ : Fin 3 → sProp 𝕄) : bigSep Finset.univ Φ = iprop(Φ 0 ∗ Φ 1 ∗ Φ 2) := by
  rw [show (Finset.univ : Finset (Fin 3)) = insert 0 (insert 1 {2}) by decide, bigSep_insert (by decide), bigSep_insert (by decide), bigSep_singleton]
  rfl

/-- A program from what it leaves to what is wanted of it. -/
theorem wp_then {α : Type} (c : Dev nD) (𝒱₀ : Variants) {P : sProp 𝕄} {a : Prog (TpuEff nD τ sig (Elt F) Λ₀ .tc) α} {R Q : α → sProp 𝕄} (h : P ⊢ wp frame (wpE (defs₀ (F := F)) 𝒱₀ (c : Thread nD τ) none) Set.univ a R) :
    P ⊢ iprop((∀ x, R x -∗ Q x) -∗ wp frame (wpE (defs₀ (F := F)) 𝒱₀ (c : Thread nD τ) none) Set.univ a Q) := by
  iintro HP HK
  iapply (wp_wand_r frame (wpE (defs₀ (F := F)) 𝒱₀ (c : Thread nD τ) none) Set.univ)
  isplitl [HP]
  · iapply h; iexact HP
  · iexact HK

section Chunk
variable (c : Dev nD) (𝒱₀ : Variants) (N0 N1 N2 : Vec F S6x256x1536 .f32) (N3 : Vec F S6x256x1536 .fp8e4m3) (N4 : Vec F S6x1536x256 .fp8e4m3)

/-- A chunk of the five results, -/
abbrev outs (t : ℕ) (O0 O1 O2 : Vec F S6x256x1536 .f32) (O3 : Vec F S6x256x1536 .fp8e4m3) (O4 : Vec F S6x1536x256 .fp8e4m3) : sProp 𝕄 :=
  iprop(ch c main_v0_0 (chS t) O0 ∗ ch c main_v0_1 (chS t) O1 ∗ ch c main_v0_2 (chS t) O2 ∗ ch c main_v0_4 (chS t) O3 ∗ ch c main_v0_6 (ctS t) O4)
/-- and of the five buffers they come from. -/
abbrev scrs (t : ℕ) (O0 O1 O2 : Vec F S6x256x1536 .f32) (O3 : Vec F S6x256x1536 .fp8e4m3) (O4 : Vec F S6x1536x256 .fp8e4m3) : sProp 𝕄 :=
  iprop(ch c cc0_scratch0 (chS t) O0 ∗ ch c cc0_scratch2 (chS t) O1 ∗ ch c cc0_scratch3 (chS t) O2 ∗ ch c cc0_scratch4 (chS t) O3 ∗ ch c cc0_scratch5 (ctS t) O4)

theorem part8 (t : Fin k0_t6_loop.trips) (x : BitVec 32) (h : k0_cond1 t = 1#1) (O0 : Vec F S6x256x1536 .f32) :
    iprop(ch c cc0_scratch0 (chS (t.val - 1)) N0 ∗ ch c main_v0_0 (chS (t.val - 1)) O0 ∗ mb c N0 N1 N2 N3 N4 (5 * (t.val - 1)) 0)
      ⊢ wp frame (wpE (defs₀ (F := F)) 𝒱₀ (c : Thread nD τ) none) Set.univ (k0_part8 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 t x h) (fun _ => mb c N0 N1 N2 N3 N4 (5 * (t.val - 1) + 1) 0) := by
  have ht : t.val < 12 := lt_of_lt_of_eq t.isLt trips6
  rw [k0_part8_eq_skeleton]
  unfold k0_part8_skel
  iintro HH
  iapply (out0 c 𝒱₀ N0 N1 N2 N3 N4 (t := t.val - 1) (off33_eq' t h) O0 0 (by omega) (Nat.zero_le _)) $$ HH
  iintro HB
  rw [ret_bind']
  sl_step
  iexact HB

section Vals
variable (κ : FVec F S8x128 .f32) (Cf : Vec F S6x3x8x128 .f32) (G : Vec F S6x256x1536 .bf16) (W M V : Vec F S6x256x1536 .f32) (v24 : IVec S1x128 32)

/-- A load of a matrix's coefficient. -/
theorem ldC {α : Type} {Q : α → sProp 𝕄} {a j : ℕ} {off : Fin 4 → ℕ} {inb : ∀ i, off i + S1x1x8x128.size i ≤ S6x3x8x128.size i} (ho : off = ![a, j, 0, 0])
    {hl : (Memref.whole cc0_scratch7 : Memref sig .tc _ _ _).view.LoadsAt (Rect.unit (s := S6x3x8x128) off S1x1x8x128.size inb).toLoadRect}
    {k : Vec F S1x1x8x128 .f32 → Prog (TpuEff nD τ sig (Elt F) Λ₀ .tc) α} :
    ch c cc0_scratch7 Finset.univ Cf
      ⊢ iprop((ch c cc0_scratch7 Finset.univ Cf -∗ wp frame (wpE (defs₀ (F := F)) 𝒱₀ (c : Thread nD τ) none) Set.univ (k (cAt Cf a j)) Q)
        -∗ wp frame (wpE (defs₀ (F := F)) 𝒱₀ (c : Thread nD τ) none) Set.univ (.op (.load (Memref.whole cc0_scratch7) (Rect.unit (s := S6x3x8x128) off S1x1x8x128.size inb).toLoadRect hl) k) Q) := by
  subst ho
  rw [← win_c Cf inb]
  exact ld 𝒱₀ c none rfl (Finset.subset_univ _)

/-- A chunk's blocks before the first, -/
theorem blocks_start (t : ℕ) (C : Vec F S6x256x1536 .fp8e4m3) (T : Vec F S6x1536x256 .fp8e4m3) (p d r : FVec F S8x128 .f32) :
    iprop(ch c cc0_scratch1 Finset.univ G ∗ scrs c t W M V C T) ⊢ (blocks c κ p d r G M V W C T t 0 : sProp 𝕄) := by
  unfold blocks strips
  rw [part00, part00, part00, part00, partT0]
  iintro ⟨HG, H0, H2, H3, H4, H5⟩
  isplitr [H4 H5]
  · isplitl [HG]; · iexact HG
    isplitl [H2]; · iexact H2
    isplitl [H3]; · iexact H3
    iexact H0
  isplitl [H4]; · iexact H4
  iexact H5
/-- and after the last. -/
theorem blocks_end (t : ℕ) (C : Vec F S6x256x1536 .fp8e4m3) (T : Vec F S6x1536x256 .fp8e4m3) :
    (blocks c κ (k0_pay49 (cAt Cf (t / 2) 0)) (k0_pay50 (cAt Cf (t / 2) 1)) (k0_pay51 (cAt Cf (t / 2) 2)) G M V W C T t 12 : sProp 𝕄)
      ⊢ iprop(ch c cc0_scratch1 Finset.univ G ∗ scrs c t (wG κ Cf G W M V) (newM κ G M) (newV κ G V) (cG κ Cf G W M V) (tG κ Cf G W M V)) := by
  unfold blocks strips
  rw [part12, part12, part12, part12, partT12]
  have e0 : ((c : Thread nD τ).loc cc0_scratch0 ↦[chS t]{fullShare} wT κ Cf G W M V t : sProp 𝕄) ⊢ ch c cc0_scratch0 (chS t) (wG κ Cf G W M V) :=
    (pointsTo_congr fun y hy => w_ch κ Cf G W M V hy).le
  have e4 : ((c : Thread nD τ).loc cc0_scratch4 ↦[chS t]{fullShare} newC (wT κ Cf G W M V t) t : sProp 𝕄) ⊢ ch c cc0_scratch4 (chS t) (cG κ Cf G W M V) :=
    (pointsTo_congr fun y hy => c_ch κ Cf G W M V hy).le
  have e5 : ((c : Thread nD τ).loc cc0_scratch5 ↦[ctS t]{fullShare} newT (wT κ Cf G W M V t) t : sProp 𝕄) ⊢ ch c cc0_scratch5 (ctS t) (tG κ Cf G W M V) :=
    (pointsTo_congr fun y hy => t_ct κ Cf G W M V hy).le
  iintro ⟨⟨HG, H2, H3, H0⟩, H4, H5⟩
  isplitl [HG]; · iexact HG
  isplitl [H0]; · iapply e0; iexact H0
  isplitl [H2]; · iexact H2
  isplitl [H3]; · iexact H3
  isplitl [H4]; · iapply e4; iexact H4
  iapply e5; iexact H5

/-- The blocks of a chunk. -/
theorem loop7 (p d r : Vec F S1x1x8x128 .f32) (C : Vec F S6x256x1536 .fp8e4m3) (T : Vec F S6x1536x256 .fp8e4m3) (t : Fin k0_t6_loop.trips) (a b v83 v125 : BitVec 32) :
    blocks c κ (k0_pay49 p) (k0_pay50 d) (k0_pay51 r) G M V W C T t.val 0
      ⊢ wp frame (wpE (defs₀ (F := F)) 𝒱₀ (c : Thread nD τ) none) Set.univ (Scf.Loop.for k0_t7_loop k0_t7_ok (k0_pay52 (F := F)) (k0_t7_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 κ v24 a b t v83 p d r v125))
          (fun x => iprop(⌜x = rowN (newW κ (k0_pay49 p) (k0_pay50 d) (k0_pay51 r) G M V W) t.val v24 12⌝ ∗ blocks c κ (k0_pay49 p) (k0_pay50 d) (k0_pay51 r) G M V W C T t.val 12)) := by
  iintro HS
  iapply (Scf.wp_for (M := 𝕄) frame (wpE (defs₀ (F := F)) 𝒱₀ (c : Thread nD τ) none) Set.univ _ _ _ k0_t7_ok _ _
    (fun n x => iprop(⌜x = rowN (newW κ (k0_pay49 p) (k0_pay50 d) (k0_pay51 r) G M V W) t.val v24 n⌝ ∗ blocks c κ (k0_pay49 p) (k0_pay50 d) (k0_pay51 r) G M V W C T t.val n)) ?_) $$ [HS]
  · intro u x
    iintro ⟨%h, HS⟩
    subst h
    iapply (trip7 𝒱₀ c κ p d r v24 _ G M V W C T t u a b v83 v125) $$ HS
  isplitl [HS]
  · isplitr
    · ipureintro; rfl
    · iexact HS
  iintro %x HS
  iexact HS

/-- A chunk's first wait. -/
theorem part9 (t : Fin k0_t6_loop.trips) (a b : BitVec 32) :
    iprop(flyIn c W M V ⟨t.val, lt_of_lt_of_eq t.isLt trips6⟩ ∗ (∃ W', owes (c : Thread nD τ) 0 W'))
      ⊢ wp frame (wpE (defs₀ (F := F)) 𝒱₀ (c : Thread nD τ) none) Set.univ (k0_part9 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 a b t) (fun _ => iprop(Transfers.MixedBatch EC (c : Thread nD τ) (.dma (semI ⟨t.val, lt_of_lt_of_eq t.isLt trips6⟩)) () (fun _ => aF) (dIn c W M V ⟨t.val, lt_of_lt_of_eq t.isLt trips6⟩) 3 (0 + aF)
        ∗ (∃ W', owes (c : Thread nD τ) 0 W'))) := by
  rw [k0_part9_eq_skeleton]
  unfold k0_part9_skel flyIn
  iintro HH
  iapply (await EC 𝒱₀ (n := 3) (j := 3) (u := 0) (A := fun _ => aF) (D := dIn c W M V ⟨t.val, lt_of_lt_of_eq t.isLt trips6⟩) (c : Thread nD τ) none () aF (sem23 t) (by rfl) (by decide)) $$ HH
  iintro HH
  rw [ret_bind']
  sl_step
  iexact HH

variable (O0 O1 O2 : Vec F S6x256x1536 .f32) (O3 C : Vec F S6x256x1536 .fp8e4m3) (O4 T : Vec F S6x1536x256 .fp8e4m3) (S0 : Vec F S6x2x12 .f32)

/-- The results' semaphore at the kernel's values. -/
abbrev mbK (j u : ℕ) : sProp 𝕄 := mb c (wG κ Cf G W M V) (newM κ G M) (newV κ G V) (cG κ Cf G W M V) (tG κ Cf G W M V) j u
/-- The chunk computed last, its transfers out not yet issued. -/
def pend : ℕ → sProp 𝕄
  | 0 => iprop(emp)
  | t + 1 => iprop(outs c t O0 O1 O2 O3 O4 ∗ scrs c t (wG κ Cf G W M V) (newM κ G M) (newV κ G V) (cG κ Cf G W M V) (tG κ Cf G W M V))
/-- What is carried from chunk to chunk, -/
def carry (t : ℕ) : sProp 𝕄 :=
  iprop(mbK c κ Cf G W M V (5 * (t - 1)) 0 ∗ pend c κ Cf G W M V O0 O1 O2 O3 O4 t ∗ ch c cc0_scratch1 Finset.univ G ∗ ch c cc0_scratch7 Finset.univ Cf
    ∗ ch c cc0_scratch6 Finset.univ (scN κ Cf G W M V S0 v24 t) ∗ (∃ W', owes (c : Thread nD τ) 0 W'))
/-- what a chunk takes, -/
def takes (t : Fin 12) : sProp 𝕄 :=
  iprop(flyIn c W M V t ∗ outs c t O0 O1 O2 O3 O4 ∗ ch c cc0_scratch4 (chS t) C ∗ ch c cc0_scratch5 (ctS t) T)
/-- and what it leaves. -/
def leaves (t : Fin 12) : sProp 𝕄 :=
  iprop(semVal ((c : Thread nD τ), .dma (semI t)) 0 ∗ ch c main_arg0 (chS t) W ∗ ch c main_arg2 (chS t) M ∗ ch c main_arg3 (chS t) V)

theorem sumF : 0 + aF + aF + aF = Transfers.sumTo (fun _ : Fin 3 => aF) 3 := by decide +kernel

set_option maxHeartbeats 3200000 in
/-- One chunk. -/
theorem trip6 (t : Fin k0_t6_loop.trips) (x : Unit) :
    iprop(carry c κ Cf G W M V v24 O0 O1 O2 O3 O4 S0 t.val ∗ takes c W M V O0 O1 O2 O3 C O4 T ⟨t.val, lt_of_lt_of_eq t.isLt trips6⟩)
      ⊢ wp frame (wpE (defs₀ (F := F)) 𝒱₀ (c : Thread nD τ) none) Set.univ (k0_t6_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 κ v24 0#32 1#32 t x)
          (fun _ => iprop(carry c κ Cf G W M V v24 O0 O1 O2 O3 O4 S0 (t.val + 1) ∗ leaves c W M V ⟨t.val, lt_of_lt_of_eq t.isLt trips6⟩)) := by
  have ht : t.val < 12 := lt_of_lt_of_eq t.isLt trips6
  unfold carry takes leaves k0_t6_body
  iintro ⟨⟨HMB, HP, HG, HCf, HSc, HO⟩, HF, HOut, HC, HT⟩
  iapply (wp_seq 𝒱₀ c none (part9 c 𝒱₀ W M V t 0#32 1#32)) $$ [HF HO]
  · isplitl [HF]; · iexact HF
    iexact HO
  iintro %y HH
  obtain ⟨y1, y2, y3⟩ := y
  dsimp only
  iapply (await EC 𝒱₀ (n := 3) (j := 3) (u := 0 + aF) (A := fun _ => aF) (D := dIn c W M V ⟨t.val, lt_of_lt_of_eq t.isLt trips6⟩) (c : Thread nD τ) none () aF (sem23 t) (by rfl) (by decide)) $$ HH
  iintro HH
  rw [ret_bind']
  iapply (awaitAll EC 𝒱₀ (n := 3) (u := 0 + aF + aF) (A := fun _ => aF) (D := dIn c W M V ⟨t.val, lt_of_lt_of_eq t.isLt trips6⟩) (c : Thread nD τ) none () aF (sem23 t) (by rfl) (fun _ => by decide) sumF) $$ HH
  iintro ⟨HD, HS, HO⟩
  rw [ret_bind']
  ihave HD' := (show bigSep Finset.univ (dIn c W M V ⟨t.val, lt_of_lt_of_eq t.isLt trips6⟩) ⊢ iprop((ch c cc0_scratch0 (chS t.val) W ∗ ch c main_arg0 (chS t.val) W)
      ∗ (ch c cc0_scratch2 (chS t.val) M ∗ ch c main_arg2 (chS t.val) M) ∗ (ch c cc0_scratch3 (chS t.val) V ∗ ch c main_arg3 (chS t.val) V)) from (fin3sep _).le) $$ HD
  icases HD' with ⟨⟨H0, A0⟩, ⟨H2, A2⟩, H3, A3⟩
  iapply (ldC c 𝒱₀ Cf (off25_eq t)) $$ HCf
  iintro HCf
  rw [ret_bind']
  iapply (ldC c 𝒱₀ Cf (off26_eq t)) $$ HCf
  iintro HCf
  rw [ret_bind']
  iapply (ldC c 𝒱₀ Cf (off27_eq t)) $$ HCf
  iintro HCf
  rw [ret_bind']
  ihave HBl := (blocks_start c κ G W M V t.val C T (k0_pay49 (cAt Cf (t.val / 2) 0)) (k0_pay50 (cAt Cf (t.val / 2) 1)) (k0_pay51 (cAt Cf (t.val / 2) 2))) $$ [HG H0 H2 H3 HC HT]
  · isplitl [HG]; · iexact HG
    isplitl [H0]; · iexact H0
    isplitl [H2]; · iexact H2
    isplitl [H3]; · iexact H3
    isplitl [HC]; · iexact HC
    iexact HT
  iapply (wp_seq 𝒱₀ c none (loop7 c 𝒱₀ κ G W M V v24 (cAt Cf (t.val / 2) 0) (cAt Cf (t.val / 2) 1) (cAt Cf (t.val / 2) 2) C T t 0#32 1#32 y2 (Scalar.muli y3 128#32))) $$ HBl
  iintro %row ⟨%hrow, HBl⟩
  subst hrow
  ihave HBl' := (blocks_end c κ Cf G W M V t.val C T) $$ HBl
  icases HBl' with ⟨HG, HScr⟩
  iapply (ld 𝒱₀ c none (off32_eq t) (Finset.subset_univ _)) $$ HSc
  iintro HSc
  rw [ret_bind']
  iapply (st 𝒱₀ c none (off32_eq t) (Finset.subset_univ _)) $$ HSc
  iintro HSc
  rw [ret_bind']
  iapply (wp_then c 𝒱₀ (P := iprop(mbK c κ Cf G W M V (5 * (t.val - 1)) 0 ∗ pend c κ Cf G W M V O0 O1 O2 O3 O4 t.val)) (R := fun _ => mbK c κ Cf G W M V (5 * (t.val + 1 - 1)) 0) ?_) $$ [HMB HP]
  · by_cases hc : k0_cond1 t = 1#1
    · have h0 : 0 < t.val := (cond1_iff t).1 hc
      rw [dif_pos hc]
      obtain ⟨j, hj⟩ : ∃ j, t.val = j + 1 := ⟨t.val - 1, by omega⟩
      have hj' : t.val - 1 = j := by omega
      rw [show pend c κ Cf G W M V O0 O1 O2 O3 O4 t.val = iprop(outs c (t.val - 1) O0 O1 O2 O3 O4 ∗ scrs c (t.val - 1) (wG κ Cf G W M V) (newM κ G M) (newV κ G V) (cG κ Cf G W M V) (tG κ Cf G W M V)) by rw [hj', hj]; rfl,
        show 5 * (t.val + 1 - 1) = 5 * (t.val - 1) + 5 by omega]
      iintro ⟨HMB, ⟨P0, P1, P2, P3, P4⟩, Q0, Q1, Q2, Q3, Q4⟩
      iapply (wp_seq 𝒱₀ c none (part8 c 𝒱₀ (wG κ Cf G W M V) (newM κ G M) (newV κ G V) (cG κ Cf G W M V) (tG κ Cf G W M V) t y1 hc O0)) $$ [P0 Q0 HMB]
      · isplitl [Q0]; · iexact Q0
        isplitl [P0]; · iexact P0
        iexact HMB
      iintro %z HMB
      iapply (out1 c 𝒱₀ (wG κ Cf G W M V) (newM κ G M) (newV κ G V) (cG κ Cf G W M V) (tG κ Cf G W M V) (t := t.val - 1) (off33_eq' t hc) O1 0 (by omega) (Nat.zero_le _)) $$ [P1 Q1 HMB]
      · isplitl [Q1]; · iexact Q1
        isplitl [P1]; · iexact P1
        iexact HMB
      iintro HMB
      rw [ret_bind']
      iapply (out2 c 𝒱₀ (wG κ Cf G W M V) (newM κ G M) (newV κ G V) (cG κ Cf G W M V) (tG κ Cf G W M V) (t := t.val - 1) (off33_eq' t hc) O2 0 (by omega) (Nat.zero_le _)) $$ [P2 Q2 HMB]
      · isplitl [Q2]; · iexact Q2
        isplitl [P2]; · iexact P2
        iexact HMB
      iintro HMB
      rw [ret_bind']
      iapply (out3 c 𝒱₀ (wG κ Cf G W M V) (newM κ G M) (newV κ G V) (cG κ Cf G W M V) (tG κ Cf G W M V) (t := t.val - 1) (off33_eq' t hc) O3 0 (by omega) (Nat.zero_le _)) $$ [P3 Q3 HMB]
      · isplitl [Q3]; · iexact Q3
        isplitl [P3]; · iexact P3
        iexact HMB
      iintro HMB
      rw [ret_bind']
      iapply (out4 c 𝒱₀ (wG κ Cf G W M V) (newM κ G M) (newV κ G V) (cG κ Cf G W M V) (tG κ Cf G W M V) (t := t.val - 1) (off34_eq t hc) O4 0 (by omega) (Nat.zero_le _)) $$ [P4 Q4 HMB]
      · isplitl [Q4]; · iexact Q4
        isplitl [P4]; · iexact P4
        iexact HMB
      iintro HMB
      rw [ret_bind']
      sl_step
      iexact HMB
    · have h0 : t.val = 0 := by
        have := mt (cond1_iff t).2 hc
        omega
      rw [dif_neg hc]
      iintro ⟨HMB, -⟩
      sl_step
      rw [h0]
      iexact HMB
  · isplitl [HMB]; · iexact HMB
    iexact HP
  iintro %z HMB
  isplitr [HS A0 A2 A3]
  · isplitl [HMB]; · iexact HMB
    isplitl [HOut HScr]
    · iapply (show iprop(outs c t.val O0 O1 O2 O3 O4 ∗ scrs c t.val (wG κ Cf G W M V) (newM κ G M) (newV κ G V) (cG κ Cf G W M V) (tG κ Cf G W M V))
        ⊢ pend c κ Cf G W M V O0 O1 O2 O3 O4 (t.val + 1) from .rfl)
      isplitl [HOut]; · iexact HOut
      iexact HScr
    isplitl [HG]; · iexact HG
    isplitl [HCf]; · iexact HCf
    isplitl [HSc]; · iexact HSc
    iexact HO
  isplitl [HS]; · iexact HS
  isplitl [A0]; · iexact A0
  isplitl [A2]; · iexact A2
  iexact A3

/-- Every chunk. -/
theorem loop6 :
    iprop(carry c κ Cf G W M V v24 O0 O1 O2 O3 O4 S0 0 ∗ bigSep Finset.univ (takes c W M V O0 O1 O2 O3 C O4 T))
      ⊢ wp frame (wpE (defs₀ (F := F)) 𝒱₀ (c : Thread nD τ) none) Set.univ (Scf.Loop.for k0_t6_loop k0_t6_ok ⟨⟩ (k0_t6_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 κ v24 0#32 1#32))
          (fun _ => iprop(carry c κ Cf G W M V v24 O0 O1 O2 O3 O4 S0 12 ∗ bigSep Finset.univ (leaves c W M V))) :=
  for_each 𝒱₀ c none k0_t6_loop k0_t6_ok trips6 (takes c W M V O0 O1 O2 O3 C O4 T) (leaves c W M V) (fun h _ => carry c κ Cf G W M V v24 O0 O1 O2 O3 O4 S0 h) ⟨⟩ _
    (fun t x => trip6 c 𝒱₀ κ Cf G W M V v24 O0 O1 O2 O3 C O4 T S0 t x)
end Vals
end Chunk

end Cert.Proof.KI
-- ==== Proof.KITail.lean ====
/-
  The last parts, and the program whole.
-/
module

public import proofs.«01_k».proof.Proof.KIChunk
public import Idealize.ShloMosaic.Lib.Pipeline.FrameBody

@[expose] public section

set_option maxRecDepth 65536

noncomputable section

namespace Cert.Proof.KI

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

theorem fin5sep (Φ : Fin 5 → sProp 𝕄) : bigSep Finset.univ Φ = iprop(Φ 0 ∗ Φ 1 ∗ Φ 2 ∗ Φ 3 ∗ Φ 4) := by
  rw [show (Finset.univ : Finset (Fin 5)) = insert 0 (insert 1 (insert 2 (insert 3 {4}))) by decide, bigSep_insert (by decide), bigSep_insert (by decide), bigSep_insert (by decide), bigSep_insert (by decide), bigSep_singleton]
  rfl

theorem chS_dis : ∀ a b : Fin 12, a ≠ b → Disjoint (chS a.val) (chS b.val) := by
  intro a b h
  refine Finset.disjoint_left.2 fun y hy hy' => h (Fin.ext ?_)
  rw [← tOf_ch hy, ← tOf_ch hy']
theorem ctS_dis : ∀ a b : Fin 12, a ≠ b → Disjoint (ctS a.val) (ctS b.val) := by
  intro a b h
  refine Finset.disjoint_left.2 fun y hy hy' => h (Fin.ext ?_)
  rw [← tOf_ct hy, ← tOf_ct hy']
theorem gmS_dis : ∀ a b : Fin 6, a ≠ b → Disjoint (gmS a.val) (gmS b.val) := by
  intro a b h
  refine Finset.disjoint_left.2 fun y hy hy' => h (Fin.ext ?_)
  rw [← mem_gmS.1 hy, ← mem_gmS.1 hy']
theorem chS_cov : Finset.univ.biUnion (fun t : Fin 12 => chS t.val) = Finset.univ := by
  refine Finset.eq_univ_of_forall fun y => Finset.mem_biUnion.2 ?_
  have b0 : (y 0).val < 6 := (y 0).isLt
  have b1 : (y 1).val < 256 := (y 1).isLt
  exact ⟨⟨2 * (y 0).val + (y 1).val / 128, by omega⟩, Finset.mem_univ _, mem_chS.2 ⟨by show _ = (2 * (y 0).val + (y 1).val / 128) / 2; omega, by show _ = (2 * (y 0).val + (y 1).val / 128) % 2; omega⟩⟩
theorem ctS_cov : Finset.univ.biUnion (fun t : Fin 12 => ctS t.val) = Finset.univ := by
  refine Finset.eq_univ_of_forall fun y => Finset.mem_biUnion.2 ?_
  have b0 : (y 0).val < 6 := (y 0).isLt
  have b1 : (y 2).val < 256 := (y 2).isLt
  exact ⟨⟨2 * (y 0).val + (y 2).val / 128, by omega⟩, Finset.mem_univ _, mem_ctS.2 ⟨by show _ = (2 * (y 0).val + (y 2).val / 128) / 2; omega, by show _ = (2 * (y 0).val + (y 2).val / 128) % 2; omega⟩⟩
theorem gmS_cov : Finset.univ.biUnion (fun t : Fin 6 => gmS t.val) = Finset.univ := by
  refine Finset.eq_univ_of_forall fun y => Finset.mem_biUnion.2 ?_
  exact ⟨y 0, Finset.mem_univ _, mem_gmS.2 rfl⟩

section Tail
variable (c : Dev nD) (𝒱₀ : Variants) (N0 N1 N2 : Vec F S6x256x1536 .f32) (N3 : Vec F S6x256x1536 .fp8e4m3) (N4 : Vec F S6x1536x256 .fp8e4m3)

theorem part10 (k : Fin k0_t9_loop.trips) (a b : BitVec 32) (u : ℕ) (hu : u + aF + aF ≤ Transfers.sumTo A60 60) :
    iprop(mb c N0 N1 N2 N3 N4 60 u ∗ (∃ W, owes (c : Thread nD τ) 0 W))
      ⊢ wp frame (wpE (defs₀ (F := F)) 𝒱₀ (c : Thread nD τ) none) Set.univ (k0_part10 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 a b k) (fun _ => iprop(mb c N0 N1 N2 N3 N4 60 (u + aF + aF) ∗ (∃ W, owes (c : Thread nD τ) 0 W))) := by
  rw [k0_part10_eq_skeleton]
  unfold k0_part10_skel
  iintro HH
  iapply (wait0 c 𝒱₀ N0 N1 N2 N3 N4 60 u (le_trans (Nat.le_add_right _ _) hu)) $$ HH
  iintro HH
  rw [ret_bind']
  iapply (wait1 c 𝒱₀ N0 N1 N2 N3 N4 60 (u + aF) hu) $$ HH
  iintro HH
  rw [ret_bind']
  sl_step
  iexact HH

/-- One chunk's transfers out awaited. -/
theorem trip9 (k : Fin k0_t9_loop.trips) (x : Unit) :
    iprop(mb c N0 N1 N2 N3 N4 60 (86016 * (k.val + 1)) ∗ (∃ W, owes (c : Thread nD τ) 0 W))
      ⊢ wp frame (wpE (defs₀ (F := F)) 𝒱₀ (c : Thread nD τ) none) Set.univ (k0_t9_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 k x) (fun _ => iprop(mb c N0 N1 N2 N3 N4 60 (86016 * (k.val + 1 + 1)) ∗ (∃ W, owes (c : Thread nD τ) 0 W))) := by
  have hk : k.val < 11 := lt_of_lt_of_eq k.isLt trips9
  have eF : aF = 24576 := rfl
  have eC : aC = 6144 := rfl
  have hs := sum60
  unfold k0_t9_body
  iintro HH
  iapply (wp_seq 𝒱₀ c none (part10 c 𝒱₀ N0 N1 N2 N3 N4 k 1#32 1#32 (86016 * (k.val + 1)) (by omega))) $$ HH
  iintro %y HH
  iapply (wait2 c 𝒱₀ N0 N1 N2 N3 N4 60 _ (by omega)) $$ HH
  iintro HH
  rw [ret_bind']
  iapply (wait3 c 𝒱₀ N0 N1 N2 N3 N4 60 _ (by omega)) $$ HH
  iintro HH
  rw [ret_bind']
  iapply (wait4 c 𝒱₀ N0 N1 N2 N3 N4 60 _ (by omega)) $$ HH
  iintro HH
  rw [ret_bind']
  sl_step
  rw [show 86016 * (k.val + 1 + 1) = 86016 * (k.val + 1) + aF + aF + aF + aC + aC by omega]
  iexact HH

set_option maxHeartbeats 1600000 in
/-- The last chunk's transfers out, the scales', and every wait but the scales'. -/
theorem part13 (O0 O1 O2 : Vec F S6x256x1536 .f32) (O3 : Vec F S6x256x1536 .fp8e4m3) (O4 : Vec F S6x1536x256 .fp8e4m3) (sc sc0 : Vec F S6x2x12 .f32) (n : Vec F S1 .f32) :
    iprop(mb c N0 N1 N2 N3 N4 (5 * 11) 86016 ∗ (outs c 11 O0 O1 O2 O3 O4 ∗ scrs c 11 N0 N1 N2 N3 N4)
      ∗ ch c cc0_scratch6 Finset.univ sc ∗ ch c main_v0_5 Finset.univ sc0 ∗ semVal ((c : Thread nD τ), .dma sSC) 0
      ∗ Transfers.MixedBatch EC (c : Thread nD τ) (.dma sGN) () (fun _ => 16) (one c cc0_scratch10 main_v0_3 n n) 1 0 ∗ (∃ W, owes (c : Thread nD τ) 0 W))
      ⊢ wp frame (wpE (defs₀ (F := F)) 𝒱₀ (c : Thread nD τ) none) Set.univ (k0_part13 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17) (fun _ => iprop(mb c N0 N1 N2 N3 N4 60 1032192
        ∗ Transfers.MixedBatch EC (c : Thread nD τ) (.dma sSC) () (fun _ => 192) (one c cc0_scratch6 main_v0_5 sc sc) 1 0
        ∗ (ch c main_v0_3 Finset.univ n ∗ ch c cc0_scratch10 Finset.univ n) ∗ semVal ((c : Thread nD τ), .dma sGN) 0 ∗ (∃ W, owes (c : Thread nD τ) 0 W))) := by
  have s0 : 86016 ≤ Transfers.sumTo A60 (5 * 11 + 0) := by decide +kernel
  have s1 : 86016 ≤ Transfers.sumTo A60 (5 * 11 + 1) := by decide +kernel
  have s2 : 86016 ≤ Transfers.sumTo A60 (5 * 11 + 2) := by decide +kernel
  have s3 : 86016 ≤ Transfers.sumTo A60 (5 * 11 + 3) := by decide +kernel
  have s4 : 86016 ≤ Transfers.sumTo A60 (5 * 11 + 4) := by decide +kernel
  have oC : (![5, 128, 0] : Fin 3 → ℕ) = ![11 / 2, 11 % 2 * 128, 0] := rfl
  have oT : (![5, 0, 128] : Fin 3 → ℕ) = ![11 / 2, 0, 11 % 2 * 128] := rfl
  rw [k0_part13_eq_skeleton]
  unfold k0_part13_skel
  iintro ⟨HMB, ⟨⟨P0, P1, P2, P3, P4⟩, Q0, Q1, Q2, Q3, Q4⟩, HSc, HS0, HSC, HGN, HO⟩
  imod (Transfers.mixedBatch_alloc' EC (c : Thread nD τ) () (fun _ => 192) (one c cc0_scratch6 main_v0_5 sc sc) (sm := .dma sSC) (E := Set.univ)) $$ HSC with HSC
  iapply (out0 c 𝒱₀ N0 N1 N2 N3 N4 (t := 11) oC O0 86016 (by decide) s0) $$ [P0 Q0 HMB]
  · isplitl [Q0]; · iexact Q0
    isplitl [P0]; · iexact P0
    iexact HMB
  iintro HMB
  rw [ret_bind']
  iapply (out1 c 𝒱₀ N0 N1 N2 N3 N4 (t := 11) oC O1 86016 (by decide) s1) $$ [P1 Q1 HMB]
  · isplitl [Q1]; · iexact Q1
    isplitl [P1]; · iexact P1
    iexact HMB
  iintro HMB
  rw [ret_bind']
  iapply (out2 c 𝒱₀ N0 N1 N2 N3 N4 (t := 11) oC O2 86016 (by decide) s2) $$ [P2 Q2 HMB]
  · isplitl [Q2]; · iexact Q2
    isplitl [P2]; · iexact P2
    iexact HMB
  iintro HMB
  rw [ret_bind']
  iapply (out3 c 𝒱₀ N0 N1 N2 N3 N4 (t := 11) oC O3 86016 (by decide) s3) $$ [P3 Q3 HMB]
  · isplitl [Q3]; · iexact Q3
    isplitl [P3]; · iexact P3
    iexact HMB
  iintro HMB
  rw [ret_bind']
  iapply (out4 c 𝒱₀ N0 N1 N2 N3 N4 (t := 11) oT O4 86016 (by decide) s4) $$ [P4 Q4 HMB]
  · isplitl [Q4]; · iexact Q4
    isplitl [P4]; · iexact P4
    iexact HMB
  iintro HMB
  rw [ret_bind']
  iapply (shipSC c 𝒱₀ sc sc0) $$ [HSc HS0 HSC]
  · isplitl [HSc]; · iexact HSc
    isplitl [HS0]; · iexact HS0
    iexact HSC
  iintro HSC
  rw [ret_bind']
  iapply (Scf.wp_for_bind (M := 𝕄) frame (wpE (defs₀ (F := F)) 𝒱₀ (c : Thread nD τ) none) Set.univ _ _ _ k0_t9_ok _ _
    (fun k _ => iprop(mb c N0 N1 N2 N3 N4 60 (86016 * (k + 1)) ∗ (∃ W, owes (c : Thread nD τ) 0 W))) ?_) $$ [HMB HO]
  · intro k x
    exact trip9 c 𝒱₀ N0 N1 N2 N3 N4 k x
  · isplitl [HMB]; · iexact HMB
    iexact HO
  iintro %x ⟨HMB, HO⟩
  iapply (awaitGN c 𝒱₀ n) $$ [HGN HO]
  · isplitl [HGN]; · iexact HGN
    iexact HO
  iintro ⟨HN, HGN, HO⟩
  rw [ret_bind']
  sl_step
  isplitl [HMB]
  · iapply (show mb c N0 N1 N2 N3 N4 60 (86016 * (k0_t9_loop.trips + 1)) ⊢ (mb c N0 N1 N2 N3 N4 60 1032192 : sProp 𝕄) from by rw [trips9])
    iexact HMB
  isplitl [HSC]; · iexact HSC
  isplitl [HN]; · iexact HN
  isplitl [HGN]; · iexact HGN
  iexact HO

section Vals
variable (κ : FVec F S8x128 .f32) (Cf : Vec F S6x3x8x128 .f32) (G : Vec F S6x256x1536 .bf16) (W M V : Vec F S6x256x1536 .f32) (v24 : IVec S1x128 32)
variable (O0 O1 O2 : Vec F S6x256x1536 .f32) (O3 C : Vec F S6x256x1536 .fp8e4m3) (O4 T : Vec F S6x1536x256 .fp8e4m3) (S0 : Vec F S6x2x12 .f32)

set_option maxHeartbeats 1600000 in
/-- The chunks, and the first one's transfers out awaited. -/
theorem part12' :
    iprop(carry c κ Cf G W M V v24 O0 O1 O2 O3 O4 S0 0 ∗ bigSep Finset.univ (takes c W M V O0 O1 O2 O3 C O4 T))
      ⊢ wp frame (wpE (defs₀ (F := F)) 𝒱₀ (c : Thread nD τ) none) Set.univ (k0_part12 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 κ v24 0#32 1#32)
          (fun _ => iprop(mbK c κ Cf G W M V (5 * 11) 86016 ∗ pend c κ Cf G W M V O0 O1 O2 O3 O4 12 ∗ ch c cc0_scratch1 Finset.univ G ∗ ch c cc0_scratch7 Finset.univ Cf
            ∗ ch c cc0_scratch6 Finset.univ (scN κ Cf G W M V S0 v24 12) ∗ (∃ W', owes (c : Thread nD τ) 0 W') ∗ bigSep Finset.univ (leaves c W M V))) := by
  have eF : aF = 24576 := rfl
  have eC : aC = 6144 := rfl
  have hs := sum55
  have hs' : Transfers.sumTo A60 (5 * (12 - 1)) = 946176 := sum55
  rw [k0_part12_eq_skeleton]
  unfold k0_part12_skel
  iintro HH
  iapply (wp_seq 𝒱₀ c none (loop6 c 𝒱₀ κ Cf G W M V v24 O0 O1 O2 O3 C O4 T S0)) $$ HH
  unfold carry
  iintro %x ⟨⟨HMB, HP, HG, HCf, HSc, HO⟩, HL⟩
  iapply (wait0 c 𝒱₀ (wG κ Cf G W M V) (newM κ G M) (newV κ G V) (cG κ Cf G W M V) (tG κ Cf G W M V) (5 * (12 - 1)) (0) (by omega)) $$ [HMB HO]
  · isplitl [HMB]; · iexact HMB
    iexact HO
  iintro ⟨HMB, HO⟩
  rw [ret_bind']
  iapply (wait1 c 𝒱₀ (wG κ Cf G W M V) (newM κ G M) (newV κ G V) (cG κ Cf G W M V) (tG κ Cf G W M V) (5 * (12 - 1)) (0 + aF) (by omega)) $$ [HMB HO]
  · isplitl [HMB]; · iexact HMB
    iexact HO
  iintro ⟨HMB, HO⟩
  rw [ret_bind']
  iapply (wait2 c 𝒱₀ (wG κ Cf G W M V) (newM κ G M) (newV κ G V) (cG κ Cf G W M V) (tG κ Cf G W M V) (5 * (12 - 1)) (0 + aF + aF) (by omega)) $$ [HMB HO]
  · isplitl [HMB]; · iexact HMB
    iexact HO
  iintro ⟨HMB, HO⟩
  rw [ret_bind']
  iapply (wait3 c 𝒱₀ (wG κ Cf G W M V) (newM κ G M) (newV κ G V) (cG κ Cf G W M V) (tG κ Cf G W M V) (5 * (12 - 1)) (0 + aF + aF + aF) (by omega)) $$ [HMB HO]
  · isplitl [HMB]; · iexact HMB
    iexact HO
  iintro ⟨HMB, HO⟩
  rw [ret_bind']
  iapply (wait4 c 𝒱₀ (wG κ Cf G W M V) (newM κ G M) (newV κ G V) (cG κ Cf G W M V) (tG κ Cf G W M V) (5 * (12 - 1)) (0 + aF + aF + aF + aC) (by omega)) $$ [HMB HO]
  · isplitl [HMB]; · iexact HMB
    iexact HO
  iintro ⟨HMB, HO⟩
  rw [ret_bind']
  sl_step
  isplitl [HMB]; · iexact HMB
  isplitl [HP]; · iexact HP
  isplitl [HG]; · iexact HG
  isplitl [HCf]; · iexact HCf
  isplitl [HSc]; · iexact HSc
  isplitl [HO]; · iexact HO
  iexact HL
end Vals
end Tail

end Cert.Proof.KI
-- ==== Proof.KIBody.lean ====
/-
  The program whole: what it needs and what it leaves.
-/
module

public import proofs.«01_k».proof.Proof.KITail
public import Idealize.ShloMosaic.Lib.Pipeline.FrameBody
public import Idealize.ShloMosaic.Lib.Ring

@[expose] public section

set_option maxRecDepth 65536

noncomputable section

namespace Cert.Proof.KI

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F]

local notation "𝕄" => MT nD τ sig Unit (Elt F) ℕ (Pipeline.UD sig nD τ) ℕ

section Indep
variable (LR : Vec F S6 .f32) (ST : Vec F S6 .i32) (G : Vec F S6x256x1536 .bf16) (W M V : Vec F S6x256x1536 .f32)

/-- The coefficients do not depend on what their buffer held, -/
theorem coefN_eq (C0 C1 : Vec F S6x3x8x128 .f32) (n : ℕ) (y : S6x3x8x128.Idx) (h : (y 0).val < n) : coefN LR ST C0 n y = coefN LR ST C1 n y := by
  induction n with
  | zero => omega
  | succ n ih =>
    have b1 : (y 1).val < 3 := (y 1).isLt
    have b2 : (y 2).val < 8 := (y 2).isLt
    have b3 : (y 3).val < 128 := (y 3).isLt
    have key : ∀ j, (y 0).val = n → (y 1).val = j → ∀ a : Fin 4, (![n, j, 0, 0] : Fin 4 → ℕ) a ≤ (y a).val ∧ (y a).val < (![n, j, 0, 0] : Fin 4 → ℕ) a + S1x1x8x128.size a := by
      intro j e0 e1 a
      match a with
      | ⟨0, _⟩ => exact ⟨show n ≤ (y 0).val by omega, show (y 0).val < n + 1 by omega⟩
      | ⟨1, _⟩ => exact ⟨show j ≤ (y 1).val by omega, show (y 1).val < j + 1 by omega⟩
      | ⟨2, _⟩ => exact ⟨Nat.zero_le _, show (y 2).val < 0 + 8 by omega⟩
      | ⟨3, _⟩ => exact ⟨Nat.zero_le _, show (y 3).val < 0 + 128 by omega⟩
    show put _ _ _ _ y = put _ _ _ _ y
    unfold put
    by_cases h2 : ∀ a : Fin 4, (![n, 2, 0, 0] : Fin 4 → ℕ) a ≤ (y a).val ∧ (y a).val < (![n, 2, 0, 0] : Fin 4 → ℕ) a + S1x1x8x128.size a
    · rw [dif_pos h2, dif_pos h2]
    rw [dif_neg h2, dif_neg h2]
    by_cases h1 : ∀ a : Fin 4, (![n, 1, 0, 0] : Fin 4 → ℕ) a ≤ (y a).val ∧ (y a).val < (![n, 1, 0, 0] : Fin 4 → ℕ) a + S1x1x8x128.size a
    · rw [dif_pos h1, dif_pos h1]
    rw [dif_neg h1, dif_neg h1]
    by_cases h0 : ∀ a : Fin 4, (![n, 0, 0, 0] : Fin 4 → ℕ) a ≤ (y a).val ∧ (y a).val < (![n, 0, 0, 0] : Fin 4 → ℕ) a + S1x1x8x128.size a
    · rw [dif_pos h0, dif_pos h0]
    rw [dif_neg h0, dif_neg h0]
    refine ih (Nat.lt_of_le_of_ne (Nat.le_of_lt_succ h) fun e => ?_)
    have n2 := mt (key 2 e) h2
    have n1 := mt (key 1 e) h1
    have n0 := mt (key 0 e) h0
    omega
/-- and are these. -/
def coefA : Vec F S6x3x8x128 .f32 := coefN LR ST (fun _ => k0_pay52 (F := F) (ix2 (0 : Fin 1) (0 : Fin 128))) 6
theorem coefN_6 (C0 : Vec F S6x3x8x128 .f32) : coefN LR ST C0 6 = coefA LR ST := by
  funext y
  exact coefN_eq LR ST C0 _ 6 y (y 0).isLt

/-- Likewise the scales. -/
theorem scN_eq (κ : FVec F S8x128 .f32) (Cf : Vec F S6x3x8x128 .f32) (v24 : IVec S1x128 32) (S0 S1' : Vec F S6x2x12 .f32) (n : ℕ) (y : S6x2x12.Idx) (h : 2 * (y 0).val + (y 1).val < n) :
    scN κ Cf G W M V S0 v24 n y = scN κ Cf G W M V S1' v24 n y := by
  induction n with
  | zero => omega
  | succ n ih =>
    have b1 : (y 1).val < 2 := (y 1).isLt
    have b2 : (y 2).val < 12 := (y 2).isLt
    show put _ _ _ _ y = put _ _ _ _ y
    unfold put
    by_cases h2 : ∀ a : Fin 3, (![n / 2, n % 2, 0] : Fin 3 → ℕ) a ≤ (y a).val ∧ (y a).val < (![n / 2, n % 2, 0] : Fin 3 → ℕ) a + S1x1x12.size a
    · rw [dif_pos h2, dif_pos h2]
    rw [dif_neg h2, dif_neg h2]
    refine ih (Nat.lt_of_le_of_ne (Nat.le_of_lt_succ h) fun e => h2 fun a => ?_)
    match a with
    | ⟨0, _⟩ => exact ⟨show n / 2 ≤ (y 0).val by omega, show (y 0).val < n / 2 + 1 by omega⟩
    | ⟨1, _⟩ => exact ⟨show n % 2 ≤ (y 1).val by omega, show (y 1).val < n % 2 + 1 by omega⟩
    | ⟨2, _⟩ => exact ⟨Nat.zero_le _, show (y 2).val < 0 + 12 by omega⟩

/-- The lane numbers. -/
def lanes : IVec S1x128 32 := iota .tc S1x128 32 [1] iota_S1x128_d1_w32
/-- The results: the new weights, -/
def outW : Vec F S6x256x1536 .f32 := wG (kapG G) (coefA LR ST) G W M V
/-- their codes, -/
def outC : Vec F S6x256x1536 .fp8e4m3 := cG (kapG G) (coefA LR ST) G W M V
/-- the codes transposed, -/
def outT : Vec F S6x1536x256 .fp8e4m3 := tG (kapG G) (coefA LR ST) G W M V
/-- and the scales. -/
def outS : Vec F S6x2x12 .f32 := scN (kapG G) (coefA LR ST) G W M V (fun _ => k0_pay52 (F := F) (ix2 (0 : Fin 1) (0 : Fin 128))) lanes 12
theorem scN_12 (S0 : Vec F S6x2x12 .f32) : scN (kapG G) (coefA LR ST) G W M V S0 lanes 12 = outS LR ST G W M V := by
  funext y
  have b0 : (y 0).val < 6 := (y 0).isLt
  have b1 : (y 1).val < 2 := (y 1).isLt
  exact scN_eq G W M V _ _ _ S0 _ 12 y (by omega)
end Indep

section Body
variable (c : Dev nD) (𝒱₀ : Variants) (LR : Vec F S6 .f32) (ST : Vec F S6 .i32) (G : Vec F S6x256x1536 .bf16) (W M V : Vec F S6x256x1536 .f32)

/-- A buffer's chunks are the buffer, -/
theorem cut (b : Ref sig .tc) (S : Fin 12 → Finset (Idx ((c : Thread nD τ).loc b))) (hd : ∀ x y, x ≠ y → Disjoint (S x) (S y)) (hc : Finset.univ.biUnion S = Finset.univ)
    (f : Buf (Elt F) ((c : Thread nD τ).loc b)) : ch c b Finset.univ f = bigSep Finset.univ fun t => ch c b (S t) f := Ring.pointsTo_blocks S hd hc f
/-- and its matrices. -/
theorem cut6 (b : Ref sig .tc) (S : Fin 6 → Finset (Idx ((c : Thread nD τ).loc b))) (hd : ∀ x y, x ≠ y → Disjoint (S x) (S y)) (hc : Finset.univ.biUnion S = Finset.univ)
    (f : Buf (Elt F) ((c : Thread nD τ).loc b)) : ch c b Finset.univ f = bigSep Finset.univ fun t => ch c b (S t) f := Ring.pointsTo_blocks S hd hc f

theorem ofEq (P Q : sProp 𝕄) (h : P = Q) : P ⊢ Q := h ▸ .rfl
theorem preG_all (G0 : Vec F S6x256x1536 .bf16) :
    iprop((bigSep Finset.univ fun t => semVal ((c : Thread nD τ), .dma (semG t)) 0) ∗ ch c main_arg1 Finset.univ G ∗ ch c cc0_scratch1 Finset.univ G0) = (bigSep Finset.univ (preG c G G0) : sProp 𝕄) := by
  rw [(cut6 c main_arg1 (fun t : Fin 6 => gmS t.val) gmS_dis gmS_cov G), (cut6 c cc0_scratch1 (fun t : Fin 6 => gmS t.val) gmS_dis gmS_cov G0), ← bigSep_sep', ← bigSep_sep']
  rfl
theorem atG_all :
    iprop((bigSep Finset.univ fun t => semVal ((c : Thread nD τ), .dma (semG t)) 0) ∗ ch c main_arg1 Finset.univ G ∗ ch c cc0_scratch1 Finset.univ G) = (bigSep Finset.univ (atG c G) : sProp 𝕄) := by
  rw [(cut6 c main_arg1 (fun t : Fin 6 => gmS t.val) gmS_dis gmS_cov G), (cut6 c cc0_scratch1 (fun t : Fin 6 => gmS t.val) gmS_dis gmS_cov G), ← bigSep_sep', ← bigSep_sep']
  rfl
theorem preIn_all (W0 M0 V0 : Vec F S6x256x1536 .f32) :
    iprop((bigSep Finset.univ fun t => semVal ((c : Thread nD τ), .dma (semI t)) 0) ∗ (ch c main_arg0 Finset.univ W ∗ ch c main_arg2 Finset.univ M ∗ ch c main_arg3 Finset.univ V)
      ∗ ch c cc0_scratch0 Finset.univ W0 ∗ ch c cc0_scratch2 Finset.univ M0 ∗ ch c cc0_scratch3 Finset.univ V0) = (bigSep Finset.univ (preIn c W M V W0 M0 V0) : sProp 𝕄) := by
  rw [(cut c main_arg0 (fun t : Fin 12 => chS t.val) chS_dis chS_cov W), (cut c main_arg2 (fun t : Fin 12 => chS t.val) chS_dis chS_cov M), (cut c main_arg3 (fun t : Fin 12 => chS t.val) chS_dis chS_cov V),
    (cut c cc0_scratch0 (fun t : Fin 12 => chS t.val) chS_dis chS_cov W0), (cut c cc0_scratch2 (fun t : Fin 12 => chS t.val) chS_dis chS_cov M0), (cut c cc0_scratch3 (fun t : Fin 12 => chS t.val) chS_dis chS_cov V0)]
  rw [← bigSep_sep', ← bigSep_sep', ← bigSep_sep', ← bigSep_sep', ← bigSep_sep', ← bigSep_sep']
  rfl
theorem leaves_all :
    iprop((bigSep Finset.univ fun t => semVal ((c : Thread nD τ), .dma (semI t)) 0) ∗ ch c main_arg0 Finset.univ W ∗ ch c main_arg2 Finset.univ M ∗ ch c main_arg3 Finset.univ V)
      = (bigSep Finset.univ (leaves c W M V) : sProp 𝕄) := by
  rw [(cut c main_arg0 (fun t : Fin 12 => chS t.val) chS_dis chS_cov W), (cut c main_arg2 (fun t : Fin 12 => chS t.val) chS_dis chS_cov M), (cut c main_arg3 (fun t : Fin 12 => chS t.val) chS_dis chS_cov V)]
  rw [← bigSep_sep', ← bigSep_sep', ← bigSep_sep']
  rfl
theorem takes_all (O0 O1 O2 : Vec F S6x256x1536 .f32) (O3 C : Vec F S6x256x1536 .fp8e4m3) (O4 T : Vec F S6x1536x256 .fp8e4m3) :
    iprop(bigSep Finset.univ (flyIn c W M V) ∗ (ch c main_v0_0 Finset.univ O0 ∗ ch c main_v0_1 Finset.univ O1 ∗ ch c main_v0_2 Finset.univ O2 ∗ ch c main_v0_4 Finset.univ O3 ∗ ch c main_v0_6 Finset.univ O4)
      ∗ ch c cc0_scratch4 Finset.univ C ∗ ch c cc0_scratch5 Finset.univ T) = (bigSep Finset.univ (takes c W M V O0 O1 O2 O3 C O4 T) : sProp 𝕄) := by
  rw [(cut c main_v0_0 (fun t : Fin 12 => chS t.val) chS_dis chS_cov O0), (cut c main_v0_1 (fun t : Fin 12 => chS t.val) chS_dis chS_cov O1), (cut c main_v0_2 (fun t : Fin 12 => chS t.val) chS_dis chS_cov O2), (cut c main_v0_4 (fun t : Fin 12 => chS t.val) chS_dis chS_cov O3), (cut c main_v0_6 (fun t : Fin 12 => ctS t.val) ctS_dis ctS_cov O4),
    (cut c cc0_scratch4 (fun t : Fin 12 => chS t.val) chS_dis chS_cov C), (cut c cc0_scratch5 (fun t : Fin 12 => ctS t.val) ctS_dis ctS_cov T)]
  rw [← bigSep_sep', ← bigSep_sep', ← bigSep_sep', ← bigSep_sep', ← bigSep_sep', ← bigSep_sep', ← bigSep_sep']
  rfl
/-- The sixty deliveries are the five results and the buffers they came from. -/
theorem D60_all (N0 N1 N2 : Vec F S6x256x1536 .f32) (N3 : Vec F S6x256x1536 .fp8e4m3) (N4 : Vec F S6x1536x256 .fp8e4m3) :
    bigSep Finset.univ (D60 c N0 N1 N2 N3 N4) = (iprop((ch c main_v0_0 Finset.univ N0 ∗ ch c cc0_scratch0 Finset.univ N0) ∗ (ch c main_v0_1 Finset.univ N1 ∗ ch c cc0_scratch2 Finset.univ N1)
      ∗ (ch c main_v0_2 Finset.univ N2 ∗ ch c cc0_scratch3 Finset.univ N2) ∗ (ch c main_v0_4 Finset.univ N3 ∗ ch c cc0_scratch4 Finset.univ N3) ∗ (ch c main_v0_6 Finset.univ N4 ∗ ch c cc0_scratch5 Finset.univ N4)) : sProp 𝕄) := by
  rw [(cut c main_v0_0 (fun t : Fin 12 => chS t.val) chS_dis chS_cov N0), (cut c main_v0_1 (fun t : Fin 12 => chS t.val) chS_dis chS_cov N1), (cut c main_v0_2 (fun t : Fin 12 => chS t.val) chS_dis chS_cov N2), (cut c main_v0_4 (fun t : Fin 12 => chS t.val) chS_dis chS_cov N3), (cut c main_v0_6 (fun t : Fin 12 => ctS t.val) ctS_dis ctS_cov N4),
    (cut c cc0_scratch0 (fun t : Fin 12 => chS t.val) chS_dis chS_cov N0), (cut c cc0_scratch2 (fun t : Fin 12 => chS t.val) chS_dis chS_cov N1), (cut c cc0_scratch3 (fun t : Fin 12 => chS t.val) chS_dis chS_cov N2), (cut c cc0_scratch4 (fun t : Fin 12 => chS t.val) chS_dis chS_cov N3), (cut c cc0_scratch5 (fun t : Fin 12 => ctS t.val) ctS_dis ctS_cov N4)]
  rw [← bigSep_sep', ← bigSep_sep', ← bigSep_sep', ← bigSep_sep', ← bigSep_sep', ← bigSep_sep', ← bigSep_sep', ← bigSep_sep', ← bigSep_sep']
  rw [bigSep_univ_equiv (finProdFinEquiv : Fin 12 × Fin 5 ≃ Fin (12 * 5)) (D60 c N0 N1 N2 N3 N4), bigSep_univ_prod]
  refine bigSep_congr fun t _ => ?_
  rw [fin5sep]
  have e : ∀ i : Fin 5, D60 c N0 N1 N2 N3 N4 (finProdFinEquiv (t, i)) = dOut c N0 N1 N2 N3 N4 t.val i.val := by
    intro i
    have hi := i.isLt
    show dOut c N0 N1 N2 N3 N4 ((i.val + 5 * t.val) / 5) ((i.val + 5 * t.val) % 5) = _
    rw [show (i.val + 5 * t.val) / 5 = t.val by omega, show (i.val + 5 * t.val) % 5 = i.val by omega]
  rw [e, e, e, e, e]
  rfl

/-- The scratch buffers, at anything, -/
def scr : sProp 𝕄 := iprop((∃ f, ch c cc0_scratch0 Finset.univ f) ∗ (∃ f, ch c cc0_scratch1 Finset.univ f) ∗ (∃ f, ch c cc0_scratch2 Finset.univ f) ∗ (∃ f, ch c cc0_scratch3 Finset.univ f) ∗ (∃ f, ch c cc0_scratch4 Finset.univ f) ∗ (∃ f, ch c cc0_scratch5 Finset.univ f) ∗ (∃ f, ch c cc0_scratch6 Finset.univ f) ∗ (∃ f, ch c cc0_scratch7 Finset.univ f) ∗ (∃ f, ch c cc0_scratch8 Finset.univ f) ∗ (∃ f, ch c cc0_scratch9 Finset.univ f) ∗ (∃ f, ch c cc0_scratch10 Finset.univ f))
/-- the semaphores at zero, -/
def sems : sProp 𝕄 := iprop((bigSep Finset.univ fun t => semVal ((c : Thread nD τ), .dma (semG t)) 0) ∗ (bigSep Finset.univ fun t => semVal ((c : Thread nD τ), .dma (semI t)) 0)
  ∗ semVal ((c : Thread nD τ), .dma sLR) 0 ∗ semVal ((c : Thread nD τ), .dma sST) 0 ∗ semVal ((c : Thread nD τ), .dma sGN) 0 ∗ semVal ((c : Thread nD τ), .dma sSC) 0 ∗ semVal ((c : Thread nD τ), .dma sO) 0)
/-- the arguments, -/
def argv : sProp 𝕄 := iprop(ch c main_arg0 Finset.univ W ∗ ch c main_arg1 Finset.univ G ∗ ch c main_arg2 Finset.univ M ∗ ch c main_arg3 Finset.univ V ∗ ch c main_arg4 Finset.univ LR ∗ ch c main_arg5 Finset.univ ST)
/-- and the results. -/
def resv (O0 O1 O2 : Vec F S6x256x1536 .f32) (O3 : Vec F S1 .f32) (O4 : Vec F S6x256x1536 .fp8e4m3) (O5 : Vec F S6x2x12 .f32) (O6 : Vec F S6x1536x256 .fp8e4m3) : sProp 𝕄 := iprop(ch c main_v0_0 Finset.univ O0 ∗ ch c main_v0_1 Finset.univ O1 ∗ ch c main_v0_2 Finset.univ O2 ∗ ch c main_v0_3 Finset.univ O3 ∗ ch c main_v0_4 Finset.univ O4 ∗ ch c main_v0_5 Finset.univ O5 ∗ ch c main_v0_6 Finset.univ O6)

set_option maxHeartbeats 6400000 in
/-- The kernel computes its results and leaves its arguments and its semaphores as they were. -/
theorem body (O0 O1 O2 : Vec F S6x256x1536 .f32) (O3 : Vec F S1 .f32) (O4 : Vec F S6x256x1536 .fp8e4m3) (O5 : Vec F S6x2x12 .f32) (O6 : Vec F S6x1536x256 .fp8e4m3) :
    iprop(scr c ∗ sems c ∗ argv c LR ST G W M V ∗ resv c O0 O1 O2 O3 O4 O5 O6 ∗ (∃ W', owes (c : Thread nD τ) 0 W'))
      ⊢ wp frame (wpE (defs₀ (F := F)) 𝒱₀ (c : Thread nD τ) none) Set.univ (cc0_adamw_fp8 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole main_v0_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17) (fun _ => iprop(scr c ∗ sems c ∗ argv c LR ST G W M V ∗ resv c (outW LR ST G W M V) (newM (kapG G) G M) (newV (kapG G) G V) (normG G) (outC LR ST G W M V) (outS LR ST G W M V) (outT LR ST G W M V) ∗ (∃ W', owes (c : Thread nD τ) 0 W'))) := by
  rw [cc0_adamw_fp8_eq_skeleton]
  unfold cc0_adamw_fp8_skel scr sems argv resv
  iintro ⟨⟨⟨%b0, B0⟩, ⟨%b1, B1⟩, ⟨%b2, B2⟩, ⟨%b3, B3⟩, ⟨%b4, B4⟩, ⟨%b5, B5⟩, ⟨%b6, B6⟩, ⟨%b7, B7⟩, ⟨%b8, B8⟩, ⟨%b9, B9⟩, ⟨%b10, B10⟩⟩, ⟨SG, SI, SL, ST', SN, SS, SO⟩, ⟨A0, A1, A2, A3, A4, A5⟩, ⟨R0, R1, R2, R3, R4, R5, R6⟩, HO⟩
  imod (Transfers.mixedBatch_alloc' EC (c : Thread nD τ) () A60 (D60 c (wG (kapG G) (coefA LR ST) G W M V) (newM (kapG G) G M) (newV (kapG G) G V) (cG (kapG G) (coefA LR ST) G W M V) (tG (kapG G) (coefA LR ST) G W M V)) (sm := .dma sO) (E := Set.univ)) $$ SO with HMB
  ihave HG := (ofEq _ _ (preG_all c G b1)) $$ [SG A1 B1]
  · isplitl [SG]; · iexact SG
    isplitl [A1]; · iexact A1
    iexact B1
  ihave HI := (ofEq _ _ (preIn_all c W M V b0 b2 b3)) $$ [SI A0 A2 A3 B0 B2 B3]
  · isplitl [SI]; · iexact SI
    isplitl [A0 A2 A3]
    · isplitl [A0]; · iexact A0
      isplitl [A2]; · iexact A2
      iexact A3
    isplitl [B0]; · iexact B0
    isplitl [B2]; · iexact B2
    iexact B3
  iapply (wp_seq 𝒱₀ c none (part11 c 𝒱₀ LR ST b7 G W M V b1 b0 b2 b3 b8 b9 b10 O3)) $$ [SL ST' SN A4 B8 A5 B9 B7 B10 R3 HG HI HO]
  · unfold pre11
    isplitl [SL ST' SN]
    · isplitl [SL]; · iexact SL
      isplitl [ST']; · iexact ST'
      iexact SN
    isplitl [A4 B8 A5 B9]
    · isplitl [A4]; · iexact A4
      isplitl [B8]; · iexact B8
      isplitl [A5]; · iexact A5
      iexact B9
    isplitl [B7]; · iexact B7
    isplitl [B10 R3]
    · isplitl [B10]; · iexact B10
      iexact R3
    isplitl [HG]; · iexact HG
    isplitl [HI]; · iexact HI
    iexact HO
  iintro %x ⟨%hx, HP⟩
  subst hx
  unfold post11
  icases HP with ⟨⟨SL, ST', A4, A5⟩, HCf, HGN, HG, HF, HO⟩
  unfold coefs
  icases HCf with ⟨B8, B9, B7⟩
  ihave B7' := (show ch c cc0_scratch7 Finset.univ (coefN LR ST b7 6) ⊢ ch c cc0_scratch7 Finset.univ (coefA LR ST) from by rw [coefN_6]) $$ B7
  ihave HG' := (ofEq _ _ (atG_all c G).symm) $$ HG
  icases HG' with ⟨SG, A1, B1⟩
  ihave HT := (ofEq _ _ (takes_all c W M V O0 O1 O2 O4 b4 O6 b5)) $$ [HF R0 R1 R2 R4 R6 B4 B5]
  · isplitl [HF]; · iexact HF
    isplitl [R0 R1 R2 R4 R6]
    · isplitl [R0]; · iexact R0
      isplitl [R1]; · iexact R1
      isplitl [R2]; · iexact R2
      isplitl [R4]; · iexact R4
      iexact R6
    isplitl [B4]; · iexact B4
    iexact B5
  dsimp only
  iapply (wp_seq 𝒱₀ c none (part12' c 𝒱₀ (kapG G) (coefA LR ST) G W M V lanes O0 O1 O2 O4 b4 O6 b5 b6)) $$ [HMB B1 B7' B6 HO HT]
  · unfold carry pend
    isplitr [HT]
    · isplitl [HMB]; · iexact HMB
      isplitr; · iempintro
      isplitl [B1]; · iexact B1
      isplitl [B7']; · iexact B7'
      isplitl [B6]; · iexact B6
      iexact HO
    iexact HT
  iintro %x ⟨HMB, HP, B1, B7, B6, HO, HL⟩
  ihave HL' := (ofEq _ _ (leaves_all c W M V).symm) $$ HL
  icases HL' with ⟨SI, A0, A2, A3⟩
  ihave HP' := (show pend c (kapG G) (coefA LR ST) G W M V O0 O1 O2 O4 O6 12 ⊢ iprop(outs c 11 O0 O1 O2 O4 O6 ∗ scrs c 11 (wG (kapG G) (coefA LR ST) G W M V) (newM (kapG G) G M) (newV (kapG G) G V) (cG (kapG G) (coefA LR ST) G W M V) (tG (kapG G) (coefA LR ST) G W M V)) from .rfl) $$ HP
  iapply (wp_seq 𝒱₀ c none (part13 c 𝒱₀ (wG (kapG G) (coefA LR ST) G W M V) (newM (kapG G) G M) (newV (kapG G) G V) (cG (kapG G) (coefA LR ST) G W M V) (tG (kapG G) (coefA LR ST) G W M V) O0 O1 O2 O4 O6 (scN (kapG G) (coefA LR ST) G W M V b6 lanes 12) O5 (normG G))) $$ [HMB HP' B6 R5 SS HGN HO]
  · isplitl [HMB]; · iexact HMB
    isplitl [HP']; · iexact HP'
    isplitl [B6]; · iexact B6
    isplitl [R5]; · iexact R5
    isplitl [SS]; · iexact SS
    isplitl [HGN]; · iexact HGN
    iexact HO
  iintro %x ⟨HMB, HSC, ⟨R3, B10⟩, SN, HO⟩
  iapply (awaitSC c 𝒱₀ _) $$ [HSC HO]
  · isplitl [HSC]; · iexact HSC
    iexact HO
  iintro ⟨HD, SS, HO⟩
  icases HD with ⟨R5, B6⟩
  rw [ret_bind']
  imod (show mb c (wG (kapG G) (coefA LR ST) G W M V) (newM (kapG G) G M) (newV (kapG G) G V) (cG (kapG G) (coefA LR ST) G W M V) (tG (kapG G) (coefA LR ST) G W M V) 60 1032192 ⊢ (|={Set.univ}=> iprop(bigSep Finset.univ (D60 c (wG (kapG G) (coefA LR ST) G W M V) (newM (kapG G) G M) (newV (kapG G) G V) (cG (kapG G) (coefA LR ST) G W M V) (tG (kapG G) (coefA LR ST) G W M V)) ∗ semVal ((c : Thread nD τ), .dma sO) 0) : sProp 𝕄) from by
    rw [← sum60]; exact Transfers.mixedBatch_collect' EC (c : Thread nD τ) A60_pos) $$ HMB with ⟨HD, SO⟩
  ihave HD' := (ofEq _ _ (D60_all c (wG (kapG G) (coefA LR ST) G W M V) (newM (kapG G) G M) (newV (kapG G) G V) (cG (kapG G) (coefA LR ST) G W M V) (tG (kapG G) (coefA LR ST) G W M V))) $$ HD
  icases HD' with ⟨⟨R0, B0⟩, ⟨R1, B2⟩, ⟨R2, B3⟩, ⟨R4, B4⟩, R6, B5⟩
  ihave R5' := (show ch c main_v0_5 Finset.univ (scN (kapG G) (coefA LR ST) G W M V b6 lanes 12) ⊢ ch c main_v0_5 Finset.univ (outS LR ST G W M V) from by rw [scN_12]) $$ R5
  sl_step
  isplitl [B0 B1 B2 B3 B4 B5 B6 B7 B8 B9 B10]
  · isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    isplitl [B6]; · iexists _; iexact B6
    isplitl [B7]; · iexists _; iexact B7
    isplitl [B8]; · iexists _; iexact B8
    isplitl [B9]; · iexists _; iexact B9
    iexists _; iexact B10
  isplitl [SG SI SL ST' SN SS SO]
  · isplitl [SG]; · iexact SG
    isplitl [SI]; · iexact SI
    isplitl [SL]; · iexact SL
    isplitl [ST']; · iexact ST'
    isplitl [SN]; · iexact SN
    isplitl [SS]; · iexact SS
    iexact SO
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [R0 R1 R2 R3 R4 R5' R6]
  · isplitl [R0]; · iexact R0
    isplitl [R1]; · iexact R1
    isplitl [R2]; · iexact R2
    isplitl [R3]; · iexact R3
    isplitl [R4]; · iexact R4
    isplitl [R5']; · iexact R5'
    iexact R6
  iexact HO
end Body

end Cert.Proof.KI
-- ==== Proof.KIRun.lean ====
/-
  The launch: the program run from any memory, what it leaves, and every semaphore back at zero.
-/
module

public import proofs.«01_k».proof.Proof.KIBody
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameValue

@[expose] public section

set_option maxRecDepth 65536

noncomputable section

namespace Cert.Proof.KI

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open VecWindow
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own semaphores: the gradient's, the inputs', the others. -/
def osem0 : Fin 6 ⊕ Fin 12 ⊕ Fin 5 → SemLoc sig := Sum.elim (fun t => .dma (semG t)) (Sum.elim (fun t => .dma (semI t)) fun k => match k with
  | 0 => .dma sLR | 1 => .dma sST | 2 => .dma sGN | 3 => .dma sSC | 4 => .dma sO)
theorem ownSemFacts0 : Pipeline.OwnSemFacts (cfg0.spec) osem0 := by decide
/-- The arguments -/
def H0 : Finset (Ref sig .tc) := {main_arg0, main_arg1, main_arg2, main_arg3, main_arg4, main_arg5}
/-- and the results. -/
def R0 : Finset (Ref sig .tc) := {main_v0_0, main_v0_1, main_v0_2, main_v0_3, main_v0_4, main_v0_5, main_v0_6}
theorem H0_sub : H0 ⊆ Pipeline.restRefs sig (cfg0.spec) := by decide
theorem R0_sub : R0 ⊆ Pipeline.restRefs sig (cfg0.spec) \ H0 := by decide

abbrev V (c : Dev nD) (b : Ref sig .tc) : Buf (Elt F) ((c : Thread nD τ).loc b) := m ((c : Thread nD τ).loc b)
/-- What the run leaves. -/
def G (c : Dev nD) : (b : Ref sig .tc) → Buf (Elt F) ((c : Thread nD τ).loc b) :=
  Function.update (Function.update (Function.update (Function.update (Function.update (Function.update (Function.update (V m c) main_v0_6 (outT (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3)))) main_v0_5 (outS (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3)))) main_v0_4 (outC (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3)))) main_v0_3 (normG (m ((c : Thread nD τ).loc main_arg1)))) main_v0_2 (newV (kapG (m ((c : Thread nD τ).loc main_arg1))) (m ((c : Thread nD τ).loc main_arg1)) (m ((c : Thread nD τ).loc main_arg3)))) main_v0_1 (newM (kapG (m ((c : Thread nD τ).loc main_arg1))) (m ((c : Thread nD τ).loc main_arg1)) (m ((c : Thread nD τ).loc main_arg2)))) main_v0_0 (outW (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3)))
theorem G_0 (c : Dev nD) : G m c main_v0_0 = (outW (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3))) := Function.update_self _ _ _
theorem G_1 (c : Dev nD) : G m c main_v0_1 = (newM (kapG (m ((c : Thread nD τ).loc main_arg1))) (m ((c : Thread nD τ).loc main_arg1)) (m ((c : Thread nD τ).loc main_arg2))) := (Function.update_of_ne (by decide : main_v0_1 ≠ main_v0_0) _ _).trans (Function.update_self _ _ _)
theorem G_2 (c : Dev nD) : G m c main_v0_2 = (newV (kapG (m ((c : Thread nD τ).loc main_arg1))) (m ((c : Thread nD τ).loc main_arg1)) (m ((c : Thread nD τ).loc main_arg3))) := (Function.update_of_ne (by decide : main_v0_2 ≠ main_v0_0) _ _).trans ((Function.update_of_ne (by decide : main_v0_2 ≠ main_v0_1) _ _).trans (Function.update_self _ _ _))
theorem G_3 (c : Dev nD) : G m c main_v0_3 = (normG (m ((c : Thread nD τ).loc main_arg1))) := (Function.update_of_ne (by decide : main_v0_3 ≠ main_v0_0) _ _).trans ((Function.update_of_ne (by decide : main_v0_3 ≠ main_v0_1) _ _).trans ((Function.update_of_ne (by decide : main_v0_3 ≠ main_v0_2) _ _).trans (Function.update_self _ _ _)))
theorem G_4 (c : Dev nD) : G m c main_v0_4 = (outC (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3))) := (Function.update_of_ne (by decide : main_v0_4 ≠ main_v0_0) _ _).trans ((Function.update_of_ne (by decide : main_v0_4 ≠ main_v0_1) _ _).trans ((Function.update_of_ne (by decide : main_v0_4 ≠ main_v0_2) _ _).trans ((Function.update_of_ne (by decide : main_v0_4 ≠ main_v0_3) _ _).trans (Function.update_self _ _ _))))
theorem G_5 (c : Dev nD) : G m c main_v0_5 = (outS (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3))) := (Function.update_of_ne (by decide : main_v0_5 ≠ main_v0_0) _ _).trans ((Function.update_of_ne (by decide : main_v0_5 ≠ main_v0_1) _ _).trans ((Function.update_of_ne (by decide : main_v0_5 ≠ main_v0_2) _ _).trans ((Function.update_of_ne (by decide : main_v0_5 ≠ main_v0_3) _ _).trans ((Function.update_of_ne (by decide : main_v0_5 ≠ main_v0_4) _ _).trans (Function.update_self _ _ _)))))
theorem G_6 (c : Dev nD) : G m c main_v0_6 = (outT (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3))) := (Function.update_of_ne (by decide : main_v0_6 ≠ main_v0_0) _ _).trans ((Function.update_of_ne (by decide : main_v0_6 ≠ main_v0_1) _ _).trans ((Function.update_of_ne (by decide : main_v0_6 ≠ main_v0_2) _ _).trans ((Function.update_of_ne (by decide : main_v0_6 ≠ main_v0_3) _ _).trans ((Function.update_of_ne (by decide : main_v0_6 ≠ main_v0_4) _ _).trans ((Function.update_of_ne (by decide : main_v0_6 ≠ main_v0_5) _ _).trans (Function.update_self _ _ _))))))

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

def dats (_ : Fin 1) (c : Dev nD) : Dat τ (Elt F) Unit ℕ (Pipeline.UD sig nD τ) ℕ cfg0 c where
  A w := V m c (Pipeline.arrRef (cfg0.spec) w)
  after w _ := w.elim0
  Φ t := Pipeline.ΦDRG osem0 (cfg0.spec) H0 R0 (V m) (if t = 0 then V m else G m) c
  q _ := fullShare
  owed _ := 0
theorem A_eq (c : Dev nD) (w : Fin cfg0.W) : (dats m 0 c).A w = V m c (Pipeline.arrRef (cfg0.spec) w) := by
  dsimp only [dats]

theorem sems_eq (c : Dev nD) : (Pipeline.ownSems0 (Ix := Unit) (Name := ℕ) (U := Pipeline.UD sig nD τ) (Lvl := ℕ) (Val := Elt F) (τ := τ) osem0 c : sProp 𝕄) = sems c := by
  unfold Pipeline.ownSems0 sems
  rw [bigSep_univ_sum, bigSep_univ_sum, fin5sep]
  rfl
theorem args_eq (c : Dev nD) : (bigSep H0 fun b => ((c.tc : Thread nD τ).loc b) ↦{fullShare} V m c b : sProp 𝕄)
    = argv c (V m c main_arg4) (V m c main_arg5) (V m c main_arg1) (V m c main_arg0) (V m c main_arg2) (V m c main_arg3) := by
  rw [BI.bigSep_eq_bigSepL_of_eq [main_arg0, main_arg1, main_arg2, main_arg3, main_arg4, main_arg5] (by decide) (by decide)]
  rfl
theorem res_eq (c : Dev nD) (G : (b : Ref sig .tc) → Buf (Elt F) ((c : Thread nD τ).loc b)) : (Pipeline.routed R0 c G : sProp 𝕄)
    = resv c (G main_v0_0) (G main_v0_1) (G main_v0_2) (G main_v0_3) (G main_v0_4) (G main_v0_5) (G main_v0_6) := by
  unfold Pipeline.routed
  rw [BI.bigSep_eq_bigSepL_of_eq [main_v0_0, main_v0_1, main_v0_2, main_v0_3, main_v0_4, main_v0_5, main_v0_6] (by decide) (by decide)]
  rfl
/-- The invariant, as the body has it. -/
theorem phi_eq (c : Dev nD) (G : (c : Dev nD) → (b : Ref sig .tc) → Buf (Elt F) ((c : Thread nD τ).loc b)) :
    Pipeline.ΦDRG osem0 (cfg0.spec) H0 R0 (V m) G c = (iprop(scr c ∗ (∃ r, prngReg c r) ∗ sems c
      ∗ argv c (V m c main_arg4) (V m c main_arg5) (V m c main_arg1) (V m c main_arg0) (V m c main_arg2) (V m c main_arg3)
      ∗ resv c (G c main_v0_0) (G c main_v0_1) (G c main_v0_2) (G c main_v0_3) (G c main_v0_4) (G c main_v0_5) (G c main_v0_6)) : sProp 𝕄) := by
  rw [Pipeline.ΦDRG_eq, scopedRest0_eq, sems_eq, args_eq, res_eq]
  rfl

theorem sound_body (c : Dev nD) (t : Fin cfg0.N) :
    iprop((dats m 0 c).Φ t.castSucc ∗ (dats m 0 c).owesAt () t.castSucc)
      ⊢ wp frame (wpE (defs₀ (F := F)) Variants.none (c : Thread nD τ) none) Set.univ (bodyAt0 t) (fun _ => iprop((dats m 0 c).Φ t.succ ∗ (dats m 0 c).owesAt () t.succ)) := by
  obtain rfl := fin_N0 t
  rw [show (dats m 0 c).Φ t0_0.castSucc = Pipeline.ΦDRG osem0 (cfg0.spec) H0 R0 (V m) (V m) c from rfl,
    show (dats m 0 c).Φ t0_0.succ = Pipeline.ΦDRG osem0 (cfg0.spec) H0 R0 (V m) (G m) c from rfl, phi_eq, phi_eq]
  rw [G_0, G_1, G_2, G_3, G_4, G_5, G_6]
  unfold Dat.owesAt Pipeline.owesWithin
  rw [show (dats m 0 c).owed t0_0.castSucc = 0 from rfl, show (dats m 0 c).owed t0_0.succ = 0 from rfl]
  iintro ⟨⟨HS, Hg, HQ, HA, HR⟩, ⟨%W, -, HW⟩⟩
  have hb := body (F := F) c Variants.none (V m c main_arg4) (V m c main_arg5) (V m c main_arg1) (V m c main_arg0) (V m c main_arg2) (V m c main_arg3)
    (V m c main_v0_0) (V m c main_v0_1) (V m c main_v0_2) (V m c main_v0_3) (V m c main_v0_4) (V m c main_v0_5) (V m c main_v0_6)
  iapply (wp_then c Variants.none hb) $$ [HS HQ HA HR HW]
  · isplitl [HS]; · iexact HS
    isplitl [HQ]; · iexact HQ
    isplitl [HA]; · iexact HA
    isplitl [HR]; · iexact HR
    iexists W; iexact HW
  iintro %x ⟨HS, HQ, HA, HR, ⟨%W', HW⟩⟩
  isplitr [HW]
  · isplitl [HS]; · iexact HS
    isplitl [Hg]; · iexact Hg
    isplitl [HQ]; · iexact HQ
    isplitl [HA]; · iexact HA
    iexact HR
  iexists W'; isplitr; · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]
theorem none_eq (Φ : Fin 0 → sProp 𝕄) : bigSep Finset.univ Φ = iprop(emp) := by
  rw [Finset.univ_eq_empty, bigSep_empty]
  rfl

theorem body_obligation (c : Dev nD) : BodyObligation (dats (F := F) m 0 c) (defs₀ (F := F)) Variants.none () Set.univ := fun t => by
  rw [defs₀_row]
  refine triple_restated (sound_body m c t) rfl ?_ fun _ => ?_
  · iintro ⟨H, H', -⟩
    isplitl [H]; · iexact H
    iexact H'
  · iintro ⟨H, H'⟩
    isplitl [H]; · iexact H
    isplitl [H']; · iexact H'
    iapply (ofEq _ _ (none_eq _).symm)
    iempintro

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => .rfl) (hout := fun _ => .rfl)

theorem arg_same (c : Dev nD) (r : PUnit × MemSt nD τ sig (Elt F)) (h : Pipeline.FramePostRG cfgs (dats m) 0 R0 (V m) (G m) r) (b : Ref sig .tc) (hb : b ∈ Pipeline.restRefs sig (cfg0.spec) \ R0) :
    r.2.mem ((c.tc : Thread nD τ).loc b) = m ((c.tc : Thread nD τ).loc b) := (h.1 c).2 b hb

/-- The arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs (onTc (τ := τ) (main (F := F))) ⟨m, fun _ => 0, ρ⟩).mono (fun r h => ⟨fun c => ⟨arg_same m c r h.1 main_arg0 (by decide), arg_same m c r h.1 main_arg1 (by decide), arg_same m c r h.1 main_arg2 (by decide), arg_same m c r h.1 main_arg3 (by decide), arg_same m c r h.1 main_arg4 (by decide), arg_same m c r h.1 main_arg5 (by decide)⟩, h.2⟩) (run_main m ρ)

/-- The values. -/
theorem values : θ_run defs (onTc (τ := τ) (main (F := F))) ⟨m, fun _ => 0, ρ⟩ (fun r => ∀ c : Dev nD,
      (r.2.mem ((c.tc : Thread nD τ).loc main_v0_0) = (outW (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3)))
      ∧ r.2.mem ((c.tc : Thread nD τ).loc main_v0_1) = (newM (kapG (m ((c : Thread nD τ).loc main_arg1))) (m ((c : Thread nD τ).loc main_arg1)) (m ((c : Thread nD τ).loc main_arg2)))
      ∧ r.2.mem ((c.tc : Thread nD τ).loc main_v0_2) = (newV (kapG (m ((c : Thread nD τ).loc main_arg1))) (m ((c : Thread nD τ).loc main_arg1)) (m ((c : Thread nD τ).loc main_arg3)))
      ∧ r.2.mem ((c.tc : Thread nD τ).loc main_v0_3) = (normG (m ((c : Thread nD τ).loc main_arg1)))
      ∧ r.2.mem ((c.tc : Thread nD τ).loc main_v0_4) = (outC (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3)))
      ∧ r.2.mem ((c.tc : Thread nD τ).loc main_v0_5) = (outS (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3)))
      ∧ r.2.mem ((c.tc : Thread nD τ).loc main_v0_6) = (outT (m ((c : Thread nD τ).loc main_arg4)) (m ((c : Thread nD τ).loc main_arg5)) (m ((c : Thread nD τ).loc main_arg1)) (m ((c : Thread nD τ).loc main_arg0)) (m ((c : Thread nD τ).loc main_arg2)) (m ((c : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs (onTc (τ := τ) (main (F := F))) ⟨m, fun _ => 0, ρ⟩).mono (fun r h c => ⟨⟨(h.1.2 c main_v0_0 (by decide)).trans (G_0 m c), (h.1.2 c main_v0_1 (by decide)).trans (G_1 m c), (h.1.2 c main_v0_2 (by decide)).trans (G_2 m c), (h.1.2 c main_v0_3 (by decide)).trans (G_3 m c), (h.1.2 c main_v0_4 (by decide)).trans (G_4 m c), (h.1.2 c main_v0_5 (by decide)).trans (G_5 m c), (h.1.2 c main_v0_6 (by decide)).trans (G_6 m c)⟩, arg_same m c r h.1 main_arg0 (by decide), arg_same m c r h.1 main_arg1 (by decide), arg_same m c r h.1 main_arg2 (by decide), arg_same m c r h.1 main_arg3 (by decide), arg_same m c r h.1 main_arg4 (by decide), arg_same m c r h.1 main_arg5 (by decide)⟩) (run_main m ρ)

end Cert.Proof.KI
-- ==== Proof.VRef.lean ====
/-
  The reference's results as functions of its arguments: the reference is a line of whole-array operations, and
  each of its results is read off that line. The functions are also those the mask is stated with.
-/
module

public import proofs.«01_k».proof.Proof.Gen.ReferenceIdeal
public import proofs.«01_k».proof.Proof.Gen.ReferenceIdeal.Frame
public import Idealize.ShloMosaic.Lib.StableHlo.RunRead

@[expose] public section

noncomputable section

namespace Cert.Proof.R

open Cert.ReferenceIdeal Cert.ReferenceIdeal.Gen Cert.ReferenceIdeal.Facts
open Idealize.ShloMosaic Idealize.ShloMosaic.TcCoe

variable {F : FTy → Type} [FloatOps F]

section Fns
variable (W : FVec F S6x256x1536 .f32) (G : FVec F S6x256x1536 .bf16) (M V : FVec F S6x256x1536 .f32) (LR : FVec F S6 .f32) (ST : IVec S6 32)

/-- A number in every element of a matrix stack. -/
def all3 (b : BitVec 32) : FVec F S6x256x1536 .f32 := broadcastInDim S6x256x1536 ![] bcast_S_S6x256x1536 (constant S_ .f32 b)
/-- A number for each matrix. -/
def all1 (b : BitVec 32) : FVec F S6 .f32 := broadcastInDim S6 ![] bcast_S_S6 (constant S_ .f32 b)
/-- A number for each block. -/
def allB (b : BitVec 32) : FVec F S6x2x12 .f32 := broadcastInDim S6x2x12 ![] bcast_S_S6x2x12 (constant S_ .f32 b)
/-- A number per matrix as a column, -/
def col (x : FVec F S6 .f32) : FVec F S6x1x1 .f32 := broadcastInDim S6x1x1 ![0] bcast_S6_S6x1x1_0 x
/-- and in all the elements of the matrix. -/
def spread (x : FVec F S6x1x1 .f32) : FVec F S6x256x1536 .f32 := broadcastInDim S6x256x1536 ![0, 1, 2] bcast_S6x1x1_S6x256x1536_0_1_2 x

/-- The gradient read as a 32-bit float. -/
def ext : FVec F S6x256x1536 .f32 := extf .f32 G bitsLt_bf16_f32
/-- The gradients' norm, -/
def norm : FVec F S_ .f32 := Host.sqrt (Host.reduceAdd (mulf (ext G) (ext G)) (constant S_ .f32 0x00000000#32) reducesTo_S6x256x1536_S_d0_1_2 h_S_)
/-- the clip coefficient, -/
def kap : FVec F S_ .f32 := Host.divf (constant S_ .f32 0x3F800000#32) (maximumf (norm G) (constant S_ .f32 0x3F800000#32))
/-- the clipped gradients, -/
def clipped : FVec F S6x256x1536 .f32 := mulf (broadcastInDim S6x256x1536 ![] bcast_S_S6x256x1536 (kap G)) (ext G)
/-- the new first -/
def newM : FVec F S6x256x1536 .f32 := addf (mulf (all3 0x3F666666#32) M) (mulf (all3 0x3DCCCCCD#32) (clipped G))
/-- and second moments, -/
def newV : FVec F S6x256x1536 .f32 := addf (mulf (all3 0x3F733333#32) V) (mulf (mulf (all3 0x3D4CCCCD#32) (clipped G)) (clipped G))
/-- the bias corrections, -/
def bias (b : BitVec 32) : FVec F S6 .f32 := subf (all1 0x3F800000#32) (Host.powf (all1 b) (sitofp .f32 ST))
/-- the step sizes, -/
def stepSize : FVec F S6x1x1 .f32 := col (Host.divf LR (bias ST 0x3F666666#32))
/-- the decays, -/
def decay : FVec F S6x1x1 .f32 := col (subf (all1 0x3F800000#32) (mulf LR (all1 0x3DCCCCCD#32)))
/-- the denominators, -/
def denom : FVec F S6x256x1536 .f32 :=
  addf (Host.divf (Host.sqrt (newV G V)) (spread (col (Host.sqrt (bias ST 0x3F733333#32))))) (all3 0x322BCC77#32)
/-- and the new weights. -/
def newW : FVec F S6x256x1536 .f32 :=
  subf (mulf W (spread (decay LR))) (mulf (spread (stepSize LR ST)) (Host.divf (newM G M) (denom G V ST)))

/-- A block's largest magnitude, over the largest code. -/
def top : FVec F S6x2x12 .f32 := mulf (Host.reduce FloatOps.maximumf
    (Host.absf (shapeCast S6x2x128x12x128 W shapeCasts_S6x256x1536_S6x2x128x12x128)) (constant S_ .f32 0xFF800000#32) reducesTo_S6x2x128x12x128_S6x2x12_d2_4 h_S_)
  (allB 0x3B124925#32)
/-- The powers of two it is compared with. -/
def powers : FVec F S254 .f32 := Host.powf (broadcastInDim S254 ![] bcast_S_S254 (constant S_ .f32 0x40000000#32))
  (addf (broadcastInDim S254 ![] bcast_S_S254 (constant S_ .f32 0xC2FC0000#32)) (sitofp .f32 (iotaInDim S254 32 0)))
/-- How many of them it reaches. -/
def count (x : FVec F S6x2x12 .f32) : IVec S6x2x12 32 := Host.reduce IntOp.addi (extui 32 (cmpf .oge
    (broadcastInDim S6x2x12x254 ![0, 1, 2, 3] bcast_S6x2x12x1_S6x2x12x254_0_1_2_3 (broadcastInDim S6x2x12x1 ![0, 1, 2] bcast_S6x2x12_S6x2x12x1_0_1_2 x))
    (broadcastInDim S6x2x12x254 ![0, 1, 2, 3] bcast_S1x1x1x254_S6x2x12x254_0_1_2_3 (broadcastInDim S1x1x1x254 ![3] bcast_S254_S1x1x1x254_3 powers))) natLt_1_32)
  (constantI S_ 32 0#32) reducesTo_S6x2x12x254_S6x2x12_d3 h_S_
/-- Which are infinite. -/
def isInf (x : FVec F S6x2x12 .f32) : IVec S6x2x12 1 := cmpf .oeq (Host.absf x) (allB 0x7F800000#32)
/-- A number for each block. -/
def allI (b : BitVec 32) : IVec S6x2x12 32 := broadcastInDim S6x2x12 ![] bcast_S_S6x2x12 (constantI S_ 32 b)
/-- The exponent of the block's scale. -/
def expo (x : FVec F S6x2x12 .f32) : IVec S6x2x12 32 :=
  select (ori (cmpi .eq (count x) (allI 0#32)) (isInf x)) (allI 0#32) (subi (count x) (allI 126#32))
/-- The scale -/
def scale (x : FVec F S6x2x12 .f32) : FVec F S6x2x12 .f32 := Host.powf (allB 0x40000000#32) (sitofp .f32 (expo x))
/-- and its reciprocal, -/
def recip (x : FVec F S6x2x12 .f32) : FVec F S6x2x12 .f32 := Host.powf (allB 0x40000000#32) (Host.negf (sitofp .f32 (expo x)))
/-- A block's value in each of its elements. -/
def perElement {e : EltTy} (x : Vec F S6x2x12 e) : Vec F S6x256x1536 e :=
  shapeCast S6x256x1536 (broadcastInDim S6x256x12x128 ![0, 1, 2] bcast_S6x256x12_S6x256x12x128_0_1_2
    (shapeCast S6x256x12 (broadcastInDim S6x2x128x12 ![0, 1, 3] bcast_S6x2x12_S6x2x128x12_0_1_3 x) shapeCasts_S6x2x128x12_S6x256x12)) shapeCasts_S6x256x12x128_S6x256x1536
/-- The clipped quotients. -/
def quot (w : FVec F S6x256x1536 .f32) : FVec F S6x256x1536 .f32 :=
  minimumf (all3 0x43E00000#32) (maximumf (all3 0xC3E00000#32) (mulf w (perElement (e := .f32) (recip (top w)))))
end Fns

variable (m : (ℓ : Loc nD τ sig) → Buf (Elt F) ℓ) (c : Dev nD)
/-- Argument `arg0`. -/
abbrev aW : FVec F S6x256x1536 .f32 := m ((c.tc : Thread nD τ).loc main_arg0)
/-- Argument `arg1`. -/
abbrev aG : FVec F S6x256x1536 .bf16 := m ((c.tc : Thread nD τ).loc main_arg1)
/-- Argument `arg2`. -/
abbrev aM : FVec F S6x256x1536 .f32 := m ((c.tc : Thread nD τ).loc main_arg2)
/-- Argument `arg3`. -/
abbrev aV : FVec F S6x256x1536 .f32 := m ((c.tc : Thread nD τ).loc main_arg3)
/-- Argument `arg4`. -/
abbrev aL : FVec F S6 .f32 := m ((c.tc : Thread nD τ).loc main_arg4)
/-- Argument `arg5`. -/
abbrev aS : IVec S6 32 := m ((c.tc : Thread nD τ).loc main_arg5)

set_option maxRecDepth 100000

theorem V48 : Gen.V m c main_v48 = shapeCast S1 (norm (aG m c)) shapeCasts_S_S1 := by
  unfold Gen.V
  after_reads_simp
  rfl
theorem V12 : Gen.V m c main_v12 = newM (aG m c) (aM m c) := by
  unfold Gen.V
  after_reads_simp
  rfl
theorem V18 : Gen.V m c main_v18 = newV (aG m c) (aV m c) := by
  unfold Gen.V
  after_reads_simp
  rfl
theorem V47 : Gen.V m c main_v47 = newW (aW m c) (aG m c) (aM m c) (aV m c) (aL m c) (aS m c) := by
  unfold Gen.V
  after_reads_simp
  rfl
theorem V75 : Gen.V m c main_v75 = scale (top (newW (aW m c) (aG m c) (aM m c) (aV m c) (aL m c) (aS m c))) := by
  unfold Gen.V
  after_reads_simp
  rfl
theorem V85 : Gen.V m c main_v85 = quot (newW (aW m c) (aG m c) (aM m c) (aV m c) (aL m c) (aS m c)) := by
  unfold Gen.V
  after_reads_simp
  rfl
theorem V86 : Gen.V m c main_v86 = transpose S6x1536x256 [0, 2, 1] (quot (newW (aW m c) (aG m c) (aM m c) (aV m c) (aL m c) (aS m c))) transposes_S6x256x1536_S6x1536x256_0_2_1 := by
  unfold Gen.V
  after_reads_simp
  rfl

end Cert.Proof.R

end
-- ==== Proof.VRun.lean ====
/-
  What a run of the reference leaves in its result arrays.
-/
module

public import proofs.«01_k».proof.Proof.VRef
public import proofs.«01_k».proof.Proof.Gen.ReferenceIdeal.Value

@[expose] public section

noncomputable section

namespace Cert.Proof.R

open Cert.ReferenceIdeal Cert.ReferenceIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The region's one point reads the whole of its first input -/
theorem iblk0 (c : Dev nD) (t : Fin cfg0.N) : iblk m c 0 t = Gen.V m c main_v85 := by
  have ht := fin_N0 t
  subst ht
  funext y
  refine congrArg (Gen.V m c main_v85) (funext fun a => Fin.ext ?_)
  match a with
  | ⟨0, _⟩ => show 0 * 6 + 1 * (y 0).val = (y 0).val; omega
  | ⟨1, _⟩ => show 0 * 256 + 1 * (y 1).val = (y 1).val; omega
  | ⟨2, _⟩ => show 0 * 1536 + 1 * (y 2).val = (y 2).val; omega
/-- and the whole of its second. -/
theorem iblk1 (c : Dev nD) (t : Fin cfg0.N) : iblk m c 1 t = Gen.V m c main_v86 := by
  have ht := fin_N0 t
  subst ht
  funext y
  refine congrArg (Gen.V m c main_v86) (funext fun a => Fin.ext ?_)
  match a with
  | ⟨0, _⟩ => show 0 * 6 + 1 * (y 0).val = (y 0).val; omega
  | ⟨1, _⟩ => show 0 * 1536 + 1 * (y 1).val = (y 1).val; omega
  | ⟨2, _⟩ => show 0 * 256 + 1 * (y 2).val = (y 2).val; omega

/-- The first output array is the first input rounded to codes, -/
theorem codes (c : Dev nD) (y : S6x256x1536.Idx) :
    (dats m 0 c).arrAt 2 cfg0.N y = FloatOps.truncf .fp8e4m3 bitsLt_fp8e4m3_f32 (Gen.V m c main_v85 y) := by
  have h := congrFun ((Value.blocks2 m c t0_0 (flush0_2 t0_0)).trans (Value.flushed2 m c t0_0)) y
  refine Eq.trans ?_ (h.trans ?_)
  · refine congrArg ((dats m 0 c).arrAt 2 cfg0.N) (funext fun a => Fin.ext ?_)
    match a with
    | ⟨0, _⟩ => show (y 0).val = 0 * 6 + 1 * (y 0).val; omega
    | ⟨1, _⟩ => show (y 1).val = 0 * 256 + 1 * (y 1).val; omega
    | ⟨2, _⟩ => show (y 2).val = 0 * 1536 + 1 * (y 2).val; omega
  · show out0_2 (iblk m c 0 t0_0) (iblk m c 1 t0_0) y = _
    rw [iblk0]
    unfold out0_2
    rw [Value.canon2_eq]
    refine congrArg (fun i => FloatOps.truncf .fp8e4m3 bitsLt_fp8e4m3_f32 (Gen.V m c main_v85 i)) (funext fun a => Fin.ext ?_)
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
/-- and the second the second. -/
theorem codesT (c : Dev nD) (y : S6x1536x256.Idx) :
    (dats m 0 c).arrAt 3 cfg0.N y = FloatOps.truncf .fp8e4m3 bitsLt_fp8e4m3_f32 (Gen.V m c main_v86 y) := by
  have h := congrFun ((Value.blocks3 m c t0_0 (flush0_3 t0_0)).trans (Value.flushed3 m c t0_0)) y
  refine Eq.trans ?_ (h.trans ?_)
  · refine congrArg ((dats m 0 c).arrAt 3 cfg0.N) (funext fun a => Fin.ext ?_)
    match a with
    | ⟨0, _⟩ => show (y 0).val = 0 * 6 + 1 * (y 0).val; omega
    | ⟨1, _⟩ => show (y 1).val = 0 * 1536 + 1 * (y 1).val; omega
    | ⟨2, _⟩ => show (y 2).val = 0 * 256 + 1 * (y 2).val; omega
  · show out0_3 (iblk m c 0 t0_0) (iblk m c 1 t0_0) y = _
    rw [iblk1]
    unfold out0_3
    rw [Value.canon3_eq]
    refine congrArg (fun i => FloatOps.truncf .fp8e4m3 bitsLt_fp8e4m3_f32 (Gen.V m c main_v86 i)) (funext fun a => Fin.ext ?_)
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega

/-- A run ends with the results the functions say, its arguments unchanged. -/
theorem values : θ_run defs (onTc (τ := τ) (main (F := F))) ⟨m, fun _ => 0, ρ⟩ (fun r => ∀ c : Dev nD,
    (r.2.mem ((c : Thread nD τ).loc main_v47) = newW (aW m c) (aG m c) (aM m c) (aV m c) (aL m c) (aS m c)
      ∧ r.2.mem ((c : Thread nD τ).loc main_v12) = newM (aG m c) (aM m c)
      ∧ r.2.mem ((c : Thread nD τ).loc main_v18) = newV (aG m c) (aV m c)
      ∧ r.2.mem ((c : Thread nD τ).loc main_v48) = shapeCast S1 (norm (aG m c)) shapeCasts_S_S1
      ∧ r.2.mem ((c : Thread nD τ).loc main_v87_0)
          = (fun y => FloatOps.truncf .fp8e4m3 bitsLt_fp8e4m3_f32 (quot (newW (aW m c) (aG m c) (aM m c) (aV m c) (aL m c) (aS m c)) y))
      ∧ r.2.mem ((c : Thread nD τ).loc main_v75) = scale (top (newW (aW m c) (aG m c) (aM m c) (aV m c) (aL m c) (aS m c)))
      ∧ r.2.mem ((c : Thread nD τ).loc main_v87_1)
          = (fun y => FloatOps.truncf .fp8e4m3 bitsLt_fp8e4m3_f32
              (transpose S6x1536x256 [0, 2, 1] (quot (newW (aW m c) (aG m c) (aM m c) (aV m c) (aL m c) (aS m c))) transposes_S6x256x1536_S6x1536x256_0_2_1 y)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => ⟨⟨
      ((h c).2 main_v47 (Pipeline.mem_restRefs_of main_v47 (by decide) (by decide))).trans (V47 m c),
      ((h c).2 main_v12 (Pipeline.mem_restRefs_of main_v12 (by decide) (by decide))).trans (V12 m c),
      ((h c).2 main_v18 (Pipeline.mem_restRefs_of main_v18 (by decide) (by decide))).trans (V18 m c),
      ((h c).2 main_v48 (Pipeline.mem_restRefs_of main_v48 (by decide) (by decide))).trans (V48 m c),
      (Value.post2 m r h c).trans (funext fun y => (codes m c y).trans (by rw [V85])),
      ((h c).2 main_v75 (Pipeline.mem_restRefs_of main_v75 (by decide) (by decide))).trans (V75 m c),
      (Value.post3 m r h c).trans (funext fun y => (codesT m c y).trans (by rw [V86]))⟩,
      Value.kept_main_arg0 m r h c, Value.kept_main_arg1 m r h c, Value.kept_main_arg2 m r h c,
      Value.kept_main_arg3 m r h c, Value.kept_main_arg4 m r h c, Value.kept_main_arg5 m r h c⟩)
    (run_main m ρ)

end Cert.Proof.R

end
-- ==== Proof.VSum.lean ====
/-
  The squares the kernel adds up: sixteen rows at a time, twelve blocks of 128 columns in four accumulators, read
  position by position as sums of scalars.
-/
module

public import proofs.«01_k».proof.Proof.KICoef
public import Idealize.ShloMosaic.Lib.Pointwise

@[expose] public section

noncomputable section

namespace Cert.Proof.KI

open Cert.KernelIdeal Cert.KernelIdeal.Gen
open Idealize.ShloMosaic Idealize.ShloMosaic.Pointwise

section Any
variable {F : FTy → Type} [FloatOps F]
/-- The square of a gradient. -/
def sqF (g : F .bf16) : F .f32 := FloatOps.mulf (FloatOps.extf .f32 bitsLt_bf16_f32 g) (FloatOps.extf .f32 bitsLt_bf16_f32 g)
/-- Two rows' squares at one position. -/
def two (v : Vec F S1x16x128 .bf16) (x : S8x128.Idx) : F .f32 :=
  FloatOps.addf (sqF (v (ix3 0 (lo (x 0)) (x 1 : Fin 128)))) (sqF (v (ix3 0 (hi (x 0)) (x 1 : Fin 128))))
/-- Three pairs taken into an accumulator. -/
def three (a : F .f32) (p q r : F .f32) : F .f32 := FloatOps.addf (FloatOps.addf (FloatOps.addf a p) q) r

variable (a : FVec F S8x128 .f32) (u v w : Vec F S1x16x128 .bf16) (x : S8x128.Idx)
theorem grp1 : k0_pay9 (k0_pay1 a u) (k0_pay5 v) w x = three (a x) (two u x) (two v x) (two w x) := by
  pointwise [k0_pay9, k0_pay1, k0_pay5, three, two, sqF, lo, hi]
theorem grp2 : k0_pay43 (k0_pay6 (k0_pay2 a u) v) w x = three (a x) (two u x) (two v x) (two w x) := by
  pointwise [k0_pay43, k0_pay6, k0_pay2, three, two, sqF, lo, hi]
theorem grp3 : k0_pay44 (k0_pay7 (k0_pay3 a u) v) w x = three (a x) (two u x) (two v x) (two w x) := by
  pointwise [k0_pay44, k0_pay7, k0_pay3, three, two, sqF, lo, hi]
theorem grp4 : k0_pay45 (k0_pay8 (k0_pay4 a u) v) w x = three (a x) (two u x) (two v x) (two w x) := by
  pointwise [k0_pay45, k0_pay8, k0_pay4, three, two, sqF, lo, hi]
end Any

variable (p q r s : FVec Ideal S8x128 .f32) (x : S8x128.Idx)
theorem pay46_apply : k0_pay46 p q r s x
    = Ideal.sqrt (∑ i : Fin 8, ∑ j : Fin 128, (((p (ix2 i j) + q (ix2 i j)) + (r (ix2 i j) + s (ix2 i j)) : EReal))) := by
  pointwise [k0_pay46]
end Cert.Proof.KI

end
-- ==== Proof.VNorm.lean ====
/-
  The gradients' norm: the kernel's four accumulators hold, together, the sum of the squares of all the gradients, so
  the norm and the clip coefficient are the reference's.
-/
module

public import proofs.«01_k».proof.Proof.VSum
public import proofs.«01_k».proof.Proof.VRef

@[expose] public section

noncomputable section

namespace Cert.Proof.KI

open Cert.KernelIdeal Cert.KernelIdeal.Gen
open Idealize.ShloMosaic Idealize.ShloMosaic.Pointwise

/-- A sum over `n * m` numbers, by rows of `m`. -/
theorem sum_rows {M : Type} [AddCommMonoid M] (h : ℕ → M) (m : ℕ) : ∀ n, ∑ r ∈ Finset.range (n * m), h r = ∑ s ∈ Finset.range n, ∑ u ∈ Finset.range m, h (m * s + u)
  | 0 => by simp
  | n + 1 => by
    rw [Nat.succ_mul, Finset.sum_range_add, sum_rows h m n, Finset.sum_range_succ, Nat.mul_comm m n]

/-- The kernel's order of summation. -/
theorem sum_order {M : Type} [AddCommMonoid M] (f : ℕ → ℕ → ℕ → M) :
    ∑ i ∈ Finset.range 8, ∑ j ∈ Finset.range 128, ∑ t ∈ Finset.range 6, ∑ s ∈ Finset.range 16, ∑ k ∈ Finset.range 12,
        (f t (16 * s + i) (128 * k + j) + f t (16 * s + (8 + i)) (128 * k + j))
      = ∑ t ∈ Finset.range 6, ∑ r ∈ Finset.range 256, ∑ l ∈ Finset.range 1536, f t r l := by
  have hl : ∀ t r, ∑ l ∈ Finset.range 1536, f t r l = ∑ k ∈ Finset.range 12, ∑ j ∈ Finset.range 128, f t r (128 * k + j) := fun t r => sum_rows (f t r) 128 12
  have hr : ∀ h : ℕ → M, ∑ r ∈ Finset.range 256, h r = ∑ s ∈ Finset.range 16, ∑ i ∈ Finset.range 8, (h (16 * s + i) + h (16 * s + (8 + i))) := by
    intro h
    refine (sum_rows h 16 16).trans (Finset.sum_congr rfl fun s _ => ?_)
    rw [show (16 : ℕ) = 8 + 8 from rfl, Finset.sum_range_add, ← Finset.sum_add_distrib]
  simp only [hl, hr, ← Finset.sum_add_distrib]
  rw [Finset.sum_congr rfl fun i _ => Finset.sum_comm]
  rw [Finset.sum_comm]
  refine Finset.sum_congr rfl fun t _ => ?_
  rw [Finset.sum_congr rfl fun i _ => Finset.sum_comm]
  rw [Finset.sum_comm]
  refine Finset.sum_congr rfl fun s _ => Finset.sum_congr rfl fun i _ => ?_
  exact Finset.sum_comm

variable (G : Vec Ideal S6x256x1536 .bf16)

/-- The square of a gradient named by numbers. -/
def q (t r l : ℕ) : EReal := sqF (F := Ideal) (G (at3 t r l))
/-- The four running sums together. -/
def tot (a : Acc Ideal) (x : S8x128.Idx) : EReal := (a.1 x + a.2.1 x : EReal) + (a.2.2.1 x + a.2.2.2 x : EReal)

/-- The squares of sixteen rows at one position. -/
def part16 (t s : ℕ) (i j : ℕ) : EReal := ∑ k ∈ Finset.range 12, (q G t (16 * s + i) (128 * k + j) + q G t (16 * s + (8 + i)) (128 * k + j))

theorem two_gAt (t r l : ℕ) (x : S8x128.Idx) : two (gAt G t r l) x = (q G t (r + (x 0).val) (l + (x 1).val) + q G t (r + (8 + (x 0).val)) (l + (x 1).val) : EReal) := rfl

theorem tot_step5 (t s : ℕ) (a : Acc Ideal) (x : S8x128.Idx) : tot (step5 G t s a) x = tot a x + part16 G t s (x 0).val (x 1).val := by
  unfold tot part16 step5
  simp only [grp1, grp2, grp3, grp4, two_gAt, three, Ideal.addf_def, Finset.sum_range_succ, Finset.sum_range_zero]
  simp only [Nat.reduceMul, zero_add]
  abel

theorem tot_acc5 (t : ℕ) (a : Acc Ideal) (x : S8x128.Idx) : ∀ n, tot (acc5 G t a n) x = tot a x + ∑ s ∈ Finset.range n, part16 G t s (x 0).val (x 1).val
  | 0 => by rw [Finset.sum_range_zero, add_zero]; rfl
  | n + 1 => by rw [Finset.sum_range_succ, ← add_assoc, ← tot_acc5 t a x n]; exact tot_step5 G t n _ x

theorem pay42_apply (x : S8x128.Idx) : k0_pay42 (F := Ideal) x = (0 : EReal) := by
  show FloatOps.ofBits (F := Ideal) .f32 0x00000000#32 = _
  exact Ideal.ofBits_zero_f32

theorem tot_acc4 (x : S8x128.Idx) : ∀ n, tot (acc4 G n) x = ∑ t ∈ Finset.range n, ∑ s ∈ Finset.range 16, part16 G t s (x 0).val (x 1).val
  | 0 => by
    rw [Finset.sum_range_zero]
    show ((k0_pay42 (F := Ideal) x + k0_pay42 (F := Ideal) x : EReal) + (k0_pay42 (F := Ideal) x + k0_pay42 (F := Ideal) x : EReal)) = 0
    rw [pay42_apply]; simp
  | n + 1 => by rw [Finset.sum_range_succ, ← tot_acc4 x n]; exact tot_acc5 G n _ x 16

theorem tot_all : ∑ i : Fin 8, ∑ j : Fin 128, tot (acc4 G 6) (ix2 i j) = ∑ a : Fin 6, ∑ r : Fin 256, ∑ l : Fin 1536, q G a.val r.val l.val := by
  have e : ∀ (i : Fin 8) (j : Fin 128), tot (acc4 G 6) (ix2 i j) = ∑ t ∈ Finset.range 6, ∑ s ∈ Finset.range 16, part16 G t s i.val j.val := fun i j => tot_acc4 G (ix2 i j) 6
  simp only [e, part16]
  have l : ∑ i : Fin 8, ∑ j : Fin 128, (∑ t ∈ Finset.range 6, ∑ s ∈ Finset.range 16, ∑ k ∈ Finset.range 12, (q G t (16 * s + i.val) (128 * k + j.val) + q G t (16 * s + (8 + i.val)) (128 * k + j.val)))
      = ∑ i ∈ Finset.range 8, ∑ j ∈ Finset.range 128, ∑ t ∈ Finset.range 6, ∑ s ∈ Finset.range 16, ∑ k ∈ Finset.range 12, (q G t (16 * s + i) (128 * k + j) + q G t (16 * s + (8 + i)) (128 * k + j)) := by
    rw [Finset.sum_range]
    refine Finset.sum_congr rfl fun i _ => ?_
    rw [Finset.sum_range]
  have r : ∑ a ∈ Finset.range 6, ∑ r ∈ Finset.range 256, ∑ l ∈ Finset.range 1536, q G a r l = ∑ a : Fin 6, ∑ r : Fin 256, ∑ l : Fin 1536, q G a.val r.val l.val := by
    rw [Finset.sum_range]
    refine Finset.sum_congr rfl fun a _ => ?_
    rw [Finset.sum_range]
    exact Finset.sum_congr rfl fun r _ => Finset.sum_range _
  exact l.trans ((sum_order (q G)).trans r)

theorem at3_fin (a : Fin 6) (r : Fin 256) (l : Fin 1536) : at3 a.val r.val l.val = ix3 a r l := by
  unfold at3
  congr 1 <;> exact Fin.ext (Nat.mod_eq_of_lt (Fin.isLt _))

/-- The reference's norm. -/
theorem R_norm (z : Cert.ReferenceIdeal.S_.Idx) : R.norm (F := Ideal) G z = Ideal.sqrt (∑ a : Fin 6, ∑ r : Fin 256, ∑ l : Fin 1536, q G a.val r.val l.val) := by
  simp only [q, at3_fin]
  pointwise [R.norm, R.ext, sqF]

/-- The kernel's, at every position. -/
theorem K_norm (x : S8x128.Idx) (z : Cert.ReferenceIdeal.S_.Idx) :
    k0_pay46 (acc4 G 6).1 (acc4 G 6).2.1 (acc4 G 6).2.2.1 (acc4 G 6).2.2.2 x = R.norm (F := Ideal) G z := by
  rw [pay46_apply, R_norm, ← tot_all]
  rfl

/-- The clip coefficient. -/
theorem kap_eq (x : S8x128.Idx) (z : Cert.ReferenceIdeal.S_.Idx) : kapG (F := Ideal) G x = R.kap (F := Ideal) G z := by
  have h := K_norm G x z
  unfold kapG
  show FloatOps.divf _ (FloatOps.maximumf (k0_pay46 _ _ _ _ x) _) = FloatOps.hostDivf _ (FloatOps.maximumf (R.norm (F := Ideal) G z) _)
  rw [h]
  rfl

/-- Minus infinity. -/
theorem negInf : Ideal.ofBits .f32 0xFF800000#32 = ⊥ := by simp [Ideal.ofBits, Ideal.ieee]

theorem sup_const {ι : Type} [Fintype ι] [Nonempty ι] (b : EReal) : (Finset.univ : Finset ι).fold max ⊥ (fun _ => b) = b :=
  Finset.sup_const Finset.univ_nonempty b

/-- The norm that is handed out. -/
theorem norm_eq (y : S1.Idx) (z : Cert.ReferenceIdeal.S_.Idx) : normG (F := Ideal) G y = R.norm (F := Ideal) G z := by
  have h := fun x => K_norm G x z
  unfold normG k0_pay48
  rw [show k0_pay46 (acc4 G 6).1 (acc4 G 6).2.1 (acc4 G 6).2.2.1 (acc4 G 6).2.2.2 = fun _ => R.norm (F := Ideal) G z from funext h]
  pointwise
  rw [negInf]
  exact sup_const _

end Cert.Proof.KI

end
-- ==== Proof.VStep.lean ====
/-
  One step of the update: the kernel's new moments are the reference's, and so are its new weights where the step
  number is not zero.
-/
module

public import proofs.«01_k».proof.Proof.VNorm
public import proofs.«01_k».proof.Proof.KIBody

@[expose] public section

noncomputable section

namespace Cert.Proof.KI

open Cert.KernelIdeal Cert.KernelIdeal.Gen
open Idealize.ShloMosaic Idealize.ShloMosaic.Pointwise
open VecWindow

variable (LR : Vec Ideal S6 .f32) (ST : Vec Ideal S6 .i32) (G : Vec Ideal S6x256x1536 .bf16) (W M V : Vec Ideal S6x256x1536 .f32)

/-- The one index of a scalar. -/
def z0 : Cert.ReferenceIdeal.S_.Idx := fun a => a.elim0
theorem z_eq (z z' : Cert.ReferenceIdeal.S_.Idx) : z = z' := funext fun a => a.elim0

/-- The new first -/
theorem newM_eq : newM (kapG (F := Ideal) G) G M = R.newM (F := Ideal) G M := by
  funext y
  unfold newM
  rw [kap_eq G (sub y) z0]
  pointwise [mS, gS, R.newM, R.clipped, R.ext, R.all3]
  congr
/-- and second moments. -/
theorem newV_eq : newV (kapG (F := Ideal) G) G V = R.newV (F := Ideal) G V := by
  funext y
  unfold newV
  rw [kap_eq G (sub y) z0]
  pointwise [vS, gS, R.newV, R.clipped, R.ext, R.all3]
  congr

/-- One coefficient put. -/
theorem put_c {α : Type} (f : S6x3x8x128.Idx → α) (n k : ℕ) (w : S1x1x8x128.Idx → α) (y : S6x3x8x128.Idx) :
    put (s := S6x3x8x128) f ![n, k, 0, 0] S1x1x8x128.size w y
      = if (y 0).val = n ∧ (y 1).val = k then w (ix4 (0 : Fin 1) (0 : Fin 1) (y 2 : Fin 8) (y 3 : Fin 128)) else f y := by
  have b2 : (y 2).val < 8 := (y 2).isLt
  have b3 : (y 3).val < 128 := (y 3).isLt
  unfold put
  by_cases h : (y 0).val = n ∧ (y 1).val = k
  · rw [if_pos h, dif_pos]
    · refine congrArg w (funext fun a => ?_)
      match a with
      | ⟨0, _⟩ => exact Fin.ext (show (y 0).val - n = 0 by omega)
      | ⟨1, _⟩ => exact Fin.ext (show (y 1).val - k = 0 by omega)
      | ⟨2, _⟩ => exact Fin.ext (show (y 2).val - 0 = (y 2).val by omega)
      | ⟨3, _⟩ => exact Fin.ext (show (y 3).val - 0 = (y 3).val by omega)
    · intro a
      match a with
      | ⟨0, _⟩ => exact ⟨show n ≤ (y 0).val by omega, show (y 0).val < n + 1 by omega⟩
      | ⟨1, _⟩ => exact ⟨show k ≤ (y 1).val by omega, show (y 1).val < k + 1 by omega⟩
      | ⟨2, _⟩ => exact ⟨Nat.zero_le _, show (y 2).val < 0 + 8 by omega⟩
      | ⟨3, _⟩ => exact ⟨Nat.zero_le _, show (y 3).val < 0 + 128 by omega⟩
  · rw [if_neg h, dif_neg]
    intro e
    have e0 : n ≤ (y 0).val ∧ (y 0).val < n + 1 := e 0
    have e1 : k ≤ (y 1).val ∧ (y 1).val < k + 1 := e 1
    exact h ⟨by omega, by omega⟩

theorem coefN_step (C0 : Vec Ideal S6x3x8x128 .f32) (n : ℕ) (y : S6x3x8x128.Idx) :
    coefN LR ST C0 (n + 1) y = if (y 0).val = n ∧ (y 1).val = 2 then k0_pay41 (at6 ST n) (ix4 (0 : Fin 1) (0 : Fin 1) (y 2 : Fin 8) (y 3 : Fin 128))
      else if (y 0).val = n ∧ (y 1).val = 1 then k0_pay40 (at6 LR n) (ix4 (0 : Fin 1) (0 : Fin 1) (y 2 : Fin 8) (y 3 : Fin 128))
      else if (y 0).val = n ∧ (y 1).val = 0 then k0_pay39 (at6 ST n) (at6 LR n) (ix4 (0 : Fin 1) (0 : Fin 1) (y 2 : Fin 8) (y 3 : Fin 128))
      else coefN LR ST C0 n y := by
  rw [coefN, put_c, put_c, put_c]

/-- A matrix's coefficients. -/
theorem coefN_at (C0 : Vec Ideal S6x3x8x128 .f32) (y : S6x3x8x128.Idx) (n : ℕ) (h : (y 0).val < n) :
    coefN LR ST C0 n y = if (y 1).val = 2 then k0_pay41 (at6 ST (y 0).val) (ix4 (0 : Fin 1) (0 : Fin 1) (y 2 : Fin 8) (y 3 : Fin 128))
      else if (y 1).val = 1 then k0_pay40 (at6 LR (y 0).val) (ix4 (0 : Fin 1) (0 : Fin 1) (y 2 : Fin 8) (y 3 : Fin 128))
      else k0_pay39 (at6 ST (y 0).val) (at6 LR (y 0).val) (ix4 (0 : Fin 1) (0 : Fin 1) (y 2 : Fin 8) (y 3 : Fin 128)) := by
  have b1 : (y 1).val < 3 := (y 1).isLt
  induction n with
  | zero => omega
  | succ n ih =>
    rw [coefN_step]
    by_cases e : (y 0).val = n
    · simp only [e, true_and]
      split_ifs <;> first | rfl | omega
    · simp only [e, false_and, if_false]
      exact ih (by omega)

/-- The bias correction of a step number. -/
def biasS (b : BitVec 32) (st : BitVec 32) : EReal := Ideal.ofBits .f32 0x3F800000#32 - Ideal.pow (Ideal.ofBits .f32 b) (((st.toInt : ℝ)) : EReal)

theorem at6_mod {α : Type} (f : S6.Idx → α) (a : ℕ) : at6 f (a % 6) = at6 f a := by unfold at6; simp only [Nat.mod_mod]
theorem ix4_unit (x : S1x1x8x128.Idx) : ix4 (0 : Fin 1) (0 : Fin 1) (x 2 : Fin 8) (x 3 : Fin 128) = x := by
  have b0 : (x 0).val < 1 := (x 0).isLt
  have b1 : (x 1).val < 1 := (x 1).isLt
  funext a
  match a with
  | ⟨0, _⟩ => exact Fin.ext (show 0 = (x 0).val by omega)
  | ⟨1, _⟩ => exact Fin.ext (show 0 = (x 1).val by omega)
  | ⟨2, _⟩ => rfl
  | ⟨3, _⟩ => rfl

theorem c_eq (a : ℕ) : cAt (coefA LR ST) a 0 = k0_pay39 (at6 ST a) (at6 LR a) ∧ cAt (coefA LR ST) a 1 = k0_pay40 (at6 LR a) ∧ cAt (coefA LR ST) a 2 = k0_pay41 (at6 ST a) := by
  have h : ∀ (j : Fin 3) (x2 : Fin 8) (x3 : Fin 128), coefA LR ST (ix4 (⟨a % 6, Nat.mod_lt _ (by decide)⟩ : Fin 6) j x2 x3)
      = if j.val = 2 then k0_pay41 (at6 ST (a % 6)) (ix4 (0 : Fin 1) (0 : Fin 1) x2 x3)
      else if j.val = 1 then k0_pay40 (at6 LR (a % 6)) (ix4 (0 : Fin 1) (0 : Fin 1) x2 x3)
      else k0_pay39 (at6 ST (a % 6)) (at6 LR (a % 6)) (ix4 (0 : Fin 1) (0 : Fin 1) x2 x3) :=
    fun j x2 x3 => coefN_at LR ST _ (ix4 (⟨a % 6, Nat.mod_lt _ (by decide)⟩ : Fin 6) j x2 x3) 6 (Nat.mod_lt _ (by decide))
  simp only [at6_mod] at h
  refine ⟨funext fun x => ?_, funext fun x => ?_, funext fun x => ?_⟩
  · exact (h 0 (x 2) (x 3)).trans ((if_neg (by decide)).trans ((if_neg (by decide)).trans (congrArg (k0_pay39 (at6 ST a) (at6 LR a)) (ix4_unit x))))
  · exact (h 1 (x 2) (x 3)).trans ((if_neg (by decide)).trans ((if_pos (by decide)).trans (congrArg (k0_pay40 (at6 LR a)) (ix4_unit x))))
  · exact (h 2 (x 2) (x 3)).trans ((if_pos (by decide)).trans (congrArg (k0_pay41 (at6 ST a)) (ix4_unit x)))

theorem p_eq (a : ℕ) (x : S8x128.Idx) : k0_pay49 (cAt (coefA LR ST) a 0) x = Ideal.div (at6 LR a) (biasS 0x3F666666#32 (at6 ST a)) := by
  rw [(c_eq LR ST a).1]
  pointwise [k0_pay49, k0_pay39, k0_pay38, k0_pay37, biasS]
theorem d_eq (a : ℕ) (x : S8x128.Idx) : k0_pay50 (cAt (coefA LR ST) a 1) x = Ideal.ofBits .f32 0x3F800000#32 - (at6 LR a * Ideal.ofBits .f32 0x3DCCCCCD#32 : EReal) := by
  rw [(c_eq LR ST a).2.1]
  pointwise [k0_pay50, k0_pay40, k0_pay38]
theorem r_eq (a : ℕ) (x : S8x128.Idx) : k0_pay51 (cAt (coefA LR ST) a 2) x = Ideal.div 1 (Ideal.sqrt (biasS 0x3F733333#32 (at6 ST a))) := by
  rw [(c_eq LR ST a).2.2]
  pointwise [k0_pay51, k0_pay41, k0_pay37, biasS]

theorem R_newW (y : S6x256x1536.Idx) : R.newW (F := Ideal) W G M V LR ST y
    = (W y * (Ideal.ofBits .f32 0x3F800000#32 - (at6 LR (y 0).val * Ideal.ofBits .f32 0x3DCCCCCD#32)) - Ideal.div (at6 LR (y 0).val) (biasS 0x3F666666#32 (at6 ST (y 0).val))
        * Ideal.div (R.newM (F := Ideal) G M y) (Ideal.div (Ideal.sqrt (R.newV (F := Ideal) G V y)) (Ideal.sqrt (biasS 0x3F733333#32 (at6 ST (y 0).val))) + Ideal.ofBits .f32 0x322BCC77#32) : EReal) := by
  have e : ∀ {α : Type} (f : S6.Idx → α), at6 f (y 0).val = f (ix1 (y 0 : Fin 6)) := by
    intro α f
    unfold at6
    congr 2
    exact Fin.ext (Nat.mod_eq_of_lt (show (y 0).val < 6 from (y 0).isLt))
  rw [e, e]
  pointwise [R.newW, R.denom, R.decay, R.stepSize, R.col, R.spread, R.bias, R.all3, R.all1, biasS]
  rfl

theorem one_f32 : Ideal.ofBits .f32 0x3F800000#32 = 1 := Ideal.ofBits_one_f32
theorem beta2 : Ideal.ofBits .f32 0x3F733333#32 = ((15938355 / 16777216 : ℝ) : EReal) := by
  simp [Ideal.ofBits, Ideal.ieee, -EReal.coe_mul]
  norm_num

/-- The second moments' bias correction is not zero at a step number that is not zero. -/
theorem bias_ne (st : BitVec 32) (h : st ≠ 0#32) : Ideal.sqrt (biasS 0x3F733333#32 st) ≠ 0 := by
  have hn : (st.toInt : ℝ) ≠ 0 := by
    intro e
    exact h (BitVec.toInt_inj.1 (by rw [Int.cast_eq_zero.1 e]; rfl))
  unfold biasS
  rw [one_f32, beta2, Ideal.pow_coe_coe, ← EReal.coe_one, ← EReal.coe_sub, Ideal.sqrt_coe]
  generalize hx : (15938355 / 16777216 : ℝ) = x
  have x0 : 0 < x := by rw [← hx]; norm_num
  have x1 : x < 1 := by rw [← hx]; norm_num
  rcases lt_or_gt_of_ne hn with hl | hg
  · have := Real.one_lt_rpow_of_pos_of_lt_one_of_neg x0 x1 hl
    rw [if_pos (by show 1 - x ^ (st.toInt : ℝ) < 0; linarith)]
    exact EReal.bot_ne_zero
  · have := Real.rpow_lt_one x0.le x1 hg
    rw [if_neg (by show ¬ 1 - x ^ (st.toInt : ℝ) < 0; linarith)]
    have hs : Real.sqrt (1 - x ^ (st.toInt : ℝ)) ≠ 0 := (Real.sqrt_pos.2 (by linarith)).ne'
    exact fun e => hs (EReal.coe_eq_zero.1 e)

theorem tOf_half (y : S6x256x1536.Idx) : tOf y / 2 = (y 0).val := by
  have b1 : (y 1).val < 256 := (y 1).isLt
  unfold tOf
  omega

/-- The new weights. -/
theorem wT_eq (y : S6x256x1536.Idx) (t : ℕ) (ht : t / 2 = (y 0).val) (h : at6 ST (y 0).val ≠ 0#32) :
    wT (kapG (F := Ideal) G) (coefA LR ST) G W M V t y = R.newW (F := Ideal) W G M V LR ST y := by
  unfold wT newW
  rw [p_eq, d_eq, r_eq, ht, newM_eq, newV_eq, R_newW, ← Ideal.mul_one_div (x := Ideal.sqrt (R.newV (F := Ideal) G V y)) (bias_ne _ h)]
  rfl

end Cert.Proof.KI

end
-- ==== Proof.VExp.lean ====
/-
  The exponent of a block's scale: the kernel's binary search finds what the reference counts, how many powers of two
  the block's largest magnitude reaches.
-/
module

public import proofs.«01_k».proof.Proof.VStep
public import Idealize.ShloMosaic.Lib.IndicatorCount

@[expose] public section

noncomputable section

namespace Cert.Proof.KI

open Cert.KernelIdeal Cert.KernelIdeal.Gen
open Idealize.ShloMosaic Idealize.ShloMosaic.Pointwise

/-- The float an exponent field spells. -/
def vB (b : BitVec 32) : EReal := Ideal.ofBits .f32 (IntOp.shli .vector b 23#32)
/-- One step of the search, -/
def stepF (x : EReal) (f b : BitVec 32) : BitVec 32 := Scalar.select (Ideal.cmp .oge x (vB (IntOp.addi f b))) (IntOp.addi f b) f
/-- the search, -/
def fieldF (x : EReal) : BitVec 32 :=
  stepF x (stepF x (stepF x (stepF x (stepF x (stepF x (stepF x (stepF x 0#32 128#32) 64#32) 32#32) 16#32) 8#32) 4#32) 2#32) 1#32
/-- and the exponent. -/
def expF (x : EReal) : BitVec 32 :=
  Scalar.select (IntOp.ori (IntOp.cmpi .eq (fieldF x) 0#32) (IntOp.cmpi .eq (fieldF x) 255#32)) 0#32 (IntOp.subi (fieldF x) 126#32)

/-- A step at every position. -/
def stepV (v : FVec Ideal S8x128 .f32) (f : IVec S8x128 32) (b : BitVec 32) : IVec S8x128 32 :=
  select (cmpf .oge v (bitcastToFloat .f32 (shli (addi f (broadcast S8x128 b)) (broadcast S8x128 23#32)))) (addi f (broadcast S8x128 b)) f
theorem stepV_apply (v : FVec Ideal S8x128 .f32) (f : IVec S8x128 32) (b : BitVec 32) (i : S8x128.Idx) : stepV v f b i = stepF (v i) (f i) b := rfl
/-- The first four steps, -/
theorem pay31_eq (A : FVec Ideal S8x128 .f32) : k0_pay31 A = stepV (k0_pay30 A) (stepV (k0_pay30 A) (stepV (k0_pay30 A) (broadcast S8x128 0#32) 128#32) 64#32) 32#32 := by
  unfold k0_pay31 stepV
  generalize k0_pay30 A = v
  rfl
theorem pay33_eq (A : FVec Ideal S8x128 .f32) : select (k0_pay33 A) (k0_pay32 A) (k0_pay31 A) = stepV (k0_pay30 A) (k0_pay31 A) 16#32 := by
  unfold k0_pay33 k0_pay32 stepV
  generalize k0_pay30 A = v
  generalize k0_pay31 A = f
  rfl
/-- and the last four. -/
theorem pay34_step (v : FVec Ideal S8x128 .f32) (v172 v174 : IVec S8x128 32) (v178 : IVec S8x128 1) :
    k0_pay34 v v172 v174 v178 = (fun f => select (ori (cmpi .eq f (broadcast S8x128 0#32)) (cmpi .eq f (broadcast S8x128 255#32))) (broadcast S8x128 0#32) (subi f (broadcast S8x128 126#32)))
      (stepV v (stepV v (stepV v (stepV v (select v178 v174 v172) 8#32) 4#32) 2#32) 1#32) := by
  unfold k0_pay34 stepV
  generalize select v178 v174 v172 = f
  rfl
theorem pay34_eq (A : FVec Ideal S8x128 .f32) (i : S8x128.Idx) :
    k0_pay34 (k0_pay30 A) (k0_pay31 A) (k0_pay32 A) (k0_pay33 A) i = expF (k0_pay30 A i) := by
  rw [pay34_step, pay33_eq, pay31_eq]
  generalize k0_pay30 A = v
  simp only [select, ori, cmpi, subi, stepV_apply, expF, fieldF]
  rfl
theorem scaleV_eq (A : FVec Ideal S8x128 .f32) (i : S8x128.Idx) : scaleV A i = vB (IntOp.addi (expF (k0_pay30 A i)) 127#32) := by
  rw [← pay34_eq]; rfl
theorem invE_eq (A : FVec Ideal S8x128 .f32) (i : S8x128.Idx) : invE A i = IntOp.subi 127#32 (expF (k0_pay30 A i)) := by
  rw [← pay34_eq]; rfl

theorem bits_k : ∀ k : Fin 256, ((IntOp.shli .vector (BitVec.ofNat 32 k.val) 23#32).extractLsb' (8 + 23) 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by decide +kernel

theorem ieee_k (b : BitVec 32) (k : ℕ) (ha : (b.extractLsb' (8 + 23) 1 == 1#1) = false) (hb : (b.extractLsb' 23 8).toNat = k) (hc : (b.extractLsb' 0 23).toNat = 0) :
    Ideal.ieee 8 23 b = if k = 255 then ⊤ else if k = 0 then 0 else (((2 : ℝ) ^ ((k : ℤ) - 127) : ℝ) : EReal) := by
  unfold Ideal.ieee
  rw [ha, hb, hc]
  have e : ((k : ℤ) - 127) = 23 + ((k : ℤ) - (2 ^ (8 - 1) - 1) - (23 : ℕ)) := by norm_num
  rw [e, zpow_add₀ (by norm_num)]
  norm_num

theorem vB_k (k : ℕ) (h : k < 256) : vB (BitVec.ofNat 32 k) = if k = 255 then ⊤ else if k = 0 then 0 else (((2 : ℝ) ^ ((k : ℤ) - 127) : ℝ) : EReal) := by
  obtain ⟨a, b, c⟩ := bits_k ⟨k, h⟩
  exact ieee_k _ k a b c

theorem vB_mid (k : ℕ) (h1 : 1 ≤ k) (h2 : k ≤ 254) : vB (BitVec.ofNat 32 k) = (((2 : ℝ) ^ ((k : ℤ) - 127) : ℝ) : EReal) := by
  rw [vB_k k (by omega), if_neg (by omega), if_neg (by omega)]

theorem vB_255 : vB (BitVec.ofNat 32 255) = ⊤ := by
  rw [vB_k 255 (by omega), if_pos rfl]

theorem vB_mono (j k : ℕ) (h1 : 1 ≤ j) (h : j ≤ k) (h2 : k ≤ 255) : vB (BitVec.ofNat 32 j) ≤ vB (BitVec.ofNat 32 k) := by
  rcases Nat.lt_or_ge k 255 with hk | hk
  · rw [vB_mid j h1 (by omega), vB_mid k (by omega) (by omega)]
    exact EReal.coe_le_coe_iff.2 (zpow_le_zpow_right₀ (by norm_num) (by omega))
  · rw [show k = 255 by omega, vB_255]
    exact le_top

/-- What is known in the search: all fields up to `f` are reached, none from `f + w` on is. -/
def Inv (x : EReal) (f w : ℕ) : Prop :=
  f + w ≤ 256 ∧ (∀ k, 1 ≤ k → k ≤ f → vB (BitVec.ofNat 32 k) ≤ x) ∧ (∀ k, f + w ≤ k → k ≤ 255 → ¬ vB (BitVec.ofNat 32 k) ≤ x)

theorem step_inv (x : EReal) (b w : ℕ) (hb : 0 < b) (hw : w = b + b) (g : BitVec 32) (h : ∃ f, g = BitVec.ofNat 32 f ∧ Inv x f w) :
    ∃ f, stepF x g (BitVec.ofNat 32 b) = BitVec.ofNat 32 f ∧ Inv x f b := by
  obtain ⟨f, rfl, h0, h1, h2⟩ := h
  subst hw
  have e : IntOp.addi (BitVec.ofNat 32 f) (BitVec.ofNat 32 b) = BitVec.ofNat 32 (f + b) := (BitVec.ofNat_add f b).symm
  unfold stepF
  rw [e]
  by_cases hp : vB (BitVec.ofNat 32 (f + b)) ≤ x
  · refine ⟨f + b, ?_, by omega, fun k k1 k2 => (vB_mono k _ k1 k2 (by omega)).trans hp, fun k k1 k2 => h2 k (by omega) k2⟩
    simp [Scalar.select, Ideal.cmp, hp]
  · refine ⟨f, ?_, by omega, h1, fun k k1 k2 q => hp ((vB_mono _ k (by omega) k1 k2).trans q)⟩
    simp [Scalar.select, Ideal.cmp, hp]

/-- The search finds the last field reached. -/
theorem field_spec (x : EReal) : ∃ f, fieldF x = BitVec.ofNat 32 f ∧ f ≤ 255 ∧ ∀ k, 1 ≤ k → k ≤ 255 → (vB (BitVec.ofNat 32 k) ≤ x ↔ k ≤ f) := by
  have h0 : ∃ f, 0#32 = BitVec.ofNat 32 f ∧ Inv x f 256 := ⟨0, rfl, by omega, fun k h1 h2 => absurd h2 (by omega), fun k h1 h2 => absurd h1 (by omega)⟩
  have h := step_inv x 1 2 (by omega) rfl _ (step_inv x 2 4 (by omega) rfl _ (step_inv x 4 8 (by omega) rfl _ (step_inv x 8 16 (by omega) rfl _
    (step_inv x 16 32 (by omega) rfl _ (step_inv x 32 64 (by omega) rfl _ (step_inv x 64 128 (by omega) rfl _ (step_inv x 128 256 (by omega) rfl _ h0)))))))
  obtain ⟨f, e, a, b, c⟩ := h
  refine ⟨f, e, by omega, fun k k1 k2 => ⟨fun q => ?_, b k k1⟩⟩
  by_contra hk
  exact c k (by omega) k2 q

theorem two_f32 : Ideal.ofBits .f32 0x40000000#32 = ((2 : ℝ) : EReal) := by
  simp [Ideal.ofBits, Ideal.ieee, -EReal.coe_mul]
  norm_num
theorem m126_f32 : Ideal.ofBits .f32 0xC2FC0000#32 = ((-126 : ℝ) : EReal) := by
  simp [Ideal.ofBits, Ideal.ieee, -EReal.coe_mul]
  norm_num
theorem inf_f32 : Ideal.ofBits .f32 0x7F800000#32 = ⊤ := by simp [Ideal.ofBits, Ideal.ieee]

theorem pow_two (z : ℤ) : Ideal.pow (Ideal.ofBits .f32 0x40000000#32) (((z : ℝ)) : EReal) = (((2 : ℝ) ^ z : ℝ) : EReal) := by
  rw [two_f32, Ideal.pow_coe_coe]
  exact congrArg _ (Real.rpow_intCast 2 z)

theorem int_k : ∀ k : Fin 254, (BitVec.ofNat 32 k.val).toInt = (k.val : ℤ) := by decide +kernel

/-- One of the reference's powers of two. -/
theorem power_k (k : Fin 254) : Ideal.pow (Ideal.ofBits .f32 0x40000000#32) (Ideal.ofBits .f32 0xC2FC0000#32 + (((BitVec.ofNat 32 k.val).toInt : ℝ) : EReal))
    = vB (BitVec.ofNat 32 (k.val + 1)) := by
  rw [vB_mid _ (by omega) (by omega), m126_f32, int_k, ← EReal.coe_add,
    show ((-126 : ℝ) + ((k.val : ℤ) : ℝ)) = (((k.val : ℤ) - 126 : ℤ) : ℝ) by push_cast; ring, pow_two]
  congr 2
  push_cast
  ring

theorem card_lt (f : ℕ) (h : f ≤ 254) : (Finset.univ.filter fun k : Fin 254 => k.val + 1 ≤ f).card = f := by
  have e : (Finset.univ.filter fun k : Fin 254 => k.val + 1 ≤ f) = (Finset.univ : Finset (Fin f)).map ⟨fun i => ⟨i.val, by omega⟩, fun a b h => Fin.ext (Fin.mk.inj_iff.1 h)⟩ := by
    ext k
    simp only [Finset.mem_filter, Finset.mem_univ, true_and, Finset.mem_map, Function.Embedding.coeFn_mk]
    exact ⟨fun hk => ⟨⟨k.val, hk⟩, rfl⟩, fun ⟨i, hi⟩ => by rw [← hi]; exact i.isLt⟩
  rw [e, Finset.card_map, Finset.card_univ, Fintype.card_fin]

/-- The reference's count. -/
theorem R_count (x : FVec Ideal Cert.ReferenceIdeal.S6x2x12 .f32) (y : Cert.ReferenceIdeal.S6x2x12.Idx) (f : ℕ) (hf : f ≤ 254)
    (h : ∀ k, 1 ≤ k → k ≤ 254 → (vB (BitVec.ofNat 32 k) ≤ x y ↔ k ≤ f)) :
    R.count (F := Ideal) x y = BitVec.ofNat 32 f := by
  have e : R.count (F := Ideal) x y = (Finset.univ : Finset (Fin 254)).fold IntOp.addi 0#32 (fun k => (BitVec.ofBool (decide (vB (BitVec.ofNat 32 (k.val + 1)) ≤ x y))).setWidth 32) := by
    simp only [← power_k]
    pointwise [R.count, R.powers]
    rfl
  rw [e, IndicatorCount.fold_addi_setWidth_eq_card]
  refine congrArg (BitVec.ofNat 32) (Eq.trans (congrArg Finset.card ?_) (card_lt f hf))
  ext k
  simp only [Finset.mem_filter, Finset.mem_univ, true_and]
  rw [← h (k.val + 1) (by omega) (by omega)]
  by_cases q : vB (BitVec.ofNat 32 (k.val + 1)) ≤ x y <;> simp [q]

theorem R_expo' (x : FVec Ideal Cert.ReferenceIdeal.S6x2x12 .f32) (y : Cert.ReferenceIdeal.S6x2x12.Idx) :
    R.expo (F := Ideal) x y = Scalar.select (IntOp.ori (IntOp.cmpi .eq (R.count (F := Ideal) x y) 0#32) (BitVec.ofBool (decide (max (x y) (-(x y)) = ⊤)))) 0#32
      (IntOp.subi (R.count (F := Ideal) x y) 126#32) := by
  rw [← inf_f32]
  pointwise [R.expo, R.isInf, R.allI, R.allB]
  rfl

theorem or_l : ∀ b : BitVec 1, 1#1 ||| b = 1#1 := by decide
theorem or_r : ∀ b : BitVec 1, b ||| 1#1 = 1#1 := by decide

/-- The exponent's cases: no field reached or all, or the last one reached. -/
theorem exp_eq (x : FVec Ideal Cert.ReferenceIdeal.S6x2x12 .f32) (y : Cert.ReferenceIdeal.S6x2x12.Idx) : R.expo (F := Ideal) x y = expF (x y) := by
  obtain ⟨f, e, h1, h2⟩ := field_spec (x y)
  rw [R_expo']
  unfold expF
  rw [e]
  rcases Nat.lt_or_ge f 255 with hf | hf
  · rw [R_count x y f (by omega) fun k k1 k2 => h2 k k1 (by omega)]
    by_cases h0 : f = 0
    · subst h0; simp [Scalar.select, IntOp.ori, IntOp.cmpi, or_l]
    · have g1 := (h2 1 le_rfl (by omega)).2 (by omega)
      have g2 := mt (h2 255 (by omega) le_rfl).1 (by omega)
      rw [vB_255] at g2
      rw [vB_mid 1 le_rfl (by omega)] at g1
      have g0 : (0 : EReal) < x y := lt_of_lt_of_le (EReal.coe_pos.2 (by positivity)) g1
      have g3 : max (x y) (-(x y)) ≠ ⊤ := by
        intro q
        rcases max_eq_top.1 q with q | q
        · exact g2 (by rw [q])
        · exact absurd g0 (by rw [EReal.neg_eq_top_iff.1 q]; simp)
      have n0 : BitVec.ofNat 32 f ≠ 255#32 := by
        intro q
        have := congrArg BitVec.toNat q
        simp at this
        omega
      have n1 : BitVec.ofNat 32 f ≠ 0#32 := by
        intro q
        have := congrArg BitVec.toNat q
        simp at this
        omega
      simp [Scalar.select, IntOp.ori, IntOp.cmpi, g3, beq_false_of_ne n0, beq_false_of_ne n1]
  · have g := (h2 255 (by omega) le_rfl).2 hf
    rw [vB_255, top_le_iff] at g
    rw [show f = 255 by omega, g]
    simp [Scalar.select, IntOp.ori, IntOp.cmpi, or_r]

theorem exp_k : ∀ n : Fin 254, IntOp.addi (IntOp.subi (BitVec.ofNat 32 n.val) 127#32) 127#32 = BitVec.ofNat 32 n.val
    ∧ IntOp.subi 127#32 (IntOp.subi (BitVec.ofNat 32 n.val) 127#32) = BitVec.ofNat 32 (254 - n.val)
    ∧ (IntOp.subi (BitVec.ofNat 32 n.val) 127#32).toInt = (n.val : ℤ) - 127
    ∧ IntOp.subi (BitVec.ofNat 32 n.val) 126#32 = IntOp.subi (BitVec.ofNat 32 (n.val + 1)) 127#32 := by decide +kernel

/-- Below 2^126, and at infinity, the exponent is one both it and its opposite are spelled of. -/
theorem exp_range (x : EReal) (h : x < vB (BitVec.ofNat 32 253) ∨ x = ⊤) : ∃ n : ℕ, 1 ≤ n ∧ n ≤ 253 ∧ expF x = IntOp.subi (BitVec.ofNat 32 n) 127#32 := by
  obtain ⟨f, e, h1, h2⟩ := field_spec x
  unfold expF
  rw [e]
  rcases h with h | h
  · have hf : f < 253 := by
      by_contra hk
      exact absurd ((h2 253 (by omega) (by omega)).2 (by omega)) (not_le.2 h)
    by_cases h0 : f = 0
    · exact ⟨127, by omega, by omega, by subst h0; rfl⟩
    · refine ⟨f + 1, by omega, by omega, ?_⟩
      have n0 : BitVec.ofNat 32 f ≠ 255#32 := by
        intro q
        have := congrArg BitVec.toNat q
        simp at this
        omega
      have n1 : BitVec.ofNat 32 f ≠ 0#32 := by
        intro q
        have := congrArg BitVec.toNat q
        simp at this
        omega
      rw [← (exp_k ⟨f, by omega⟩).2.2.2]
      simp [Scalar.select, IntOp.ori, IntOp.cmpi, beq_false_of_ne n0, beq_false_of_ne n1]
  · have g := (h2 255 (by omega) le_rfl).1 (by rw [h]; exact le_top)
    refine ⟨127, by omega, by omega, ?_⟩
    rw [show f = 255 by omega]
    rfl

variable (x : FVec Ideal Cert.ReferenceIdeal.S6x2x12 .f32) (y : Cert.ReferenceIdeal.S6x2x12.Idx)
/-- The scale -/
theorem scale_eq (h : x y < vB (BitVec.ofNat 32 253) ∨ x y = ⊤) : vB (IntOp.addi (expF (x y)) 127#32) = R.scale (F := Ideal) x y := by
  have r : R.scale (F := Ideal) x y = Ideal.pow (Ideal.ofBits .f32 0x40000000#32) (((R.expo (F := Ideal) x y).toInt : ℝ) : EReal) := by
    pointwise [R.scale, R.allB]
    rfl
  obtain ⟨n, n1, n2, e⟩ := exp_range (x y) h
  obtain ⟨e1, e2, e3, -⟩ := exp_k ⟨n, by omega⟩
  rw [r, exp_eq, e]
  rw [e1, e3, pow_two, vB_mid n n1 (by omega)]
/-- and its reciprocal. -/
theorem recip_eq (h : x y < vB (BitVec.ofNat 32 253) ∨ x y = ⊤) : vB (IntOp.subi 127#32 (expF (x y))) = R.recip (F := Ideal) x y := by
  have r : R.recip (F := Ideal) x y = Ideal.pow (Ideal.ofBits .f32 0x40000000#32) (-(((R.expo (F := Ideal) x y).toInt : ℝ) : EReal)) := by
    pointwise [R.recip, R.allB]
    rfl
  obtain ⟨n, n1, n2, e⟩ := exp_range (x y) h
  obtain ⟨e1, e2, e3, -⟩ := exp_k ⟨n, by omega⟩
  rw [r, exp_eq, e]
  rw [e2, e3, vB_mid (254 - n) (by omega) (by omega), ← EReal.coe_neg, show (-(((n : ℤ) - 127 : ℤ) : ℝ)) = ((127 - (n : ℤ) : ℤ) : ℝ) by push_cast; ring, pow_two]
  congr 2
  omega

end Cert.Proof.KI

end
-- ==== Proof.VQuant.lean ====
/-
  A block's largest magnitude: the kernel's, taken eight rows at a time from zero, is the reference's, taken over the
  block from minus infinity.
-/
module

public import proofs.«01_k».proof.Proof.VExp

@[expose] public section

noncomputable section

namespace Cert.Proof.KI

open Cert.KernelIdeal Cert.KernelIdeal.Gen
open Idealize.ShloMosaic Idealize.ShloMosaic.Pointwise

/-- A magnitude. -/
def absE (x : EReal) : EReal := max x (-x)
theorem absE_nonneg (x : EReal) : 0 ≤ absE x := by
  rcases le_total 0 x with h | h
  · exact h.trans (le_max_left _ _)
  · exact (EReal.neg_nonneg.2 h).trans (le_max_right _ _)

theorem fold_le {ι : Type} (f : EReal → EReal → EReal) [Std.Commutative f] [Std.Associative f] (hf : ∀ a b, f a b = max a b) (s : Finset ι) (b : EReal) (v : ι → EReal) (z : EReal) :
    s.fold f b v ≤ z ↔ b ≤ z ∧ ∀ x ∈ s, v x ≤ z := by
  obtain rfl : f = max := funext fun a => funext fun b => hf a b
  exact Finset.fold_max_le z

theorem flat5 {a b c d e : ℕ} (h0 : a < 6) (h1 : b < 2) (h2 : c < 128) (h3 : d < 12) (h4 : e < 128) :
    (a % 6 * 256 + (128 * b + c) % 256) * 1536 + (128 * d + e) % 1536 = (((a * 2 + b) * 128 + c) * 12 + d) * 128 + e := by
  rw [Nat.mod_eq_of_lt h0, Nat.mod_eq_of_lt (show 128 * b + c < 256 by omega), Nat.mod_eq_of_lt (show 128 * d + e < 1536 by omega)]
  ring

/-- Where the reference finds a block's element. -/
theorem cast5 (W : FVec Ideal Cert.ReferenceIdeal.S6x256x1536 .f32) (i : Cert.ReferenceIdeal.S6x2x128x12x128.Idx) :
    shapeCast Cert.ReferenceIdeal.S6x2x128x12x128 W Cert.ReferenceIdeal.Gen.shapeCasts_S6x256x1536_S6x2x128x12x128 i
      = W (at3 (i 0).val (128 * (i 1).val + (i 2).val) (128 * (i 3).val + (i 4).val)) := by
  have b0 : (i 0).val < 6 := (i 0).isLt
  have b1 : (i 1).val < 2 := (i 1).isLt
  have b2 : (i 2).val < 128 := (i 2).isLt
  have b3 : (i 3).val < 12 := (i 3).isLt
  have b4 : (i 4).val < 128 := (i 4).isLt
  refine shapeCast_apply W _ i _ ?_
  refine (Shape.rowMajor_val_three _).trans (Eq.trans ?_ (Shape.rowMajor_val_five _).symm)
  exact flat5 b0 b1 b2 b3 b4

theorem drop5 (i : Cert.ReferenceIdeal.S6x2x128x12x128.Idx) (y : Cert.ReferenceIdeal.S6x2x12.Idx) :
    Cert.ReferenceIdeal.Gen.reducesTo_S6x2x128x12x128_S6x2x12_d2_4.drop i = y ↔ (i 0).val = (y 0).val ∧ (i 1).val = (y 1).val ∧ (i 3).val = (y 2).val := by
  have h0 := Shape.ReducesTo.drop_apply_val_of_eq Cert.ReferenceIdeal.Gen.reducesTo_S6x2x128x12x128_S6x2x12_d2_4 i 0 0
  have h1 := Shape.ReducesTo.drop_apply_val_of_eq Cert.ReferenceIdeal.Gen.reducesTo_S6x2x128x12x128_S6x2x12_d2_4 i 1 1
  have h2 := Shape.ReducesTo.drop_apply_val_of_eq Cert.ReferenceIdeal.Gen.reducesTo_S6x2x128x12x128_S6x2x12_d2_4 i 2 3
  constructor
  · intro e
    rw [e] at h0 h1 h2
    exact ⟨h0.symm, h1.symm, h2.symm⟩
  · intro ⟨e0, e1, e2⟩
    funext a
    match a with
    | ⟨0, _⟩ => exact Fin.ext (h0.trans e0)
    | ⟨1, _⟩ => exact Fin.ext (h1.trans e1)
    | ⟨2, _⟩ => exact Fin.ext (h2.trans e2)

/-- The reference's largest magnitude of a block, by what it is at most. -/
theorem R_top (W : FVec Ideal Cert.ReferenceIdeal.S6x256x1536 .f32) (y : Cert.ReferenceIdeal.S6x2x12.Idx) :
    ∃ x : EReal, R.top (F := Ideal) W y = (x * Ideal.ofBits .f32 0x3B124925#32 : EReal)
      ∧ ∀ z, x ≤ z ↔ ∀ r < 128, ∀ l < 128, absE (W (at3 (y 0).val (128 * (y 1).val + r) (128 * (y 2).val + l))) ≤ z := by
  have hm : ∀ B : FVec Ideal Cert.ReferenceIdeal.S6x2x12 .f32, mulf B (R.allB (F := Ideal) 0x3B124925#32) y = (B y * Ideal.ofBits .f32 0x3B124925#32 : EReal) := fun B => rfl
  have e : ∀ i, Host.absf (F := Ideal) (φ := .f32) (shapeCast Cert.ReferenceIdeal.S6x2x128x12x128 W Cert.ReferenceIdeal.Gen.shapeCasts_S6x256x1536_S6x2x128x12x128) i
      = absE (W (at3 (i 0).val (128 * (i 1).val + (i 2).val) (128 * (i 3).val + (i 4).val))) := fun i => congrArg absE (cast5 W i)
  generalize hA : Host.absf (F := Ideal) (φ := .f32) (shapeCast Cert.ReferenceIdeal.S6x2x128x12x128 W Cert.ReferenceIdeal.Gen.shapeCasts_S6x256x1536_S6x2x128x12x128) = A at e
  have hr := Host.reduce_eq_fold (FloatOps.maximumf (F := Ideal) (φ := .f32)) A (constant (F := Ideal) Cert.ReferenceIdeal.S_ .f32 0xFF800000#32)
    Cert.ReferenceIdeal.Gen.reducesTo_S6x2x128x12x128_S6x2x12_d2_4 Cert.ReferenceIdeal.Gen.h_S_ y
  refine ⟨_, (congrFun (show R.top (F := Ideal) W = mulf (Host.reduce (FloatOps.maximumf (F := Ideal) (φ := .f32)) A (constant (F := Ideal) Cert.ReferenceIdeal.S_ .f32 0xFF800000#32)
    Cert.ReferenceIdeal.Gen.reducesTo_S6x2x128x12x128_S6x2x12_d2_4 Cert.ReferenceIdeal.Gen.h_S_) (R.allB (F := Ideal) 0x3B124925#32) from ?_) y).trans (hm _), fun z => ?_⟩
  · rw [← hA]; rfl
  rw [hr]
  refine (fold_le (FloatOps.maximumf (F := Ideal) (φ := .f32)) (fun _ _ => rfl) _ _ A z).trans ?_
  have hb : constant (F := Ideal) Cert.ReferenceIdeal.S_ .f32 0xFF800000#32 (Shape.Idx.first Cert.ReferenceIdeal.Gen.h_S_) = (⊥ : EReal) := negInf
  rw [hb]
  constructor
  · intro ⟨_, g⟩ r hr l hl
    have b0 : (y 0).val < 6 := (y 0).isLt
    have b1 : (y 1).val < 2 := (y 1).isLt
    have b2 : (y 2).val < 12 := (y 2).isLt
    have := g (ix5 (y 0 : Fin 6) (y 1 : Fin 2) (⟨r, hr⟩ : Fin 128) (y 2 : Fin 12) (⟨l, hl⟩ : Fin 128)) (Finset.mem_filter.2 ⟨Finset.mem_univ _, (drop5 _ y).2 ⟨rfl, rfl, rfl⟩⟩)
    rw [e] at this
    exact this
  · intro g
    refine ⟨bot_le, fun i hi => ?_⟩
    obtain ⟨e0, e1, e2⟩ := (drop5 i y).1 (Finset.mem_filter.1 hi).2
    rw [e, e0, e1, e2]
    exact g _ (i 2).isLt _ (i 4).isLt

/-- The kernel's, -/
theorem pay30_le (A : FVec Ideal S8x128 .f32) (i : S8x128.Idx) :
    ∃ x : EReal, k0_pay30 A i = (x * Ideal.ofBits .f32 0x3B124925#32 : EReal) ∧ ∀ z, x ≤ z ↔ ∀ j, A j ≤ z := by
  refine ⟨Finset.fold max (Ideal.ofBits .f32 0xFF800000#32) (fun x => Finset.fold max (Ideal.ofBits .f32 0xFF800000#32) (fun x_1 => A (ix2 x_1 x)) (Finset.univ : Finset (Fin 8)))
        (Finset.univ : Finset (Fin 128)), ?_, fun z => ?_⟩
  · pointwise [k0_pay30]
  · simp only [Finset.fold_max_le, negInf, bot_le, true_and, Finset.mem_univ, forall_true_left]
    exact ⟨fun h j => (congrArg A (show j = ix2 (j 0 : Fin 8) (j 1 : Fin 128) from funext fun a => by match a with | ⟨0, _⟩ => rfl | ⟨1, _⟩ => rfl)).le.trans (h (j 1) (j 0)), fun h a b => h _⟩

/-- a strip at a time. -/
theorem accN_le (N : Vec Ideal S6x256x1536 .f32) (t u n : ℕ) (x : S8x128.Idx) (z : EReal) :
    accN N t u n x ≤ z ↔ 0 ≤ z ∧ ∀ k < n, absE (N (at3 (t / 2) (t % 2 * 128 + 16 * k + (x 0).val) (128 * u + (x 1).val))) ≤ z
      ∧ absE (N (at3 (t / 2) (t % 2 * 128 + 16 * k + 8 + (x 0).val) (128 * u + (x 1).val))) ≤ z := by
  induction n with
  | zero =>
    have e : accN N t u 0 x = (0 : EReal) := Ideal.ofBits_zero_f32
    rw [e]
    exact ⟨fun h => ⟨h, fun k hk => absurd hk (by omega)⟩, fun h => h.1⟩
  | succ n ih =>
    have e : accN N t u (n + 1) x = max (max (accN N t u n x) (absE (N (at3 (t / 2) (t % 2 * 128 + 16 * n + (x 0).val) (128 * u + (x 1).val)))))
      (absE (N (at3 (t / 2) (t % 2 * 128 + 16 * n + 8 + (x 0).val) (128 * u + (x 1).val)))) := rfl
    rw [e, max_le_iff, max_le_iff, ih]
    constructor
    · intro ⟨⟨⟨h0, h⟩, h1⟩, h2⟩
      refine ⟨h0, fun k hk => ?_⟩
      rcases Nat.lt_or_ge k n with q | q
      · exact h k q
      · rw [show k = n by omega]; exact ⟨h1, h2⟩
    · intro ⟨h0, h⟩
      exact ⟨⟨⟨h0, fun k hk => h k (by omega)⟩, (h n (by omega)).1⟩, (h n (by omega)).2⟩

/-- The kernel's largest magnitude, over the largest code, is the reference's. -/
theorem top_eq (N : Vec Ideal S6x256x1536 .f32) (W : FVec Ideal Cert.ReferenceIdeal.S6x256x1536 .f32) (t u : ℕ) (i : S8x128.Idx) (y : Cert.ReferenceIdeal.S6x2x12.Idx)
    (e0 : (y 0).val = t / 2) (e1 : (y 1).val = t % 2) (e2 : (y 2).val = u) (h : ∀ r l, N (at3 (t / 2) r l) = W (at3 (t / 2) r l)) :
    k0_pay30 (accN N t u 8) i = R.top (F := Ideal) W y := by
  obtain ⟨p, hp, kp⟩ := pay30_le (accN N t u 8) i
  obtain ⟨q, hq, kq⟩ := R_top W y
  rw [hp, hq]
  refine congrArg (fun x : EReal => (x * Ideal.ofBits .f32 0x3B124925#32 : EReal)) ?_
  refine eq_of_forall_ge_iff fun z => ?_
  rw [kp, kq, e0, e1, e2]
  simp only [accN_le, ← h]
  constructor
  · intro g r hr l hl
    have := (g (ix2 (⟨r % 8, by omega⟩ : Fin 8) (⟨l, hl⟩ : Fin 128))).2 (r / 16) (by omega)
    rcases Nat.lt_or_ge (r % 16) 8 with c | c
    · have c := this.1
      rw [show t % 2 * 128 + 16 * (r / 16) + (ix2 (⟨r % 8, by omega⟩ : Fin 8) (⟨l, hl⟩ : Fin 128) 0).val = 128 * (t % 2) + r from (by show _ + r % 8 = _; omega)] at c
      exact c
    · have c := this.2
      rw [show t % 2 * 128 + 16 * (r / 16) + 8 + (ix2 (⟨r % 8, by omega⟩ : Fin 8) (⟨l, hl⟩ : Fin 128) 0).val = 128 * (t % 2) + r from (by show _ + r % 8 = _; omega)] at c
      exact c
  · intro g x
    have b0 : (x 0).val < 8 := (x 0).isLt
    have b1 : (x 1).val < 128 := (x 1).isLt
    refine ⟨(absE_nonneg _).trans (g 0 (by omega) 0 (by omega)), fun k hk => ⟨?_, ?_⟩⟩
    · have := g (16 * k + (x 0).val) (by omega) (x 1).val b1
      rw [show 128 * (t % 2) + (16 * k + (x 0).val) = t % 2 * 128 + 16 * k + (x 0).val by omega] at this
      exact this
    · have := g (16 * k + 8 + (x 0).val) (by omega) (x 1).val b1
      rw [show 128 * (t % 2) + (16 * k + 8 + (x 0).val) = t % 2 * 128 + 16 * k + 8 + (x 0).val by omega] at this
      exact this

end Cert.Proof.KI

end
-- ==== Proof.VCode.lean ====
/-
  The codes and the scales: where the step number is not zero and the block's largest magnitude over 448 is below 2^126
  or infinite, the kernel's are the reference's.
-/
module

public import proofs.«01_k».proof.Proof.VQuant

@[expose] public section

noncomputable section

namespace Cert.Proof.KI

open Cert.KernelIdeal Cert.KernelIdeal.Gen
open Idealize.ShloMosaic Idealize.ShloMosaic.Pointwise
open VecWindow

variable (LR : Vec Ideal S6 .f32) (ST : Vec Ideal S6 .i32) (G : Vec Ideal S6x256x1536 .bf16) (W M V : Vec Ideal S6x256x1536 .f32)

/-- The reference's new weights, -/
abbrev nW : FVec Ideal Cert.ReferenceIdeal.S6x256x1536 .f32 := R.newW (F := Ideal) W G M V LR ST
/-- the kernel's of one chunk, -/
abbrev kW (t : ℕ) : Vec Ideal S6x256x1536 .f32 := wT (kapG (F := Ideal) G) (coefA LR ST) G W M V t
/-- an element's block, -/
def blk (y : S6x256x1536.Idx) : Cert.ReferenceIdeal.S6x2x12.Idx :=
  ix3 (y 0 : Fin 6) (⟨(y 1).val / 128, by have : (y 1).val < 256 := (y 1).isLt; omega⟩ : Fin 2) (⟨(y 2).val / 128, by have : (y 2).val < 1536 := (y 2).isLt; omega⟩ : Fin 12)
/-- and what a block must satisfy. -/
def Fine (b : Cert.ReferenceIdeal.S6x2x12.Idx) : Prop :=
  at6 ST (b 0).val ≠ 0#32 ∧ (R.top (F := Ideal) (nW LR ST G W M V) b < vB (BitVec.ofNat 32 253) ∨ R.top (F := Ideal) (nW LR ST G W M V) b = ⊤)

theorem kW_top (t u : ℕ) (i : S8x128.Idx) (b : Cert.ReferenceIdeal.S6x2x12.Idx) (e0 : (b 0).val = t / 2) (e1 : (b 1).val = t % 2) (e2 : (b 2).val = u)
    (h : at6 ST (b 0).val ≠ 0#32) : k0_pay30 (accN (kW LR ST G W M V t) t u 8) i = R.top (F := Ideal) (nW LR ST G W M V) b := by
  have b0 : (b 0).val < 6 := (b 0).isLt
  have em : t / 2 % 6 = t / 2 := Nat.mod_eq_of_lt (by omega)
  refine top_eq _ _ t u i b e0 e1 e2 fun r l => ?_
  refine wT_eq LR ST G W M V (at3 (t / 2) r l) t em.symm ?_
  rw [show ((at3 (t / 2) r l) 0).val = (b 0).val from em.trans e0.symm]
  exact h

theorem R_quot (w : FVec Ideal Cert.ReferenceIdeal.S6x256x1536 .f32) (y : S6x256x1536.Idx) :
    R.quot (F := Ideal) w y = (min (Ideal.ofBits .f32 0x43E00000#32) (max (Ideal.ofBits .f32 0xC3E00000#32) (w y * R.recip (F := Ideal) (R.top (F := Ideal) w) (blk y))) : EReal) := by
  generalize hr : R.recip (F := Ideal) (R.top (F := Ideal) w) = r
  unfold R.quot
  rw [hr]
  pointwise [R.perElement, R.all3, blk]

/-- The codes. -/
theorem code_eq (y : S6x256x1536.Idx) (h : Fine LR ST G W M V (blk y)) : outC (F := Ideal) LR ST G W M V y = (R.quot (F := Ideal) (nW LR ST G W M V) y : EReal) := by
  have b1 : (y 1).val < 256 := (y 1).isLt
  have t0 : tOf y / 2 = (y 0).val := tOf_half y
  have t1 : tOf y % 2 = (y 1).val / 128 := by unfold tOf; omega
  have key : codeE (kW LR ST G W M V (tOf y)) (tOf y) y = IntOp.subi 127#32 (expF (R.top (F := Ideal) (nW LR ST G W M V) (blk y))) := by
    unfold codeE
    rw [invE_eq, kW_top LR ST G W M V (tOf y) ((y 2).val / 128) _ (blk y) t0.symm t1.symm rfl h.1]
  have k2 : outC (F := Ideal) LR ST G W M V y = (min (Ideal.ofBits .f32 0x43E00000#32) (max (Ideal.ofBits .f32 0xC3E00000#32)
      (kW LR ST G W M V (tOf y) y * vB (codeE (kW LR ST G W M V (tOf y)) (tOf y) y))) : EReal) := rfl
  rw [k2, key, recip_eq _ _ h.2, R_quot, show kW LR ST G W M V (tOf y) y = nW LR ST G W M V y from wT_eq LR ST G W M V y (tOf y) t0 h.1]

/-- The codes transposed. -/
theorem codeT_eq (z : S6x1536x256.Idx) (h : Fine LR ST G W M V (blk (tr z))) : outT (F := Ideal) LR ST G W M V z = (R.quot (F := Ideal) (nW LR ST G W M V) (tr z) : EReal) :=
  code_eq LR ST G W M V (tr z) h

theorem lane_k : ∀ n : Fin 12, ∀ j : Fin 128, IntOp.cmpi .eq (BitVec.ofNat 32 j.val) (Scf.iv 0#32 1#32 n.val) = if j.val = n.val then 1#1 else 0#1 := by decide +kernel

/-- A row of scales. -/
theorem rowN_at (N : Vec Ideal S6x256x1536 .f32) (t : ℕ) (j : Fin 128) (n : ℕ) (hn : n ≤ 12) (h : j.val < n) :
    rowN N t lanes n (ix2 (0 : Fin 1) j) = scaleV (accN N t j.val 8) (ix2 (0 : Fin 8) j) := by
  induction n with
  | zero => omega
  | succ n ih =>
    have e : rowN N t lanes (n + 1) (ix2 (0 : Fin 1) j) = Scalar.select (IntOp.cmpi .eq (BitVec.ofNat 32 j.val) (Scf.iv 0#32 1#32 n))
        (scaleV (accN N t n 8) (ix2 (0 : Fin 8) j)) (rowN N t lanes n (ix2 (0 : Fin 1) j)) := by
      show k0_pay53 lanes (rowN N t lanes n) (Scf.iv 0#32 1#32 n) (scaleV (accN N t n 8)) (ix2 (0 : Fin 1) j) = _
      generalize rowN N t lanes n = a
      generalize scaleV (accN N t n 8) = b
      pointwise [k0_pay53, lanes]
    rw [e, lane_k ⟨n, by omega⟩ j]
    by_cases c : j.val = n
    · rw [if_pos c, c]; rfl
    · rw [if_neg c]; exact ih (by omega) (by omega)

/-- One row put. -/
theorem put_s {α : Type} (f : S6x2x12.Idx → α) (n k : ℕ) (w : S1x1x12.Idx → α) (y : S6x2x12.Idx) :
    put (s := S6x2x12) f ![n, k, 0] S1x1x12.size w y = if (y 0).val = n ∧ (y 1).val = k then w (ix3 (0 : Fin 1) (0 : Fin 1) (y 2 : Fin 12)) else f y := by
  have b2 : (y 2).val < 12 := (y 2).isLt
  unfold put
  by_cases h : (y 0).val = n ∧ (y 1).val = k
  · rw [if_pos h, dif_pos]
    · refine congrArg w (funext fun a => ?_)
      match a with
      | ⟨0, _⟩ => exact Fin.ext (show (y 0).val - n = 0 by omega)
      | ⟨1, _⟩ => exact Fin.ext (show (y 1).val - k = 0 by omega)
      | ⟨2, _⟩ => exact Fin.ext (show (y 2).val - 0 = (y 2).val by omega)
    · intro a
      match a with
      | ⟨0, _⟩ => exact ⟨show n ≤ (y 0).val by omega, show (y 0).val < n + 1 by omega⟩
      | ⟨1, _⟩ => exact ⟨show k ≤ (y 1).val by omega, show (y 1).val < k + 1 by omega⟩
      | ⟨2, _⟩ => exact ⟨Nat.zero_le _, show (y 2).val < 0 + 12 by omega⟩
  · rw [if_neg h, dif_neg]
    intro e
    have e0 : n ≤ (y 0).val ∧ (y 0).val < n + 1 := e 0
    have e1 : k ≤ (y 1).val ∧ (y 1).val < k + 1 := e 1
    exact h ⟨by omega, by omega⟩

theorem scN_at (S0 : Vec Ideal S6x2x12 .f32) (y : S6x2x12.Idx) (n : ℕ) (h : 2 * (y 0).val + (y 1).val < n) :
    scN (kapG (F := Ideal) G) (coefA LR ST) G W M V S0 lanes n y
      = k0_pay57 (rowN (kW LR ST G W M V (2 * (y 0).val + (y 1).val)) (2 * (y 0).val + (y 1).val) lanes 12) (ix3 (0 : Fin 1) (0 : Fin 1) (y 2 : Fin 12)) := by
  have b1 : (y 1).val < 2 := (y 1).isLt
  induction n with
  | zero => omega
  | succ n ih =>
    rw [scN, put_s]
    by_cases c : 2 * (y 0).val + (y 1).val = n
    · rw [if_pos (by omega), c]
    · rw [if_neg (by omega)]; exact ih (by omega)

/-- The scales. -/
theorem scale_out (y : S6x2x12.Idx) (h : Fine LR ST G W M V y) : outS (F := Ideal) LR ST G W M V y = R.scale (F := Ideal) (R.top (F := Ideal) (nW LR ST G W M V)) y := by
  have b0 : (y 0).val < 6 := (y 0).isLt
  have b1 : (y 1).val < 2 := (y 1).isLt
  have b2 : (y 2).val < 12 := (y 2).isLt
  have p57 : ∀ r : FVec Ideal S1x128 .f32, k0_pay57 r (ix3 (0 : Fin 1) (0 : Fin 1) (y 2 : Fin 12)) = r (ix2 (0 : Fin 1) (⟨(y 2).val, by omega⟩ : Fin 128)) := by
    intro r
    pointwise [k0_pay57]
  unfold outS
  rw [scN_at LR ST G W M V _ y 12 (by omega), p57, rowN_at _ _ _ 12 le_rfl b2, scaleV_eq,
    kW_top LR ST G W M V _ _ _ y (by omega) (by omega) rfl h.1, scale_eq _ _ h.2]

end Cert.Proof.KI

end
-- ==== Proof.VMask.lean ====
/-
  Where the two programs are compared, read off the mask: a selected element's matrix has a step number other than
  zero, and a selected block, or the block of a selected code, is one whose codes and scale the two agree on.
-/
module

public import proofs.«01_k».proof.On_covered
public import proofs.«01_k».proof.Proof.VCode

@[expose] public section

noncomputable section

namespace Cert.Proof.KI

open Cert.KernelIdeal Cert.KernelIdeal.Gen
open Idealize.ShloMosaic Idealize.ShloMosaic.Pointwise
open VecWindow

/-- What the mask's operations ask of the shapes. -/
instance onFacts : Cert.On_covered.Facts where
  bitsLt_bf16_f32 := Cert.ReferenceIdeal.Gen.bitsLt_bf16_f32
  reducesTo_S6x256x1536_S_d0_1_2 := Cert.ReferenceIdeal.Gen.reducesTo_S6x256x1536_S_d0_1_2
  h_S_ := Cert.ReferenceIdeal.Gen.h_S_
  bcast_S_S6x256x1536 := Cert.ReferenceIdeal.Gen.bcast_S_S6x256x1536
  bcast_S_S6 := Cert.ReferenceIdeal.Gen.bcast_S_S6
  bcast_S6_S6x1x1_0 := Cert.ReferenceIdeal.Gen.bcast_S6_S6x1x1_0
  bcast_S6x1x1_S6x256x1536_0_1_2 := Cert.ReferenceIdeal.Gen.bcast_S6x1x1_S6x256x1536_0_1_2
  shapeCasts_S_S1 := Cert.ReferenceIdeal.Gen.shapeCasts_S_S1
  shapeCasts_S6x256x1536_S6x2x128x12x128 := Cert.ReferenceIdeal.Gen.shapeCasts_S6x256x1536_S6x2x128x12x128
  reducesTo_S6x2x128x12x128_S6x2x12_d2_4 := Cert.ReferenceIdeal.Gen.reducesTo_S6x2x128x12x128_S6x2x12_d2_4
  bcast_S_S6x2x12 := Cert.ReferenceIdeal.Gen.bcast_S_S6x2x12
  bcast_S6x1x1_S6x2x12_0_1_2 := by decide
  bcast_S6x2x12_S6x2x128x12_0_1_3 := Cert.ReferenceIdeal.Gen.bcast_S6x2x12_S6x2x128x12_0_1_3
  shapeCasts_S6x2x128x12_S6x256x12 := Cert.ReferenceIdeal.Gen.shapeCasts_S6x2x128x12_S6x256x12
  bcast_S6x256x12_S6x256x12x128_0_1_2 := Cert.ReferenceIdeal.Gen.bcast_S6x256x12_S6x256x12x128_0_1_2
  shapeCasts_S6x256x12x128_S6x256x1536 := Cert.ReferenceIdeal.Gen.shapeCasts_S6x256x12x128_S6x256x1536
  bcast_S_S1 := by decide
  transposes_S6x256x1536_S6x1536x256_0_2_1 := Cert.ReferenceIdeal.Gen.transposes_S6x256x1536_S6x1536x256_0_2_1

variable (LR : Vec Ideal S6 .f32) (ST : Vec Ideal S6 .i32) (G : Vec Ideal S6x256x1536 .bf16) (W M V : Vec Ideal S6x256x1536 .f32)

/-- Which matrices have taken a step, -/
def stepped : IVec Cert.ReferenceIdeal.S6x1x1 1 :=
  broadcastInDim Cert.ReferenceIdeal.S6x1x1 ![0] Cert.ReferenceIdeal.Gen.bcast_S6_S6x1x1_0
    (cmpi .ne ST (broadcastInDim Cert.ReferenceIdeal.S6 ![] Cert.ReferenceIdeal.Gen.bcast_S_S6 (constantI Cert.ReferenceIdeal.S_ 32 0#32)))
/-- which elements are those of such a matrix, -/
def steppedE : IVec Cert.ReferenceIdeal.S6x256x1536 1 :=
  andi (broadcastInDim Cert.ReferenceIdeal.S6x256x1536 ![] Cert.ReferenceIdeal.Gen.bcast_S_S6x256x1536 (constantI Cert.ReferenceIdeal.S_ 1 1#1))
    (broadcastInDim Cert.ReferenceIdeal.S6x256x1536 ![0, 1, 2] Cert.ReferenceIdeal.Gen.bcast_S6x1x1_S6x256x1536_0_1_2 (stepped ST))
/-- and which blocks are selected, by the value their scale is read from. -/
def fine (x : FVec Ideal Cert.ReferenceIdeal.S6x2x12 .f32) : IVec Cert.ReferenceIdeal.S6x2x12 1 :=
  andi (ori (cmpf .olt x (R.allB 0x7E800000#32)) (R.isInf x))
    (broadcastInDim Cert.ReferenceIdeal.S6x2x12 ![0, 1, 2] onFacts.bcast_S6x1x1_S6x2x12_0_1_2 (stepped ST))

/-- The mask, by the functions the reference is read off with, -/
theorem fn_step : Cert.On_covered.fn (F := Ideal) W G M V LR ST
    = Cert.On_covered.fn_part3 (F := Ideal) ST (R.top (F := Ideal) (nW LR ST G W M V))
        (broadcastInDim Cert.ReferenceIdeal.S6 ![] Cert.ReferenceIdeal.Gen.bcast_S_S6 (constantI Cert.ReferenceIdeal.S_ 32 0#32)) := rfl

/-- and its parts. -/
theorem fn_parts : ∃ a b : IVec Cert.ReferenceIdeal.S6x256x1536 1, ∃ d : IVec S1 1, Cert.On_covered.fn (F := Ideal) W G M V LR ST
    = (steppedE ST, a, b, d, R.perElement (F := Ideal) (e := .i1) (fine ST (R.top (F := Ideal) (nW LR ST G W M V))),
        fine ST (R.top (F := Ideal) (nW LR ST G W M V)),
        transpose Cert.ReferenceIdeal.S6x1536x256 [0, 2, 1] (R.perElement (F := Ideal) (e := .i1) (fine ST (R.top (F := Ideal) (nW LR ST G W M V))))
          Cert.ReferenceIdeal.Gen.transposes_S6x256x1536_S6x1536x256_0_2_1) := by
  rw [fn_step]
  generalize R.top (F := Ideal) (nW LR ST G W M V) = x
  exact ⟨_, _, _, rfl⟩

theorem at6_ix (y : Fin 6) : at6 ST y.val = ST (ix1 y) := by
  unfold at6
  congr 2
  exact Fin.ext (Nat.mod_eq_of_lt y.isLt)

theorem and_one : ∀ a b : BitVec 1, a &&& b = 1#1 → a = 1#1 ∧ b = 1#1 := by decide
theorem or_one : ∀ a b : BitVec 1, a ||| b = 1#1 → a = 1#1 ∨ b = 1#1 := by decide

theorem steppedE_ne (y : S6x256x1536.Idx) (h : steppedE ST y = 1#1) : at6 ST (y 0).val ≠ 0#32 := by
  have e : steppedE ST y = IntOp.andi 1#1 (IntOp.cmpi .ne (ST (ix1 (y 0 : Fin 6))) 0#32) := by
    pointwise [steppedE, stepped]
  rw [e] at h
  have h2 := (and_one _ _ h).2
  rw [at6_ix ST (y 0 : Fin 6)]
  intro hz
  rw [hz] at h2
  exact absurd h2 (by decide)

theorem fine_of (b : Cert.ReferenceIdeal.S6x2x12.Idx) (h : fine ST (R.top (F := Ideal) (nW LR ST G W M V)) b = 1#1) : Fine LR ST G W M V b := by
  unfold Fine
  generalize R.top (F := Ideal) (nW LR ST G W M V) = x at h ⊢
  have e : fine ST x b = IntOp.andi (IntOp.ori (Ideal.cmp .olt (x b) (Ideal.ofBits .f32 0x7E800000#32)) (Ideal.cmp .oeq (absE (x b)) (Ideal.ofBits .f32 0x7F800000#32)))
      (IntOp.cmpi .ne (ST (ix1 (b 0 : Fin 6))) 0#32) := by
    pointwise [fine, stepped, R.allB, R.isInf, absE]
    rfl
  rw [e] at h
  obtain ⟨h1, h2⟩ := and_one _ _ h
  refine ⟨?_, ?_⟩
  · rw [at6_ix ST (b 0 : Fin 6)]
    intro hz
    rw [hz] at h2
    exact absurd h2 (by decide)
  · have k : vB (BitVec.ofNat 32 253) = Ideal.ofBits .f32 0x7E800000#32 := rfl
    rcases or_one _ _ h1 with h3 | h3
    · left
      rw [k]
      by_contra hn
      simp [Ideal.cmp, hn] at h3
    · rw [inf_f32] at h3
      by_cases ht : x b = ⊤
      · exact Or.inr ht
      · left
        have hb : x b = ⊥ := by
          by_contra hb
          have : absE (x b) ≠ ⊤ := by
            unfold absE
            rcases max_choice (x b) (-(x b)) with hm | hm <;> rw [hm]
            · exact ht
            · intro hh
              exact hb (EReal.neg_eq_top_iff.mp hh)
          simp [Ideal.cmp, this] at h3
        rw [hb, vB_mid 253 (by norm_num) (by norm_num)]
        exact EReal.bot_lt_coe _

theorem perElement_at (x : IVec Cert.ReferenceIdeal.S6x2x12 1) (y : S6x256x1536.Idx) : R.perElement (F := Ideal) (e := .i1) x y = x (blk y) := by
  pointwise [R.perElement, blk]

theorem perElement_tr (x : IVec Cert.ReferenceIdeal.S6x256x1536 1) (z : S6x1536x256.Idx) :
    transpose Cert.ReferenceIdeal.S6x1536x256 [0, 2, 1] x Cert.ReferenceIdeal.Gen.transposes_S6x256x1536_S6x1536x256_0_2_1 z = x (tr z) := by
  pointwise [tr]

end Cert.Proof.KI

end
-- ==== Proof.VAlg.lean ====
/-
  The two programs give the same numbers wherever the mask selects.
-/
module

public import proofs.«01_k».proof.Defs
public import proofs.«01_k».proof.Proof.KIRun
public import proofs.«01_k».proof.Proof.VRun
public import proofs.«01_k».proof.Proof.VMask

@[expose] public section

noncomputable section

namespace Cert.Proof.KI

open Cert.KernelIdeal Cert.KernelIdeal.Gen
open Idealize.ShloMosaic Idealize.ShloMosaic.TcCoe Idealize.ShloMosaic.Pointwise Idealize.SL.Sem
open VecWindow

section Fns
variable (LR : Vec Ideal S6 .f32) (ST : Vec Ideal S6 .i32) (G : Vec Ideal S6x256x1536 .bf16) (W M V : Vec Ideal S6x256x1536 .f32)

/-- The new weights agree, -/
theorem agree_w (y : S6x256x1536.Idx) (h : (Cert.On_covered.fn (F := Ideal) W G M V LR ST).1 y = 1#1) :
    R.newW (F := Ideal) W G M V LR ST y = outW (F := Ideal) LR ST G W M V y := by
  obtain ⟨a, b, d, e⟩ := fn_parts LR ST G W M V
  rw [e] at h
  exact (wT_eq LR ST G W M V y (tOf y) (tOf_half y) (steppedE_ne ST y h)).symm

/-- the codes, -/
theorem agree_c (y : S6x256x1536.Idx) (h : (Cert.On_covered.fn (F := Ideal) W G M V LR ST).2.2.2.2.1 y = 1#1) :
    (R.quot (F := Ideal) (nW LR ST G W M V) y : EReal) = outC (F := Ideal) LR ST G W M V y := by
  obtain ⟨a, b, d, e⟩ := fn_parts LR ST G W M V
  rw [e] at h
  exact (code_eq LR ST G W M V y (fine_of LR ST G W M V (blk y) ((perElement_at _ y).symm.trans h))).symm

/-- the scales, -/
theorem agree_s (y : S6x2x12.Idx) (h : (Cert.On_covered.fn (F := Ideal) W G M V LR ST).2.2.2.2.2.1 y = 1#1) :
    R.scale (F := Ideal) (R.top (F := Ideal) (nW LR ST G W M V)) y = outS (F := Ideal) LR ST G W M V y := by
  obtain ⟨a, b, d, e⟩ := fn_parts LR ST G W M V
  rw [e] at h
  exact (scale_out LR ST G W M V y (fine_of LR ST G W M V y h)).symm

/-- and the transposed codes. -/
theorem agree_t (z : S6x1536x256.Idx) (h : (Cert.On_covered.fn (F := Ideal) W G M V LR ST).2.2.2.2.2.2 z = 1#1) :
    (R.quot (F := Ideal) (nW LR ST G W M V) (tr z) : EReal) = outT (F := Ideal) LR ST G W M V z := by
  obtain ⟨a, b, d, e⟩ := fn_parts LR ST G W M V
  rw [e] at h
  have h1 := (perElement_tr (R.perElement (F := Ideal) (e := .i1) (fine ST (R.top (F := Ideal) (nW LR ST G W M V)))) z).symm.trans h
  exact (codeT_eq LR ST G W M V z (fine_of LR ST G W M V (blk (tr z)) ((perElement_at _ (tr z)).symm.trans h1))).symm

/-- The reference's transposed codes are its codes at the transposed place. -/
theorem quot_tr (x : FVec Ideal Cert.ReferenceIdeal.S6x256x1536 .f32) (z : S6x1536x256.Idx) :
    (transpose Cert.ReferenceIdeal.S6x1536x256 [0, 2, 1] x Cert.ReferenceIdeal.Gen.transposes_S6x256x1536_S6x1536x256_0_2_1 z : EReal) = x (tr z) := by
  pointwise [tr]

/-- The norm is one number, in an array of one. -/
theorem norm_1 (y : S1.Idx) : (shapeCast Cert.ReferenceIdeal.S1 (R.norm (F := Ideal) G) Cert.ReferenceIdeal.Gen.shapeCasts_S_S1 y : EReal) = normG (F := Ideal) G y := by
  rw [norm_eq G y z0]
  exact congrArg (R.norm (F := Ideal) G) (z_eq _ _)
end Fns

/-- From the same arguments the two programs leave the same results wherever the mask selects. -/
theorem algebraic : Cert.algebraic_KernelIdeal_ReferenceIdeal_on_covered (hKernelIdeal := Cert.KernelIdeal.Gen.facts)
    (hReferenceIdeal := Cert.ReferenceIdeal.Gen.facts) (hOn_covered := onFacts) := by
  intro m g m' g' _ hA
  refine ⟨fun c => outW (F := Ideal) (m ((c.tc : Thread nD τ).loc main_arg4)) (m ((c.tc : Thread nD τ).loc main_arg5)) (m ((c.tc : Thread nD τ).loc main_arg1))
      (m ((c.tc : Thread nD τ).loc main_arg0)) (m ((c.tc : Thread nD τ).loc main_arg2)) (m ((c.tc : Thread nD τ).loc main_arg3)),
    fun c => newM (kapG (F := Ideal) (m ((c.tc : Thread nD τ).loc main_arg1))) (m ((c.tc : Thread nD τ).loc main_arg1)) (m ((c.tc : Thread nD τ).loc main_arg2)),
    fun c => newV (kapG (F := Ideal) (m ((c.tc : Thread nD τ).loc main_arg1))) (m ((c.tc : Thread nD τ).loc main_arg1)) (m ((c.tc : Thread nD τ).loc main_arg3)),
    fun c => normG (F := Ideal) (m ((c.tc : Thread nD τ).loc main_arg1)),
    fun c => outC (F := Ideal) (m ((c.tc : Thread nD τ).loc main_arg4)) (m ((c.tc : Thread nD τ).loc main_arg5)) (m ((c.tc : Thread nD τ).loc main_arg1))
      (m ((c.tc : Thread nD τ).loc main_arg0)) (m ((c.tc : Thread nD τ).loc main_arg2)) (m ((c.tc : Thread nD τ).loc main_arg3)),
    fun c => outS (F := Ideal) (m ((c.tc : Thread nD τ).loc main_arg4)) (m ((c.tc : Thread nD τ).loc main_arg5)) (m ((c.tc : Thread nD τ).loc main_arg1))
      (m ((c.tc : Thread nD τ).loc main_arg0)) (m ((c.tc : Thread nD τ).loc main_arg2)) (m ((c.tc : Thread nD τ).loc main_arg3)),
    fun c => outT (F := Ideal) (m ((c.tc : Thread nD τ).loc main_arg4)) (m ((c.tc : Thread nD τ).loc main_arg5)) (m ((c.tc : Thread nD τ).loc main_arg1))
      (m ((c.tc : Thread nD τ).loc main_arg0)) (m ((c.tc : Thread nD τ).loc main_arg2)) (m ((c.tc : Thread nD τ).loc main_arg3)), ?_, ?_⟩
  · refine (θ_run _ _ _).mono (fun r h c => ?_) (values (F := Ideal) m g)
    obtain ⟨⟨h0, h1, h2, h3, h4, h5, h6⟩, ha⟩ := h c
    exact ⟨fun i _ => congrFun h0 i, fun i _ => congrFun h1 i, fun i _ => congrFun h2 i, fun i _ => congrFun h3 i,
      fun i _ => congrFun h4 i, fun i _ => congrFun h5 i, fun i _ => congrFun h6 i, ha⟩
  · refine (θ_run _ _ _).mono (fun r h c => ?_) (R.values (F := Ideal) m' g')
    obtain ⟨⟨h0, h1, h2, h3, h4, h5, h6⟩, ha⟩ := h c
    obtain ⟨e0, e1, e2, e3, e4, e5⟩ := hA c
    simp only [R.aW, R.aG, R.aM, R.aV, R.aL, R.aS] at h0 h1 h2 h3 h4 h5 h6
    rw [e0, e1, e2, e3, e4, e5] at h0
    rw [e1, e2] at h1
    rw [e1, e3] at h2
    rw [e1] at h3
    rw [e0, e1, e2, e3, e4, e5] at h4 h5 h6
    refine ⟨fun i hi => (congrFun h0 i).trans (agree_w _ _ _ _ _ _ i hi), fun i _ => (congrFun h1 i).trans (congrFun (newM_eq _ _).symm i),
      fun i _ => (congrFun h2 i).trans (congrFun (newV_eq _ _).symm i), fun i _ => (congrFun h3 i).trans (norm_1 _ i),
      fun i hi => (congrFun h4 i).trans (agree_c _ _ _ _ _ _ i hi), fun i hi => (congrFun h5 i).trans (agree_s _ _ _ _ _ _ i hi),
      fun i hi => (congrFun h6 i).trans ((quot_tr _ i).trans (agree_t _ _ _ _ _ _ i hi)), ha⟩

end Cert.Proof.KI

end
-- ==== Proof.lean ====
/-
  The claim put together from its parts.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.KRun
public import proofs.«01_k».proof.Proof.KIRun
public import proofs.«01_k».proof.Proof.VAlg

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, KI.onFacts,
  fun m ρ _ => K.frame m ρ, fun m ρ _ => KI.frame m ρ, fun m ρ _ => Cert.ReferenceIdeal.Gen.frame m ρ, trivial,
  KI.algebraic⟩

end Cert.Proof

end
